-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_and_ones.lean ====
abbrev S9216x512 : Shape := ⟨2, ![9216, 512]⟩
abbrev S9216x256 : Shape := ⟨2, ![9216, 256]⟩
abbrev S4x9216x512 : Shape := ⟨3, ![4, 9216, 512]⟩
abbrev S_ : Shape := ⟨0, ![]⟩
abbrev S9216x2x2x128 : Shape := ⟨4, ![9216, 2, 2, 128]⟩
abbrev S9216x2x1x128 : Shape := ⟨4, ![9216, 2, 1, 128]⟩
abbrev S9216x2x128 : Shape := ⟨3, ![9216, 2, 128]⟩

class Facts : Prop where
  bitsLt_bf16_f32 : FTy.bits .bf16 < FTy.bits .f32
  bcast_S_S9216x512 : S_.BroadcastsInDim S9216x512 (![] : Fin 0 → Fin S9216x512.rank)
  reducesTo_S9216x512_S_d0_1 : S9216x512.ReducesTo [0, 1] S_
  h_S_ : 0 < S_.numel
  bcast_S_S9216x256 : S_.BroadcastsInDim S9216x256 (![] : Fin 0 → Fin S9216x256.rank)
  reducesTo_S9216x256_S_d0_1 : S9216x256.ReducesTo [0, 1] S_
  shapeCasts_S9216x512_S9216x2x2x128 : S9216x512.ShapeCasts S9216x2x2x128
  slices_S9216x2x2x128_S9216x2x1x128_0_0_1_0 : S9216x2x2x128.Slices ![0, 0, 1, 0] S9216x2x1x128
  shapeCasts_S9216x2x1x128_S9216x2x128 : S9216x2x1x128.ShapeCasts S9216x2x128
  bcast_S_S9216x2x128 : S_.BroadcastsInDim S9216x2x128 (![] : Fin 0 → Fin S9216x2x128.rank)
  reducesTo_S9216x2x128_S_d0_1_2 : S9216x2x128.ReducesTo [0, 1, 2] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S9216x512 .bf16) (main_arg1 : FVec F S9216x256 .bf16) (main_arg2 : FVec F S9216x512 .bf16) (main_arg3 : FVec F S4x9216x512 .bf16) : IVec S_ 1 :=
  let main_v0 : FVec F S9216x512 .f32 := (extf .f32 · bitsLt_bf16_f32) main_arg0
  let main_v1 : FVec F S9216x512 .f32 := Host.absf main_v0
  let main_cst : FVec F S_ .f32 := constant S_ .f32 0x7F800000#32
  let main_v2 : FVec F S9216x512 .f32 := broadcastInDim S9216x512 ![] bcast_S_S9216x512 main_cst
  let main_v3 : IVec S9216x512 1 := cmpf .olt main_v1 main_v2
  let main_c : IVec S_ 1 := constantI S_ 1 1#1
  let main_v4 : IVec S_ 1 := (fun x v => Host.reduce IntOp.andi x v reducesTo_S9216x512_S_d0_1 h_S_) main_v3 main_c
  let main_v5 : FVec F S9216x256 .f32 := (extf .f32 · bitsLt_bf16_f32) main_arg1
  let main_v6 : FVec F S9216x256 .f32 := Host.absf main_v5
  let main_cst_0 : FVec F S_ .f32 := constant S_ .f32 0x7F800000#32
  let main_v7 : FVec F S9216x256 .f32 := broadcastInDim S9216x256 ![] bcast_S_S9216x256 main_cst_0
  let main_v8 : IVec S9216x256 1 := cmpf .olt main_v6 main_v7
  let main_c_1 : IVec S_ 1 := constantI S_ 1 1#1
  let main_v9 : IVec S_ 1 := (fun x v => Host.reduce IntOp.andi x v reducesTo_S9216x256_S_d0_1 h_S_) main_v8 main_c_1
  let main_v10 : IVec S_ 1 := andi main_v4 main_v9
  let main_v11 : FVec F S9216x2x2x128 .bf16 := shapeCast S9216x2x2x128 main_arg2 shapeCasts_S9216x512_S9216x2x2x128
  let main_v12 : FVec F S9216x2x1x128 .bf16 := (extractStridedSlice S9216x2x1x128 ![0, 0, 1, 0] · slices_S9216x2x2x128_S9216x2x1x128_0_0_1_0) main_v11
  let main_v13 : FVec F S9216x2x128 .bf16 := shapeCast S9216x2x128 main_v12 shapeCasts_S9216x2x1x128_S9216x2x128
  let main_v14 : FVec F S9216x2x128 .f32 := (extf .f32 · bitsLt_bf16_f32) main_v13
  let main_cst_2 : FVec F S_ .f32 := constant S_ .f32 0x3F800000#32
  let main_v15 : FVec F S9216x2x128 .f32 := broadcastInDim S9216x2x128 ![] bcast_S_S9216x2x128 main_cst_2
  let main_v16 : IVec S9216x2x128 1 := cmpf .oeq main_v14 main_v15
  let main_c_3 : IVec S_ 1 := constantI S_ 1 1#1
  let main_v17 : IVec S_ 1 := (fun x v => Host.reduce IntOp.andi x v reducesTo_S9216x2x128_S_d0_1_2 h_S_) main_v16 main_c_3
  fn_part1 (F := F) main_v10 main_v17
-- ==== Kernel.lean ====
abbrev S9216x512 : Shape := ⟨2, ![9216, 512]⟩
abbrev S9216x256 : Shape := ⟨2, ![9216, 256]⟩
abbrev S4x9216x512 : Shape := ⟨3, ![4, 9216, 512]⟩
abbrev S512x256 : Shape := ⟨2, ![512, 256]⟩
abbrev S2048x128 : Shape := ⟨2, ![2048, 128]⟩
abbrev S2048x256 : Shape := ⟨2, ![2048, 256]⟩
abbrev S256x128 : Shape := ⟨2, ![256, 128]⟩
abbrev S256x256 : Shape := ⟨2, ![256, 256]⟩
abbrev S1x512x256 : Shape := ⟨3, ![1, 512, 256]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩

abbrev nBuf : Space → Nat
  | .hbm => 5
  | .vmem => 12
  | .smem => 0
  | _ => 0

abbrev bufTy : (tb : Table) → Fin (tcTables nBuf tb) → BufTy
  | .hbm, ⟨0, _⟩ => ⟨S9216x512, .bf16⟩
  | .hbm, ⟨1, _⟩ => ⟨S9216x256, .bf16⟩
  | .hbm, ⟨2, _⟩ => ⟨S9216x512, .bf16⟩
  | .hbm, ⟨3, _⟩ => ⟨S4x9216x512, .bf16⟩
  | .hbm, ⟨4, _⟩ => ⟨S4x9216x512, .bf16⟩
  | .local _ .vmem, ⟨0, _⟩ => ⟨S512x256, .bf16⟩
  | .local _ .vmem, ⟨1, _⟩ => ⟨S512x256, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S256x256, .bf16⟩
  | .local _ .vmem, ⟨10, _⟩ => ⟨S1x512x256, .bf16⟩
  | .local _ .vmem, ⟨11, _⟩ => ⟨S1x512x256, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let c0_i32 : BitVec 32 := 0#32
  ![c1_i32.toNat, v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S9216x512 : Shape := ⟨2, ![9216, 512]⟩
abbrev S9216x256 : Shape := ⟨2, ![9216, 256]⟩
abbrev S4x9216x512 : Shape := ⟨3, ![4, 9216, 512]⟩
abbrev S8192x512 : Shape := ⟨2, ![8192, 512]⟩
abbrev S4x2048x2x2x128 : Shape := ⟨5, ![4, 2048, 2, 2, 128]⟩
abbrev S9216x2x2x128 : Shape := ⟨4, ![9216, 2, 2, 128]⟩
abbrev S9216x2x1x128 : Shape := ⟨4, ![9216, 2, 1, 128]⟩
abbrev S9216x2x128 : Shape := ⟨3, ![9216, 2, 128]⟩
abbrev S8192x2x128 : Shape := ⟨3, ![8192, 2, 128]⟩
abbrev S1024x2x128 : Shape := ⟨3, ![1024, 2, 128]⟩
abbrev S4x256x2x128 : Shape := ⟨4, ![4, 256, 2, 128]⟩
abbrev S4x2048x2x128 : Shape := ⟨4, ![4, 2048, 2, 128]⟩
abbrev S4x2304x2x128 : Shape := ⟨4, ![4, 2304, 2, 128]⟩
abbrev S4x2x2304x2048x2 : Shape := ⟨5, ![4, 2, 2304, 2048, 2]⟩
abbrev S4x2x2x2048x2304 : Shape := ⟨5, ![4, 2, 2, 2048, 2304]⟩
abbrev S_ : Shape := ⟨0, ![]⟩
abbrev S4x2x2x2048 : Shape := ⟨4, ![4, 2, 2, 2048]⟩
abbrev S4x2x2x2048x1 : Shape := ⟨5, ![4, 2, 2, 2048, 1]⟩
abbrev S4x2x128x2x2048 : Shape := ⟨5, ![4, 2, 128, 2, 2048]⟩
abbrev S1x1024x512 : Shape := ⟨3, ![1, 1024, 512]⟩
abbrev S1024x512 : Shape := ⟨2, ![1024, 512]⟩
abbrev S1x9216x512 : Shape := ⟨3, ![1, 9216, 512]⟩
abbrev S2x9216x512 : Shape := ⟨3, ![2, 9216, 512]⟩
abbrev S3x9216x512 : Shape := ⟨3, ![3, 9216, 512]⟩

abbrev nBuf : Space → Nat
  | .hbm => 53
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x256, .bf16⟩
  | .hbm, ⟨2, _⟩ => ⟨S9216x512, .bf16⟩
  | .hbm, ⟨3, _⟩ => ⟨S4x9216x512, .bf16⟩
  | .hbm, ⟨4, _⟩ => ⟨S8192x512, .bf16⟩
  | .hbm, ⟨5, _⟩ => ⟨S4x2048x2x2x128, .bf16⟩
  | .hbm, ⟨6, _⟩ => ⟨S9216x2x2x128, .bf16⟩
  | .hbm, ⟨7, _⟩ => ⟨S9216x2x1x128, .bf16⟩
  | .hbm, ⟨8, _⟩ => ⟨S9216x2x128, .bf16⟩
  | .hbm, ⟨9, _⟩ => ⟨S9216x2x128, .bf16⟩
  | .hbm, ⟨10, _⟩ => ⟨S8192x2x128, .bf16⟩
  | .hbm, ⟨11, _⟩ => ⟨S1024x2x128, .bf16⟩
  | .hbm, ⟨12, _⟩ => ⟨S4x256x2x128, .bf16⟩
  | .hbm, ⟨13, _⟩ => ⟨S4x2048x2x128, .bf16⟩
  | .hbm, ⟨14, _⟩ => ⟨S4x2304x2x128, .bf16⟩
  | .hbm, ⟨15, _⟩ => ⟨S4x2x2304x2048x2, .f32⟩
  | .hbm, ⟨16, _⟩ => ⟨S4x2x2x2048x2304, .f32⟩
  | .hbm, ⟨17, _⟩ => ⟨S_, .f32⟩
  | .hbm, ⟨18, _⟩ => ⟨S_, .f32⟩
  | .hbm, ⟨19, _⟩ => ⟨S4x2x2x2048x2304, .f32⟩
  | .hbm, ⟨20, _⟩ => ⟨S4x2x2x2048x2304, .f32⟩
  | .hbm, ⟨21, _⟩ => ⟨S_, .f32⟩
  | .hbm, ⟨22, _⟩ => ⟨S4x2x2x2048, .f32⟩
  | .hbm, ⟨23, _⟩ => ⟨S_, .f32⟩
  | .hbm, ⟨24, _⟩ => ⟨S4x2x2x2048, .f32⟩
  | .hbm, ⟨25, _⟩ => ⟨S4x2x2x2048, .f32⟩
  | .hbm, ⟨26, _⟩ => ⟨S4x2x2x2048x1, .f32⟩
  | .hbm, ⟨27, _⟩ => ⟨S4x2x2x2048x2304, .f32⟩
  | .hbm, ⟨28, _⟩ => ⟨S4x2x2x2048x2304, .f32⟩
  | .hbm, ⟨29, _⟩ => ⟨S4x2x2x2048x2304, .f32⟩
  | .hbm, ⟨30, _⟩ => ⟨S_, .f32⟩
  | .hbm, ⟨31, _⟩ => ⟨S4x2x2x2048, .f32⟩
  | .hbm, ⟨32, _⟩ => ⟨S4x2x2x2048x1, .f32⟩
  | .hbm, ⟨33, _⟩ => ⟨S4x2x2x2048x2304, .f32⟩
  | .hbm, ⟨34, _⟩ => ⟨S4x2x2x2048x2304, .f32⟩
  | .hbm, ⟨35, _⟩ => ⟨S4x2x2x2048x2304, .bf16⟩
  | .hbm, ⟨36, _⟩ => ⟨S8192x2x128, .bf16⟩
  | .hbm, ⟨37, _⟩ => ⟨S1024x2x128, .bf16⟩
  | .hbm, ⟨38, _⟩ => ⟨S4x256x2x128, .bf16⟩
  | .hbm, ⟨39, _⟩ => ⟨S4x2048x2x128, .bf16⟩
  | .hbm, ⟨40, _⟩ => ⟨S4x2304x2x128, .bf16⟩
  | .hbm, ⟨41, _⟩ => ⟨S4x2x128x2x2048, .f32⟩
  | .hbm, ⟨42, _⟩ => ⟨S4x2048x2x2x128, .f32⟩
  | .hbm, ⟨43, _⟩ => ⟨S8192x512, .f32⟩
  | .hbm, ⟨44, _⟩ => ⟨S8192x512, .bf16⟩
  | .hbm, ⟨45, _⟩ => ⟨S1x1024x512, .bf16⟩
  | .hbm, ⟨46, _⟩ => ⟨S1024x512, .bf16⟩
  | .hbm, ⟨47, _⟩ => ⟨S9216x512, .bf16⟩
  | .hbm, ⟨48, _⟩ => ⟨S1x9216x512, .bf16⟩
  | .hbm, ⟨49, _⟩ => ⟨S1x9216x512, .bf16⟩
  | .hbm, ⟨50, _⟩ => ⟨S2x9216x512, .bf16⟩
  | .hbm, ⟨51, _⟩ => ⟨S3x9216x512, .bf16⟩
  | .hbm, ⟨52, _⟩ => ⟨S4x9216x512, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel2.lean ====
abbrev S9216x5632 : Shape := ⟨2, ![9216, 5632]⟩
abbrev S5632x2048 : Shape := ⟨2, ![5632, 2048]⟩
abbrev S9216x2048 : Shape := ⟨2, ![9216, 2048]⟩
abbrev S8x9x1x2048 : Shape := ⟨4, ![8, 9, 1, 2048]⟩
abbrev S1024x5632 : Shape := ⟨2, ![1024, 5632]⟩
abbrev S5632x512 : Shape := ⟨2, ![5632, 512]⟩
abbrev S1024x512 : Shape := ⟨2, ![1024, 512]⟩
abbrev S1x1x1x512 : Shape := ⟨4, ![1, 1, 1, 512]⟩
abbrev S1024x256 : Shape := ⟨2, ![1024, 256]⟩
abbrev S1x1x1x256 : Shape := ⟨4, ![1, 1, 1, 256]⟩
abbrev S1x256 : Shape := ⟨2, ![1, 256]⟩
abbrev S5632x256 : Shape := ⟨2, ![5632, 256]⟩

abbrev nBuf : Space → Nat
  | .hbm => 5
  | .vmem => 10
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .bf16⟩
  | .hbm, ⟨2, _⟩ => ⟨S9216x2048, .f32⟩
  | .hbm, ⟨3, _⟩ => ⟨S8x9x1x2048, .f32⟩
  | .hbm, ⟨4, _⟩ => ⟨S9216x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c8_i32 : BitVec 32 := 8#32
  let c0_i32_4 : BitVec 32 := 0#32
  let c0_i32_5 : BitVec 32 := 0#32
  ![v18.toNat, c8_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S9216x5632 : Shape := ⟨2, ![9216, 5632]⟩
abbrev S5632x2048 : Shape := ⟨2, ![5632, 2048]⟩
abbrev S9216x2048 : Shape := ⟨2, ![9216, 2048]⟩
abbrev S8x9x1x2048 : Shape := ⟨4, ![8, 9, 1, 2048]⟩
abbrev S4x1x1x2048 : Shape := ⟨4, ![4, 1, 1, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x1x1x2048 : Shape := ⟨4, ![1, 1, 1, 2048]⟩
abbrev S1x2048 : Shape := ⟨2, ![1, 2048]⟩
abbrev S1024x2048 : Shape := ⟨2, ![1024, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .bf16⟩
  | .hbm, ⟨2, _⟩ => ⟨S9216x2048, .f32⟩
  | .hbm, ⟨3, _⟩ => ⟨S8x9x1x2048, .f32⟩
  | .hbm, ⟨4, _⟩ => ⟨S4x1x1x2048, .f32⟩
  | .hbm, ⟨5, _⟩ => ⟨S4x1x2048, .f32⟩
  | .hbm, ⟨6, _⟩ => ⟨S4x2048x2048, .f32⟩
  | .hbm, ⟨7, _⟩ => ⟨S8192x2048, .f32⟩
  | .hbm, ⟨8, _⟩ => ⟨S1x1x1x2048, .f32⟩
  | .hbm, ⟨9, _⟩ => ⟨S1x2048, .f32⟩
  | .hbm, ⟨10, _⟩ => ⟨S1024x2048, .f32⟩
  | .hbm, ⟨11, _⟩ => ⟨S9216x2048, .f32⟩
  | .hbm, ⟨12, _⟩ => ⟨S_, .f32⟩
  | .hbm, ⟨13, _⟩ => ⟨S9216x2048, .f32⟩
  | .hbm, ⟨14, _⟩ => ⟨S9216x2048, .f32⟩
  | .hbm, ⟨15, _⟩ => ⟨S9216x2048, .f32⟩
  | .hbm, ⟨16, _⟩ => ⟨S9216x2048, .f32⟩
  | .hbm, ⟨17, _⟩ => ⟨S9216x2048, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S9216x2048 : Shape := ⟨2, ![9216, 2048]⟩
abbrev S4x2048x8192 : Shape := ⟨3, ![4, 2048, 8192]⟩
abbrev S8192 : Shape := ⟨1, ![8192]⟩
abbrev S4x9216x512 : Shape := ⟨3, ![4, 9216, 512]⟩
abbrev S4x4x512x2048 : Shape := ⟨4, ![4, 4, 512, 2048]⟩
abbrev S1x8192 : Shape := ⟨2, ![1, 8192]⟩
abbrev S1024x2048 : Shape := ⟨2, ![1024, 2048]⟩
abbrev S1x2048x256 : Shape := ⟨3, ![1, 2048, 256]⟩
abbrev S1x256 : Shape := ⟨2, ![1, 256]⟩
abbrev S1x1024x512 : Shape := ⟨3, ![1, 1024, 512]⟩
abbrev S1x1x512x256 : Shape := ⟨4, ![1, 1, 512, 256]⟩
abbrev S1024x256 : Shape := ⟨2, ![1024, 256]⟩
abbrev S2048x256 : Shape := ⟨2, ![2048, 256]⟩
abbrev S1024x512 : Shape := ⟨2, ![1024, 512]⟩
abbrev S512x256 : Shape := ⟨2, ![512, 256]⟩

abbrev nBuf : Space → Nat
  | .hbm => 7
  | .vmem => 36
  | .smem => 0
  | _ => 0

abbrev bufTy : (tb : Table) → Fin (tcTables nBuf tb) → BufTy
  | .hbm, ⟨0, _⟩ => ⟨S9216x2048, .bf16⟩
  | .hbm, ⟨1, _⟩ => ⟨S4x2048x8192, .f32⟩
  | .hbm, ⟨2, _⟩ => ⟨S8192, .f32⟩
  | .hbm, ⟨3, _⟩ => ⟨S4x9216x512, .bf16⟩
  | .hbm, ⟨4, _⟩ => ⟨S4x4x512x2048, .f32⟩
  | .hbm, ⟨5, _⟩ => ⟨S1x8192, .f32⟩
  | .hbm, ⟨6, _⟩ => ⟨S9216x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1x512x256, .f32⟩
  | .local _ .vmem, ⟨27, _⟩ => ⟨S1x1x512x256, .f32⟩
  | .local _ .vmem, ⟨28, _⟩ => ⟨S1x1x512x256, .f32⟩
  | .local _ .vmem, ⟨29, _⟩ => ⟨S1x1x512x256, .f32⟩
  | .local _ .vmem, ⟨30, _⟩ => ⟨S1x1x512x256, .f32⟩
  | .local _ .vmem, ⟨31, _⟩ => ⟨S1x1x512x256, .f32⟩
  | .local _ .vmem, ⟨32, _⟩ => ⟨S1x1x512x256, .f32⟩
  | .local _ .vmem, ⟨33, _⟩ => ⟨S1x1x512x256, .f32⟩
  | .local _ .vmem, ⟨34, _⟩ => ⟨S1024x256, .bf16⟩
  | .local _ .vmem, ⟨35, _⟩ => ⟨S1024x256, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S9216x2048 : Shape := ⟨2, ![9216, 2048]⟩
abbrev S4x2048x8192 : Shape := ⟨3, ![4, 2048, 8192]⟩
abbrev S8192 : Shape := ⟨1, ![8192]⟩
abbrev S4x9216x512 : Shape := ⟨3, ![4, 9216, 512]⟩
abbrev S4x4x512x2048 : Shape := ⟨4, ![4, 4, 512, 2048]⟩
abbrev S1x2048x8192 : Shape := ⟨3, ![1, 2048, 8192]⟩
abbrev S2048x8192 : Shape := ⟨2, ![2048, 8192]⟩
abbrev S9216x8192 : Shape := ⟨2, ![9216, 8192]⟩
abbrev S1x8192 : Shape := ⟨2, ![1, 8192]⟩
abbrev S_ : Shape := ⟨0, ![]⟩
abbrev S9216x4x2048 : Shape := ⟨3, ![9216, 4, 2048]⟩
abbrev S1x4x512x2048 : Shape := ⟨4, ![1, 4, 512, 2048]⟩
abbrev S4x512x2048 : Shape := ⟨3, ![4, 512, 2048]⟩
abbrev S4x2048x9216 : Shape := ⟨3, ![4, 2048, 9216]⟩

abbrev nBuf : Space → Nat
  | .hbm => 30
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S4x2048x8192, .f32⟩
  | .hbm, ⟨2, _⟩ => ⟨S8192, .f32⟩
  | .hbm, ⟨3, _⟩ => ⟨S4x9216x512, .bf16⟩
  | .hbm, ⟨4, _⟩ => ⟨S4x4x512x2048, .f32⟩
  | .hbm, ⟨5, _⟩ => ⟨S1x2048x8192, .f32⟩
  | .hbm, ⟨6, _⟩ => ⟨S2048x8192, .f32⟩
  | .hbm, ⟨7, _⟩ => ⟨S2048x8192, .bf16⟩
  | .hbm, ⟨8, _⟩ => ⟨S9216x8192, .f32⟩
  | .hbm, ⟨9, _⟩ => ⟨S1x8192, .f32⟩
  | .hbm, ⟨10, _⟩ => ⟨S9216x8192, .f32⟩
  | .hbm, ⟨11, _⟩ => ⟨S9216x8192, .f32⟩
  | .hbm, ⟨12, _⟩ => ⟨S9216x8192, .f32⟩
  | .hbm, ⟨13, _⟩ => ⟨S9216x8192, .f32⟩
  | .hbm, ⟨14, _⟩ => ⟨S_, .f32⟩
  | .hbm, ⟨15, _⟩ => ⟨S9216x8192, .f32⟩
  | .hbm, ⟨16, _⟩ => ⟨S9216x8192, .f32⟩
  | .hbm, ⟨17, _⟩ => ⟨S_, .f32⟩
  | .hbm, ⟨18, _⟩ => ⟨S9216x8192, .f32⟩
  | .hbm, ⟨19, _⟩ => ⟨S9216x8192, .f32⟩
  | .hbm, ⟨20, _⟩ => ⟨S9216x4x2048, .f32⟩
  | .hbm, ⟨21, _⟩ => ⟨S1x4x512x2048, .f32⟩
  | .hbm, ⟨22, _⟩ => ⟨S4x512x2048, .f32⟩
  | .hbm, ⟨23, _⟩ => ⟨S4x512x2048, .bf16⟩
  | .hbm, ⟨24, _⟩ => ⟨S4x2048x9216, .f32⟩
  | .hbm, ⟨25, _⟩ => ⟨S9216x4x2048, .f32⟩
  | .hbm, ⟨26, _⟩ => ⟨S9216x4x2048, .f32⟩
  | .hbm, ⟨27, _⟩ => ⟨S_, .f32⟩
  | .hbm, ⟨28, _⟩ => ⟨S9216x2048, .f32⟩
  | .hbm, ⟨29, _⟩ => ⟨S9216x2048, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S9216x2048 : Shape := ⟨2, ![9216, 2048]⟩
abbrev S4x2048x2048 : Shape := ⟨3, ![4, 2048, 2048]⟩
abbrev S8x9x1x2048 : Shape := ⟨4, ![8, 9, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S4x2048x2048, .f32⟩
  | .hbm, ⟨2, _⟩ => ⟨S9216x2048, .f32⟩
  | .hbm, ⟨3, _⟩ => ⟨S8x9x1x2048, .f32⟩
  | .hbm, ⟨4, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c5_i32 : BitVec 32 := 5#32
  let c0_i32_4 : BitVec 32 := 0#32
  let c0_i32_5 : BitVec 32 := 0#32
  ![v18.toNat, c5_i32.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S9216x2048 : Shape := ⟨2, ![9216, 2048]⟩
abbrev S4x2048x2048 : Shape := ⟨3, ![4, 2048, 2048]⟩
abbrev S8x9x1x2048 : Shape := ⟨4, ![8, 9, 1, 2048]⟩
abbrev S4x1x1x2048 : Shape := ⟨4, ![4, 1, 1, 2048]⟩
abbrev S4x1x2048 : Shape := ⟨3, ![4, 1, 2048]⟩
abbrev S8192x2048 : Shape := ⟨2, ![8192, 2048]⟩
abbrev S1x1x1x2048 : Shape := ⟨4, ![1, 1, 1, 2048]⟩
abbrev S1x2048 : Shape := ⟨2, ![1, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S4x2048x2048, .f32⟩
  | .hbm, ⟨2, _⟩ => ⟨S9216x2048, .f32⟩
  | .hbm, ⟨3, _⟩ => ⟨S8x9x1x2048, .f32⟩
  | .hbm, ⟨4, _⟩ => ⟨S4x1x1x2048, .f32⟩
  | .hbm, ⟨5, _⟩ => ⟨S4x1x2048, .f32⟩
  | .hbm, ⟨6, _⟩ => ⟨S4x2048x2048, .f32⟩
  | .hbm, ⟨7, _⟩ => ⟨S8192x2048, .f32⟩
  | .hbm, ⟨8, _⟩ => ⟨S1x1x1x2048, .f32⟩
  | .hbm, ⟨9, _⟩ => ⟨S1x2048, .f32⟩
  | .hbm, ⟨10, _⟩ => ⟨S1024x2048, .f32⟩
  | .hbm, ⟨11, _⟩ => ⟨S9216x2048, .f32⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S9216x2048, .f32⟩
  | .hbm, ⟨16, _⟩ => ⟨S9216x2048, .f32⟩
  | .hbm, ⟨17, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S1024x2048 : Shape := ⟨2, ![1024, 2048]⟩
abbrev S9216x2048 : Shape := ⟨2, ![9216, 2048]⟩
abbrev S2048 : Shape := ⟨1, ![2048]⟩
abbrev S8x9x1x2048 : Shape := ⟨4, ![8, 9, 1, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S9216x5632 : Shape := ⟨2, ![9216, 5632]⟩
abbrev S5632x2048 : Shape := ⟨2, ![5632, 2048]⟩
abbrev S128x2048 : Shape := ⟨2, ![128, 2048]⟩
abbrev S1x1x1x2048 : Shape := ⟨4, ![1, 1, 1, 2048]⟩
abbrev S1x2048x512 : Shape := ⟨3, ![1, 2048, 512]⟩
abbrev S1x64x2048 : Shape := ⟨3, ![1, 64, 2048]⟩
abbrev S1024x512 : Shape := ⟨2, ![1024, 512]⟩
abbrev S64x2048 : Shape := ⟨2, ![64, 2048]⟩
abbrev S2x1024x2048 : Shape := ⟨3, ![2, 1024, 2048]⟩
abbrev S128x1 : Shape := ⟨2, ![128, 1]⟩
abbrev S1x1024x2048 : Shape := ⟨3, ![1, 1024, 2048]⟩
abbrev S1x2048x256 : Shape := ⟨3, ![1, 2048, 256]⟩
abbrev S2048x256 : Shape := ⟨2, ![2048, 256]⟩
abbrev S1024x256 : Shape := ⟨2, ![1024, 256]⟩
abbrev S16x2048 : Shape := ⟨2, ![16, 2048]⟩
abbrev S16 : Shape := ⟨1, ![16]⟩
abbrev S16x1 : Shape := ⟨2, ![16, 1]⟩
abbrev S1x128x2048 : Shape := ⟨3, ![1, 128, 2048]⟩
abbrev S1x16x2048 : Shape := ⟨3, ![1, 16, 2048]⟩

abbrev nBuf : Space → Nat
  | .hbm => 9
  | .vmem => 20
  | .smem => 0
  | _ => 0

abbrev bufTy : (tb : Table) → Fin (tcTables nBuf tb) → BufTy
  | .hbm, ⟨0, _⟩ => ⟨S1024x2048, .bf16⟩
  | .hbm, ⟨1, _⟩ => ⟨S9216x2048, .f32⟩
  | .hbm, ⟨2, _⟩ => ⟨S2048, .f32⟩
  | .hbm, ⟨3, _⟩ => ⟨S8x9x1x2048, .f32⟩
  | .hbm, ⟨4, _⟩ => ⟨S4x2048x11264, .f32⟩
  | .hbm, ⟨5, _⟩ => ⟨S4x5632x2048, .f32⟩
  | .hbm, ⟨6, _⟩ => ⟨S1x2048, .f32⟩
  | .hbm, ⟨7, _⟩ => ⟨S9216x5632, .bf16⟩
  | .hbm, ⟨8, _⟩ => ⟨S5632x2048, .bf16⟩
  | .local _ .vmem, ⟨0, _⟩ => ⟨S1024x2048, .bf16⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x64x2048, .f32⟩
  | .local _ .vmem, ⟨13, _⟩ => ⟨S1x64x2048, .f32⟩
  | .local _ .vmem, ⟨14, _⟩ => ⟨S1024x512, .bf16⟩
  | .local _ .vmem, ⟨15, _⟩ => ⟨S1024x512, .bf16⟩
  | .local _ .vmem, ⟨16, _⟩ => ⟨S64x2048, .bf16⟩
  | .local _ .vmem, ⟨17, _⟩ => ⟨S64x2048, .bf16⟩
  | .local _ .vmem, ⟨18, _⟩ => ⟨S2x1024x2048, .bf16⟩
  | .local _ .vmem, ⟨19, _⟩ => ⟨S128x1, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![9, 11], ![false, false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v15 : Index := Scalar.indexCast v9
  let c0 : Index := 0#32
  let c0_6 : Index := 0#32
  ![v15.toNat, 0, 0]
def k0_mult1 (i : grid0.Coords) : BitVec 32 :=
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  v45
def k0_off2 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_90 : BitVec 32 := 0#32
  ![v56.toNat, v46.toNat, 0]
def k0_off3 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_90 : BitVec 32 := 0#32
  ![v56.toNat, v46.toNat, 0]
def k0_off4 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_97 : BitVec 32 := 0#32
  ![v56.toNat, Nat.add v46.toNat 16, 0]
def k0_off5 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_104 : BitVec 32 := 0#32
  ![v56.toNat, Nat.add v46.toNat 32, 0]
def k0_off6 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_111 : BitVec 32 := 0#32
  ![v56.toNat, Nat.add v46.toNat 48, 0]
def k0_off7 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_118 : BitVec 32 := 0#32
  ![v56.toNat, Nat.add v46.toNat 64, 0]
def k0_off8 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_125 : BitVec 32 := 0#32
  ![v56.toNat, Nat.add v46.toNat 80, 0]
def k0_off9 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_132 : BitVec 32 := 0#32
  ![v56.toNat, Nat.add v46.toNat 96, 0]
def k0_off10 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_139 : BitVec 32 := 0#32
  ![v56.toNat, Nat.add v46.toNat 112, 0]
def k0_cond2 (i : grid0.Coords) : BitVec 1 :=
  let arg0 : BitVec 32 := BitVec.ofNat 32 (i 0).val
  let c11_i32 : BitVec 32 := 11#32
  let v265 : BitVec 32 := Scalar.muli arg0 c11_i32
  let arg1 : BitVec 32 := BitVec.ofNat 32 (i 1).val
  let v266 : BitVec 32 := Scalar.addi v265 arg1
  let c88_i32 : BitVec 32 := 88#32
  let v267 : BitVec 1 := Scalar.cmpi .slt v266 c88_i32
  let v268 : BitVec 32 := Scalar.extui v267
  let c0_i32_142 : BitVec 32 := 0#32
  let v269 : BitVec 1 := Scalar.cmpi .ne v268 c0_i32_142
  v269

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.minsi v0 c8_i32
  let c8_i32_0 : BitVec 32 := 8#32
  let v2 : BitVec 32 := Scalar.muli v1 c8_i32_0
  let c7_i32 : BitVec 32 := 7#32
  let v3 : BitVec 32 := Scalar.minsi arg1 c7_i32
  let v4 : BitVec 32 := Scalar.addi v2 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.minsi v0 c8_i32
  let c1024_i32 : BitVec 32 := 1024#32
  let v2 : BitVec 32 := Scalar.muli v1 c1024_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c4_i32 : BitVec 32 := 4#32
  let v20 : BitVec 32 := Scalar.minsi v19 c4_i32
  let c6_i32 : BitVec 32 := 6#32
  let c0_i32_5 : BitVec 32 := 0#32
  let c0_i32_6 : BitVec 32 := 0#32
  let c0_i32_7 : BitVec 32 := 0#32
  ![v20.toNat, c6_i32.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.minsi v0 c8_i32
  let c1024_i32 : BitVec 32 := 1024#32
  let v2 : BitVec 32 := Scalar.muli v1 c1024_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c4_i32 : BitVec 32 := 4#32
  let v20 : BitVec 32 := Scalar.minsi v19 c4_i32
  let c7_i32 : BitVec 32 := 7#32
  let c0_i32_5 : BitVec 32 := 0#32
  let c0_i32_6 : BitVec 32 := 0#32
  let c0_i32_7 : BitVec 32 := 0#32
  ![v20.toNat, c7_i32.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S1024x2048 : Shape := ⟨2, ![1024, 2048]⟩
abbrev S9216x2048 : Shape := ⟨2, ![9216, 2048]⟩
abbrev S2048 : Shape := ⟨1, ![2048]⟩
abbrev S8x9x1x2048 : Shape := ⟨4, ![8, 9, 1, 2048]⟩
abbrev S4x2048x11264 : Shape := ⟨3, ![4, 2048, 11264]⟩
abbrev S4x5632x2048 : Shape := ⟨3, ![4, 5632, 2048]⟩
abbrev S4x1x1x2048 : Shape := ⟨4, ![4, 1, 1, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x1x1x2048 : Shape := ⟨4, ![1, 1, 1, 2048]⟩
abbrev S1x2048 : Shape := ⟨2, ![1, 2048]⟩
abbrev S_ : Shape := ⟨0, ![]⟩
abbrev S9216 : Shape := ⟨1, ![9216]⟩
abbrev S9216x1 : Shape := ⟨2, ![9216, 1]⟩
abbrev S1x2048x11264 : Shape := ⟨3, ![1, 2048, 11264]⟩
abbrev S2048x11264 : Shape := ⟨2, ![2048, 11264]⟩
abbrev S2048x5632 : Shape := ⟨2, ![2048, 5632]⟩
abbrev S9216x5632 : Shape := ⟨2, ![9216, 5632]⟩
abbrev S1x5632x2048 : Shape := ⟨3, ![1, 5632, 2048]⟩
abbrev S5632x2048 : Shape := ⟨2, ![5632, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S9216x2048, .f32⟩
  | .hbm, ⟨2, _⟩ => ⟨S2048, .f32⟩
  | .hbm, ⟨3, _⟩ => ⟨S8x9x1x2048, .f32⟩
  | .hbm, ⟨4, _⟩ => ⟨S4x2048x11264, .f32⟩
  | .hbm, ⟨5, _⟩ => ⟨S4x5632x2048, .f32⟩
  | .hbm, ⟨6, _⟩ => ⟨S4x1x1x2048, .f32⟩
  | .hbm, ⟨7, _⟩ => ⟨S4x1x2048, .f32⟩
  | .hbm, ⟨8, _⟩ => ⟨S4x2048x2048, .f32⟩
  | .hbm, ⟨9, _⟩ => ⟨S8192x2048, .f32⟩
  | .hbm, ⟨10, _⟩ => ⟨S1x1x1x2048, .f32⟩
  | .hbm, ⟨11, _⟩ => ⟨S1x2048, .f32⟩
  | .hbm, ⟨12, _⟩ => ⟨S1024x2048, .f32⟩
  | .hbm, ⟨13, _⟩ => ⟨S9216x2048, .f32⟩
  | .hbm, ⟨14, _⟩ => ⟨S4x1x1x2048, .f32⟩
  | .hbm, ⟨15, _⟩ => ⟨S4x1x2048, .f32⟩
  | .hbm, ⟨16, _⟩ => ⟨S4x2048x2048, .f32⟩
  | .hbm, ⟨17, _⟩ => ⟨S8192x2048, .f32⟩
  | .hbm, ⟨18, _⟩ => ⟨S1x1x1x2048, .f32⟩
  | .hbm, ⟨19, _⟩ => ⟨S1x2048, .f32⟩
  | .hbm, ⟨20, _⟩ => ⟨S1024x2048, .f32⟩
  | .hbm, ⟨21, _⟩ => ⟨S9216x2048, .f32⟩
  | .hbm, ⟨22, _⟩ => ⟨S9216x2048, .f32⟩
  | .hbm, ⟨23, _⟩ => ⟨S_, .f32⟩
  | .hbm, ⟨24, _⟩ => ⟨S9216, .f32⟩
  | .hbm, ⟨25, _⟩ => ⟨S9216x1, .f32⟩
  | .hbm, ⟨26, _⟩ => ⟨S_, .f32⟩
  | .hbm, ⟨27, _⟩ => ⟨S9216x1, .f32⟩
  | .hbm, ⟨28, _⟩ => ⟨S9216x1, .f32⟩
  | .hbm, ⟨29, _⟩ => ⟨S_, .f32⟩
  | .hbm, ⟨30, _⟩ => ⟨S9216x1, .f32⟩
  | .hbm, ⟨31, _⟩ => ⟨S9216x1, .f32⟩
  | .hbm, ⟨32, _⟩ => ⟨S9216x1, .f32⟩
  | .hbm, ⟨33, _⟩ => ⟨S9216x2048, .f32⟩
  | .hbm, ⟨34, _⟩ => ⟨S9216x2048, .f32⟩
  | .hbm, ⟨35, _⟩ => ⟨S1x2048, .f32⟩
  | .hbm, ⟨36, _⟩ => ⟨S9216x2048, .f32⟩
  | .hbm, ⟨37, _⟩ => ⟨S9216x2048, .f32⟩
  | .hbm, ⟨38, _⟩ => ⟨S_, .f32⟩
  | .hbm, ⟨39, _⟩ => ⟨S9216x2048, .f32⟩
  | .hbm, ⟨40, _⟩ => ⟨S9216x2048, .f32⟩
  | .hbm, ⟨41, _⟩ => ⟨S9216x2048, .f32⟩
  | .hbm, ⟨42, _⟩ => ⟨S9216x2048, .f32⟩
  | .hbm, ⟨43, _⟩ => ⟨S9216x2048, .bf16⟩
  | .hbm, ⟨44, _⟩ => ⟨S8192x2048, .bf16⟩
  | .hbm, ⟨45, _⟩ => ⟨S9216x2048, .bf16⟩
  | .hbm, ⟨46, _⟩ => ⟨S1x2048x11264, .f32⟩
  | .hbm, ⟨47, _⟩ => ⟨S2048x11264, .f32⟩
  | .hbm, ⟨48, _⟩ => ⟨S2048x11264, .bf16⟩
  | .hbm, ⟨49, _⟩ => ⟨S2048x5632, .bf16⟩
  | .hbm, ⟨50, _⟩ => ⟨S9216x5632, .f32⟩
  | .hbm, ⟨51, _⟩ => ⟨S2048x5632, .bf16⟩
  | .hbm, ⟨52, _⟩ => ⟨S9216x5632, .f32⟩
  | .hbm, ⟨53, _⟩ => ⟨S9216x5632, .f32⟩
  | .hbm, ⟨54, _⟩ => ⟨S9216x5632, .f32⟩
  | .hbm, ⟨55, _⟩ => ⟨S_, .f32⟩
  | .hbm, ⟨56, _⟩ => ⟨S9216x5632, .f32⟩
  | .hbm, ⟨57, _⟩ => ⟨S9216x5632, .f32⟩
  | .hbm, ⟨58, _⟩ => ⟨S_, .f32⟩
  | .hbm, ⟨59, _⟩ => ⟨S9216x5632, .f32⟩
  | .hbm, ⟨60, _⟩ => ⟨S9216x5632, .f32⟩
  | .hbm, ⟨61, _⟩ => ⟨S9216x5632, .f32⟩
  | .hbm, ⟨62, _⟩ => ⟨S9216x5632, .f32⟩
  | .hbm, ⟨63, _⟩ => ⟨S9216x5632, .bf16⟩
  | .hbm, ⟨64, _⟩ => ⟨S1x5632x2048, .f32⟩
  | .hbm, ⟨65, _⟩ => ⟨S5632x2048, .f32⟩
  | .hbm, ⟨66, _⟩ => ⟨S5632x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel6.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512x1 : Shape := ⟨2, ![512, 1]⟩
abbrev S16x2048 : Shape := ⟨2, ![16, 2048]⟩
abbrev S16 : Shape := ⟨1, ![16]⟩
abbrev S16x1 : Shape := ⟨2, ![16, 1]⟩

abbrev nBuf : Space → Nat
  | .hbm => 4
  | .vmem => 6
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x1, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S1024x2048 : Shape := ⟨2, ![1024, 2048]⟩
abbrev S9216x2048 : Shape := ⟨2, ![9216, 2048]⟩
abbrev S2048 : Shape := ⟨1, ![2048]⟩
abbrev S8x9x1x2048 : Shape := ⟨4, ![8, 9, 1, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S9216x5632 : Shape := ⟨2, ![9216, 5632]⟩
abbrev S5632x2048 : Shape := ⟨2, ![5632, 2048]⟩
abbrev S128x2048 : Shape := ⟨2, ![128, 2048]⟩
abbrev S1x1x1x2048 : Shape := ⟨4, ![1, 1, 1, 2048]⟩
abbrev S1x2048x512 : Shape := ⟨3, ![1, 2048, 512]⟩
abbrev S1x64x2048 : Shape := ⟨3, ![1, 64, 2048]⟩
abbrev S1024x512 : Shape := ⟨2, ![1024, 512]⟩
abbrev S64x2048 : Shape := ⟨2, ![64, 2048]⟩
abbrev S2x1024x2048 : Shape := ⟨3, ![2, 1024, 2048]⟩
abbrev S128x1 : Shape := ⟨2, ![128, 1]⟩
abbrev S1x1024x2048 : Shape := ⟨3, ![1, 1024, 2048]⟩
abbrev S1x2048x256 : Shape := ⟨3, ![1, 2048, 256]⟩
abbrev S2048x256 : Shape := ⟨2, ![2048, 256]⟩
abbrev S1024x256 : Shape := ⟨2, ![1024, 256]⟩
abbrev S16x2048 : Shape := ⟨2, ![16, 2048]⟩
abbrev S16 : Shape := ⟨1, ![16]⟩
abbrev S16x1 : Shape := ⟨2, ![16, 1]⟩
abbrev S1x128x2048 : Shape := ⟨3, ![1, 128, 2048]⟩
abbrev S1x16x2048 : Shape := ⟨3, ![1, 16, 2048]⟩

abbrev nBuf : Space → Nat
  | .hbm => 9
  | .vmem => 20
  | .smem => 0
  | _ => 0

abbrev bufTy : (tb : Table) → Fin (tcTables nBuf tb) → BufTy
  | .hbm, ⟨0, _⟩ => ⟨S1024x2048, .bf16⟩
  | .hbm, ⟨1, _⟩ => ⟨S9216x2048, .f32⟩
  | .hbm, ⟨2, _⟩ => ⟨S2048, .f32⟩
  | .hbm, ⟨3, _⟩ => ⟨S8x9x1x2048, .f32⟩
  | .hbm, ⟨4, _⟩ => ⟨S4x2048x11264, .f32⟩
  | .hbm, ⟨5, _⟩ => ⟨S4x5632x2048, .f32⟩
  | .hbm, ⟨6, _⟩ => ⟨S1x2048, .f32⟩
  | .hbm, ⟨7, _⟩ => ⟨S9216x5632, .bf16⟩
  | .hbm, ⟨8, _⟩ => ⟨S5632x2048, .bf16⟩
  | .local _ .vmem, ⟨0, _⟩ => ⟨S1024x2048, .bf16⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x64x2048, .f32⟩
  | .local _ .vmem, ⟨13, _⟩ => ⟨S1x64x2048, .f32⟩
  | .local _ .vmem, ⟨14, _⟩ => ⟨S1024x512, .bf16⟩
  | .local _ .vmem, ⟨15, _⟩ => ⟨S1024x512, .bf16⟩
  | .local _ .vmem, ⟨16, _⟩ => ⟨S64x2048, .bf16⟩
  | .local _ .vmem, ⟨17, _⟩ => ⟨S64x2048, .bf16⟩
  | .local _ .vmem, ⟨18, _⟩ => ⟨S2x1024x2048, .bf16⟩
  | .local _ .vmem, ⟨19, _⟩ => ⟨S128x1, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![9, 11], ![false, false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v15 : Index := Scalar.indexCast v9
  let c0 : Index := 0#32
  let c0_6 : Index := 0#32
  ![v15.toNat, 0, 0]
def k0_mult1 (i : grid0.Coords) : BitVec 32 :=
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  v45
def k0_off2 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_90 : BitVec 32 := 0#32
  ![v56.toNat, v46.toNat, 0]
def k0_off3 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_90 : BitVec 32 := 0#32
  ![v56.toNat, v46.toNat, 0]
def k0_off4 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_97 : BitVec 32 := 0#32
  ![v56.toNat, Nat.add v46.toNat 16, 0]
def k0_off5 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_104 : BitVec 32 := 0#32
  ![v56.toNat, Nat.add v46.toNat 32, 0]
def k0_off6 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_111 : BitVec 32 := 0#32
  ![v56.toNat, Nat.add v46.toNat 48, 0]
def k0_off7 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_118 : BitVec 32 := 0#32
  ![v56.toNat, Nat.add v46.toNat 64, 0]
def k0_off8 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_125 : BitVec 32 := 0#32
  ![v56.toNat, Nat.add v46.toNat 80, 0]
def k0_off9 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_132 : BitVec 32 := 0#32
  ![v56.toNat, Nat.add v46.toNat 96, 0]
def k0_off10 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_36 v9
  let arg1 : BitVec 32 := BitVec.ofNat 32 (i 1).val
  let c7_i32 : BitVec 32 := 7#32
  let v44 : BitVec 32 := Scalar.minsi arg1 c7_i32
  let c128_i32 : BitVec 32 := 128#32
  let v45 : BitVec 32 := Scalar.muli v44 c128_i32
  let v46 : BitVec 32 := v45
  let c0_i32_139 : BitVec 32 := 0#32
  ![v56.toNat, Nat.add v46.toNat 112, 0]
def k0_cond2 (i : grid0.Coords) : BitVec 1 :=
  let arg0 : BitVec 32 := BitVec.ofNat 32 (i 0).val
  let c11_i32 : BitVec 32 := 11#32
  let v265 : BitVec 32 := Scalar.muli arg0 c11_i32
  let arg1 : BitVec 32 := BitVec.ofNat 32 (i 1).val
  let v266 : BitVec 32 := Scalar.addi v265 arg1
  let c88_i32 : BitVec 32 := 88#32
  let v267 : BitVec 1 := Scalar.cmpi .slt v266 c88_i32
  let v268 : BitVec 32 := Scalar.extui v267
  let c0_i32_142 : BitVec 32 := 0#32
  let v269 : BitVec 1 := Scalar.cmpi .ne v268 c0_i32_142
  v269

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.minsi v0 c8_i32
  let c8_i32_0 : BitVec 32 := 8#32
  let v2 : BitVec 32 := Scalar.muli v1 c8_i32_0
  let c7_i32 : BitVec 32 := 7#32
  let v3 : BitVec 32 := Scalar.minsi arg1 c7_i32
  let v4 : BitVec 32 := Scalar.addi v2 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.minsi v0 c8_i32
  let c1024_i32 : BitVec 32 := 1024#32
  let v2 : BitVec 32 := Scalar.muli v1 c1024_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c4_i32 : BitVec 32 := 4#32
  let v20 : BitVec 32 := Scalar.minsi v19 c4_i32
  let c0_i32_5 : BitVec 32 := 0#32
  let c0_i32_6 : BitVec 32 := 0#32
  let c0_i32_7 : BitVec 32 := 0#32
  let c0_i32_8 : BitVec 32 := 0#32
  ![v20.toNat, c0_i32_5.toNat, c0_i32_6.toNat, c0_i32_7.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.minsi v0 c8_i32
  let c1024_i32 : BitVec 32 := 1024#32
  let v2 : BitVec 32 := Scalar.muli v1 c1024_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c4_i32 : BitVec 32 := 4#32
  let v20 : BitVec 32 := Scalar.minsi v19 c4_i32
  let c1_i32_5 : BitVec 32 := 1#32
  let c0_i32_6 : BitVec 32 := 0#32
  let c0_i32_7 : BitVec 32 := 0#32
  let c0_i32_8 : BitVec 32 := 0#32
  ![v20.toNat, c1_i32_5.toNat, c0_i32_6.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S1024x2048 : Shape := ⟨2, ![1024, 2048]⟩
abbrev S9216x2048 : Shape := ⟨2, ![9216, 2048]⟩
abbrev S2048 : Shape := ⟨1, ![2048]⟩
abbrev S8x9x1x2048 : Shape := ⟨4, ![8, 9, 1, 2048]⟩
abbrev S4x2048x11264 : Shape := ⟨3, ![4, 2048, 11264]⟩
abbrev S4x5632x2048 : Shape := ⟨3, ![4, 5632, 2048]⟩
abbrev S4x1x1x2048 : Shape := ⟨4, ![4, 1, 1, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x1x1x2048 : Shape := ⟨4, ![1, 1, 1, 2048]⟩
abbrev S1x2048 : Shape := ⟨2, ![1, 2048]⟩
abbrev S_ : Shape := ⟨0, ![]⟩
abbrev S9216 : Shape := ⟨1, ![9216]⟩
abbrev S9216x1 : Shape := ⟨2, ![9216, 1]⟩
abbrev S1x2048x11264 : Shape := ⟨3, ![1, 2048, 11264]⟩
abbrev S2048x11264 : Shape := ⟨2, ![2048, 11264]⟩
abbrev S2048x5632 : Shape := ⟨2, ![2048, 5632]⟩
abbrev S9216x5632 : Shape := ⟨2, ![9216, 5632]⟩
abbrev S1x5632x2048 : Shape := ⟨3, ![1, 5632, 2048]⟩
abbrev S5632x2048 : Shape := ⟨2, ![5632, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S9216x2048, .f32⟩
  | .hbm, ⟨2, _⟩ => ⟨S2048, .f32⟩
  | .hbm, ⟨3, _⟩ => ⟨S8x9x1x2048, .f32⟩
  | .hbm, ⟨4, _⟩ => ⟨S4x2048x11264, .f32⟩
  | .hbm, ⟨5, _⟩ => ⟨S4x5632x2048, .f32⟩
  | .hbm, ⟨6, _⟩ => ⟨S4x1x1x2048, .f32⟩
  | .hbm, ⟨7, _⟩ => ⟨S4x1x2048, .f32⟩
  | .hbm, ⟨8, _⟩ => ⟨S4x2048x2048, .f32⟩
  | .hbm, ⟨9, _⟩ => ⟨S8192x2048, .f32⟩
  | .hbm, ⟨10, _⟩ => ⟨S1x1x1x2048, .f32⟩
  | .hbm, ⟨11, _⟩ => ⟨S1x2048, .f32⟩
  | .hbm, ⟨12, _⟩ => ⟨S1024x2048, .f32⟩
  | .hbm, ⟨13, _⟩ => ⟨S9216x2048, .f32⟩
  | .hbm, ⟨14, _⟩ => ⟨S4x1x1x2048, .f32⟩
  | .hbm, ⟨15, _⟩ => ⟨S4x1x2048, .f32⟩
  | .hbm, ⟨16, _⟩ => ⟨S4x2048x2048, .f32⟩
  | .hbm, ⟨17, _⟩ => ⟨S8192x2048, .f32⟩
  | .hbm, ⟨18, _⟩ => ⟨S1x1x1x2048, .f32⟩
  | .hbm, ⟨19, _⟩ => ⟨S1x2048, .f32⟩
  | .hbm, ⟨20, _⟩ => ⟨S1024x2048, .f32⟩
  | .hbm, ⟨21, _⟩ => ⟨S9216x2048, .f32⟩
  | .hbm, ⟨22, _⟩ => ⟨S9216x2048, .f32⟩
  | .hbm, ⟨23, _⟩ => ⟨S_, .f32⟩
  | .hbm, ⟨24, _⟩ => ⟨S9216, .f32⟩
  | .hbm, ⟨25, _⟩ => ⟨S9216x1, .f32⟩
  | .hbm, ⟨26, _⟩ => ⟨S_, .f32⟩
  | .hbm, ⟨27, _⟩ => ⟨S9216x1, .f32⟩
  | .hbm, ⟨28, _⟩ => ⟨S9216x1, .f32⟩
  | .hbm, ⟨29, _⟩ => ⟨S_, .f32⟩
  | .hbm, ⟨30, _⟩ => ⟨S9216x1, .f32⟩
  | .hbm, ⟨31, _⟩ => ⟨S9216x1, .f32⟩
  | .hbm, ⟨32, _⟩ => ⟨S9216x1, .f32⟩
  | .hbm, ⟨33, _⟩ => ⟨S9216x2048, .f32⟩
  | .hbm, ⟨34, _⟩ => ⟨S9216x2048, .f32⟩
  | .hbm, ⟨35, _⟩ => ⟨S1x2048, .f32⟩
  | .hbm, ⟨36, _⟩ => ⟨S9216x2048, .f32⟩
  | .hbm, ⟨37, _⟩ => ⟨S9216x2048, .f32⟩
  | .hbm, ⟨38, _⟩ => ⟨S_, .f32⟩
  | .hbm, ⟨39, _⟩ => ⟨S9216x2048, .f32⟩
  | .hbm, ⟨40, _⟩ => ⟨S9216x2048, .f32⟩
  | .hbm, ⟨41, _⟩ => ⟨S9216x2048, .f32⟩
  | .hbm, ⟨42, _⟩ => ⟨S9216x2048, .f32⟩
  | .hbm, ⟨43, _⟩ => ⟨S9216x2048, .bf16⟩
  | .hbm, ⟨44, _⟩ => ⟨S8192x2048, .bf16⟩
  | .hbm, ⟨45, _⟩ => ⟨S9216x2048, .bf16⟩
  | .hbm, ⟨46, _⟩ => ⟨S1x2048x11264, .f32⟩
  | .hbm, ⟨47, _⟩ => ⟨S2048x11264, .f32⟩
  | .hbm, ⟨48, _⟩ => ⟨S2048x11264, .bf16⟩
  | .hbm, ⟨49, _⟩ => ⟨S2048x5632, .bf16⟩
  | .hbm, ⟨50, _⟩ => ⟨S9216x5632, .f32⟩
  | .hbm, ⟨51, _⟩ => ⟨S2048x5632, .bf16⟩
  | .hbm, ⟨52, _⟩ => ⟨S9216x5632, .f32⟩
  | .hbm, ⟨53, _⟩ => ⟨S9216x5632, .f32⟩
  | .hbm, ⟨54, _⟩ => ⟨S9216x5632, .f32⟩
  | .hbm, ⟨55, _⟩ => ⟨S_, .f32⟩
  | .hbm, ⟨56, _⟩ => ⟨S9216x5632, .f32⟩
  | .hbm, ⟨57, _⟩ => ⟨S9216x5632, .f32⟩
  | .hbm, ⟨58, _⟩ => ⟨S_, .f32⟩
  | .hbm, ⟨59, _⟩ => ⟨S9216x5632, .f32⟩
  | .hbm, ⟨60, _⟩ => ⟨S9216x5632, .f32⟩
  | .hbm, ⟨61, _⟩ => ⟨S9216x5632, .f32⟩
  | .hbm, ⟨62, _⟩ => ⟨S9216x5632, .f32⟩
  | .hbm, ⟨63, _⟩ => ⟨S9216x5632, .bf16⟩
  | .hbm, ⟨64, _⟩ => ⟨S1x5632x2048, .f32⟩
  | .hbm, ⟨65, _⟩ => ⟨S5632x2048, .f32⟩
  | .hbm, ⟨66, _⟩ => ⟨S5632x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel8.lean ====
abbrev S9216x5632 : Shape := ⟨2, ![9216, 5632]⟩
abbrev S5632x2048 : Shape := ⟨2, ![5632, 2048]⟩
abbrev S9216x2048 : Shape := ⟨2, ![9216, 2048]⟩
abbrev S8x9x1x2048 : Shape := ⟨4, ![8, 9, 1, 2048]⟩
abbrev S4x2048x3584 : Shape := ⟨3, ![4, 2048, 3584]⟩
abbrev S2048x3584 : Shape := ⟨2, ![2048, 3584]⟩
abbrev S1024x5632 : Shape := ⟨2, ![1024, 5632]⟩
abbrev S5632x512 : Shape := ⟨2, ![5632, 512]⟩
abbrev S1024x512 : Shape := ⟨2, ![1024, 512]⟩
abbrev S1x1x1x512 : Shape := ⟨4, ![1, 1, 1, 512]⟩
abbrev S1x64x3584 : Shape := ⟨3, ![1, 64, 3584]⟩
abbrev S64x3584 : Shape := ⟨2, ![64, 3584]⟩
abbrev S1024x256 : Shape := ⟨2, ![1024, 256]⟩
abbrev S1x1x1x256 : Shape := ⟨4, ![1, 1, 1, 256]⟩
abbrev S1x256 : Shape := ⟨2, ![1, 256]⟩
abbrev S5632x256 : Shape := ⟨2, ![5632, 256]⟩

abbrev nBuf : Space → Nat
  | .hbm => 7
  | .vmem => 14
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .bf16⟩
  | .hbm, ⟨2, _⟩ => ⟨S9216x2048, .f32⟩
  | .hbm, ⟨3, _⟩ => ⟨S8x9x1x2048, .f32⟩
  | .hbm, ⟨4, _⟩ => ⟨S4x2048x3584, .f32⟩
  | .hbm, ⟨5, _⟩ => ⟨S9216x2048, .f32⟩
  | .hbm, ⟨6, _⟩ => ⟨S2048x3584, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x64x3584, .f32⟩
  | .local _ .vmem, ⟨9, _⟩ => ⟨S1x64x3584, .f32⟩
  | .local _ .vmem, ⟨10, _⟩ => ⟨S1024x512, .f32⟩
  | .local _ .vmem, ⟨11, _⟩ => ⟨S1024x512, .f32⟩
  | .local _ .vmem, ⟨12, _⟩ => ⟨S64x3584, .bf16⟩
  | .local _ .vmem, ⟨13, _⟩ => ⟨S64x3584, .bf16⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c4_i32 : BitVec 32 := 4#32
  let v23 : BitVec 32 := Scalar.muli arg0 c4_i32
  let arg1 : BitVec 32 := BitVec.ofNat 32 (i 1).val
  let v24 : BitVec 32 := Scalar.addi v23 arg1
  let c32_i32 : BitVec 32 := 32#32
  let v25 : BitVec 1 := Scalar.cmpi .slt v24 c32_i32
  let v26 : BitVec 32 := Scalar.extui v25
  let c0_i32 : BitVec 32 := 0#32
  let v27 : BitVec 1 := Scalar.cmpi .ne v26 c0_i32
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c2_i32 : BitVec 32 := 2#32
  let c0_i32_4 : BitVec 32 := 0#32
  let c0_i32_5 : BitVec 32 := 0#32
  ![v18.toNat, c2_i32.toNat, c0_i32_4.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S9216x5632 : Shape := ⟨2, ![9216, 5632]⟩
abbrev S5632x2048 : Shape := ⟨2, ![5632, 2048]⟩
abbrev S9216x2048 : Shape := ⟨2, ![9216, 2048]⟩
abbrev S8x9x1x2048 : Shape := ⟨4, ![8, 9, 1, 2048]⟩
abbrev S4x2048x3584 : Shape := ⟨3, ![4, 2048, 3584]⟩
abbrev S4x1x1x2048 : Shape := ⟨4, ![4, 1, 1, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x1x1x2048 : Shape := ⟨4, ![1, 1, 1, 2048]⟩
abbrev S1x2048 : Shape := ⟨2, ![1, 2048]⟩
abbrev S1024x2048 : Shape := ⟨2, ![1024, 2048]⟩
abbrev S_ : Shape := ⟨0, ![]⟩
abbrev S1x2048x3584 : Shape := ⟨3, ![1, 2048, 3584]⟩
abbrev S2048x3584 : Shape := ⟨2, ![2048, 3584]⟩

abbrev nBuf : Space → Nat
  | .hbm => 22
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .bf16⟩
  | .hbm, ⟨2, _⟩ => ⟨S9216x2048, .f32⟩
  | .hbm, ⟨3, _⟩ => ⟨S8x9x1x2048, .f32⟩
  | .hbm, ⟨4, _⟩ => ⟨S4x2048x3584, .f32⟩
  | .hbm, ⟨5, _⟩ => ⟨S4x1x1x2048, .f32⟩
  | .hbm, ⟨6, _⟩ => ⟨S4x1x2048, .f32⟩
  | .hbm, ⟨7, _⟩ => ⟨S4x2048x2048, .f32⟩
  | .hbm, ⟨8, _⟩ => ⟨S8192x2048, .f32⟩
  | .hbm, ⟨9, _⟩ => ⟨S1x1x1x2048, .f32⟩
  | .hbm, ⟨10, _⟩ => ⟨S1x2048, .f32⟩
  | .hbm, ⟨11, _⟩ => ⟨S1024x2048, .f32⟩
  | .hbm, ⟨12, _⟩ => ⟨S9216x2048, .f32⟩
  | .hbm, ⟨13, _⟩ => ⟨S_, .f32⟩
  | .hbm, ⟨14, _⟩ => ⟨S9216x2048, .f32⟩
  | .hbm, ⟨15, _⟩ => ⟨S9216x2048, .f32⟩
  | .hbm, ⟨16, _⟩ => ⟨S9216x2048, .f32⟩
  | .hbm, ⟨17, _⟩ => ⟨S9216x2048, .f32⟩
  | .hbm, ⟨18, _⟩ => ⟨S9216x2048, .f32⟩
  | .hbm, ⟨19, _⟩ => ⟨S1x2048x3584, .f32⟩
  | .hbm, ⟨20, _⟩ => ⟨S2048x3584, .f32⟩
  | .hbm, ⟨21, _⟩ => ⟨S2048x3584, .bf16⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S1536x2048 : Shape := ⟨2, ![1536, 2048]⟩
abbrev S9216x2048 : Shape := ⟨2, ![9216, 2048]⟩
abbrev S2048 : Shape := ⟨1, ![2048]⟩
abbrev S8x9x1x2048 : Shape := ⟨4, ![8, 9, 1, 2048]⟩
abbrev S2048x3584 : Shape := ⟨2, ![2048, 3584]⟩
abbrev S1x2048 : Shape := ⟨2, ![1, 2048]⟩
abbrev S9216x3584 : Shape := ⟨2, ![9216, 3584]⟩
abbrev S256x2048 : Shape := ⟨2, ![256, 2048]⟩
abbrev S1x1x1x2048 : Shape := ⟨4, ![1, 1, 1, 2048]⟩
abbrev S2048x512 : Shape := ⟨2, ![2048, 512]⟩
abbrev S1536x512 : Shape := ⟨2, ![1536, 512]⟩
abbrev S2x1536x2048 : Shape := ⟨3, ![2, 1536, 2048]⟩
abbrev S256x1 : Shape := ⟨2, ![256, 1]⟩
abbrev S1x1536x2048 : Shape := ⟨3, ![1, 1536, 2048]⟩
abbrev S16x2048 : Shape := ⟨2, ![16, 2048]⟩
abbrev S16 : Shape := ⟨1, ![16]⟩
abbrev S16x1 : Shape := ⟨2, ![16, 1]⟩
abbrev S1x256x2048 : Shape := ⟨3, ![1, 256, 2048]⟩
abbrev S1x16x2048 : Shape := ⟨3, ![1, 16, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1536x2048, .bf16⟩
  | .hbm, ⟨1, _⟩ => ⟨S9216x2048, .f32⟩
  | .hbm, ⟨2, _⟩ => ⟨S2048, .f32⟩
  | .hbm, ⟨3, _⟩ => ⟨S8x9x1x2048, .f32⟩
  | .hbm, ⟨4, _⟩ => ⟨S2048x3584, .bf16⟩
  | .hbm, ⟨5, _⟩ => ⟨S1x2048, .f32⟩
  | .hbm, ⟨6, _⟩ => ⟨S9216x3584, .f32⟩
  | .hbm, ⟨7, _⟩ => ⟨S9216x2048, .bf16⟩
  | .local _ .vmem, ⟨0, _⟩ => ⟨S1536x2048, .bf16⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S2048x512, .bf16⟩
  | .local _ .vmem, ⟨9, _⟩ => ⟨S2048x512, .bf16⟩
  | .local _ .vmem, ⟨10, _⟩ => ⟨S1536x512, .f32⟩
  | .local _ .vmem, ⟨11, _⟩ => ⟨S1536x512, .f32⟩
  | .local _ .vmem, ⟨12, _⟩ => ⟨S1536x2048, .bf16⟩
  | .local _ .vmem, ⟨13, _⟩ => ⟨S1536x2048, .bf16⟩
  | .local _ .vmem, ⟨14, _⟩ => ⟨S2x1536x2048, .bf16⟩
  | .local _ .vmem, ⟨15, _⟩ => ⟨S256x1, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![6, 7], ![false, false]⟩

def k0_cond2 (i : grid0.Coords) : BitVec 1 :=
  let arg1 : BitVec 32 := BitVec.ofNat 32 (i 1).val
  let c0_i32_6 : BitVec 32 := 0#32
  let v15 : BitVec 1 := Scalar.cmpi .eq arg1 c0_i32_6
  let v16 : BitVec 32 := Scalar.extui v15
  let c0_i32_7 : BitVec 32 := 0#32
  let v17 : BitVec 1 := Scalar.cmpi .ne v16 c0_i32_7
  v17

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v453 : Index := Scalar.indexCast v9
  let c0_234 : Index := 0#32
  let c0_235 : Index := 0#32
  ![v453.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_8 : Index := 0#32
  ![v18.toNat, 0, 0]
def k0_mult1 (i : grid0.Coords) : BitVec 32 :=
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  v25
def k0_off3 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_126 : BitVec 32 := 0#32
  ![v36.toNat, v26.toNat, 0]
def k0_off4 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_126 : BitVec 32 := 0#32
  ![v36.toNat, v26.toNat, 0]
def k0_off5 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_133 : BitVec 32 := 0#32
  ![v36.toNat, Nat.add v26.toNat 16, 0]
def k0_off6 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_140 : BitVec 32 := 0#32
  ![v36.toNat, Nat.add v26.toNat 32, 0]
def k0_off7 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_147 : BitVec 32 := 0#32
  ![v36.toNat, Nat.add v26.toNat 48, 0]
def k0_off8 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_154 : BitVec 32 := 0#32
  ![v36.toNat, Nat.add v26.toNat 64, 0]
def k0_off9 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_161 : BitVec 32 := 0#32
  ![v36.toNat, Nat.add v26.toNat 80, 0]
def k0_off10 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_168 : BitVec 32 := 0#32
  ![v36.toNat, Nat.add v26.toNat 96, 0]
def k0_off11 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_175 : BitVec 32 := 0#32
  ![v36.toNat, Nat.add v26.toNat 112, 0]
def k0_off12 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_182 : BitVec 32 := 0#32
  ![v36.toNat, Nat.add v26.toNat 128, 0]
def k0_off13 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_189 : BitVec 32 := 0#32
  ![v36.toNat, Nat.add v26.toNat 144, 0]
def k0_off14 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_196 : BitVec 32 := 0#32
  ![v36.toNat, Nat.add v26.toNat 160, 0]
def k0_off15 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_203 : BitVec 32 := 0#32
  ![v36.toNat, Nat.add v26.toNat 176, 0]
def k0_off16 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_210 : BitVec 32 := 0#32
  ![v36.toNat, Nat.add v26.toNat 192, 0]
def k0_off17 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_217 : BitVec 32 := 0#32
  ![v36.toNat, Nat.add v26.toNat 208, 0]
def k0_off18 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_224 : BitVec 32 := 0#32
  ![v36.toNat, Nat.add v26.toNat 224, 0]
def k0_off19 (i : grid0.Coords) : Fin 3 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_24 v9
  let arg1 : BitVec 32 := BitVec.ofNat 32 (i 1).val
  let c5_i32 : BitVec 32 := 5#32
  let v24 : BitVec 32 := Scalar.minsi arg1 c5_i32
  let c256_i32 : BitVec 32 := 256#32
  let v25 : BitVec 32 := Scalar.muli v24 c256_i32
  let v26 : BitVec 32 := v25
  let c0_i32_231 : BitVec 32 := 0#32
  ![v36.toNat, Nat.add v26.toNat 240, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c5_i32 : BitVec 32 := 5#32
  let v1 : BitVec 32 := Scalar.minsi v0 c5_i32
  let c6_i32 : BitVec 32 := 6#32
  let v2 : BitVec 32 := Scalar.muli v1 c6_i32
  let c5_i32_0 : BitVec 32 := 5#32
  let v3 : BitVec 32 := Scalar.minsi arg1 c5_i32_0
  let v4 : BitVec 32 := Scalar.addi v2 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c5_i32 : BitVec 32 := 5#32
  let v1 : BitVec 32 := Scalar.minsi v0 c5_i32
  let c6_i32 : BitVec 32 := 6#32
  let v2 : BitVec 32 := Scalar.muli v1 c6_i32
  let c5_i32_0 : BitVec 32 := 5#32
  let v3 : BitVec 32 := Scalar.minsi arg1 c5_i32_0
  let v4 : BitVec 32 := Scalar.addi v2 v3
  let c256_i32 : BitVec 32 := 256#32
  let v5 : BitVec 32 := Scalar.muli v4 c256_i32
  let c2048_i32 : BitVec 32 := 2048#32
  let v6 : BitVec 32 := Scalar.divsi v5 c2048_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c0_i32_2 : BitVec 32 := 0#32
  let v12 : BitVec 1 := Scalar.cmpi .sgt c2048_i32 c0_i32_2
  let v13 : BitVec 32 := Scalar.extui v12
  let c0_i32_3 : BitVec 32 := 0#32
  let v14 : BitVec 1 := Scalar.cmpi .slt c2048_i32 c0_i32_3
  let v15 : BitVec 32 := Scalar.extui v14
  let v16 : BitVec 32 := Scalar.subi v13 v15
  let v17 : BitVec 1 := Scalar.cmpi .ne v11 v16
  let v18 : BitVec 32 := Scalar.remsi v5 c2048_i32
  let c0_i32_4 : BitVec 32 := 0#32
  let v19 : BitVec 1 := Scalar.cmpi .ne v18 c0_i32_4
  let v20 : BitVec 1 := Scalar.andi v17 v19
  let c1_i32_5 : BitVec 32 := 1#32
  let v21 : BitVec 32 := Scalar.subi v6 c1_i32_5
  let v22 : BitVec 32 := Scalar.select v20 v21 v6
  let c4_i32 : BitVec 32 := 4#32
  let v23 : BitVec 32 := Scalar.minsi v22 c4_i32
  let c3_i32 : BitVec 32 := 3#32
  let c0_i32_6 : BitVec 32 := 0#32
  let c0_i32_7 : BitVec 32 := 0#32
  let c0_i32_8 : BitVec 32 := 0#32
  ![v23.toNat, c3_i32.toNat, c0_i32_6.toNat, c0_i32_7.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c5_i32 : BitVec 32 := 5#32
  let v1 : BitVec 32 := Scalar.minsi v0 c5_i32
  let c6_i32 : BitVec 32 := 6#32
  let v2 : BitVec 32 := Scalar.muli v1 c6_i32
  let c5_i32_0 : BitVec 32 := 5#32
  let v3 : BitVec 32 := Scalar.minsi arg1 c5_i32_0
  let v4 : BitVec 32 := Scalar.addi v2 v3
  let c256_i32 : BitVec 32 := 256#32
  let v5 : BitVec 32 := Scalar.muli v4 c256_i32
  let c2048_i32 : BitVec 32 := 2048#32
  let v6 : BitVec 32 := Scalar.divsi v5 c2048_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c0_i32_2 : BitVec 32 := 0#32
  let v12 : BitVec 1 := Scalar.cmpi .sgt c2048_i32 c0_i32_2
  let v13 : BitVec 32 := Scalar.extui v12
  let c0_i32_3 : BitVec 32 := 0#32
  let v14 : BitVec 1 := Scalar.cmpi .slt c2048_i32 c0_i32_3
  let v15 : BitVec 32 := Scalar.extui v14
  let v16 : BitVec 32 := Scalar.subi v13 v15
  let v17 : BitVec 1 := Scalar.cmpi .ne v11 v16
  let v18 : BitVec 32 := Scalar.remsi v5 c2048_i32
  let c0_i32_4 : BitVec 32 := 0#32
  let v19 : BitVec 1 := Scalar.cmpi .ne v18 c0_i32_4
  let v20 : BitVec 1 := Scalar.andi v17 v19
  let c1_i32_5 : BitVec 32 := 1#32
  let v21 : BitVec 32 := Scalar.subi v6 c1_i32_5
  let v22 : BitVec 32 := Scalar.select v20 v21 v6
  let c4_i32 : BitVec 32 := 4#32
  let v23 : BitVec 32 := Scalar.minsi v22 c4_i32
  let c4_i32_6 : BitVec 32 := 4#32
  let c0_i32_7 : BitVec 32 := 0#32
  let c0_i32_8 : BitVec 32 := 0#32
  let c0_i32_9 : BitVec 32 := 0#32
  ![v23.toNat, c4_i32_6.toNat, c0_i32_7.toNat, c0_i32_8.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S1536x2048 : Shape := ⟨2, ![1536, 2048]⟩
abbrev S9216x2048 : Shape := ⟨2, ![9216, 2048]⟩
abbrev S2048 : Shape := ⟨1, ![2048]⟩
abbrev S8x9x1x2048 : Shape := ⟨4, ![8, 9, 1, 2048]⟩
abbrev S2048x3584 : Shape := ⟨2, ![2048, 3584]⟩
abbrev S4x1x1x2048 : Shape := ⟨4, ![4, 1, 1, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x1x1x2048 : Shape := ⟨4, ![1, 1, 1, 2048]⟩
abbrev S1x2048 : Shape := ⟨2, ![1, 2048]⟩
abbrev S1024x2048 : Shape := ⟨2, ![1024, 2048]⟩
abbrev S_ : Shape := ⟨0, ![]⟩
abbrev S9216 : Shape := ⟨1, ![9216]⟩
abbrev S9216x1 : Shape := ⟨2, ![9216, 1]⟩
abbrev S7680x2048 : Shape := ⟨2, ![7680, 2048]⟩
abbrev S9216x3584 : Shape := ⟨2, ![9216, 3584]⟩

abbrev nBuf : Space → Nat
  | .hbm => 46
  | .vmem => 0
  | .smem => 0
  | _ => 0

abbrev bufTy : (tb : Table) → Fin (tcTables nBuf tb) → BufTy
  | .hbm, ⟨0, _⟩ => ⟨S1536x2048, .bf16⟩
  | .hbm, ⟨1, _⟩ => ⟨S9216x2048, .f32⟩
  | .hbm, ⟨2, _⟩ => ⟨S2048, .f32⟩
  | .hbm, ⟨3, _⟩ => ⟨S8x9x1x2048, .f32⟩
  | .hbm, ⟨4, _⟩ => ⟨S2048x3584, .bf16⟩
  | .hbm, ⟨5, _⟩ => ⟨S4x1x1x2048, .f32⟩
  | .hbm, ⟨6, _⟩ => ⟨S4x1x2048, .f32⟩
  | .hbm, ⟨7, _⟩ => ⟨S4x2048x2048, .f32⟩
  | .hbm, ⟨8, _⟩ => ⟨S8192x2048, .f32⟩
  | .hbm, ⟨9, _⟩ => ⟨S1x1x1x2048, .f32⟩
  | .hbm, ⟨10, _⟩ => ⟨S1x2048, .f32⟩
  | .hbm, ⟨11, _⟩ => ⟨S1024x2048, .f32⟩
  | .hbm, ⟨12, _⟩ => ⟨S9216x2048, .f32⟩
  | .hbm, ⟨13, _⟩ => ⟨S4x1x1x2048, .f32⟩
  | .hbm, ⟨14, _⟩ => ⟨S4x1x2048, .f32⟩
  | .hbm, ⟨15, _⟩ => ⟨S4x2048x2048, .f32⟩
  | .hbm, ⟨16, _⟩ => ⟨S8192x2048, .f32⟩
  | .hbm, ⟨17, _⟩ => ⟨S1x1x1x2048, .f32⟩
  | .hbm, ⟨18, _⟩ => ⟨S1x2048, .f32⟩
  | .hbm, ⟨19, _⟩ => ⟨S1024x2048, .f32⟩
  | .hbm, ⟨20, _⟩ => ⟨S9216x2048, .f32⟩
  | .hbm, ⟨21, _⟩ => ⟨S9216x2048, .f32⟩
  | .hbm, ⟨22, _⟩ => ⟨S_, .f32⟩
  | .hbm, ⟨23, _⟩ => ⟨S9216, .f32⟩
  | .hbm, ⟨24, _⟩ => ⟨S9216x1, .f32⟩
  | .hbm, ⟨25, _⟩ => ⟨S_, .f32⟩
  | .hbm, ⟨26, _⟩ => ⟨S9216x1, .f32⟩
  | .hbm, ⟨27, _⟩ => ⟨S9216x1, .f32⟩
  | .hbm, ⟨28, _⟩ => ⟨S_, .f32⟩
  | .hbm, ⟨29, _⟩ => ⟨S9216x1, .f32⟩
  | .hbm, ⟨30, _⟩ => ⟨S9216x1, .f32⟩
  | .hbm, ⟨31, _⟩ => ⟨S9216x1, .f32⟩
  | .hbm, ⟨32, _⟩ => ⟨S9216x2048, .f32⟩
  | .hbm, ⟨33, _⟩ => ⟨S9216x2048, .f32⟩
  | .hbm, ⟨34, _⟩ => ⟨S1x2048, .f32⟩
  | .hbm, ⟨35, _⟩ => ⟨S9216x2048, .f32⟩
  | .hbm, ⟨36, _⟩ => ⟨S9216x2048, .f32⟩
  | .hbm, ⟨37, _⟩ => ⟨S_, .f32⟩
  | .hbm, ⟨38, _⟩ => ⟨S9216x2048, .f32⟩
  | .hbm, ⟨39, _⟩ => ⟨S9216x2048, .f32⟩
  | .hbm, ⟨40, _⟩ => ⟨S9216x2048, .f32⟩
  | .hbm, ⟨41, _⟩ => ⟨S9216x2048, .f32⟩
  | .hbm, ⟨42, _⟩ => ⟨S9216x2048, .bf16⟩
  | .hbm, ⟨43, _⟩ => ⟨S7680x2048, .bf16⟩
  | .hbm, ⟨44, _⟩ => ⟨S9216x2048, .bf16⟩
  | .hbm, ⟨45, _⟩ => ⟨S9216x3584, .f32⟩
  | _, _ => ⟨S1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Common.lean ====
/-
  Hand-written. What the value proofs of all programs share: the elements of an array named by natural-number positions,
  a matrix product read at an element, and the vertical join of two arrays read at an element.
-/
module

public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.Proof.Common

open Idealize.ShloMosaic Idealize.ShloMosaic.ValueIdx
open scoped BigOperators

/-- Zero offsets on one axis. -/
theorem hz1 : (![0] : Fin 1 → Nat) = fun _ => 0 := funext fun a => by fin_cases a <;> rfl
/-- Zero offsets on two axes. -/
theorem hz2 : (![0, 0] : Fin 2 → Nat) = fun _ => 0 := funext fun a => by fin_cases a <;> rfl
/-- Zero offsets on three axes. -/
theorem hz3 : (![0, 0, 0] : Fin 3 → Nat) = fun _ => 0 := funext fun a => by fin_cases a <;> rfl
/-- Zero offsets on four axes. -/
theorem hz4 : (![0, 0, 0, 0] : Fin 4 → Nat) = fun _ => 0 := funext fun a => by fin_cases a <;> rfl

/-! ## Elements by position -/

/-- Element `a` of a vector, zero outside it. -/
def at1 {n0 : Nat} (X : (⟨1, ![n0]⟩ : Shape).Idx → EReal) (a : Nat) : EReal :=
  if h : a < n0 then X (ix1 ⟨a, h⟩) else 0

/-- Element `(a, b)` of a matrix, zero outside it. -/
def at2 {n0 n1 : Nat} (X : (⟨2, ![n0, n1]⟩ : Shape).Idx → EReal) (a b : Nat) : EReal :=
  if h : a < n0 ∧ b < n1 then X (ix2 ⟨a, h.1⟩ ⟨b, h.2⟩) else 0

/-- Element `(a, b, c)` of a three-axis array, zero outside it. -/
def at3 {n0 n1 n2 : Nat} (X : (⟨3, ![n0, n1, n2]⟩ : Shape).Idx → EReal) (a b c : Nat) : EReal :=
  if h : a < n0 ∧ b < n1 ∧ c < n2 then X (ix3 ⟨a, h.1⟩ ⟨b, h.2.1⟩ ⟨c, h.2.2⟩) else 0

/-- Element `(a, b, c, d)` of a four-axis array, zero outside it. -/
def at4 {n0 n1 n2 n3 : Nat} (X : (⟨4, ![n0, n1, n2, n3]⟩ : Shape).Idx → EReal) (a b c d : Nat) : EReal :=
  if h : a < n0 ∧ b < n1 ∧ c < n2 ∧ d < n3 then X (ix4 ⟨a, h.1⟩ ⟨b, h.2.1⟩ ⟨c, h.2.2.1⟩ ⟨d, h.2.2.2⟩) else 0

/-- A vector at an index, by the index's position. -/
theorem at1_of {n0 : Nat} (X : (⟨1, ![n0]⟩ : Shape).Idx → EReal) (j : (⟨1, ![n0]⟩ : Shape).Idx) {a : Nat}
    (h0 : (j 0).val = a) : X j = at1 X a := by
  subst h0
  have h : (j 0).val < n0 := (j 0).isLt
  unfold at1
  rw [dif_pos h]
  exact congrArg X (eq_ix1 j)

/-- A matrix at an index, by the index's positions. -/
theorem at2_of {n0 n1 : Nat} (X : (⟨2, ![n0, n1]⟩ : Shape).Idx → EReal) (j : (⟨2, ![n0, n1]⟩ : Shape).Idx) {a b : Nat}
    (h0 : (j 0).val = a) (h1 : (j 1).val = b) : X j = at2 X a b := by
  subst h0 h1
  have h : (j 0).val < n0 ∧ (j 1).val < n1 := ⟨(j 0).isLt, (j 1).isLt⟩
  unfold at2
  rw [dif_pos h]
  exact congrArg X (eq_ix2 j)

/-- A three-axis array at an index, by the index's positions. -/
theorem at3_of {n0 n1 n2 : Nat} (X : (⟨3, ![n0, n1, n2]⟩ : Shape).Idx → EReal) (j : (⟨3, ![n0, n1, n2]⟩ : Shape).Idx)
    {a b c : Nat} (h0 : (j 0).val = a) (h1 : (j 1).val = b) (h2 : (j 2).val = c) : X j = at3 X a b c := by
  subst h0 h1 h2
  have h : (j 0).val < n0 ∧ (j 1).val < n1 ∧ (j 2).val < n2 := ⟨(j 0).isLt, (j 1).isLt, (j 2).isLt⟩
  unfold at3
  rw [dif_pos h]
  exact congrArg X (eq_ix3 j)

/-- A four-axis array at an index, by the index's positions. -/
theorem at4_of {n0 n1 n2 n3 : Nat} (X : (⟨4, ![n0, n1, n2, n3]⟩ : Shape).Idx → EReal)
    (j : (⟨4, ![n0, n1, n2, n3]⟩ : Shape).Idx) {a b c d : Nat} (h0 : (j 0).val = a) (h1 : (j 1).val = b)
    (h2 : (j 2).val = c) (h3 : (j 3).val = d) : X j = at4 X a b c d := by
  subst h0 h1 h2 h3
  have h : (j 0).val < n0 ∧ (j 1).val < n1 ∧ (j 2).val < n2 ∧ (j 3).val < n3 :=
    ⟨(j 0).isLt, (j 1).isLt, (j 2).isLt, (j 3).isLt⟩
  unfold at4
  rw [dif_pos h]
  exact congrArg X (eq_ix4 j)

/-! ## Products -/

/-- `[M, K] × [K, N]` at an element: the accumulator plus the sum over the contracted positions. -/
theorem matmul_at {M K N : Nat} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (acc : FVec Ideal ⟨2, ![M, N]⟩ .f32)
    (i : (⟨2, ![M, N]⟩ : Shape).Idx) :
    matmul D prec lhs rhs acc i = acc i + ∑ k : Fin K, lhs (ix2 (i 0) k) * rhs (ix2 k (i 1)) := by
  subst hD
  refine (congrArg (matmul (DotDims.plain M K N) prec lhs rhs acc) (eq_ix2 i)).trans ?_
  refine (Ideal.matmul_plain_apply prec lhs rhs acc (i 0) (i 1)).trans ?_
  exact congrArg (· + _) (congrArg acc (eq_ix2 i).symm)

/-- `[M, K] × [N, K]ᵀ` at an element: the accumulator plus the sum over the contracted positions. -/
theorem matmulT_at {M K N : Nat} {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (acc : FVec Ideal ⟨2, ![M, N]⟩ .f32)
    (i : (⟨2, ![M, N]⟩ : Shape).Idx) :
    matmul D prec lhs rhs acc i = acc i + ∑ k : Fin K, lhs (ix2 (i 0) k) * rhs (ix2 (i 1) k) := by
  subst hD
  refine (congrArg (matmul (DotDims.transposedRhs M K N) prec lhs rhs acc) (eq_ix2 i)).trans ?_
  refine (Ideal.matmul_transposedRhs_apply prec lhs rhs acc (i 0) (i 1)).trans ?_
  exact congrArg (· + _) (congrArg acc (eq_ix2 i).symm)

/-- A zero accumulator adds nothing. -/
theorem zero_acc {s : Shape} (i : s.Idx) (x : EReal) : (constant (F := Ideal) s .f32 0x00000000#32 i : EReal) + x = x := by
  have h : (constant (F := Ideal) s .f32 0x00000000#32 i : EReal) = 0 := Ideal.ofBits_zero_f32
  rw [h, zero_add]

/-! ## A vertical join -/

/-- Two matrices joined one above the other, at an element of the upper one. -/
theorem join_upper {p q r n : Nat} (A : (⟨2, ![p, n]⟩ : Shape).Idx → EReal) (B : (⟨2, ![q, n]⟩ : Shape).Idx → EReal)
    (h : Shape.Concatenates [(⟨2, ![p, n]⟩ : Shape), ⟨2, ![q, n]⟩] ⟨2, ![r, n]⟩ 0) (i : (⟨2, ![r, n]⟩ : Shape).Idx)
    (hi : (i 0).val < p) :
    concatenate ⟨2, ![r, n]⟩ 0 [⟨⟨2, ![p, n]⟩, A⟩, ⟨⟨2, ![q, n]⟩, B⟩] h i = A (ix2 ⟨(i 0).val, hi⟩ (i 1)) :=
  concatenate_pair_apply_left 0 A B h i rfl (ix2 ⟨(i 0).val, hi⟩ (i 1)) fun b => match b with
    | ⟨0, _⟩ => rfl
    | ⟨1, _⟩ => rfl

/-- Two matrices joined one above the other, at an element of the lower one. -/
theorem join_lower {p q r n : Nat} (A : (⟨2, ![p, n]⟩ : Shape).Idx → EReal) (B : (⟨2, ![q, n]⟩ : Shape).Idx → EReal)
    (h : Shape.Concatenates [(⟨2, ![p, n]⟩ : Shape), ⟨2, ![q, n]⟩] ⟨2, ![r, n]⟩ 0) (i : (⟨2, ![r, n]⟩ : Shape).Idx)
    (hi : p ≤ (i 0).val) (hq : (i 0).val - p < q) :
    concatenate ⟨2, ![r, n]⟩ 0 [⟨⟨2, ![p, n]⟩, A⟩, ⟨⟨2, ![q, n]⟩, B⟩] h i = B (ix2 ⟨(i 0).val - p, hq⟩ (i 1)) :=
  concatenate_pair_apply_right 0 A B h i rfl rfl (ix2 ⟨(i 0).val - p, hq⟩ (i 1)) (fun b hb => match b with
    | ⟨0, _⟩ => absurd rfl hb
    | ⟨1, _⟩ => rfl) (by show (i 0).val - p + p = (i 0).val; omega)

end Cert.Proof.Common

end
-- ==== Proof.AttnMath.lean ====
/-
  Hand-written. The arithmetic behind the attention: a row's weights are ratios of exponentials, so neither the base of the
  exponential nor the value subtracted before it matters, and a division by a positive real goes through a sum.
-/
module

public import proofs.«01_k».proof.Proof.Common
public import Idealize.ShloMosaic.Lib.KernelVsHost
public import Idealize.ShloMosaic.Lib.IdealHost

@[expose] public section

noncomputable section

namespace Cert.Proof.AttnMath

open Idealize.ShloMosaic
open scoped BigOperators

/-- The pattern of −∞. -/
theorem neg_inf : Ideal.ofBits .f32 0xFF800000#32 = ⊥ := by simp [Ideal.ofBits, Ideal.ieee]

/-- The pattern of two. -/
theorem two_f32 : Ideal.ofBits .f32 0x40000000#32 = ((2 : ℝ) : EReal) := by
  simp [Ideal.ofBits, Ideal.ieee, -EReal.coe_mul]; norm_num

/-- A sum of reals is their real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of real-valued terms is real. -/
theorem sum_real {ι : Type*} (s : Finset ι) (f : ι → EReal) (hf : ∀ i, ∃ r : ℝ, f i = r) :
    ∃ r : ℝ, ∑ i ∈ s, f i = r := by
  choose g hg using hf
  exact ⟨∑ i ∈ s, g i, by rw [← coe_sum]; exact Finset.sum_congr rfl fun i _ => hg i⟩

/-- A product of reals is real. -/
theorem mul_real {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

/-- The larger of two reals is real. -/
theorem max_real {x y : EReal} (hx : ∃ r : ℝ, x = r) (hy : ∃ r : ℝ, y = r) : ∃ r : ℝ, max x y = r := by
  rcases le_total x y with h | h
  · rw [max_eq_right h]; exact hy
  · rw [max_eq_left h]; exact hx

/-- A nonempty maximum of reals, begun at −∞, is real. -/
theorem fold_max_real {n : Nat} (hn : 0 < n) (f : Fin n → EReal) (hf : ∀ i, ∃ r : ℝ, f i = r) :
    ∃ r : ℝ, (Finset.univ : Finset (Fin n)).fold max ⊥ f = r := by
  classical
  have key : ∀ s : Finset (Fin n), s = ∅ ∨ ∃ r : ℝ, s.fold max ⊥ f = r := by
    intro s
    induction s using Finset.induction_on with
    | empty => exact Or.inl rfl
    | insert a s ha ih =>
      refine Or.inr ?_
      rw [Finset.fold_insert ha]
      rcases ih with rfl | h
      · rw [Finset.fold_empty, max_eq_left bot_le]; exact hf a
      · exact max_real (hf a) h
  rcases key Finset.univ with h | h
  · exact absurd (Finset.mem_univ (⟨0, hn⟩ : Fin n)) (by rw [h]; exact Finset.notMem_empty _)
  · exact h

/-- A factor that is a nonnegative real goes into a sum. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A division of reals by a positive real. -/
theorem div_pos_coe (x : EReal) (y : ℝ) (hy : 0 < y) : Ideal.div x (y : EReal) = x * ((y⁻¹ : ℝ) : EReal) := by
  unfold Ideal.div
  rw [if_neg (by exact_mod_cast hy.ne'), EReal.coe_inv]

/-- Weights by powers of two, normalised after the sum over the values, are weights by `exp` of the scores times `log 2`,
    normalised before it — whatever reals `m` and `M` the two subtract. -/
theorem weights {n : Nat} (hn : 0 < n) (f : Fin n → ℝ) (w : Fin n → EReal) (m M : ℝ) :
    Ideal.div (∑ k, Ideal.exp2 ((f k : EReal) - (m : EReal)) * w k) (∑ k, Ideal.exp2 ((f k : EReal) - (m : EReal)) * 1)
      = ∑ k, w k * Ideal.div (Ideal.exp ((f k : EReal) * ((Real.log 2 : ℝ) : EReal) - (M : EReal)))
          (0 + ∑ k', Ideal.exp ((f k' : EReal) * ((Real.log 2 : ℝ) : EReal) - (M : EReal))) := by
  have e2 : ∀ k, Ideal.exp2 ((f k : EReal) - (m : EReal)) = ((Real.rpow 2 (f k - m) : ℝ) : EReal) := fun k => by
    rw [← EReal.coe_sub, Ideal.exp2_coe]
  have hpos : ∀ k, 0 < Real.rpow 2 (f k - m) := fun k => Real.rpow_pos_of_pos (by norm_num) _
  have ee : ∀ k, Ideal.exp ((f k : EReal) * ((Real.log 2 : ℝ) : EReal) - (M : EReal))
      = ((Real.rpow 2 (f k - m) * Real.exp (m * Real.log 2 - M) : ℝ) : EReal) := fun k => by
    rw [← EReal.coe_mul, ← EReal.coe_sub, Ideal.exp_coe]
    refine congrArg _ ?_
    show _ = (2 : ℝ) ^ (f k - m) * _
    rw [Real.rpow_def_of_pos (by norm_num), ← Real.exp_add]
    exact congrArg _ (by ring)
  have hE : 0 < ∑ k, Real.rpow 2 (f k - m) := Finset.sum_pos (fun k _ => hpos k) ⟨⟨0, hn⟩, Finset.mem_univ _⟩
  have hC : 0 < Real.exp (m * Real.log 2 - M) := Real.exp_pos _
  simp only [e2, ee, mul_one, zero_add]
  rw [coe_sum, coe_sum, div_pos_coe _ _ hE, sum_mul_coe _ _ _ (inv_pos.2 hE).le, ← Finset.sum_mul]
  refine Finset.sum_congr rfl fun k _ => ?_
  rw [div_pos_coe _ _ (mul_pos hE hC), mul_comm _ (w k), mul_assoc, ← EReal.coe_mul, ← EReal.coe_mul]
  refine congrArg (fun z : ℝ => w k * (z : EReal)) ?_
  field_simp

/-- A sum over 2304 positions is the sum over the first 256 and the one over the other 2048. -/
theorem sum_split (g : Nat → EReal) :
    ∑ k : Fin 2304, g k.val = ∑ k : Fin 256, g k.val + ∑ k : Fin 2048, g (256 + k.val) :=
  Fin.sum_univ_add (a := 256) (b := 2048) (fun k => g k.val)

/-! ## One row of the attention -/

/-- The largest score, of 256 and 2048 ones. -/
def top (s1 s2 : Nat → EReal) : EReal :=
  max ((Finset.univ : Finset (Fin 256)).fold max ⊥ fun k => s1 k.val)
    ((Finset.univ : Finset (Fin 2048)).fold max ⊥ fun k => s2 k.val)

/-- The weighted sum over 256 and 2048 keys, not normalised. -/
def wsum (s1 s2 w1 w2 : Nat → EReal) : EReal :=
  ∑ k : Fin 256, Ideal.exp2 (s1 k.val - top s1 s2) * w1 k.val
    + ∑ k : Fin 2048, Ideal.exp2 (s2 k.val - top s1 s2) * w2 k.val

/-- One output element: the weighted sum of the values over that of the normaliser's column. -/
def soft (s1 s2 w1 w2 u1 u2 : Nat → EReal) : EReal := Ideal.div (wsum s1 s2 w1 w2) (wsum s1 s2 u1 u2)

/-- Only the first 256 and the first 2048 positions count. -/
theorem top_congr {s1 s2 s1' s2' : Nat → EReal} (h1 : ∀ k, k < 256 → s1 k = s1' k) (h2 : ∀ k, k < 2048 → s2 k = s2' k) :
    top s1 s2 = top s1' s2' :=
  congrArg₂ max (Finset.fold_congr fun k _ => h1 _ k.isLt) (Finset.fold_congr fun k _ => h2 _ k.isLt)

/-- Only the first 256 and the first 2048 positions count. -/
theorem wsum_congr {s1 s2 w1 w2 s1' s2' w1' w2' : Nat → EReal} (h1 : ∀ k, k < 256 → s1 k = s1' k)
    (h2 : ∀ k, k < 2048 → s2 k = s2' k) (g1 : ∀ k, k < 256 → w1 k = w1' k) (g2 : ∀ k, k < 2048 → w2 k = w2' k) :
    wsum s1 s2 w1 w2 = wsum s1' s2' w1' w2' := by
  unfold wsum
  rw [top_congr h1 h2]
  exact congrArg₂ (· + ·) (Finset.sum_congr rfl fun k _ => by rw [h1 _ k.isLt, g1 _ k.isLt])
    (Finset.sum_congr rfl fun k _ => by rw [h2 _ k.isLt, g2 _ k.isLt])

/-- On real scores and a normaliser's column of ones, the element is the softmax over the joined keys: first the 256, then the
    2048. -/
theorem soft_eq (s w : Nat → EReal) (s1 s2 w1 w2 u1 u2 : Nat → EReal) (M : EReal)
    (hs : ∀ k, ∃ r : ℝ, s k = r) (hM : ∃ r : ℝ, M = r)
    (h1 : ∀ k, k < 256 → s1 k = s k) (h2 : ∀ k, k < 2048 → s2 k = s (256 + k))
    (g1 : ∀ k, k < 256 → w1 k = w k) (g2 : ∀ k, k < 2048 → w2 k = w (256 + k))
    (o1 : ∀ k, k < 256 → u1 k = 1) (o2 : ∀ k, k < 2048 → u2 k = 1) :
    soft s1 s2 w1 w2 u1 u2
      = ∑ k : Fin 2304, w k.val * Ideal.div (Ideal.exp (s k.val * ((Real.log 2 : ℝ) : EReal) - M))
          (0 + ∑ k' : Fin 2304, Ideal.exp (s k'.val * ((Real.log 2 : ℝ) : EReal) - M)) := by
  obtain ⟨M, rfl⟩ := hM
  choose f hf using hs
  obtain ⟨m, hm⟩ : ∃ r : ℝ, top s (fun k => s (256 + k)) = r :=
    max_real (fold_max_real (by norm_num) _ fun k => ⟨_, hf _⟩) (fold_max_real (by norm_num) _ fun k => ⟨_, hf _⟩)
  unfold soft
  rw [wsum_congr h1 h2 g1 g2, wsum_congr (w1' := fun _ => 1) (w2' := fun _ => 1) h1 h2 o1 o2]
  unfold wsum
  rw [hm, ← sum_split fun k => Ideal.exp2 (s k - (m : EReal)) * w k, ← sum_split fun k => Ideal.exp2 (s k - (m : EReal)) * 1]
  simp only [hf]
  exact weights (n := 2304) (by norm_num) (fun k => f k.val) (fun k => w k.val) m M

/-- The maximum of a real array along one axis, from −∞, is real. -/
theorem hostmax_real {s t u : Shape} {a : Fin s.rank} (x : FVec Ideal s .f32) (h : s.ReducesTo [a] t) (hu : 0 < u.numel)
    (h' : s.Reduces [a] t) (hn : 0 < s.size a) (hx : ∀ i, ∃ r : ℝ, (x i : EReal) = r) (j : t.Idx) :
    ∃ r : ℝ, ((Host.reduce FloatOps.maximumf x (constant u .f32 0xFF800000#32) h hu : FVec Ideal t .f32) j : EReal) = r := by
  rw [hostReduce_maximumf_eq_multiReduction x 0xFF800000#32 h hu h' (.inl rfl) rfl]
  refine (congrArg (fun z : EReal => ∃ r : ℝ, z = r) (Ideal.multiReduction_maximumf_single
    x 0xFF800000#32 h' (.inl rfl) rfl j)).mpr ?_
  have e : (FloatOps.ofBits (F := Ideal) .f32 0xFF800000#32 : EReal) = ⊥ := neg_inf
  rw [e]
  exact fold_max_real hn _ fun k => hx _

/-! ## The result by position -/

open Cert.Proof.Common

/-- The score of the key row `κ` for the query row `r` and the head `h`: two heads share each head of keys. -/
def score (q : (⟨2, ![9216, 512]⟩ : Shape).Idx → EReal) (k : (⟨2, ![9216, 256]⟩ : Shape).Idx → EReal) (r h κ : Nat) : EReal :=
  ∑ j : Fin 128, at2 q r (h * 128 + j.val) * at2 k κ (h / 2 * 128 + j.val)

/-- One output element: row `r` of the latent tokens, column `y` of the four heads' outputs side by side. The keys of the row's
    sequence are its 256 context tokens, then its 2048 latent ones; each head of values is followed by its block of ones. -/
def elt (q : (⟨2, ![9216, 512]⟩ : Shape).Idx → EReal) (k : (⟨2, ![9216, 256]⟩ : Shape).Idx → EReal)
    (v : (⟨2, ![9216, 512]⟩ : Shape).Idx → EReal) (r y : Nat) : EReal :=
  soft (fun κ => score q k r (y / 128) (8192 + r / 2048 * 256 + κ)) (fun κ => score q k r (y / 128) (r / 2048 * 2048 + κ))
    (fun κ => at2 v (8192 + r / 2048 * 256 + κ) (y / 256 * 256 + y % 128))
    (fun κ => at2 v (r / 2048 * 2048 + κ) (y / 256 * 256 + y % 128))
    (fun κ => at2 v (8192 + r / 2048 * 256 + κ) (y / 256 * 256 + (128 + y % 128)))
    (fun κ => at2 v (r / 2048 * 2048 + κ) (y / 256 * 256 + (128 + y % 128)))

/-- The result: the branch buffer with its second slot's latent rows replaced. -/
def G (q : (⟨2, ![9216, 512]⟩ : Shape).Idx → EReal) (k : (⟨2, ![9216, 256]⟩ : Shape).Idx → EReal)
    (v : (⟨2, ![9216, 512]⟩ : Shape).Idx → EReal) (bb : (⟨3, ![4, 9216, 512]⟩ : Shape).Idx → EReal) :
    (⟨3, ![4, 9216, 512]⟩ : Shape).Idx → EReal := fun i =>
  if (i 0).val = 1 ∧ (i 1).val < 8192 then elt q k v (i 1).val (i 2).val else bb i

/-- The row of the sequence `b`'s key at position `κ` of the joined keys. -/
def key (b κ : Nat) : Nat := if κ < 256 then 8192 + b * 256 + κ else b * 2048 + (κ - 256)

/-- A real matrix has real elements, and zero outside. -/
theorem at2_real {n0 n1 : Nat} (X : (⟨2, ![n0, n1]⟩ : Shape).Idx → EReal) (hX : ∀ i, ∃ r : ℝ, X i = r) (a b : Nat) :
    ∃ r : ℝ, at2 X a b = r := by
  unfold at2
  split
  · exact hX _
  · exact ⟨0, rfl⟩

/-- Scores of finite queries and keys are real. -/
theorem score_real (q : (⟨2, ![9216, 512]⟩ : Shape).Idx → EReal) (k : (⟨2, ![9216, 256]⟩ : Shape).Idx → EReal)
    (hq : ∀ i, ∃ r : ℝ, q i = r) (hk : ∀ i, ∃ r : ℝ, k i = r) (r h κ : Nat) : ∃ x : ℝ, score q k r h κ = x :=
  sum_real _ _ fun j => mul_real (at2_real q hq _ _) (at2_real k hk _ _)

/-- With finite queries and keys and ones in the normaliser's columns, the element is the softmax of the scores times `log 2`
    over the joined keys, whatever real `M` is subtracted. -/
theorem elt_eq (q : (⟨2, ![9216, 512]⟩ : Shape).Idx → EReal) (k : (⟨2, ![9216, 256]⟩ : Shape).Idx → EReal)
    (v : (⟨2, ![9216, 512]⟩ : Shape).Idx → EReal) (hq : ∀ i, ∃ r : ℝ, q i = r) (hk : ∀ i, ∃ r : ℝ, k i = r)
    (hv : ∀ a h d, a < 9216 → h < 2 → d < 128 → at2 v a (h * 256 + (128 + d)) = 1) (r y : Nat) (hr : r < 8192) (hy : y < 512)
    (M : EReal) (hM : ∃ x : ℝ, M = x) :
    elt q k v r y = ∑ κ : Fin 2304, at2 v (key (r / 2048) κ.val) (y / 256 * 256 + y % 128)
      * Ideal.div (Ideal.exp (score q k r (y / 128) (key (r / 2048) κ.val) * ((Real.log 2 : ℝ) : EReal) - M))
        (0 + ∑ κ' : Fin 2304, Ideal.exp (score q k r (y / 128) (key (r / 2048) κ'.val) * ((Real.log 2 : ℝ) : EReal) - M)) := by
  unfold elt
  refine soft_eq (fun κ => score q k r (y / 128) (key (r / 2048) κ))
    (fun κ => at2 v (key (r / 2048) κ) (y / 256 * 256 + y % 128)) _ _ _ _ _ _ M (fun κ => score_real q k hq hk _ _ _) hM
    ?_ ?_ ?_ ?_ ?_ ?_
  · intro κ h; show _ = score q k r (y / 128) (key (r / 2048) κ); unfold key; rw [if_pos h]
  · intro κ h; show _ = score q k r (y / 128) (key (r / 2048) (256 + κ)); unfold key
    rw [if_neg (by omega), show 256 + κ - 256 = κ by omega]
  · intro κ h; show _ = at2 v (key (r / 2048) κ) _; unfold key; rw [if_pos h]
  · intro κ h; show _ = at2 v (key (r / 2048) (256 + κ)) _; unfold key
    rw [if_neg (by omega), show 256 + κ - 256 = κ by omega]
  · intro κ h; exact hv _ _ _ (by omega) (by omega) (by omega)
  · intro κ h; exact hv _ _ _ (by omega) (by omega) (by omega)

end Cert.Proof.AttnMath

end
-- ==== Proof.Attn.lean ====
/-
  Hand-written. The attention over latent queries: what the kernel's result holds after the run — the branch buffer with its
  second slot's latent rows replaced by the ratio of the two weighted sums of `AttnMath.elt`.
-/
module

public import proofs.«01_k».proof.Proof.AttnMath
public import proofs.«01_k».proof.Proof.Gen.KernelIdeal.Value

@[expose] public section

set_option maxRecDepth 16384

noncomputable section

namespace Cert.Proof.Attn

open Idealize.ShloMosaic Idealize.ShloMosaic.ValueIdx Idealize.ShloMosaic.TcCoe Idealize.SL.Sem
open Idealize.ShloMosaic.Pipeline (Dat)
open Cert.Proof.Common Cert.Proof.AttnMath Cert.KernelIdeal Cert.KernelIdeal.Gen
open scoped BigOperators

/-! ## One store's payload -/

/-- The scores against the context keys. -/
theorem ctx_at (q : Vec Ideal S256x128 .bf16) (k : Vec Ideal S256x128 .bf16) (i : S256x256.Idx) :
    (k0_pay2 q k i : EReal) = ∑ j : Fin 128, at2 q (i 0).val j.val * at2 k (i 1).val j.val :=
  ((matmulT_at dot_S256x128_S256x128_S256x256_1_1_0_0_n_n rfl none q k _ i).trans (zero_acc i _)).trans
    (Finset.sum_congr rfl fun j _ => congrArg₂ (· * ·) (at2_of q _ rfl rfl) (at2_of k _ rfl rfl))

/-- The scores against the latent keys. -/
theorem lat_at (q : Vec Ideal S256x128 .bf16) (k : Vec Ideal S2048x128 .bf16) (i : S256x2048.Idx) :
    (k0_pay3 q k i : EReal) = ∑ j : Fin 128, at2 q (i 0).val j.val * at2 k (i 1).val j.val :=
  ((matmulT_at dot_S256x128_S2048x128_S256x2048_1_1_0_0_n_n rfl none q k _ i).trans (zero_acc i _)).trans
    (Finset.sum_congr rfl fun j _ => congrArg₂ (· * ·) (at2_of q _ rfl rfl) (at2_of k _ rfl rfl))

/-- A row's maximum, as a column. -/
theorem rowmax_at {n : Nat} (x : FVec Ideal ⟨2, ![256, n]⟩ .f32) (h : (⟨2, ![256, n]⟩ : Shape).Reduces [1] S256)
    (r : Fin 256) : (shapeCast S256x1 (multiReduction .maximumf [1] S256 x 0xFF800000#32 h (.inl rfl) rfl)
      shapeCasts_S256_S256x1 (ix2 r 0) : EReal) = (Finset.univ : Finset (Fin n)).fold max ⊥ (fun κ => at2 x r.val κ.val) := by
  refine (shapeCast_apply _ shapeCasts_S256_S256x1 (ix2 r 0) (ix1 r) (by
    rewrite [Shape.rowMajor_val_one, Shape.rowMajor_val_two]
    show r.val = r.val * 1 + 0; omega)).trans ?_
  refine (Ideal.multiReduction_maximumf_single x 0xFF800000#32 h (.inl rfl) rfl (ix1 r)).trans ?_
  have e : (FloatOps.ofBits (F := Ideal) .f32 0xFF800000#32 : EReal) = ⊥ := neg_inf
  rw [e]
  refine congrArg (fun f : Fin n → EReal => (Finset.univ : Finset (Fin n)).fold max ⊥ f) (funext fun κ => ?_)
  exact at2_of x _ rfl rfl

/-- The row's subtracted value: the larger of the two maxima. -/
theorem top_at (s1 : FVec Ideal S256x256 .f32) (s2 : FVec Ideal S256x2048 .f32) (r : Fin 256) :
    (k0_pay18 s1 s2 (ix2 r 0) : EReal) = top (at2 s1 r.val) (at2 s2 r.val) := by
  unfold k0_pay18
  show max (shapeCast S256x1 _ shapeCasts_S256_S256x1 (ix2 r 0) : EReal) (shapeCast S256x1 _ shapeCasts_S256_S256x1 (ix2 r 0)) = _
  exact congrArg₂ max (rowmax_at s1 reduces_S256x256_S256 r) (rowmax_at s2 reduces_S256x2048_S256 r)

/-- A 256-row piece of the result from its queries, the context's keys, the latent keys, and the values of both. -/
def tile (q : Vec Ideal S256x128 .bf16) (kc : Vec Ideal S256x128 .bf16) (kl : Vec Ideal S2048x128 .bf16)
    (vc : Vec Ideal S256x256 .bf16) (vl : Vec Ideal S2048x256 .bf16) : FVec Ideal S1x256x128 .bf16 :=
  k0_pay1 (k0_pay3 q kl) (k0_pay18 (k0_pay2 q kc) (k0_pay3 q kl)) (k0_pay19 (k0_pay2 q kc) (k0_pay3 q kl)) vc vl

/-- The weighted sums, ones included, before the division. -/
theorem sums_at (s1 : FVec Ideal S256x256 .f32) (s2 : FVec Ideal S256x2048 .f32) (vc : Vec Ideal S256x256 .bf16)
    (vl : Vec Ideal S2048x256 .bf16) (i : S256x256.Idx) :
    (matmul (F := Ideal) (φ₂ := .bf16) dot_S256x256_S256x256_S256x256_1_0_0_1_n_n none (k0_pay19 s1 s2) vc
        (constant S256x256 .f32 0x00000000#32) i : EReal)
      + matmul (F := Ideal) (φ₂ := .bf16) dot_S256x2048_S2048x256_S256x256_1_0_0_1_n_n none
        (truncf .bf16 (exp2 (subf s2 (broadcastTo S256x2048 (k0_pay18 s1 s2) broadcasts_S256x1_S256x2048))) bitsLt_bf16_f32 :
          FVec Ideal S256x2048 .bf16) vl (constant S256x256 .f32 0x00000000#32) i
      = wsum (at2 s1 (i 0).val) (at2 s2 (i 0).val) (fun κ => at2 vc κ (i 1).val) (fun κ => at2 vl κ (i 1).val) := by
  unfold wsum
  refine congrArg₂ (· + ·)
    (((matmul_at dot_S256x256_S256x256_S256x256_1_0_0_1_n_n rfl none _ vc _ i).trans (zero_acc i _)).trans
      (Finset.sum_congr rfl fun κ _ => congrArg₂ (· * ·) ?_ (at2_of vc _ rfl rfl)))
    (((matmul_at dot_S256x2048_S2048x256_S256x256_1_0_0_1_n_n rfl none _ vl _ i).trans (zero_acc i _)).trans
      (Finset.sum_congr rfl fun κ _ => congrArg₂ (· * ·) ?_ (at2_of vl _ rfl rfl)))
  · show Ideal.exp2 ((s1 (ix2 (i 0) κ) : EReal) - broadcastTo (α := EReal) S256x256 _ broadcasts_S256x1_S256x256 (ix2 (i 0) κ)) = _
    refine congrArg₂ (fun a b : EReal => Ideal.exp2 (a - b)) (at2_of s1 _ rfl rfl) ?_
    refine (broadcastTo_apply _ broadcasts_S256x1_S256x256 (ix2 (i 0) κ) (ix2 (i 0) 0) (fun a => match a with
      | ⟨0, _⟩ => rfl
      | ⟨1, _⟩ => rfl)).trans ?_
    exact top_at s1 s2 (i 0)
  · show Ideal.exp2 ((s2 (ix2 (i 0) κ) : EReal) - broadcastTo (α := EReal) S256x2048 _ broadcasts_S256x1_S256x2048 (ix2 (i 0) κ)) = _
    refine congrArg₂ (fun a b : EReal => Ideal.exp2 (a - b)) (at2_of s2 _ rfl rfl) ?_
    refine (broadcastTo_apply _ broadcasts_S256x1_S256x2048 (ix2 (i 0) κ) (ix2 (i 0) 0) (fun a => match a with
      | ⟨0, _⟩ => rfl
      | ⟨1, _⟩ => rfl)).trans ?_
    exact top_at s1 s2 (i 0)

/-- The ratio depends on the scores only at the keys' positions. -/
theorem soft_congr (s1 s1' s2 s2' w1 w2 u1 u2 : Nat → EReal) (h1 : ∀ κ < 256, s1 κ = s1' κ) (h2 : ∀ κ < 2048, s2 κ = s2' κ)
    (w1' w2' u1' u2' : Nat → EReal) (g1 : ∀ κ < 256, w1 κ = w1' κ) (g2 : ∀ κ < 2048, w2 κ = w2' κ)
    (f1 : ∀ κ < 256, u1 κ = u1' κ) (f2 : ∀ κ < 2048, u2 κ = u2' κ) :
    soft s1 s2 w1 w2 u1 u2 = soft s1' s2' w1' w2' u1' u2' := by
  have ht : top s1 s2 = top s1' s2' := by
    unfold top
    exact congrArg₂ max (congrArg (fun f : Fin 256 → EReal => (Finset.univ : Finset (Fin 256)).fold max ⊥ f)
      (funext fun κ => h1 _ κ.isLt)) (congrArg (fun f : Fin 2048 → EReal => (Finset.univ : Finset (Fin 2048)).fold max ⊥ f)
      (funext fun κ => h2 _ κ.isLt))
  unfold soft wsum
  rw [ht]
  refine congrArg₂ Ideal.div (congrArg₂ (· + ·) ?_ ?_) (congrArg₂ (· + ·) ?_ ?_)
  · exact Finset.sum_congr rfl fun κ _ => by rw [h1 _ κ.isLt, g1 _ κ.isLt]
  · exact Finset.sum_congr rfl fun κ _ => by rw [h2 _ κ.isLt, g2 _ κ.isLt]
  · exact Finset.sum_congr rfl fun κ _ => by rw [h1 _ κ.isLt, f1 _ κ.isLt]
  · exact Finset.sum_congr rfl fun κ _ => by rw [h2 _ κ.isLt, f2 _ κ.isLt]

/-- The piece at an element. -/
theorem tile_at (q : Vec Ideal S256x128 .bf16) (kc : Vec Ideal S256x128 .bf16) (kl : Vec Ideal S2048x128 .bf16)
    (vc : Vec Ideal S256x256 .bf16) (vl : Vec Ideal S2048x256 .bf16) (x : S1x256x128.Idx) :
    (tile q kc kl vc vl x : EReal)
      = soft (fun κ => ∑ j : Fin 128, at2 q (x 1).val j.val * at2 kc κ j.val)
          (fun κ => ∑ j : Fin 128, at2 q (x 1).val j.val * at2 kl κ j.val)
          (fun κ => at2 vc κ (x 2).val) (fun κ => at2 vl κ (x 2).val)
          (fun κ => at2 vc κ (128 + (x 2).val)) (fun κ => at2 vl κ (128 + (x 2).val)) := by
  have h1 : (x 1).val < 256 := (x 1).isLt
  have h2 : (x 2).val < 128 := (x 2).isLt
  unfold tile k0_pay1
  refine (shapeCast_apply _ shapeCasts_S256x128_S1x256x128 x (ix2 (x 1) (x 2)) (by
    rewrite [Shape.rowMajor_val_two, Shape.rowMajor_val_three]
    have h0 : (x 0).val < 1 := (x 0).isLt
    show (x 1).val * 128 + (x 2).val = ((x 0).val * 256 + (x 1).val) * 128 + (x 2).val; omega)).trans ?_
  show Ideal.div (extractStridedSlice (s := S256x256) (α := EReal) S256x128 ![0, 0] _ slices_S256x256_o0_0_S256x128 (ix2 (x 1) (x 2)))
    (extractStridedSlice (s := S256x256) (α := EReal) S256x128 ![0, 128] _ slices_S256x256_o0_128_S256x128 (ix2 (x 1) (x 2))) = _
  refine Eq.trans (b := soft (at2 (k0_pay2 q kc) (x 1).val) (at2 (k0_pay3 q kl) (x 1).val) (fun κ => at2 vc κ (x 2).val)
    (fun κ => at2 vl κ (x 2).val) (fun κ => at2 vc κ (128 + (x 2).val)) (fun κ => at2 vl κ (128 + (x 2).val))) ?_ ?_
  · refine congrArg₂ Ideal.div ?_ ?_
    · refine (extractStridedSlice_apply _ _ slices_S256x256_o0_0_S256x128 (ix2 (x 1) (x 2))
        (ix2 (x 1) ⟨(x 2).val, by omega⟩ : S256x256.Idx) (fun a => match a with
          | ⟨0, _⟩ => by show (x 1).val = 0 + (x 1).val; omega
          | ⟨1, _⟩ => by show (x 2).val = 0 + (x 2).val; omega)).trans ?_
      exact sums_at (k0_pay2 q kc) (k0_pay3 q kl) vc vl (ix2 (x 1) ⟨(x 2).val, by omega⟩)
    · refine (extractStridedSlice_apply _ _ slices_S256x256_o0_128_S256x128 (ix2 (x 1) (x 2))
        (ix2 (x 1) ⟨128 + (x 2).val, by omega⟩ : S256x256.Idx) (fun a => match a with
          | ⟨0, _⟩ => by show (x 1).val = 0 + (x 1).val; omega
          | ⟨1, _⟩ => rfl)).trans ?_
      exact sums_at (k0_pay2 q kc) (k0_pay3 q kl) vc vl (ix2 (x 1) ⟨128 + (x 2).val, by omega⟩)
  · refine soft_congr _ _ _ _ _ _ _ _ (fun κ hκ => ?_) (fun κ hκ => ?_) _ _ _ _ (fun _ _ => rfl) (fun _ _ => rfl)
      (fun _ _ => rfl) (fun _ _ => rfl)
    · exact (at2_of (k0_pay2 q kc) (ix2 (x 1) ⟨κ, hκ⟩) rfl rfl).symm.trans (ctx_at q kc _)
    · exact (at2_of (k0_pay3 q kl) (ix2 (x 1) ⟨κ, hκ⟩) rfl rfl).symm.trans (lat_at q kl _)

end Cert.Proof.Attn

end
-- ==== Proof.AttnRun.lean ====
/-
  Hand-written. The attention over latent queries: the block that one grid point leaves, and the result array after the run.
-/
module

public import proofs.«01_k».proof.Proof.Attn

@[expose] public section

set_option maxRecDepth 16384

noncomputable section

namespace Cert.Proof.Attn

open Idealize.ShloMosaic Idealize.ShloMosaic.ValueIdx Idealize.ShloMosaic.TcCoe Idealize.SL.Sem Idealize.ShloMosaic.Tactic
open Idealize.ShloMosaic.Pipeline (Dat)
open Cert.Proof.Common Cert.Proof.AttnMath Cert.KernelIdeal Cert.KernelIdeal.Gen
open scoped BigOperators

/-! ## One grid point's block -/

/-- Row `a`, column `c` of the block: the two heads of a head of keys side by side. -/
def rowElt (x0 : S512x256.Idx → EReal) (x1 : S2048x128.Idx → EReal) (x2 : S2048x256.Idx → EReal) (x3 : S256x128.Idx → EReal)
    (x4 : S256x256.Idx → EReal) (a c : Nat) : EReal :=
  soft (fun κ => ∑ j : Fin 128, at2 x0 a (c / 128 * 128 + j.val) * at2 x3 κ j.val)
    (fun κ => ∑ j : Fin 128, at2 x0 a (c / 128 * 128 + j.val) * at2 x1 κ j.val)
    (fun κ => at2 x4 κ (c % 128)) (fun κ => at2 x2 κ (c % 128))
    (fun κ => at2 x4 κ (128 + c % 128)) (fun κ => at2 x2 κ (128 + c % 128))

/-- The block that one grid point leaves, at an element. -/
def blockElt (x0 : S512x256.Idx → EReal) (x1 : S2048x128.Idx → EReal) (x2 : S2048x256.Idx → EReal) (x3 : S256x128.Idx → EReal)
    (x4 : S256x256.Idx → EReal) (y : S1x512x256.Idx) : EReal := rowElt x0 x1 x2 x3 x4 (y 1).val (y 2).val

/-- A piece over the queries at rows `o0` and columns `128·g` is the block's part there. -/
theorem piece_at (x0 : Vec Ideal S512x256 .bf16) (x1 : Vec Ideal S2048x128 .bf16) (x2 : Vec Ideal S2048x256 .bf16)
    (x3 : Vec Ideal S256x128 .bf16) (x4 : Vec Ideal S256x256 .bf16) (o0 g : Nat)
    (inb : ∀ a, (![o0, g * 128] : Fin 2 → Nat) a + S256x128.size a ≤ S512x256.size a) (x : S1x256x128.Idx) (r c : Nat)
    (hr : o0 + (x 1).val = r) (hc : g * 128 + (x 2).val = c) :
    (tile (View.ld x0 (Rect.unit (s := S512x256) ![o0, g * 128] S256x128.size inb)) x3 x1 x4 x2 x : EReal)
      = rowElt x0 x1 x2 x3 x4 r c := by
  have h1 : (x 1).val < 256 := (x 1).isLt
  have h2 : (x 2).val < 128 := (x 2).isLt
  refine (tile_at _ x3 x1 x4 x2 x).trans ?_
  have hq : ∀ j : Fin 128, at2 (View.ld x0 (Rect.unit (s := S512x256) ![o0, g * 128] S256x128.size inb) : S256x128.Idx → EReal)
      (x 1).val j.val = at2 x0 r (c / 128 * 128 + j.val) := by
    intro j
    have hj : j.val < 128 := j.isLt
    refine (at2_of _ (ix2 (x 1) j : S256x128.Idx) rfl rfl).symm.trans ?_
    refine at2_of x0 _ ?_ ?_
    · show o0 + 1 * (x 1).val = _; omega
    · show g * 128 + 1 * j.val = _; omega
  have hw : (x 2).val = c % 128 := by omega
  unfold rowElt
  rw [hw]
  refine soft_congr _ _ _ _ _ _ _ _ (fun κ _ => ?_) (fun κ _ => ?_) _ _ _ _ (fun _ _ => rfl) (fun _ _ => rfl)
    (fun _ _ => rfl) (fun _ _ => rfl)
  · exact Finset.sum_congr rfl fun j _ => by rw [hq]
  · exact Finset.sum_congr rfl fun j _ => by rw [hq]

/-- The body's four stores leave `blockElt`. -/
theorem out_eq (c : Dev nD) (i : grid0.Coords) (arg3 : Memref sig .tc .vmem S512x256 .bf16) (harg3 : arg3.IsWhole)
    (arg4 : Memref sig .tc .vmem S2048x128 .bf16) (harg4 : arg4.IsWhole) (arg5 : Memref sig .tc .vmem S2048x256 .bf16)
    (harg5 : arg5.IsWhole) (arg6 : Memref sig .tc .vmem S256x128 .bf16) (harg6 : arg6.IsWhole)
    (arg7 : Memref sig .tc .vmem S256x256 .bf16) (harg7 : arg7.IsWhole) (arg9 : Memref sig .tc .vmem S1x512x256 .bf16)
    (harg9 : arg9.IsWhole) (x0 : Vec Ideal S512x256 .bf16) (x1 : Vec Ideal S2048x128 .bf16) (x2 : Vec Ideal S2048x256 .bf16)
    (x3 : Vec Ideal S256x128 .bf16) (x4 : Vec Ideal S256x256 .bf16) :
    out0_A_5 c i arg3 harg3 arg4 harg4 arg5 harg5 arg6 harg6 arg7 harg7 arg9 harg9 x0 x1 x2 x3 x4
      = blockElt x0 x1 x2 x3 x4 := by
  refine funext fun (y : S1x512x256.Idx) => ?_
  have hcov := cover0_A_5 c i arg3 harg3 arg4 harg4 arg5 harg5 arg6 harg6 arg7 harg7 arg9 harg9 x0 x1 x2 x3 x4
  unfold out0_A_5
  rw [View.read_writes_eq_canon _ _ _ hcov]
  refine View.canon_apply_of_pieces (Val := Elt Ideal) (e := .bf16) (blockElt x0 x1 x2 x3 x4) _ ?_ y (hcov y)
  clear hcov
  unfold kernelRun0_A
  dsimp only
  sl_unfold_words
  simp only [View.readAt_eq_ld, harg3.read_unread, harg4.read_unread, harg5.read_unread, harg6.read_unread, harg7.read_unread,
    View.ld_unit_zero (S := S2048x128) hz2, View.ld_unit_zero (S := S2048x256) hz2, View.ld_unit_zero (S := S256x128) hz2,
    View.ld_unit_zero (S := S256x256) hz2]
  intro p hp x
  rcases List.mem_cons.mp hp with rfl | hp
  · exact piece_at x0 x1 x2 x3 x4 256 1 inb_S512x256_S256x128_256_128 x _ _
      (by show 256 + (x 1).val = 256 + 1 * (x 1).val; omega) (by show 1 * 128 + (x 2).val = 128 + 1 * (x 2).val; omega)
  rcases List.mem_cons.mp hp with rfl | hp
  · exact piece_at x0 x1 x2 x3 x4 0 1 inb_S512x256_S256x128_0_128 x _ _
      (by show 0 + (x 1).val = 0 + 1 * (x 1).val; omega) (by show 1 * 128 + (x 2).val = 128 + 1 * (x 2).val; omega)
  rcases List.mem_cons.mp hp with rfl | hp
  · exact piece_at x0 x1 x2 x3 x4 256 0 inb_S512x256_S256x128_256_0 x _ _
      (by show 256 + (x 1).val = 256 + 1 * (x 1).val; omega) (by show 0 * 128 + (x 2).val = 0 + 1 * (x 2).val; omega)
  · obtain rfl := List.mem_singleton.mp hp
    exact piece_at x0 x1 x2 x3 x4 0 0 inb_S512x256_S256x128_0_0 x _ _
      (by show 0 + (x 1).val = 0 + 1 * (x 1).val; omega) (by show 0 * 128 + (x 2).val = 0 + 1 * (x 2).val; omega)

/-! ## The windows' blocks, by position: point `(b·2 + h)·4 + i` is the sequence `b`, the head of keys `h` and the tile `i` of queries -/

theorem idx0 : ∀ t : Fin cfg0.N, win0_0.index t 0 = t.val / 8 * 4 + t.val % 4 ∧ win0_0.index t 1 = t.val / 4 % 2 :=
  (by decide +kernel : ∀ t : Fin grid0.N, win0_0.index t 0 = t.val / 8 * 4 + t.val % 4 ∧ win0_0.index t 1 = t.val / 4 % 2)
theorem idx1 : ∀ t : Fin cfg0.N, win0_1.index t 0 = t.val / 8 ∧ win0_1.index t 1 = t.val / 4 % 2 :=
  (by decide +kernel : ∀ t : Fin grid0.N, win0_1.index t 0 = t.val / 8 ∧ win0_1.index t 1 = t.val / 4 % 2)
theorem idx2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)
theorem idx3 : ∀ t : Fin cfg0.N, win0_3.index t 0 = 32 + t.val / 8 ∧ win0_3.index t 1 = t.val / 4 % 2 :=
  (by decide +kernel : ∀ t : Fin grid0.N, win0_3.index t 0 = 32 + t.val / 8 ∧ win0_3.index t 1 = t.val / 4 % 2)
theorem idx4 : ∀ t : Fin cfg0.N, win0_4.index t 0 = 32 + t.val / 8 ∧ win0_4.index t 1 = t.val / 4 % 2 :=
  (by decide +kernel : ∀ t : Fin grid0.N, win0_4.index t 0 = 32 + t.val / 8 ∧ win0_4.index t 1 = t.val / 4 % 2)
theorem idx5 : ∀ t : Fin cfg0.N, win0_5.index t 0 = 1 ∧ win0_5.index t 1 = t.val / 8 * 4 + t.val % 4 ∧ win0_5.index t 2 = t.val / 4 % 2 :=
  (by decide +kernel : ∀ t : Fin grid0.N, win0_5.index t 0 = 1 ∧ win0_5.index t 1 = t.val / 8 * 4 + t.val % 4 ∧ win0_5.index t 2 = t.val / 4 % 2)

variable (m : (ℓ : Loc nD τ sig) → Buf (Elt Ideal) ℓ) (ρ : Dev nD → PrngReg)

/-- The launched arguments, as arrays of extended reals. -/
abbrev A0 (c : Dev nD) : S9216x512.Idx → EReal := m ((c : Thread nD τ).loc main_arg0)
abbrev A1 (c : Dev nD) : S9216x256.Idx → EReal := m ((c : Thread nD τ).loc main_arg1)
abbrev A2 (c : Dev nD) : S9216x512.Idx → EReal := m ((c : Thread nD τ).loc main_arg2)
abbrev A3 (c : Dev nD) : S4x9216x512.Idx → EReal := m ((c : Thread nD τ).loc main_arg3)

theorem arr0 (c : Dev nD) : (V m c (Pipeline.arrRef spec0 0) : S9216x512.Idx → EReal) = A0 m c := V_main_arg0 m c
theorem arr1 (c : Dev nD) : (V m c (Pipeline.arrRef spec0 1) : S9216x256.Idx → EReal) = A1 m c := V_main_arg1 m c
theorem arr2 (c : Dev nD) : (V m c (Pipeline.arrRef spec0 2) : S9216x512.Idx → EReal) = A2 m c := V_main_arg2 m c
theorem arr3 (c : Dev nD) : (V m c (Pipeline.arrRef spec0 3) : S9216x256.Idx → EReal) = A1 m c := V_main_arg1 m c
theorem arr4 (c : Dev nD) : (V m c (Pipeline.arrRef spec0 4) : S9216x512.Idx → EReal) = A2 m c := V_main_arg2 m c
/-- The result array starts as a copy of the branch buffer. -/
theorem arr5 (c : Dev nD) : (V m c (Pipeline.arrRef spec0 5) : S4x9216x512.Idx → EReal) = A3 m c := by
  show StableHlo.after hostOps0 (fun b => m (c, b)) _ = _
  unfold hostOps0
  rfl

theorem blk0 (c : Dev nD) (t : Fin cfg0.N) (a b : Nat) (ha : a < 512) (hb : b < 256) :
    at2 (iblk m c 0 t : S512x256.Idx → EReal) a b
      = at2 (A0 m c) ((t.val / 8 * 4 + t.val % 4) * 512 + a) (t.val / 4 % 2 * 256 + b) := by
  refine (at2_of (iblk m c 0 t : S512x256.Idx → EReal) (ix2 ⟨a, ha⟩ ⟨b, hb⟩) rfl rfl).symm.trans ?_
  unfold iblk
  rw [View.read_apply]
  refine (congrFun (arr0 m c) _).trans (at2_of (A0 m c) _ ?_ ?_)
  · show win0_0.index t 0 * 512 + 1 * a = _; rw [(idx0 t).1]; omega
  · show win0_0.index t 1 * 256 + 1 * b = _; rw [(idx0 t).2]; omega

theorem blk1 (c : Dev nD) (t : Fin cfg0.N) (a b : Nat) (ha : a < 2048) (hb : b < 128) :
    at2 (X0_1 m c t : S2048x128.Idx → EReal) a b = at2 (A1 m c) (t.val / 8 * 2048 + a) (t.val / 4 % 2 * 128 + b) := by
  refine (at2_of (X0_1 m c t : S2048x128.Idx → EReal) (ix2 ⟨a, ha⟩ ⟨b, hb⟩) rfl rfl).symm.trans ?_
  unfold X0_1
  unfold Pipeline.Window.fill
  rw [dif_pos (moved0_1 t _)]
  unfold iblk
  rw [View.read_apply]
  refine (congrFun (arr1 m c) _).trans (at2_of (A1 m c) _ ?_ ?_)
  · show win0_1.index t 0 * 2048 + 1 * a = _; rw [(idx1 t).1]; omega
  · show win0_1.index t 1 * 128 + 1 * b = _; rw [(idx1 t).2]; omega

theorem blk2 (c : Dev nD) (t : Fin cfg0.N) (a b : Nat) (ha : a < 2048) (hb : b < 256) :
    at2 (X0_2 m c t : S2048x256.Idx → EReal) a b = at2 (A2 m c) (t.val / 8 * 2048 + a) (t.val / 4 % 2 * 256 + b) := by
  refine (at2_of (X0_2 m c t : S2048x256.Idx → EReal) (ix2 ⟨a, ha⟩ ⟨b, hb⟩) rfl rfl).symm.trans ?_
  unfold X0_2
  unfold Pipeline.Window.fill
  rw [dif_pos (moved0_2 t _)]
  unfold iblk
  rw [View.read_apply]
  refine (congrFun (arr2 m c) _).trans (at2_of (A2 m c) _ ?_ ?_)
  · show win0_2.index t 0 * 2048 + 1 * a = _; rw [(idx2 t).1]; omega
  · show win0_2.index t 1 * 256 + 1 * b = _; rw [(idx2 t).2]; omega

theorem blk3 (c : Dev nD) (t : Fin cfg0.N) (a b : Nat) (ha : a < 256) (hb : b < 128) :
    at2 (iblk m c 3 t : S256x128.Idx → EReal) a b = at2 (A1 m c) (8192 + t.val / 8 * 256 + a) (t.val / 4 % 2 * 128 + b) := by
  refine (at2_of (iblk m c 3 t : S256x128.Idx → EReal) (ix2 ⟨a, ha⟩ ⟨b, hb⟩) rfl rfl).symm.trans ?_
  unfold iblk
  rw [View.read_apply]
  refine (congrFun (arr3 m c) _).trans (at2_of (A1 m c) _ ?_ ?_)
  · show win0_3.index t 0 * 256 + 1 * a = _; rw [(idx3 t).1]; omega
  · show win0_3.index t 1 * 128 + 1 * b = _; rw [(idx3 t).2]; omega

theorem blk4 (c : Dev nD) (t : Fin cfg0.N) (a b : Nat) (ha : a < 256) (hb : b < 256) :
    at2 (iblk m c 4 t : S256x256.Idx → EReal) a b = at2 (A2 m c) (8192 + t.val / 8 * 256 + a) (t.val / 4 % 2 * 256 + b) := by
  refine (at2_of (iblk m c 4 t : S256x256.Idx → EReal) (ix2 ⟨a, ha⟩ ⟨b, hb⟩) rfl rfl).symm.trans ?_
  unfold iblk
  rw [View.read_apply]
  refine (congrFun (arr4 m c) _).trans (at2_of (A2 m c) _ ?_ ?_)
  · show win0_4.index t 0 * 256 + 1 * a = _; rw [(idx4 t).1]; omega
  · show win0_4.index t 1 * 256 + 1 * b = _; rw [(idx4 t).2]; omega

/-- A row of a grid point's block is the result's row there. -/
theorem row_eq (c : Dev nD) (t : Fin cfg0.N) (a b : Nat) (ha : a < 512) (hb : b < 256) :
    rowElt (iblk m c 0 t) (X0_1 m c t) (X0_2 m c t) (iblk m c 3 t) (iblk m c 4 t) a b
      = elt (A0 m c) (A1 m c) (A2 m c) ((t.val / 8 * 4 + t.val % 4) * 512 + a) (t.val / 4 % 2 * 256 + b) := by
  have hN : cfg0.N = 32 := N_0
  have ht : t.val < 32 := hN ▸ t.isLt
  have e1 : ((t.val / 8 * 4 + t.val % 4) * 512 + a) / 2048 = t.val / 8 := by omega
  have e2 : (t.val / 4 % 2 * 256 + b) / 128 = t.val / 4 % 2 * 2 + b / 128 := by omega
  have e3 : (t.val / 4 % 2 * 256 + b) / 256 = t.val / 4 % 2 := by omega
  have e4 : (t.val / 4 % 2 * 256 + b) % 128 = b % 128 := by omega
  have e5 : (t.val / 4 % 2 * 2 + b / 128) / 2 = t.val / 4 % 2 := by omega
  unfold rowElt elt score
  rw [e1, e2, e3, e4, e5]
  refine soft_congr _ _ _ _ _ _ _ _ (fun κ hκ => ?_) (fun κ hκ => ?_) _ _ _ _ (fun κ hκ => ?_) (fun κ hκ => ?_)
    (fun κ hκ => ?_) (fun κ hκ => ?_)
  · refine Finset.sum_congr rfl fun j _ => ?_
    have hj : j.val < 128 := j.isLt
    rw [blk0 m c t _ _ ha (by omega), blk3 m c t _ _ hκ hj,
      show t.val / 4 % 2 * 256 + (b / 128 * 128 + j.val) = (t.val / 4 % 2 * 2 + b / 128) * 128 + j.val by omega]
  · refine Finset.sum_congr rfl fun j _ => ?_
    have hj : j.val < 128 := j.isLt
    rw [blk0 m c t _ _ ha (by omega), blk1 m c t _ _ hκ hj,
      show t.val / 4 % 2 * 256 + (b / 128 * 128 + j.val) = (t.val / 4 % 2 * 2 + b / 128) * 128 + j.val by omega]
  · exact blk4 m c t _ _ hκ (by omega)
  · exact blk2 m c t _ _ hκ (by omega)
  · exact blk4 m c t _ _ hκ (by omega)
  · exact blk2 m c t _ _ hκ (by omega)

/-- What one grid point writes back, at an element. -/
theorem flushed_at (c : Dev nD) (t : Fin cfg0.N) (y : S1x512x256.Idx) : ((dats m 0 c).flushed 5 t y : EReal)
    = elt (A0 m c) (A1 m c) (A2 m c) ((t.val / 8 * 4 + t.val % 4) * 512 + (y 1).val) (t.val / 4 % 2 * 256 + (y 2).val) := by
  rw [Cert.KernelIdeal.Value.flushed5_A, out_eq]
  exact row_eq m c t _ _ (y 1).isLt (y 2).isLt

/-- The result array after the run. -/
theorem final (c : Dev nD) : (dats m 0 c).arrAt 5 cfg0.N = G (A0 m c) (A1 m c) (A2 m c) (A3 m c) := by
  refine funext fun (i : S4x9216x512.Idx) => ?_
  have h0 : (i 0).val < 4 := (i 0).isLt
  have h1 : (i 1).val < 9216 := (i 1).isLt
  have h2 : (i 2).val < 512 := (i 2).isLt
  have hN : cfg0.N = 32 := N_0
  unfold G
  by_cases hi : (i 0).val = 1 ∧ (i 1).val < 8192
  · rw [if_pos hi]
    have hlt : ((i 1).val / 2048 * 2 + (i 2).val / 256) * 4 + (i 1).val / 512 % 4 < cfg0.N := by omega
    generalize hT : (⟨_, hlt⟩ : Fin cfg0.N) = t
    have ht : t.val = ((i 1).val / 2048 * 2 + (i 2).val / 256) * 4 + (i 1).val / 512 % 4 := by rw [← hT]
    let y : S1x512x256.Idx := ix3 0 ⟨(i 1).val % 512, by omega⟩ ⟨(i 2).val % 256, by omega⟩
    have e := congrFun (Cert.KernelIdeal.Value.blocks5 m c t (flush0_5 t)) y
    rw [View.read_apply] at e
    have he : ((cfg0.win 5).blk t).view.emb y = i := funext fun a => match a with
      | ⟨0, _⟩ => Fin.ext (by show win0_5.index t 0 * 1 + 1 * 0 = (i 0).val; rw [(idx5 t).1]; omega)
      | ⟨1, _⟩ => Fin.ext (by
          show win0_5.index t 1 * 512 + 1 * ((i 1).val % 512) = (i 1).val; rw [(idx5 t).2.1]; omega)
      | ⟨2, _⟩ => Fin.ext (by
          show win0_5.index t 2 * 256 + 1 * ((i 2).val % 256) = (i 2).val; rw [(idx5 t).2.2]; omega)
    rw [he] at e
    refine e.trans ((flushed_at m c t y).trans (congrArg₂ (elt (A0 m c) (A1 m c) (A2 m c)) ?_ ?_))
    · show (t.val / 8 * 4 + t.val % 4) * 512 + (i 1).val % 512 = (i 1).val; omega
    · show t.val / 4 % 2 * 256 + (i 2).val % 256 = (i 2).val; omega
  · rw [if_neg hi, Cert.KernelIdeal.Value.entry5 m c i ?_]
    · exact congrFun (arr5 m c) i
    · intro t _ hc
      apply hi
      have ht : t.val < 32 := hN ▸ t.isLt
      change i ∈ ((View.whole main_v0).slice (win0_5.rect t)).set at hc
      rw [View.set_slice_whole, Rect.mem_set_unit] at hc
      have c0 : win0_5.index t 0 * 1 ≤ (i 0).val ∧ (i 0).val < win0_5.index t 0 * 1 + 1 := hc 0
      have c1 : win0_5.index t 1 * 512 ≤ (i 1).val ∧ (i 1).val < win0_5.index t 1 * 512 + 512 := hc 1
      rw [(idx5 t).1] at c0
      rw [(idx5 t).2.1] at c1
      omega

/-- The kernel's run: the result array named, the arguments unchanged. -/
theorem run : θ_run defs (onTc (τ := τ) (main (F := Ideal))) ⟨m, fun _ => 0, ρ⟩ fun r => ∀ c : Dev nD,
      r.2.mem ((c : Thread nD τ).loc main_v0) = G (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Proof.Attn

end
-- ==== Proof.AttnRef.lean ====
/-
  Hand-written. The attention's reference, read at an element: what its operations compute is `AttnMath.G`, when the queries and
  keys are finite and the values' odd blocks of 128 lanes are ones — and what the precondition says of the arrays.
-/
module

public import proofs.«01_k».proof.Proof.AttnMath
public import proofs.«01_k».proof.Proof.Gen.ReferenceIdeal.Read
public import proofs.«01_k».proof.Pre_finite_and_ones
public import Idealize.ShloMosaic.Lib.ReduceAll
public import Idealize.ShloMosaic.Lib.Affine

@[expose] public section

set_option maxRecDepth 16384

noncomputable section

namespace Cert.Proof.AttnRef

open Idealize.ShloMosaic Idealize.ShloMosaic.ValueIdx Idealize.ShloMosaic.TcCoe Idealize.SL.Sem
open Cert.Proof.Common Cert.Proof.AttnMath Cert.ReferenceIdeal Cert.ReferenceIdeal.Read
open scoped BigOperators

variable (x0 : S9216x512.Idx → EReal) (x1 : S9216x256.Idx → EReal) (x2 : S9216x512.Idx → EReal) (x3 : S4x9216x512.Idx → EReal)

/-- The queries by sequence, position, head of keys and head within it. -/
theorem q_at (i : S4x2048x2x2x128.Idx) : (val_main_v1 (F := Ideal) x0 i : EReal)
    = at2 x0 ((i 0).val * 2048 + (i 1).val) (((i 2).val * 2 + (i 3).val) * 128 + (i 4).val) := by
  have h0 : (i 0).val < 4 := (i 0).isLt
  have h1 : (i 1).val < 2048 := (i 1).isLt
  have h2 : (i 2).val < 2 := (i 2).isLt
  have h3 : (i 3).val < 2 := (i 3).isLt
  have h4 : (i 4).val < 128 := (i 4).isLt
  rw [val_main_v1_apply, val_main_v0_apply]
  refine at2_of x0 _ ?_ ?_
  · show (((((i 0).val * 2048 + (i 1).val) * 2 + (i 2).val) * 2 + (i 3).val) * 128 + (i 4).val) / 512 = _
    omega
  · show (((((i 0).val * 2048 + (i 1).val) * 2 + (i 2).val) * 2 + (i 3).val) * 128 + (i 4).val) % 512 = _
    omega

/-- The keys by row and head. -/
theorem k5_at (i : S9216x2x128.Idx) : (val_main_v5 (F := Ideal) x1 i : EReal)
    = at2 x1 (i 0).val ((i 1).val * 128 + (i 2).val) := by
  have h1 : (i 1).val < 2 := (i 1).isLt
  have h2 : (i 2).val < 128 := (i 2).isLt
  rw [val_main_v5_apply]
  refine at2_of x1 _ ?_ ?_
  · show (((i 0).val * 2 + (i 1).val) * 128 + (i 2).val) / 256 = _; omega
  · show (((i 0).val * 2 + (i 1).val) * 128 + (i 2).val) % 256 = _; omega

/-- The values by row and head: the even blocks of 128 lanes. -/
theorem v4_at (i : S9216x2x128.Idx) : (val_main_v4 (F := Ideal) x2 i : EReal)
    = at2 x2 (i 0).val ((i 1).val * 256 + (i 2).val) := by
  have h1 : (i 1).val < 2 := (i 1).isLt
  have h2 : (i 2).val < 128 := (i 2).isLt
  rw [val_main_v4_apply, val_main_v3_apply, val_main_v2_apply]
  generalize hA : ((i 0).val * 2 + (i 1).val) * 128 + (i 2).val = A
  refine at2_of x2 _ ?_ ?_
  · show ((((((i 0).val * 2 + (i 1).val) * 128 + (i 2).val) / 256 * 2 + (((i 0).val * 2 + (i 1).val) * 128 + (i 2).val) / 128 % 2) * 2 + 0) * 128
      + (((i 0).val * 2 + (i 1).val) * 128 + (i 2).val) % 128) / 512 = _
    omega
  · show ((((((i 0).val * 2 + (i 1).val) * 128 + (i 2).val) / 256 * 2 + (((i 0).val * 2 + (i 1).val) * 128 + (i 2).val) / 128 % 2) * 2 + 0) * 128
      + (((i 0).val * 2 + (i 1).val) * 128 + (i 2).val) % 128) % 512 = _
    omega

/-- Two blocks of keys joined along the sequence, at a position of the first. -/
theorem join_ctx (A : S4x256x2x128.Idx → EReal) (B : S4x2048x2x128.Idx → EReal)
    (h : Shape.Concatenates [S4x256x2x128, S4x2048x2x128] S4x2304x2x128 1) (i : S4x2304x2x128.Idx) (hi : (i 1).val < 256) :
    concatenate S4x2304x2x128 1 [⟨S4x256x2x128, A⟩, ⟨S4x2048x2x128, B⟩] h i = A (ix4 (i 0) ⟨(i 1).val, hi⟩ (i 2) (i 3)) :=
  concatenate_pair_apply_left 1 A B h i rfl (ix4 (i 0) ⟨(i 1).val, hi⟩ (i 2) (i 3)) fun b => match b with
    | ⟨0, _⟩ => rfl
    | ⟨1, _⟩ => rfl
    | ⟨2, _⟩ => rfl
    | ⟨3, _⟩ => rfl

/-- Two blocks of keys joined along the sequence, at a position of the second. -/
theorem join_lat (A : S4x256x2x128.Idx → EReal) (B : S4x2048x2x128.Idx → EReal)
    (h : Shape.Concatenates [S4x256x2x128, S4x2048x2x128] S4x2304x2x128 1) (i : S4x2304x2x128.Idx) (hi : 256 ≤ (i 1).val)
    (hq : (i 1).val - 256 < 2048) :
    concatenate S4x2304x2x128 1 [⟨S4x256x2x128, A⟩, ⟨S4x2048x2x128, B⟩] h i = B (ix4 (i 0) ⟨(i 1).val - 256, hq⟩ (i 2) (i 3)) :=
  concatenate_pair_apply_right 1 A B h i rfl rfl (ix4 (i 0) ⟨(i 1).val - 256, hq⟩ (i 2) (i 3)) (fun b hb => match b with
    | ⟨0, _⟩ => rfl
    | ⟨1, _⟩ => absurd rfl hb
    | ⟨2, _⟩ => rfl
    | ⟨3, _⟩ => rfl) (by show (i 1).val - 256 + 256 = (i 1).val; omega)

/-- The joined keys: the sequence's context tokens, then its latent ones. -/
theorem keys_at (i : S4x2304x2x128.Idx) : (val_main_v10 (F := Ideal) x1 i : EReal)
    = at2 x1 (key (i 0).val (i 1).val) ((i 2).val * 128 + (i 3).val) := by
  have h0 : (i 0).val < 4 := (i 0).isLt
  have h1 : (i 1).val < 2304 := (i 1).isLt
  have h2 : (i 2).val < 2 := (i 2).isLt
  have h3 : (i 3).val < 128 := (i 3).isLt
  unfold val_main_v10 key
  by_cases hi : (i 1).val < 256
  · refine (join_ctx _ _ _ i hi).trans ?_
    rw [if_pos hi, val_main_v8_apply, val_main_v7_apply, k5_at]
    refine congrArg₂ (at2 x1) ?_ ?_
    · show 8192 + ((((i 0).val * 256 + (i 1).val) * 2 + (i 2).val) * 128 + (i 3).val) / 256 = _; omega
    · show ((((i 0).val * 256 + (i 1).val) * 2 + (i 2).val) * 128 + (i 3).val) / 128 % 2 * 128
        + ((((i 0).val * 256 + (i 1).val) * 2 + (i 2).val) * 128 + (i 3).val) % 128 = _
      omega
  · refine (join_lat _ _ _ i (by omega) (by omega)).trans ?_
    rw [if_neg hi, val_main_v9_apply, val_main_v6_apply, k5_at]
    refine congrArg₂ (at2 x1) ?_ ?_
    · show ((((i 0).val * 2048 + ((i 1).val - 256)) * 2 + (i 2).val) * 128 + (i 3).val) / 256 = _; omega
    · show ((((i 0).val * 2048 + ((i 1).val - 256)) * 2 + (i 2).val) * 128 + (i 3).val) / 128 % 2 * 128
        + ((((i 0).val * 2048 + ((i 1).val - 256)) * 2 + (i 2).val) * 128 + (i 3).val) % 128 = _
      omega

/-- The joined values, in the keys' order. -/
theorem vals_at (i : S4x2304x2x128.Idx) : (val_main_v32 (F := Ideal) x2 i : EReal)
    = at2 x2 (key (i 0).val (i 1).val) ((i 2).val * 256 + (i 3).val) := by
  have h0 : (i 0).val < 4 := (i 0).isLt
  have h1 : (i 1).val < 2304 := (i 1).isLt
  have h2 : (i 2).val < 2 := (i 2).isLt
  have h3 : (i 3).val < 128 := (i 3).isLt
  unfold val_main_v32 key
  by_cases hi : (i 1).val < 256
  · refine (join_ctx _ _ _ i hi).trans ?_
    rw [if_pos hi, val_main_v30_apply, val_main_v29_apply, v4_at]
    refine congrArg₂ (at2 x2) ?_ ?_
    · show 8192 + ((((i 0).val * 256 + (i 1).val) * 2 + (i 2).val) * 128 + (i 3).val) / 256 = _; omega
    · show ((((i 0).val * 256 + (i 1).val) * 2 + (i 2).val) * 128 + (i 3).val) / 128 % 2 * 256
        + ((((i 0).val * 256 + (i 1).val) * 2 + (i 2).val) * 128 + (i 3).val) % 128 = _
      omega
  · refine (join_lat _ _ _ i (by omega) (by omega)).trans ?_
    rw [if_neg hi, val_main_v31_apply, val_main_v28_apply, v4_at]
    refine congrArg₂ (at2 x2) ?_ ?_
    · show ((((i 0).val * 2048 + ((i 1).val - 256)) * 2 + (i 2).val) * 128 + (i 3).val) / 256 = _; omega
    · show ((((i 0).val * 2048 + ((i 1).val - 256)) * 2 + (i 2).val) * 128 + (i 3).val) / 128 % 2 * 256
        + ((((i 0).val * 2048 + ((i 1).val - 256)) * 2 + (i 2).val) * 128 + (i 3).val) % 128 = _
      omega

/-- The scores times `log 2`. -/
theorem scores_at (i : S4x2x2x2048x2304.Idx) : (val_main_v15 (F := Ideal) x0 x1 i : EReal)
    = score x0 x1 ((i 0).val * 2048 + (i 3).val) ((i 1).val * 2 + (i 2).val) (key (i 0).val (i 4).val)
      * ((Real.log 2 : ℝ) : EReal) := by
  have h2 : (i 2).val < 2 := (i 2).isLt
  rw [val_main_v15_apply, val_main_v14_apply, val_main_v13_apply, val_main_cst_apply, val_main_v12_apply, val_main_v11_apply]
  refine congrArg₂ (fun a b : EReal => a * b) ?_ ?_
  · unfold score
    refine Finset.sum_congr rfl fun j _ => ?_
    rw [keys_at, q_at, mul_comm]
    refine congrArg₂ (· * ·) rfl (congrArg (at2 x1 _) ?_)
    show (i 1).val * 128 + j.val = ((i 1).val * 2 + (i 2).val) / 2 * 128 + j.val
    omega
  · show Ideal.log (Ideal.ofBits .f32 0x40000000#32) = _
    rw [two_f32, Ideal.log_coe, if_neg (by norm_num)]

/-- The subtracted maximum is real. -/
theorem top_real (hq : ∀ i, ∃ r : ℝ, x0 i = r) (hk : ∀ i, ∃ r : ℝ, x1 i = r) (i : S4x2x2x2048.Idx) :
    ∃ r : ℝ, (val_main_v18 (F := Ideal) x0 x1 i : EReal) = r := by
  rw [val_main_v18_apply, val_main_v17_apply, val_main_cst_1_apply]
  show ∃ r : ℝ, max (Ideal.ofBits .f32 0xFF800000#32) (val_main_v16 (F := Ideal) x0 x1 i : EReal) = r
  rw [neg_inf, max_eq_right bot_le]
  unfold val_main_v16 val_main_cst_0
  refine hostmax_real _ _ _ (by decide) (by decide) (fun k => ?_) i
  rw [scores_at]
  exact mul_real (score_real _ _ hq hk _ _ _) ⟨_, rfl⟩

/-- The exponentials. -/
theorem exps_at (i : S4x2x2x2048x2304.Idx) : (val_main_v22 (F := Ideal) x0 x1 i : EReal)
    = Ideal.exp (score x0 x1 ((i 0).val * 2048 + (i 3).val) ((i 1).val * 2 + (i 2).val) (key (i 0).val (i 4).val)
      * ((Real.log 2 : ℝ) : EReal) - val_main_v18 (F := Ideal) x0 x1 (ix4 (i 0) (i 1) (i 2) (i 3))) := by
  rw [val_main_v22_apply, val_main_v21_apply, scores_at, val_main_v20_apply, val_main_v19_apply]
  have e : idx_main_v19 (idx_main_v20 i) = (ix4 (i 0) (i 1) (i 2) (i 3) : S4x2x2x2048.Idx) := funext fun a => match a with
    | ⟨0, _⟩ => rfl
    | ⟨1, _⟩ => rfl
    | ⟨2, _⟩ => rfl
    | ⟨3, _⟩ => rfl
  rw [e]
  rfl

/-- The attention's output at an element. -/
theorem out_at (i : S8192x512.Idx) : ∃ j : S4x2x2x2048.Idx, (val_main_v36 (F := Ideal) x0 x1 x2 i : EReal)
    = ∑ κ : Fin 2304, at2 x2 (key ((i 0).val / 2048) κ.val) ((i 1).val / 256 * 256 + (i 1).val % 128)
      * Ideal.div (Ideal.exp (score x0 x1 (i 0).val ((i 1).val / 128) (key ((i 0).val / 2048) κ.val)
          * ((Real.log 2 : ℝ) : EReal) - val_main_v18 (F := Ideal) x0 x1 j))
        (0 + ∑ κ' : Fin 2304, Ideal.exp (score x0 x1 (i 0).val ((i 1).val / 128) (key ((i 0).val / 2048) κ'.val)
          * ((Real.log 2 : ℝ) : EReal) - val_main_v18 (F := Ideal) x0 x1 j)) := by
  have h0 : (i 0).val < 8192 := (i 0).isLt
  have h1 : (i 1).val < 512 := (i 1).isLt
  have e0 : ((i 0).val * 512 + (i 1).val) / 1048576 = (i 0).val / 2048 := by omega
  have e1 : ((i 0).val * 512 + (i 1).val) / 512 % 2048 = (i 0).val % 2048 := by omega
  have e2 : ((i 0).val * 512 + (i 1).val) / 256 % 2 = (i 1).val / 256 := by omega
  have e3 : ((i 0).val * 512 + (i 1).val) / 128 % 2 = (i 1).val / 128 % 2 := by omega
  have e4 : ((i 0).val * 512 + (i 1).val) % 128 = (i 1).val % 128 := by omega
  let j : S4x2x2x2048.Idx := ix4 ⟨(i 0).val / 2048, by omega⟩ ⟨(i 1).val / 256, by omega⟩ ⟨(i 1).val / 128 % 2, by omega⟩
    ⟨(i 0).val % 2048, by omega⟩
  have hexp : ∀ l : S4x2x2x2048x2304.Idx, (l 0).val = (i 0).val / 2048 → (l 1).val = (i 1).val / 256 →
      (l 2).val = (i 1).val / 128 % 2 → (l 3).val = (i 0).val % 2048 → (val_main_v22 (F := Ideal) x0 x1 l : EReal)
      = Ideal.exp (score x0 x1 (i 0).val ((i 1).val / 128) (key ((i 0).val / 2048) (l 4).val)
          * ((Real.log 2 : ℝ) : EReal) - val_main_v18 (F := Ideal) x0 x1 j) := by
    intro l l0 l1 l2 l3
    rw [exps_at]
    have hj : (ix4 (l 0) (l 1) (l 2) (l 3) : S4x2x2x2048.Idx) = j := funext fun a => match a with
      | ⟨0, _⟩ => Fin.ext l0
      | ⟨1, _⟩ => Fin.ext l1
      | ⟨2, _⟩ => Fin.ext l2
      | ⟨3, _⟩ => Fin.ext l3
    rw [hj, l0, l1, l2, l3, show (i 0).val / 2048 * 2048 + (i 0).val % 2048 = (i 0).val by omega,
      show (i 1).val / 256 * 2 + (i 1).val / 128 % 2 = (i 1).val / 128 by omega]
  refine ⟨j, ?_⟩
  rw [val_main_v36_apply]
  show (val_main_v35 (F := Ideal) x0 x1 x2 i : EReal) = _
  rw [val_main_v35_apply, val_main_v34_apply, val_main_v33_apply]
  refine Finset.sum_congr rfl fun κ _ => congrArg₂ (fun a b : EReal => a * b) ?_ ?_
  · rw [vals_at]
    refine congrArg₂ (at2 x2) (congrArg (key · κ.val) e0) (congrArg₂ (fun a b => a * 256 + b) e2 e4)
  · rw [val_main_v27_apply]
    show (val_main_v26 (F := Ideal) x0 x1 _ : EReal) = _
    rw [val_main_v26_apply, val_main_v25_apply, val_main_v24_apply, val_main_v23_apply]
    refine congrArg₂ Ideal.div ((hexp _ e0 e2 e3 e1).trans rfl) (congrArg₂ (fun a b : EReal => a + b) ?_
      (Finset.sum_congr rfl fun κ' _ => (hexp _ e0 e2 e3 e1).trans rfl))
    exact Ideal.ofBits_zero_f32

/-! ## The whole result -/

/-- A slot's rows: the attention's, then those the buffer had. -/
theorem slot_at (i : S9216x512.Idx) : (val_main_v39 (F := Ideal) x0 x1 x2 x3 i : EReal)
    = if h : (i 0).val < 8192 then (val_main_v36 (F := Ideal) x0 x1 x2 (ix2 ⟨(i 0).val, h⟩ (i 1)) : EReal)
      else at3 x3 1 (i 0).val (i 1).val := by
  have h0 : (i 0).val < 9216 := (i 0).isLt
  have h1 : (i 1).val < 512 := (i 1).isLt
  unfold val_main_v39
  split
  next hi => exact join_upper _ _ _ i hi
  next hi =>
    refine (join_lower _ _ _ i (by omega) (by omega)).trans ?_
    rw [val_main_v38_apply, val_main_v37_apply]
    refine at3_of x3 _ rfl ?_ ?_
    · show 8192 + (((i 0).val - 8192) * 512 + (i 1).val) / 512 % 1024 = _; omega
    · show (((i 0).val - 8192) * 512 + (i 1).val) % 512 = _; omega

/-- Two stacks of slots joined, at a slot of the first. -/
theorem stack_left {p q r : Nat} (A : (⟨3, ![p, 9216, 512]⟩ : Shape).Idx → EReal) (B : (⟨3, ![q, 9216, 512]⟩ : Shape).Idx → EReal)
    (h : Shape.Concatenates [(⟨3, ![p, 9216, 512]⟩ : Shape), ⟨3, ![q, 9216, 512]⟩] ⟨3, ![r, 9216, 512]⟩ 0)
    (i : (⟨3, ![r, 9216, 512]⟩ : Shape).Idx) (hi : (i 0).val < p) :
    concatenate ⟨3, ![r, 9216, 512]⟩ 0 [⟨⟨3, ![p, 9216, 512]⟩, A⟩, ⟨⟨3, ![q, 9216, 512]⟩, B⟩] h i
      = A (ix3 ⟨(i 0).val, hi⟩ (i 1) (i 2)) :=
  concatenate_pair_apply_left 0 A B h i rfl (ix3 ⟨(i 0).val, hi⟩ (i 1) (i 2)) fun b => match b with
    | ⟨0, _⟩ => rfl
    | ⟨1, _⟩ => rfl
    | ⟨2, _⟩ => rfl

/-- Two stacks of slots joined, at a slot of the second. -/
theorem stack_right {p q r : Nat} (A : (⟨3, ![p, 9216, 512]⟩ : Shape).Idx → EReal) (B : (⟨3, ![q, 9216, 512]⟩ : Shape).Idx → EReal)
    (h : Shape.Concatenates [(⟨3, ![p, 9216, 512]⟩ : Shape), ⟨3, ![q, 9216, 512]⟩] ⟨3, ![r, 9216, 512]⟩ 0)
    (i : (⟨3, ![r, 9216, 512]⟩ : Shape).Idx) (hi : p ≤ (i 0).val) (hq : (i 0).val - p < q) :
    concatenate ⟨3, ![r, 9216, 512]⟩ 0 [⟨⟨3, ![p, 9216, 512]⟩, A⟩, ⟨⟨3, ![q, 9216, 512]⟩, B⟩] h i
      = B (ix3 ⟨(i 0).val - p, hq⟩ (i 1) (i 2)) :=
  concatenate_pair_apply_right 0 A B h i rfl rfl (ix3 ⟨(i 0).val - p, hq⟩ (i 1) (i 2)) (fun b hb => match b with
    | ⟨0, _⟩ => absurd rfl hb
    | ⟨1, _⟩ => rfl
    | ⟨2, _⟩ => rfl) (by show (i 0).val - p + p = (i 0).val; omega)

/-- The reference's result is the array `G`. -/
theorem ref_eq (hq : ∀ i, ∃ r : ℝ, x0 i = r) (hk : ∀ i, ∃ r : ℝ, x1 i = r)
    (hv : ∀ a h d, a < 9216 → h < 2 → d < 128 → at2 x2 a (h * 256 + (128 + d)) = 1) :
    val_main_v44 (F := Ideal) x0 x1 x2 x3 = G x0 x1 x2 x3 := by
  refine funext fun (i : S4x9216x512.Idx) => ?_
  have h0 : (i 0).val < 4 := (i 0).isLt
  have h1 : (i 1).val < 9216 := (i 1).isLt
  have h2 : (i 2).val < 512 := (i 2).isLt
  have keep : (x3 i : EReal) = at3 x3 (i 0).val (i 1).val (i 2).val := at3_of x3 i rfl rfl rfl
  unfold val_main_v44 G
  by_cases c0 : (i 0).val < 1
  · refine (stack_left _ _ _ i c0).trans ?_
    rw [if_neg (by omega), keep, val_main_v40_apply]
    exact at3_of x3 _ rfl rfl rfl
  · refine (stack_right _ _ _ i (by omega) (by omega)).trans ?_
    unfold val_main_v43
    by_cases c1 : (i 0).val < 2
    · have c : (i 0).val = 1 := by omega
      refine (stack_left _ _ _ _ (by show (i 0).val - 1 < 1; omega)).trans ?_
      rw [val_main_v41_apply]
      refine (slot_at x0 x1 x2 x3 _).trans ?_
      by_cases c2 : (i 1).val < 8192
      · rw [if_pos ⟨c, c2⟩, dif_pos (show (i 1).val < 8192 from c2)]
        obtain ⟨j, hj⟩ := out_at x0 x1 x2 (ix2 ⟨(i 1).val, c2⟩ (i 2))
        refine Eq.trans ?_ (elt_eq x0 x1 x2 hq hk hv (i 1).val (i 2).val c2 h2 _ (top_real x0 x1 hq hk j)).symm
        exact hj
      · rw [if_neg (fun h => c2 h.2), dif_neg (show ¬(i 1).val < 8192 from c2), keep]
        exact congrArg (at3 x3 · (i 1).val (i 2).val) c.symm
    · refine (stack_right _ _ _ _ (by show 1 ≤ (i 0).val - 1; omega) (by show (i 0).val - 1 - 1 < 2; omega)).trans ?_
      rw [if_neg (by omega), keep, val_main_v42_apply]
      exact at3_of x3 _ (by show 2 + ((i 0).val - 1 - 1) = _; omega) rfl rfl

end Cert.Proof.AttnRef

end
-- ==== Proof.AttnPre.lean ====
/-
  Hand-written. What the attention's precondition says of the arrays: every query and key is finite, and every second block of 128
  lanes of the values is ones.
-/
module

public import proofs.«01_k».proof.Proof.AttnMath
public import proofs.«01_k».proof.Pre_finite_and_ones
public import proofs.«01_k».proof.Proof.Gen.Pre_finite_and_ones
public import Idealize.ShloMosaic.Lib.ReduceAll
public import Idealize.ShloMosaic.Lib.Affine

@[expose] public section

set_option maxRecDepth 16384

noncomputable section

namespace Cert.Proof.AttnPre

open Idealize.ShloMosaic Idealize.ShloMosaic.ValueIdx
open Cert.Proof.Common Cert.Proof.AttnMath Cert.Pre_finite_and_ones

/-- An extended real with magnitude below infinity is real. -/
theorem real_of_abs_lt (x : EReal) (h : Ideal.cmp .olt (max x (-x)) (Ideal.ofBits .f32 0x7F800000#32) = 1#1) :
    ∃ r : ℝ, x = r := by
  have e : Ideal.ofBits .f32 0x7F800000#32 = (⊤ : EReal) := by simp [Ideal.ofBits, Ideal.ieee]
  rw [e] at h
  have h' : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  induction x with
  | bot => simp at h'
  | top => simp at h'
  | coe r => exact ⟨r, rfl⟩

/-- An extended real that compares equal to one is one. -/
theorem one_of_eq (x : EReal) (h : Ideal.cmp .oeq x (Ideal.ofBits .f32 0x3F800000#32) = 1#1) : x = 1 := by
  rw [Ideal.ofBits_one_f32] at h
  by_contra hc
  have : Ideal.cmp .oeq x 1 = 0#1 := by
    show BitVec.ofBool (decide (x = 1)) = 0#1
    rw [decide_eq_false hc]; rfl
  rw [this] at h
  exact absurd h (by decide)

instance : Subsingleton S_.Idx := ⟨fun a b => funext fun i => i.elim0⟩

/-- The values' second block of 128 lanes of each head, as the precondition takes it. -/
theorem lane_at [Facts] (v : S9216x512.Idx → EReal) (a : Fin 9216) (b : Fin 2) (d : Fin 128) :
    shapeCast S9216x2x128 (extractStridedSlice S9216x2x1x128 ![0, 0, 1, 0]
      (shapeCast S9216x2x2x128 v Facts.shapeCasts_S9216x512_S9216x2x2x128) Facts.slices_S9216x2x2x128_S9216x2x1x128_0_0_1_0)
      Facts.shapeCasts_S9216x2x1x128_S9216x2x128 (ix3 a b d) = at2 v a.val (b.val * 256 + (128 + d.val)) := by
  have hb : b.val < 2 := b.isLt
  have hd : d.val < 128 := d.isLt
  refine (shapeCast_apply _ Facts.shapeCasts_S9216x2x1x128_S9216x2x128 (ix3 a b d) (ix4 a b 0 d) (by
      rewrite [Shape.rowMajor_val_four, Shape.rowMajor_val_three]
      show ((a.val * 2 + b.val) * 1 + 0) * 128 + d.val = (a.val * 2 + b.val) * 128 + d.val; omega)).trans ?_
  refine (extractStridedSlice_apply _ _ Facts.slices_S9216x2x2x128_S9216x2x1x128_0_0_1_0 (ix4 a b 0 d)
    (ix4 a b 1 d) (fun x => match x with
      | ⟨0, _⟩ => by show a.val = 0 + a.val; omega
      | ⟨1, _⟩ => by show b.val = 0 + b.val; omega
      | ⟨2, _⟩ => rfl
      | ⟨3, _⟩ => by show d.val = 0 + d.val; omega)).trans ?_
  refine (shapeCast_apply v Facts.shapeCasts_S9216x512_S9216x2x2x128 (ix4 a b 1 d)
    (ix2 a ⟨b.val * 256 + (128 + d.val), by omega⟩) (by
      rewrite [Shape.rowMajor_val_four, Shape.rowMajor_val_two]
      show a.val * 512 + (b.val * 256 + (128 + d.val)) = ((a.val * 2 + b.val) * 2 + 1) * 128 + d.val; omega)).trans ?_
  exact at2_of v _ rfl rfl

/-- The precondition, read. -/
theorem pre_facts [Facts] (q : S9216x512.Idx → EReal) (k : S9216x256.Idx → EReal) (v : S9216x512.Idx → EReal)
    (bb : S4x9216x512.Idx → EReal) (h : fn (F := Ideal) q k v bb = fun _ => 1#1) :
    (∀ i, ∃ r : ℝ, q i = r) ∧ (∀ i, ∃ r : ℝ, k i = r)
      ∧ ∀ a h d, a < 9216 → h < 2 → d < 128 → at2 v a (h * 256 + (128 + d)) = 1 := by
  have h0 := congrFun h (fun a => a.elim0)
  unfold fn fn_part1 at h0
  obtain ⟨h1, hv⟩ := IntOp.andi_eq_one.mp h0
  obtain ⟨hq, hk⟩ := IntOp.andi_eq_one.mp h1
  refine ⟨fun i => ?_, fun i => ?_, fun a b d ha hb hd => ?_⟩
  · exact real_of_abs_lt _ (Host.reduce_andi_all _ _ _ _ _ hq i)
  · exact real_of_abs_lt _ (Host.reduce_andi_all _ _ _ _ _ hk i)
  · have e := Host.reduce_andi_all _ _ _ _ _ hv (ix3 ⟨a, ha⟩ ⟨b, hb⟩ ⟨d, hd⟩)
    exact (lane_at v ⟨a, ha⟩ ⟨b, hb⟩ ⟨d, hd⟩).symm.trans (one_of_eq _ e)

end Cert.Proof.AttnPre

end
-- ==== Proof.FfnB.lean ====
/-
  Hand-written. The second feed-forward product with its gated residual: what the kernel's result holds after the run, and that
  it is what the reference's operations compute, element by element: `x + (0.5 · gate) · Σ_k h·wo`.
-/
module

public import proofs.«01_k».proof.Proof.Common
public import proofs.«01_k».proof.Proof.Gen.Kernel2Ideal.Value
public import proofs.«01_k».proof.Proof.Gen.Reference2Ideal.Read

@[expose] public section

set_option maxRecDepth 16384

noncomputable section

namespace Cert.Proof.FfnB

open Idealize.ShloMosaic Idealize.ShloMosaic.ValueIdx Idealize.ShloMosaic.TcCoe Idealize.SL.Sem
open Idealize.ShloMosaic.Pipeline (Dat)
open Cert.Proof.Common Cert.Kernel2Ideal Cert.Kernel2Ideal.Gen
open scoped BigOperators

/-- One half, as the constant's bits spell it. -/
abbrev half : EReal := Ideal.ofBits .f32 0x3F000000#32

/-- The result at an element: the residual plus half the row's gate times the product. Row `a`'s gate is that of its batch
    element `a / 2048` (the context rows' is the fifth). -/
def elt (h : S9216x5632.Idx → EReal) (wo : S5632x2048.Idx → EReal) (x : S9216x2048.Idx → EReal)
    (mods : S8x9x1x2048.Idx → EReal) (a b : Nat) : EReal :=
  at2 x a b + (half * at4 mods (a / 2048) 8 0 b) * ∑ k : Fin 5632, at2 h a k.val * at2 wo k.val b

/-- The result array. -/
def G (h : S9216x5632.Idx → EReal) (wo : S5632x2048.Idx → EReal) (x : S9216x2048.Idx → EReal)
    (mods : S8x9x1x2048.Idx → EReal) : S9216x2048.Idx → EReal := fun i => elt h wo x mods (i 0).val (i 1).val

/-! ## The kernel -/

/-- The block that one grid point leaves, at an element. -/
def blockElt (x0 : S1024x5632.Idx → EReal) (x1 : S5632x512.Idx → EReal) (x2 : S1024x512.Idx → EReal)
    (x3 : S1x1x1x512.Idx → EReal) (y : S1024x512.Idx) : EReal :=
  at2 x2 (y 0).val (y 1).val
    + (half * at4 x3 0 0 0 (y 1).val) * ∑ k : Fin 5632, at2 x0 (y 0).val k.val * at2 x1 k.val (y 1).val

/-- A store's payload at an element, from the loads that it is made of. -/
theorem pay_at (v0 : Vec Ideal S1024x5632 .bf16) (v1 : Vec Ideal S1024x256 .f32) (v2 : Vec Ideal S1x1x1x256 .f32)
    (v6 : Vec Ideal S5632x256 .bf16) (x : S1024x256.Idx) :
    (k0_pay1 (F := Ideal) v0 v1 v2 v6 x : EReal)
      = v1 x + (half * v2 (ix4 0 0 0 (x 1))) * ∑ k : Fin 5632, v0 (ix2 (x 0) k) * v6 (ix2 k (x 1)) := by
  unfold k0_pay1
  show (v1 x : EReal) + broadcastTo (α := EReal) S1024x256 _ broadcasts_S1x256_S1024x256 x
      * matmul (F := Ideal) dot_S1024x5632_S5632x256_S1024x256_1_0_0_1_n_n none v0 v6 _ x = _
  refine congrArg₂ (· + ·) rfl (congrArg₂ (· * ·) ?_
    ((matmul_at dot_S1024x5632_S5632x256_S1024x256_1_0_0_1_n_n rfl none v0 v6 _ x).trans (zero_acc x _)))
  refine (broadcastTo_apply _ broadcasts_S1x256_S1024x256 x (ix2 0 (x 1)) (fun a => match a with
    | ⟨0, _⟩ => rfl
    | ⟨1, _⟩ => rfl)).trans ?_
  exact congrArg (half * ·) (shapeCast_apply v2 shapeCasts_S1x1x1x256_S1x256 (ix2 0 (x 1)) (ix4 0 0 0 (x 1)) (by
      rewrite [Shape.rowMajor_val_four, Shape.rowMajor_val_two]
      show ((0 * 1 + 0) * 1 + 0) * 256 + (x 1).val = 0 * 256 + (x 1).val; omega))

/-- The body's two stores leave `blockElt`. -/
theorem out_eq (x0 : Vec Ideal S1024x5632 .bf16) (x1 : Vec Ideal S5632x512 .bf16) (x2 : Vec Ideal S1024x512 .f32)
    (x3 : Vec Ideal S1x1x1x512 .f32) : out0_4 x0 x1 x2 x3 = blockElt x0 x1 x2 x3 := by
  funext y
  refine View.canon_apply_of_pieces (Val := Elt Ideal) (e := .f32) (blockElt x0 x1 x2 x3) _ ?_ y (cover0_4 _ _ y)
  intro p hp x
  rcases List.mem_cons.mp hp with rfl | hp
  · refine (pay_at (View.ld x0 r0_0) (View.ld x2 r0_4) (View.ld x3 r0_5) (View.ld x1 r0_6) x).trans ?_
    refine congrArg₂ (· + ·) (at2_of x2 _ rfl rfl) (congrArg₂ (· * ·) (congrArg (half * ·) (at4_of x3 _ rfl rfl rfl rfl))
      (Finset.sum_congr rfl fun k _ => congrArg₂ (· * ·) (at2_of x0 _ rfl ?_) (at2_of x1 _ ?_ rfl)))
    · show 0 + 1 * k.val = k.val; omega
    · show 0 + 1 * k.val = k.val; omega
  · obtain rfl := List.mem_singleton.mp hp
    refine (pay_at (View.ld x0 r0_0) (View.ld x2 r0_1) (View.ld x3 r0_2) (View.ld x1 r0_3) x).trans ?_
    refine congrArg₂ (· + ·) (at2_of x2 _ rfl rfl) (congrArg₂ (· * ·) (congrArg (half * ·) (at4_of x3 _ rfl rfl rfl rfl))
      (Finset.sum_congr rfl fun k _ => congrArg₂ (· * ·) (at2_of x0 _ rfl ?_) (at2_of x1 _ ?_ rfl)))
    · show 0 + 1 * k.val = k.val; omega
    · show 0 + 1 * k.val = k.val; omega

/-! The windows' blocks, by position. -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 8 ∧ win0_3.index t 1 = 8 ∧ win0_3.index t 2 = 0
    ∧ win0_3.index t 3 = t.val % 4 :=
  (by decide +kernel : ∀ t : Fin grid0.N, win0_3.index t 0 = t.val / 8 ∧ win0_3.index t 1 = 8 ∧ win0_3.index t 2 = 0
    ∧ win0_3.index t 3 = t.val % 4)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

variable (m : (ℓ : Loc nD τ sig) → Buf (Elt Ideal) ℓ) (ρ : Dev nD → PrngReg)

/-- The launched arguments, as arrays of extended reals. -/
abbrev A0 (c : Dev nD) : S9216x5632.Idx → EReal := m ((c : Thread nD τ).loc main_arg0)
abbrev A1 (c : Dev nD) : S5632x2048.Idx → EReal := m ((c : Thread nD τ).loc main_arg1)
abbrev A2 (c : Dev nD) : S9216x2048.Idx → EReal := m ((c : Thread nD τ).loc main_arg2)
abbrev A3 (c : Dev nD) : S8x9x1x2048.Idx → EReal := m ((c : Thread nD τ).loc main_arg3)

theorem blk0 (c : Dev nD) (t : Fin cfg0.N) (a b : Nat) (ha : a < 1024) (hb : b < 5632) :
    at2 (iblk m c 0 t : S1024x5632.Idx → EReal) a b = at2 (A0 m c) (t.val / 4 * 1024 + a) b := by
  refine (at2_of (iblk m c 0 t : S1024x5632.Idx → EReal) (ix2 ⟨a, ha⟩ ⟨b, hb⟩) rfl rfl).symm.trans ?_
  unfold iblk
  rw [View.read_apply]
  refine at2_of (A0 m c) _ ?_ ?_
  · show win0_0.index t 0 * 1024 + 1 * a = _; rw [(idx0 t).1]; omega
  · show win0_0.index t 1 * 5632 + 1 * b = _; rw [(idx0 t).2]; omega

theorem blk1 (c : Dev nD) (t : Fin cfg0.N) (a b : Nat) (ha : a < 5632) (hb : b < 512) :
    at2 (iblk m c 1 t : S5632x512.Idx → EReal) a b = at2 (A1 m c) a (t.val % 4 * 512 + b) := by
  refine (at2_of (iblk m c 1 t : S5632x512.Idx → EReal) (ix2 ⟨a, ha⟩ ⟨b, hb⟩) rfl rfl).symm.trans ?_
  unfold iblk
  rw [View.read_apply]
  refine at2_of (A1 m c) _ ?_ ?_
  · show win0_1.index t 0 * 5632 + 1 * a = _; rw [(idx1 t).1]; omega
  · show win0_1.index t 1 * 512 + 1 * b = _; rw [(idx1 t).2]; omega

theorem blk2 (c : Dev nD) (t : Fin cfg0.N) (a b : Nat) (ha : a < 1024) (hb : b < 512) :
    at2 (iblk m c 2 t : S1024x512.Idx → EReal) a b = at2 (A2 m c) (t.val / 4 * 1024 + a) (t.val % 4 * 512 + b) := by
  refine (at2_of (iblk m c 2 t : S1024x512.Idx → EReal) (ix2 ⟨a, ha⟩ ⟨b, hb⟩) rfl rfl).symm.trans ?_
  unfold iblk
  rw [View.read_apply]
  refine at2_of (A2 m c) _ ?_ ?_
  · show win0_2.index t 0 * 1024 + 1 * a = _; rw [(idx2 t).1]; omega
  · show win0_2.index t 1 * 512 + 1 * b = _; rw [(idx2 t).2]; omega

theorem blk3 (c : Dev nD) (t : Fin cfg0.N) (b : Nat) (hb : b < 512) :
    at4 (iblk m c 3 t : S1x1x1x512.Idx → EReal) 0 0 0 b = at4 (A3 m c) (t.val / 8) 8 0 (t.val % 4 * 512 + b) := by
  refine (at4_of (iblk m c 3 t : S1x1x1x512.Idx → EReal) (ix4 0 0 0 ⟨b, hb⟩) rfl rfl rfl rfl).symm.trans ?_
  unfold iblk
  rw [View.read_apply]
  refine at4_of (A3 m c) _ ?_ ?_ ?_ ?_
  · show win0_3.index t 0 * 1 + 1 * 0 = _; rw [(idx3 t).1]; omega
  · show win0_3.index t 1 * 1 + 1 * 0 = _; rw [(idx3 t).2.1]
  · show win0_3.index t 2 * 1 + 1 * 0 = _; rw [(idx3 t).2.2.1]
  · show win0_3.index t 3 * 512 + 1 * b = _; rw [(idx3 t).2.2.2]; omega

/-- What one grid point writes back is its block of the result array. -/
theorem flushed_eq (c : Dev nD) (t : Fin cfg0.N) : (dats m 0 c).flushed 4 t
    = ((cfg0.win 4).blk t).view.read (Elt Ideal) (G (A0 m c) (A1 m c) (A2 m c) (A3 m c)) := by
  rw [Cert.Kernel2Ideal.Value.flushed4, out_eq]
  refine funext fun (y : S1024x512.Idx) => ?_
  have h0 : (y 0).val < 1024 := (y 0).isLt
  have h1 : (y 1).val < 512 := (y 1).isLt
  have hr : (((cfg0.win 4).blk t).view.emb y 0).val = t.val / 4 * 1024 + (y 0).val := by
    show win0_4.index t 0 * 1024 + 1 * (y 0).val = _; rw [(idx4 t).1]; omega
  have hc : (((cfg0.win 4).blk t).view.emb y 1).val = t.val % 4 * 512 + (y 1).val := by
    show win0_4.index t 1 * 512 + 1 * (y 1).val = _; rw [(idx4 t).2]; omega
  refine Eq.trans ?_ (congrArg₂ (elt (A0 m c) (A1 m c) (A2 m c) (A3 m c)) hr hc).symm
  show blockElt (iblk m c 0 t) (iblk m c 1 t) (iblk m c 2 t) (iblk m c 3 t) y = _
  unfold blockElt elt
  rw [blk2 m c t _ _ h0 h1, blk3 m c t _ h1, show (t.val / 4 * 1024 + (y 0).val) / 2048 = t.val / 8 by omega]
  refine congrArg (fun z : EReal => _ + _ * z) (Finset.sum_congr rfl fun k _ => ?_)
  rw [blk0 m c t _ _ h0 k.isLt, blk1 m c t _ _ k.isLt h1]

/-- The result array after the run. -/
theorem final (c : Dev nD) : (dats m 0 c).arrAt 4 cfg0.N = G (A0 m c) (A1 m c) (A2 m c) (A3 m c) :=
  (dats m 0 c).arrAt_eq_of_cover 4 (G (A0 m c) (A1 m c) (A2 m c) (A3 m c)) (fun t _ => flushed_eq m c t)
    fun (i : S9216x2048.Idx) => by
      have h0 : (i 0).val < 9216 := (i 0).isLt
      have h1 : (i 1).val < 2048 := (i 1).isLt
      have hN : cfg0.N = 36 := N_0
      refine ⟨⟨(i 0).val / 1024 * 4 + (i 1).val / 512, by omega⟩, flush0_4 _, ?_⟩
      generalize hT : (⟨(i 0).val / 1024 * 4 + (i 1).val / 512, by omega⟩ : Fin cfg0.N) = t
      have ht : t.val = (i 0).val / 1024 * 4 + (i 1).val / 512 := by rw [← hT]
      show i ∈ ((View.whole main_v0).slice (win0_4.rect t)).set
      rw [View.set_slice_whole, Rect.mem_set_unit]
      intro a
      match a with
      | ⟨0, _⟩ =>
        show win0_4.index t 0 * 1024 ≤ (i 0).val ∧ (i 0).val < win0_4.index t 0 * 1024 + 1024
        rw [(idx4 t).1]; omega
      | ⟨1, _⟩ =>
        show win0_4.index t 1 * 512 ≤ (i 1).val ∧ (i 1).val < win0_4.index t 1 * 512 + 512
        rw [(idx4 t).2]; omega

/-- The kernel's run: the result array named, the arguments unchanged. -/
theorem run : θ_run defs (onTc (τ := τ) (main (F := Ideal))) ⟨m, fun _ => 0, ρ⟩ fun r => ∀ c : Dev nD,
      r.2.mem ((c : Thread nD τ).loc main_v0) = G (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.Kernel2Ideal.Value.run_blocks m ρ)

/-! ## The reference -/

open Cert.Reference2Ideal.Read in
/-- The gates, one row per row of the residual stream. -/
theorem gate_at (x3 : S8x9x1x2048.Idx → EReal) (i : S9216x2048.Idx) :
    (val_main_v7 (F := Ideal) x3 i : EReal) = at4 x3 ((i 0).val / 2048) 8 0 (i 1).val := by
  have h0 : (i 0).val < 9216 := (i 0).isLt
  have h1 : (i 1).val < 2048 := (i 1).isLt
  unfold val_main_v7
  by_cases hi : (i 0).val < 8192
  · refine (join_upper _ _ _ i hi).trans ?_
    rw [val_main_v3_apply, val_main_v2_apply, val_main_v1_apply, val_main_v0_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v6_apply, val_main_v5_apply, val_main_v4_apply]
    refine at4_of x3 _ ?_ rfl rfl ?_
    · show 4 + 0 = _; omega
    · show (0 * 2048 + (i 1).val) % 2048 = _; omega

open Cert.Reference2Ideal.Read in
/-- The reference's result is the same array. -/
theorem ref_eq (x0 : S9216x5632.Idx → EReal) (x1 : S5632x2048.Idx → EReal) (x2 : S9216x2048.Idx → EReal)
    (x3 : S8x9x1x2048.Idx → EReal) : val_main_v12 (F := Ideal) x0 x1 x2 x3 = G x0 x1 x2 x3 := by
  refine funext fun (i : S9216x2048.Idx) => ?_
  rw [val_main_v12_apply, val_main_v11_apply, val_main_v9_apply, val_main_v10_apply, gate_at]
  refine congrArg₂ (· + ·) (at2_of x2 i rfl rfl) (congrArg₂ (· * ·) ?_ (Finset.sum_congr rfl fun k _ =>
    congrArg₂ (· * ·) (at2_of x0 _ rfl rfl) (at2_of x1 _ rfl rfl)))
  refine congrArg (fun z : EReal => z * _) ?_
  rw [val_main_v8_apply, val_main_cst_apply]
  rfl

end Cert.Proof.FfnB

end
-- ==== Proof.Merge.lean ====
/-
  Hand-written. The gated merge of the branches: what the kernel's result holds after the run, and that it is what the
  reference's operations compute, element by element: `Σ_n logistic(u·Wg_n + b_n) · (branch_n · Wo_n)` over the four branches.
-/
module

public import proofs.«01_k».proof.Proof.Common
public import proofs.«01_k».proof.Proof.Gen.Kernel3Ideal.Value
public import proofs.«01_k».proof.Proof.Gen.Reference3Ideal.Read
public import Idealize.ShloMosaic.Lib.IdealHost

@[expose] public section

set_option maxRecDepth 16384

noncomputable section

namespace Cert.Proof.Merge

open Idealize.ShloMosaic Idealize.ShloMosaic.ValueIdx Idealize.ShloMosaic.TcCoe Idealize.SL.Sem
open Idealize.ShloMosaic.Pipeline (Dat)
open Cert.Proof.Common Cert.Kernel3Ideal Cert.Kernel3Ideal.Gen
open scoped BigOperators

/-- One branch's part of the result at an element: its gate times its product with the output weights. -/
def term (u : S9216x2048.Idx → EReal) (wg : S4x2048x8192.Idx → EReal) (b : S8192.Idx → EReal)
    (bb : S4x9216x512.Idx → EReal) (wo : S4x4x512x2048.Idx → EReal) (n r s : Nat) : EReal :=
  Ideal.logistic ((∑ k : Fin 2048, at2 u r k.val * at3 wg 0 k.val (n * 2048 + s)) + at1 b (n * 2048 + s))
    * ∑ k : Fin 512, at3 bb n r k.val * at4 wo 0 n k.val s

/-- The result at an element: the four branches' parts, added from the left. -/
def elt (u : S9216x2048.Idx → EReal) (wg : S4x2048x8192.Idx → EReal) (b : S8192.Idx → EReal)
    (bb : S4x9216x512.Idx → EReal) (wo : S4x4x512x2048.Idx → EReal) (r s : Nat) : EReal :=
  term u wg b bb wo 0 r s + term u wg b bb wo 1 r s + term u wg b bb wo 2 r s + term u wg b bb wo 3 r s

/-- The result array. -/
def G (u : S9216x2048.Idx → EReal) (wg : S4x2048x8192.Idx → EReal) (b : S8192.Idx → EReal)
    (bb : S4x9216x512.Idx → EReal) (wo : S4x4x512x2048.Idx → EReal) : S9216x2048.Idx → EReal :=
  fun i => elt u wg b bb wo (i 0).val (i 1).val

/-! ## The kernel -/

/-- One branch's part of the block that one grid point leaves, at an element. -/
def part (u : S1024x2048.Idx → EReal) (wg : S1x2048x256.Idx → EReal) (b : S1x256.Idx → EReal)
    (bb : S1x1024x512.Idx → EReal) (wo : S1x1x512x256.Idx → EReal) (r s : Nat) : EReal :=
  Ideal.logistic ((∑ k : Fin 2048, at2 u r k.val * at3 wg 0 k.val s) + at2 b 0 s)
    * ∑ k : Fin 512, at3 bb 0 r k.val * at4 wo 0 0 k.val s

/-- A branch's gate, as the body computes it, at an element. -/
theorem gate_at (u : Vec Ideal S1024x2048 .bf16) (wg : Vec Ideal S1x2048x256 .f32) (b : Vec Ideal S1x256 .f32)
    (x : S1024x256.Idx) : (k0_pay3 (F := Ideal) u wg b x : EReal)
      = Ideal.logistic ((∑ k : Fin 2048, at2 u (x 0).val k.val * at3 wg 0 k.val (x 1).val) + at2 b 0 (x 1).val) := by
  unfold k0_pay3
  show Ideal.logistic (matmul (F := Ideal) (φ₂ := .bf16) dot_S1024x2048_S2048x256_S1024x256_1_0_0_1_n_n none u _ _ x
    + broadcastTo (α := EReal) S1024x256 _ broadcasts_S1x256_S1024x256 x) = _
  refine congrArg Ideal.logistic (congrArg₂ (· + ·)
    (((matmul_at dot_S1024x2048_S2048x256_S1024x256_1_0_0_1_n_n rfl none u _ _ x).trans (zero_acc x _)).trans
      (Finset.sum_congr rfl fun k _ => congrArg₂ (· * ·) (at2_of u _ rfl rfl) ?_)) ?_)
  · refine (shapeCast_apply wg shapeCasts_S1x2048x256_S2048x256 (ix2 k (x 1)) (ix3 0 k (x 1)) (by
      rewrite [Shape.rowMajor_val_three, Shape.rowMajor_val_two]
      show (0 * 2048 + k.val) * 256 + (x 1).val = k.val * 256 + (x 1).val; omega)).trans ?_
    exact at3_of wg _ rfl rfl rfl
  · refine (broadcastTo_apply _ broadcasts_S1x256_S1024x256 x (ix2 0 (x 1)) (fun a => match a with
      | ⟨0, _⟩ => rfl
      | ⟨1, _⟩ => rfl)).trans ?_
    refine (shapeCast_apply b shapeCasts_S1x256_S1x256 (ix2 0 (x 1)) (ix2 0 (x 1)) rfl).trans ?_
    exact at2_of b _ rfl rfl

/-- A branch's product with its output weights, as the body computes it. -/
def prod (bb : Vec Ideal S1x1024x512 .bf16) (wo : Vec Ideal S1x1x512x256 .f32) : FVec Ideal S1024x256 .f32 :=
  matmul (F := Ideal) (φ₁ := .bf16) (φ₂ := .bf16) dot_S1024x512_S512x256_S1024x256_1_0_0_1_n_n none
    (shapeCast S1024x512 bb shapeCasts_S1x1024x512_S1024x512)
    (truncf .bf16 (shapeCast S512x256 wo shapeCasts_S1x1x512x256_S512x256 : FVec Ideal S512x256 .f32) bitsLt_bf16_f32)
    (constant S1024x256 .f32 0x00000000#32)

/-- That product at an element. -/
theorem prod_at (bb : Vec Ideal S1x1024x512 .bf16) (wo : Vec Ideal S1x1x512x256 .f32) (x : S1024x256.Idx) :
    (prod bb wo x : EReal) = ∑ k : Fin 512, at3 bb 0 (x 0).val k.val * at4 wo 0 0 k.val (x 1).val := by
  unfold prod
  refine ((matmul_at dot_S1024x512_S512x256_S1024x256_1_0_0_1_n_n rfl none _ _ _ x).trans (zero_acc x _)).trans
    (Finset.sum_congr rfl fun k _ => congrArg₂ (· * ·) ?_ ?_)
  · refine (shapeCast_apply bb shapeCasts_S1x1024x512_S1024x512 (ix2 (x 0) k) (ix3 0 (x 0) k) (by
      rewrite [Shape.rowMajor_val_three, Shape.rowMajor_val_two]
      show (0 * 1024 + (x 0).val) * 512 + k.val = (x 0).val * 512 + k.val; omega)).trans ?_
    exact at3_of bb _ rfl rfl rfl
  · refine (shapeCast_apply wo shapeCasts_S1x1x512x256_S512x256 (ix2 k (x 1)) (ix4 0 0 k (x 1)) (by
      rewrite [Shape.rowMajor_val_four, Shape.rowMajor_val_two]
      show ((0 * 1 + 0) * 512 + k.val) * 256 + (x 1).val = k.val * 256 + (x 1).val; omega)).trans ?_
    exact at4_of wo _ rfl rfl rfl rfl

/-- A gate times its product is the branch's part. -/
theorem part_at (u : Vec Ideal S1024x2048 .bf16) (wg : Vec Ideal S1x2048x256 .f32) (b : Vec Ideal S1x256 .f32)
    (bb : Vec Ideal S1x1024x512 .bf16) (wo : Vec Ideal S1x1x512x256 .f32) (x : S1024x256.Idx) :
    (k0_pay3 (F := Ideal) u wg b x : EReal) * prod bb wo x = part u wg b bb wo (x 0).val (x 1).val := by
  rw [gate_at, prod_at, part]

/-- The body's one store leaves the four parts' sum. -/
theorem out_eq (x0 : Vec Ideal S1024x2048 .bf16) (x1 x2 x3 x4 : Vec Ideal S1x2048x256 .f32)
    (x5 x6 x7 x8 : Vec Ideal S1x256 .f32) (x9 x10 x11 x12 : Vec Ideal S1x1024x512 .bf16)
    (x13 x14 x15 x16 : Vec Ideal S1x1x512x256 .f32) (x : S1024x256.Idx) :
    (out0_17 x0 x1 x2 x3 x4 x5 x6 x7 x8 x9 x10 x11 x12 x13 x14 x15 x16 x : EReal)
      = part x0 x1 x5 x9 x13 (x 0).val (x 1).val + part x0 x2 x6 x10 x14 (x 0).val (x 1).val
        + part x0 x3 x7 x11 x15 (x 0).val (x 1).val + part x0 x4 x8 x12 x16 (x 0).val (x 1).val := by
  unfold out0_17
  rw [View.canon_unit_zero hz2]
  simp only [View.ld_unit_zero (S := S1024x2048) hz2, View.ld_unit_zero (S := S1x2048x256) hz3,
    View.ld_unit_zero (S := S1x256) hz2, View.ld_unit_zero (S := S1x1024x512) hz3,
    View.ld_unit_zero (S := S1x1x512x256) hz4]
  rw [← part_at x0 x1 x5 x9 x13 x, ← part_at x0 x2 x6 x10 x14 x, ← part_at x0 x3 x7 x11 x15 x,
    ← part_at x0 x4 x8 x12 x16 x]
  unfold k0_pay1 k0_pay5 k0_pay2 k0_pay4 k0_pay6 k0_pay7 k0_pay3 prod
  rfl

/-! The windows' blocks, by position. -/

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = 0 ∧ win0_1.index t 2 = 0 * 8 + t.val % 8 :=
  (by decide +kernel : ∀ t : Fin grid0.N, win0_1.index t 0 = 0 ∧ win0_1.index t 1 = 0 ∧ win0_1.index t 2 = 0 * 8 + t.val % 8)
theorem idx2 : ∀ t : Fin cfg0.N, win0_2.index t 0 = 0 ∧ win0_2.index t 1 = 0 ∧ win0_2.index t 2 = 1 * 8 + t.val % 8 :=
  (by decide +kernel : ∀ t : Fin grid0.N, win0_2.index t 0 = 0 ∧ win0_2.index t 1 = 0 ∧ win0_2.index t 2 = 1 * 8 + t.val % 8)
theorem idx3 : ∀ t : Fin cfg0.N, win0_3.index t 0 = 0 ∧ win0_3.index t 1 = 0 ∧ win0_3.index t 2 = 2 * 8 + t.val % 8 :=
  (by decide +kernel : ∀ t : Fin grid0.N, win0_3.index t 0 = 0 ∧ win0_3.index t 1 = 0 ∧ win0_3.index t 2 = 2 * 8 + t.val % 8)
theorem idx4 : ∀ t : Fin cfg0.N, win0_4.index t 0 = 0 ∧ win0_4.index t 1 = 0 ∧ win0_4.index t 2 = 3 * 8 + t.val % 8 :=
  (by decide +kernel : ∀ t : Fin grid0.N, win0_4.index t 0 = 0 ∧ win0_4.index t 1 = 0 ∧ win0_4.index t 2 = 3 * 8 + t.val % 8)
theorem idx5 : ∀ t : Fin cfg0.N, win0_5.index t 0 = 0 ∧ win0_5.index t 1 = 0 * 8 + t.val % 8 :=
  (by decide +kernel : ∀ t : Fin grid0.N, win0_5.index t 0 = 0 ∧ win0_5.index t 1 = 0 * 8 + t.val % 8)
theorem idx6 : ∀ t : Fin cfg0.N, win0_6.index t 0 = 0 ∧ win0_6.index t 1 = 1 * 8 + t.val % 8 :=
  (by decide +kernel : ∀ t : Fin grid0.N, win0_6.index t 0 = 0 ∧ win0_6.index t 1 = 1 * 8 + t.val % 8)
theorem idx7 : ∀ t : Fin cfg0.N, win0_7.index t 0 = 0 ∧ win0_7.index t 1 = 2 * 8 + t.val % 8 :=
  (by decide +kernel : ∀ t : Fin grid0.N, win0_7.index t 0 = 0 ∧ win0_7.index t 1 = 2 * 8 + t.val % 8)
theorem idx8 : ∀ t : Fin cfg0.N, win0_8.index t 0 = 0 ∧ win0_8.index t 1 = 3 * 8 + t.val % 8 :=
  (by decide +kernel : ∀ t : Fin grid0.N, win0_8.index t 0 = 0 ∧ win0_8.index t 1 = 3 * 8 + t.val % 8)
theorem idx9 : ∀ t : Fin cfg0.N, win0_9.index t 0 = 0 ∧ win0_9.index t 1 = t.val / 8 ∧ win0_9.index t 2 = 0 :=
  (by decide +kernel : ∀ t : Fin grid0.N, win0_9.index t 0 = 0 ∧ win0_9.index t 1 = t.val / 8 ∧ win0_9.index t 2 = 0)
theorem idx10 : ∀ t : Fin cfg0.N, win0_10.index t 0 = 1 ∧ win0_10.index t 1 = t.val / 8 ∧ win0_10.index t 2 = 0 :=
  (by decide +kernel : ∀ t : Fin grid0.N, win0_10.index t 0 = 1 ∧ win0_10.index t 1 = t.val / 8 ∧ win0_10.index t 2 = 0)
theorem idx11 : ∀ t : Fin cfg0.N, win0_11.index t 0 = 2 ∧ win0_11.index t 1 = t.val / 8 ∧ win0_11.index t 2 = 0 :=
  (by decide +kernel : ∀ t : Fin grid0.N, win0_11.index t 0 = 2 ∧ win0_11.index t 1 = t.val / 8 ∧ win0_11.index t 2 = 0)
theorem idx12 : ∀ t : Fin cfg0.N, win0_12.index t 0 = 3 ∧ win0_12.index t 1 = t.val / 8 ∧ win0_12.index t 2 = 0 :=
  (by decide +kernel : ∀ t : Fin grid0.N, win0_12.index t 0 = 3 ∧ win0_12.index t 1 = t.val / 8 ∧ win0_12.index t 2 = 0)
theorem idx13 : ∀ t : Fin cfg0.N, win0_13.index t 0 = 0 ∧ win0_13.index t 1 = 0 ∧ win0_13.index t 2 = 0 ∧ win0_13.index t 3 = t.val % 8 :=
  (by decide +kernel : ∀ t : Fin grid0.N, win0_13.index t 0 = 0 ∧ win0_13.index t 1 = 0 ∧ win0_13.index t 2 = 0 ∧ win0_13.index t 3 = t.val % 8)
theorem idx14 : ∀ t : Fin cfg0.N, win0_14.index t 0 = 0 ∧ win0_14.index t 1 = 1 ∧ win0_14.index t 2 = 0 ∧ win0_14.index t 3 = t.val % 8 :=
  (by decide +kernel : ∀ t : Fin grid0.N, win0_14.index t 0 = 0 ∧ win0_14.index t 1 = 1 ∧ win0_14.index t 2 = 0 ∧ win0_14.index t 3 = t.val % 8)
theorem idx15 : ∀ t : Fin cfg0.N, win0_15.index t 0 = 0 ∧ win0_15.index t 1 = 2 ∧ win0_15.index t 2 = 0 ∧ win0_15.index t 3 = t.val % 8 :=
  (by decide +kernel : ∀ t : Fin grid0.N, win0_15.index t 0 = 0 ∧ win0_15.index t 1 = 2 ∧ win0_15.index t 2 = 0 ∧ win0_15.index t 3 = t.val % 8)
theorem idx16 : ∀ t : Fin cfg0.N, win0_16.index t 0 = 0 ∧ win0_16.index t 1 = 3 ∧ win0_16.index t 2 = 0 ∧ win0_16.index t 3 = t.val % 8 :=
  (by decide +kernel : ∀ t : Fin grid0.N, win0_16.index t 0 = 0 ∧ win0_16.index t 1 = 3 ∧ win0_16.index t 2 = 0 ∧ win0_16.index t 3 = t.val % 8)
theorem idx17 : ∀ t : Fin cfg0.N, win0_17.index t 0 = t.val / 8 ∧ win0_17.index t 1 = t.val % 8 :=
  (by decide +kernel : ∀ t : Fin grid0.N, win0_17.index t 0 = t.val / 8 ∧ win0_17.index t 1 = t.val % 8)

variable (m : (ℓ : Loc nD τ sig) → Buf (Elt Ideal) ℓ) (ρ : Dev nD → PrngReg)

/-- The launched arguments, as arrays of extended reals. -/
abbrev A0 (c : Dev nD) : S9216x2048.Idx → EReal := m ((c : Thread nD τ).loc main_arg0)
abbrev A1 (c : Dev nD) : S4x2048x8192.Idx → EReal := m ((c : Thread nD τ).loc main_arg1)
abbrev A2 (c : Dev nD) : S8192.Idx → EReal := m ((c : Thread nD τ).loc main_arg2)
abbrev A3 (c : Dev nD) : S4x9216x512.Idx → EReal := m ((c : Thread nD τ).loc main_arg3)
abbrev A4 (c : Dev nD) : S4x4x512x2048.Idx → EReal := m ((c : Thread nD τ).loc main_arg4)

/-- The bias as the launch finds it: one row. -/
theorem bias_eq (c : Dev nD) : (V m c main_v0 : S1x8192.Idx → EReal)
    = shapeCast S1x8192 (A2 m c) shapeCasts_S8192_S1x8192 := by
  show StableHlo.after hostOps0 (fun b => m (c, b)) _ = _
  unfold hostOps0
  rfl

/-- That row at an element. -/
theorem bias_at (c : Dev nD) (i : S1x8192.Idx) : (V m c main_v0 : S1x8192.Idx → EReal) i = at1 (A2 m c) (i 1).val := by
  have h0 : (i 0).val < 1 := (i 0).isLt
  rw [bias_eq]
  refine (shapeCast_apply (A2 m c) shapeCasts_S8192_S1x8192 i (ix1 (i 1)) (by
    rewrite [Shape.rowMajor_val_two, Shape.rowMajor_val_one]
    show (i 1).val = (i 0).val * 8192 + (i 1).val; omega)).trans ?_
  exact at1_of (A2 m c) _ rfl

theorem blk0 (c : Dev nD) (t : Fin cfg0.N) (a b : Nat) (ha : a < 1024) (hb : b < 2048) :
    at2 (iblk m c 0 t : S1024x2048.Idx → EReal) a b = at2 (A0 m c) (t.val / 8 * 1024 + a) b := by
  refine (at2_of (iblk m c 0 t : S1024x2048.Idx → EReal) (ix2 ⟨a, ha⟩ ⟨b, hb⟩) rfl rfl).symm.trans ?_
  unfold iblk
  rw [View.read_apply]
  refine (congrFun (V_main_arg0 m c) _).trans (at2_of (A0 m c) _ ?_ ?_)
  · show win0_0.index t 0 * 1024 + 1 * a = _; rw [(idx0 t).1]; omega
  · show win0_0.index t 1 * 2048 + 1 * b = _; rw [(idx0 t).2]; omega

theorem blk1 (c : Dev nD) (t : Fin cfg0.N) (a b : Nat) (ha : a < 2048) (hb : b < 256) :
    at3 (iblk m c 1 t : S1x2048x256.Idx → EReal) 0 a b = at3 (A1 m c) 0 a (0 * 2048 + (t.val % 8 * 256 + b)) := by
  refine (at3_of (iblk m c 1 t : S1x2048x256.Idx → EReal) (ix3 0 ⟨a, ha⟩ ⟨b, hb⟩) rfl rfl rfl).symm.trans ?_
  unfold iblk
  rw [View.read_apply]
  refine (congrFun (V_main_arg1 m c) _).trans (at3_of (A1 m c) _ ?_ ?_ ?_)
  · show win0_1.index t 0 * 1 + 1 * 0 = _; rw [(idx1 t).1]
  · show win0_1.index t 1 * 2048 + 1 * a = _; rw [(idx1 t).2.1]; omega
  · show win0_1.index t 2 * 256 + 1 * b = _; rw [(idx1 t).2.2]; omega

theorem blk2 (c : Dev nD) (t : Fin cfg0.N) (a b : Nat) (ha : a < 2048) (hb : b < 256) :
    at3 (iblk m c 2 t : S1x2048x256.Idx → EReal) 0 a b = at3 (A1 m c) 0 a (1 * 2048 + (t.val % 8 * 256 + b)) := by
  refine (at3_of (iblk m c 2 t : S1x2048x256.Idx → EReal) (ix3 0 ⟨a, ha⟩ ⟨b, hb⟩) rfl rfl rfl).symm.trans ?_
  unfold iblk
  rw [View.read_apply]
  refine (congrFun (V_main_arg1 m c) _).trans (at3_of (A1 m c) _ ?_ ?_ ?_)
  · show win0_2.index t 0 * 1 + 1 * 0 = _; rw [(idx2 t).1]
  · show win0_2.index t 1 * 2048 + 1 * a = _; rw [(idx2 t).2.1]; omega
  · show win0_2.index t 2 * 256 + 1 * b = _; rw [(idx2 t).2.2]; omega

theorem blk3 (c : Dev nD) (t : Fin cfg0.N) (a b : Nat) (ha : a < 2048) (hb : b < 256) :
    at3 (iblk m c 3 t : S1x2048x256.Idx → EReal) 0 a b = at3 (A1 m c) 0 a (2 * 2048 + (t.val % 8 * 256 + b)) := by
  refine (at3_of (iblk m c 3 t : S1x2048x256.Idx → EReal) (ix3 0 ⟨a, ha⟩ ⟨b, hb⟩) rfl rfl rfl).symm.trans ?_
  unfold iblk
  rw [View.read_apply]
  refine (congrFun (V_main_arg1 m c) _).trans (at3_of (A1 m c) _ ?_ ?_ ?_)
  · show win0_3.index t 0 * 1 + 1 * 0 = _; rw [(idx3 t).1]
  · show win0_3.index t 1 * 2048 + 1 * a = _; rw [(idx3 t).2.1]; omega
  · show win0_3.index t 2 * 256 + 1 * b = _; rw [(idx3 t).2.2]; omega

theorem blk4 (c : Dev nD) (t : Fin cfg0.N) (a b : Nat) (ha : a < 2048) (hb : b < 256) :
    at3 (iblk m c 4 t : S1x2048x256.Idx → EReal) 0 a b = at3 (A1 m c) 0 a (3 * 2048 + (t.val % 8 * 256 + b)) := by
  refine (at3_of (iblk m c 4 t : S1x2048x256.Idx → EReal) (ix3 0 ⟨a, ha⟩ ⟨b, hb⟩) rfl rfl rfl).symm.trans ?_
  unfold iblk
  rw [View.read_apply]
  refine (congrFun (V_main_arg1 m c) _).trans (at3_of (A1 m c) _ ?_ ?_ ?_)
  · show win0_4.index t 0 * 1 + 1 * 0 = _; rw [(idx4 t).1]
  · show win0_4.index t 1 * 2048 + 1 * a = _; rw [(idx4 t).2.1]; omega
  · show win0_4.index t 2 * 256 + 1 * b = _; rw [(idx4 t).2.2]; omega

theorem blk5 (c : Dev nD) (t : Fin cfg0.N) (b : Nat) (hb : b < 256) :
    at2 (iblk m c 5 t : S1x256.Idx → EReal) 0 b = at1 (A2 m c) (0 * 2048 + (t.val % 8 * 256 + b)) := by
  refine (at2_of (iblk m c 5 t : S1x256.Idx → EReal) (ix2 0 ⟨b, hb⟩) rfl rfl).symm.trans ?_
  unfold iblk
  rw [View.read_apply]
  refine (bias_at m c _).trans (congrArg (at1 (A2 m c)) ?_)
  show win0_5.index t 1 * 256 + 1 * b = _; rw [(idx5 t).2]; omega

theorem blk6 (c : Dev nD) (t : Fin cfg0.N) (b : Nat) (hb : b < 256) :
    at2 (iblk m c 6 t : S1x256.Idx → EReal) 0 b = at1 (A2 m c) (1 * 2048 + (t.val % 8 * 256 + b)) := by
  refine (at2_of (iblk m c 6 t : S1x256.Idx → EReal) (ix2 0 ⟨b, hb⟩) rfl rfl).symm.trans ?_
  unfold iblk
  rw [View.read_apply]
  refine (bias_at m c _).trans (congrArg (at1 (A2 m c)) ?_)
  show win0_6.index t 1 * 256 + 1 * b = _; rw [(idx6 t).2]; omega

theorem blk7 (c : Dev nD) (t : Fin cfg0.N) (b : Nat) (hb : b < 256) :
    at2 (iblk m c 7 t : S1x256.Idx → EReal) 0 b = at1 (A2 m c) (2 * 2048 + (t.val % 8 * 256 + b)) := by
  refine (at2_of (iblk m c 7 t : S1x256.Idx → EReal) (ix2 0 ⟨b, hb⟩) rfl rfl).symm.trans ?_
  unfold iblk
  rw [View.read_apply]
  refine (bias_at m c _).trans (congrArg (at1 (A2 m c)) ?_)
  show win0_7.index t 1 * 256 + 1 * b = _; rw [(idx7 t).2]; omega

theorem blk8 (c : Dev nD) (t : Fin cfg0.N) (b : Nat) (hb : b < 256) :
    at2 (iblk m c 8 t : S1x256.Idx → EReal) 0 b = at1 (A2 m c) (3 * 2048 + (t.val % 8 * 256 + b)) := by
  refine (at2_of (iblk m c 8 t : S1x256.Idx → EReal) (ix2 0 ⟨b, hb⟩) rfl rfl).symm.trans ?_
  unfold iblk
  rw [View.read_apply]
  refine (bias_at m c _).trans (congrArg (at1 (A2 m c)) ?_)
  show win0_8.index t 1 * 256 + 1 * b = _; rw [(idx8 t).2]; omega

theorem blk9 (c : Dev nD) (t : Fin cfg0.N) (a b : Nat) (ha : a < 1024) (hb : b < 512) :
    at3 (iblk m c 9 t : S1x1024x512.Idx → EReal) 0 a b = at3 (A3 m c) 0 (t.val / 8 * 1024 + a) b := by
  refine (at3_of (iblk m c 9 t : S1x1024x512.Idx → EReal) (ix3 0 ⟨a, ha⟩ ⟨b, hb⟩) rfl rfl rfl).symm.trans ?_
  unfold iblk
  rw [View.read_apply]
  refine (congrFun (V_main_arg3 m c) _).trans (at3_of (A3 m c) _ ?_ ?_ ?_)
  · show win0_9.index t 0 * 1 + 1 * 0 = _; rw [(idx9 t).1]
  · show win0_9.index t 1 * 1024 + 1 * a = _; rw [(idx9 t).2.1]; omega
  · show win0_9.index t 2 * 512 + 1 * b = _; rw [(idx9 t).2.2]; omega

theorem blk10 (c : Dev nD) (t : Fin cfg0.N) (a b : Nat) (ha : a < 1024) (hb : b < 512) :
    at3 (iblk m c 10 t : S1x1024x512.Idx → EReal) 0 a b = at3 (A3 m c) 1 (t.val / 8 * 1024 + a) b := by
  refine (at3_of (iblk m c 10 t : S1x1024x512.Idx → EReal) (ix3 0 ⟨a, ha⟩ ⟨b, hb⟩) rfl rfl rfl).symm.trans ?_
  unfold iblk
  rw [View.read_apply]
  refine (congrFun (V_main_arg3 m c) _).trans (at3_of (A3 m c) _ ?_ ?_ ?_)
  · show win0_10.index t 0 * 1 + 1 * 0 = _; rw [(idx10 t).1]
  · show win0_10.index t 1 * 1024 + 1 * a = _; rw [(idx10 t).2.1]; omega
  · show win0_10.index t 2 * 512 + 1 * b = _; rw [(idx10 t).2.2]; omega

theorem blk11 (c : Dev nD) (t : Fin cfg0.N) (a b : Nat) (ha : a < 1024) (hb : b < 512) :
    at3 (iblk m c 11 t : S1x1024x512.Idx → EReal) 0 a b = at3 (A3 m c) 2 (t.val / 8 * 1024 + a) b := by
  refine (at3_of (iblk m c 11 t : S1x1024x512.Idx → EReal) (ix3 0 ⟨a, ha⟩ ⟨b, hb⟩) rfl rfl rfl).symm.trans ?_
  unfold iblk
  rw [View.read_apply]
  refine (congrFun (V_main_arg3 m c) _).trans (at3_of (A3 m c) _ ?_ ?_ ?_)
  · show win0_11.index t 0 * 1 + 1 * 0 = _; rw [(idx11 t).1]
  · show win0_11.index t 1 * 1024 + 1 * a = _; rw [(idx11 t).2.1]; omega
  · show win0_11.index t 2 * 512 + 1 * b = _; rw [(idx11 t).2.2]; omega

theorem blk12 (c : Dev nD) (t : Fin cfg0.N) (a b : Nat) (ha : a < 1024) (hb : b < 512) :
    at3 (iblk m c 12 t : S1x1024x512.Idx → EReal) 0 a b = at3 (A3 m c) 3 (t.val / 8 * 1024 + a) b := by
  refine (at3_of (iblk m c 12 t : S1x1024x512.Idx → EReal) (ix3 0 ⟨a, ha⟩ ⟨b, hb⟩) rfl rfl rfl).symm.trans ?_
  unfold iblk
  rw [View.read_apply]
  refine (congrFun (V_main_arg3 m c) _).trans (at3_of (A3 m c) _ ?_ ?_ ?_)
  · show win0_12.index t 0 * 1 + 1 * 0 = _; rw [(idx12 t).1]
  · show win0_12.index t 1 * 1024 + 1 * a = _; rw [(idx12 t).2.1]; omega
  · show win0_12.index t 2 * 512 + 1 * b = _; rw [(idx12 t).2.2]; omega

theorem blk13 (c : Dev nD) (t : Fin cfg0.N) (a b : Nat) (ha : a < 512) (hb : b < 256) :
    at4 (iblk m c 13 t : S1x1x512x256.Idx → EReal) 0 0 a b = at4 (A4 m c) 0 0 a (t.val % 8 * 256 + b) := by
  refine (at4_of (iblk m c 13 t : S1x1x512x256.Idx → EReal) (ix4 0 0 ⟨a, ha⟩ ⟨b, hb⟩) rfl rfl rfl rfl).symm.trans ?_
  unfold iblk
  rw [View.read_apply]
  refine (congrFun (V_main_arg4 m c) _).trans (at4_of (A4 m c) _ ?_ ?_ ?_ ?_)
  · show win0_13.index t 0 * 1 + 1 * 0 = _; rw [(idx13 t).1]
  · show win0_13.index t 1 * 1 + 1 * 0 = _; rw [(idx13 t).2.1]
  · show win0_13.index t 2 * 512 + 1 * a = _; rw [(idx13 t).2.2.1]; omega
  · show win0_13.index t 3 * 256 + 1 * b = _; rw [(idx13 t).2.2.2]; omega

theorem blk14 (c : Dev nD) (t : Fin cfg0.N) (a b : Nat) (ha : a < 512) (hb : b < 256) :
    at4 (iblk m c 14 t : S1x1x512x256.Idx → EReal) 0 0 a b = at4 (A4 m c) 0 1 a (t.val % 8 * 256 + b) := by
  refine (at4_of (iblk m c 14 t : S1x1x512x256.Idx → EReal) (ix4 0 0 ⟨a, ha⟩ ⟨b, hb⟩) rfl rfl rfl rfl).symm.trans ?_
  unfold iblk
  rw [View.read_apply]
  refine (congrFun (V_main_arg4 m c) _).trans (at4_of (A4 m c) _ ?_ ?_ ?_ ?_)
  · show win0_14.index t 0 * 1 + 1 * 0 = _; rw [(idx14 t).1]
  · show win0_14.index t 1 * 1 + 1 * 0 = _; rw [(idx14 t).2.1]
  · show win0_14.index t 2 * 512 + 1 * a = _; rw [(idx14 t).2.2.1]; omega
  · show win0_14.index t 3 * 256 + 1 * b = _; rw [(idx14 t).2.2.2]; omega

theorem blk15 (c : Dev nD) (t : Fin cfg0.N) (a b : Nat) (ha : a < 512) (hb : b < 256) :
    at4 (iblk m c 15 t : S1x1x512x256.Idx → EReal) 0 0 a b = at4 (A4 m c) 0 2 a (t.val % 8 * 256 + b) := by
  refine (at4_of (iblk m c 15 t : S1x1x512x256.Idx → EReal) (ix4 0 0 ⟨a, ha⟩ ⟨b, hb⟩) rfl rfl rfl rfl).symm.trans ?_
  unfold iblk
  rw [View.read_apply]
  refine (congrFun (V_main_arg4 m c) _).trans (at4_of (A4 m c) _ ?_ ?_ ?_ ?_)
  · show win0_15.index t 0 * 1 + 1 * 0 = _; rw [(idx15 t).1]
  · show win0_15.index t 1 * 1 + 1 * 0 = _; rw [(idx15 t).2.1]
  · show win0_15.index t 2 * 512 + 1 * a = _; rw [(idx15 t).2.2.1]; omega
  · show win0_15.index t 3 * 256 + 1 * b = _; rw [(idx15 t).2.2.2]; omega

theorem blk16 (c : Dev nD) (t : Fin cfg0.N) (a b : Nat) (ha : a < 512) (hb : b < 256) :
    at4 (iblk m c 16 t : S1x1x512x256.Idx → EReal) 0 0 a b = at4 (A4 m c) 0 3 a (t.val % 8 * 256 + b) := by
  refine (at4_of (iblk m c 16 t : S1x1x512x256.Idx → EReal) (ix4 0 0 ⟨a, ha⟩ ⟨b, hb⟩) rfl rfl rfl rfl).symm.trans ?_
  unfold iblk
  rw [View.read_apply]
  refine (congrFun (V_main_arg4 m c) _).trans (at4_of (A4 m c) _ ?_ ?_ ?_ ?_)
  · show win0_16.index t 0 * 1 + 1 * 0 = _; rw [(idx16 t).1]
  · show win0_16.index t 1 * 1 + 1 * 0 = _; rw [(idx16 t).2.1]
  · show win0_16.index t 2 * 512 + 1 * a = _; rw [(idx16 t).2.2.1]; omega
  · show win0_16.index t 3 * 256 + 1 * b = _; rw [(idx16 t).2.2.2]; omega

/-- A part of a grid point's block is the result's part there, for a branch whose blocks are known. -/
theorem part_term (c : Dev nD) (t : Fin cfg0.N) (n r s : Nat) (hr : r < 1024) (hs : s < 256)
    (wg : S1x2048x256.Idx → EReal) (b : S1x256.Idx → EReal) (bb : S1x1024x512.Idx → EReal) (wo : S1x1x512x256.Idx → EReal)
    (h1 : ∀ k < 2048, at3 wg 0 k s = at3 (A1 m c) 0 k (n * 2048 + (t.val % 8 * 256 + s)))
    (h2 : at2 b 0 s = at1 (A2 m c) (n * 2048 + (t.val % 8 * 256 + s)))
    (h3 : ∀ k < 512, at3 bb 0 r k = at3 (A3 m c) n (t.val / 8 * 1024 + r) k)
    (h4 : ∀ k < 512, at4 wo 0 0 k s = at4 (A4 m c) 0 n k (t.val % 8 * 256 + s)) :
    part (iblk m c 0 t) wg b bb wo r s
      = term (A0 m c) (A1 m c) (A2 m c) (A3 m c) (A4 m c) n (t.val / 8 * 1024 + r) (t.val % 8 * 256 + s) := by
  unfold part term
  refine congrArg₂ (· * ·) (congrArg Ideal.logistic (congrArg₂ (· + ·) (Finset.sum_congr rfl fun k _ => ?_) h2))
    (Finset.sum_congr rfl fun k _ => ?_)
  · rw [blk0 m c t _ _ hr k.isLt, h1 _ k.isLt]
  · rw [h3 _ k.isLt, h4 _ k.isLt]

/-- What one grid point writes back is its block of the result array. -/
theorem flushed_eq (c : Dev nD) (t : Fin cfg0.N) : (dats m 0 c).flushed 17 t
    = ((cfg0.win 17).blk t).view.read (Elt Ideal) (G (A0 m c) (A1 m c) (A2 m c) (A3 m c) (A4 m c)) := by
  rw [Cert.Kernel3Ideal.Value.flushed17]
  refine funext fun (y : S1024x256.Idx) => ?_
  have h0 : (y 0).val < 1024 := (y 0).isLt
  have h1 : (y 1).val < 256 := (y 1).isLt
  have hr : (((cfg0.win 17).blk t).view.emb y 0).val = t.val / 8 * 1024 + (y 0).val := by
    show win0_17.index t 0 * 1024 + 1 * (y 0).val = _; rw [(idx17 t).1]; omega
  have hc : (((cfg0.win 17).blk t).view.emb y 1).val = t.val % 8 * 256 + (y 1).val := by
    show win0_17.index t 1 * 256 + 1 * (y 1).val = _; rw [(idx17 t).2]; omega
  refine Eq.trans ?_ (congrArg₂ (elt (A0 m c) (A1 m c) (A2 m c) (A3 m c) (A4 m c)) hr hc).symm
  refine (out_eq (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) y).trans ?_
  unfold elt
  exact congrArg₂ (· + ·) (congrArg₂ (· + ·) (congrArg₂ (· + ·)
    (part_term m c t 0 _ _ h0 h1 _ _ _ _ (fun k hk => blk1 m c t k _ hk h1) (blk5 m c t _ h1)
      (fun k hk => blk9 m c t _ k h0 hk) (fun k hk => blk13 m c t k _ hk h1))
    (part_term m c t 1 _ _ h0 h1 _ _ _ _ (fun k hk => blk2 m c t k _ hk h1) (blk6 m c t _ h1)
      (fun k hk => blk10 m c t _ k h0 hk) (fun k hk => blk14 m c t k _ hk h1)))
    (part_term m c t 2 _ _ h0 h1 _ _ _ _ (fun k hk => blk3 m c t k _ hk h1) (blk7 m c t _ h1)
      (fun k hk => blk11 m c t _ k h0 hk) (fun k hk => blk15 m c t k _ hk h1)))
    (part_term m c t 3 _ _ h0 h1 _ _ _ _ (fun k hk => blk4 m c t k _ hk h1) (blk8 m c t _ h1)
      (fun k hk => blk12 m c t _ k h0 hk) (fun k hk => blk16 m c t k _ hk h1))

/-- The result array after the run. -/
theorem final (c : Dev nD) : (dats m 0 c).arrAt 17 cfg0.N = G (A0 m c) (A1 m c) (A2 m c) (A3 m c) (A4 m c) :=
  (dats m 0 c).arrAt_eq_of_cover 17 (G (A0 m c) (A1 m c) (A2 m c) (A3 m c) (A4 m c)) (fun t _ => flushed_eq m c t)
    fun (i : S9216x2048.Idx) => by
      have h0 : (i 0).val < 9216 := (i 0).isLt
      have h1 : (i 1).val < 2048 := (i 1).isLt
      have hN : cfg0.N = 72 := N_0
      refine ⟨⟨(i 0).val / 1024 * 8 + (i 1).val / 256, by omega⟩, flush0_17 _, ?_⟩
      generalize hT : (⟨(i 0).val / 1024 * 8 + (i 1).val / 256, by omega⟩ : Fin cfg0.N) = t
      have ht : t.val = (i 0).val / 1024 * 8 + (i 1).val / 256 := by rw [← hT]
      show i ∈ ((View.whole main_v1).slice (win0_17.rect t)).set
      rw [View.set_slice_whole, Rect.mem_set_unit]
      intro a
      match a with
      | ⟨0, _⟩ =>
        show win0_17.index t 0 * 1024 ≤ (i 0).val ∧ (i 0).val < win0_17.index t 0 * 1024 + 1024
        rw [(idx17 t).1]; omega
      | ⟨1, _⟩ =>
        show win0_17.index t 1 * 256 ≤ (i 1).val ∧ (i 1).val < win0_17.index t 1 * 256 + 256
        rw [(idx17 t).2]; omega

/-- The kernel's run: the result array named, the arguments unchanged. -/
theorem run : θ_run defs (onTc (τ := τ) (main (F := Ideal))) ⟨m, fun _ => 0, ρ⟩ fun r => ∀ c : Dev nD,
      r.2.mem ((c : Thread nD τ).loc main_v1) = G (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.Kernel3Ideal.Value.run_blocks m ρ)

/-! ## The reference -/

open Cert.Reference3Ideal.Read in
/-- The reference's gates before the reshape, at an element. -/
theorem refgate_at (x0 : S9216x2048.Idx → EReal) (x1 : S4x2048x8192.Idx → EReal) (x2 : S8192.Idx → EReal)
    (i : Cert.Reference3Ideal.S9216x8192.Idx) : (val_main_v12 (F := Ideal) x0 x1 x2 i : EReal)
      = Ideal.logistic ((∑ k : Fin 2048, at2 x0 (i 0).val k.val * at3 x1 0 k.val (i 1).val) + at1 x2 (i 1).val) := by
  have hs : (val_main_v6 (F := Ideal) x0 x1 x2 i : EReal)
      = (∑ k : Fin 2048, at2 x0 (i 0).val k.val * at3 x1 0 k.val (i 1).val) + at1 x2 (i 1).val := by
    rw [val_main_v6_apply, val_main_v3_apply, val_main_v5_apply, val_main_v4_apply]
    refine congrArg₂ (· + ·) (Finset.sum_congr rfl fun k _ => congrArg₂ (· * ·) (at2_of x0 _ rfl rfl) ?_)
      (at1_of x2 _ rfl)
    rw [val_main_v2_apply, val_main_v1_apply, val_main_v0_apply]
    have h1 : (i 1).val < 8192 := (i 1).isLt
    have hk : k.val < 2048 := k.isLt
    refine at3_of x1 _ rfl ?_ ?_
    · show (k.val * 8192 + (i 1).val) / 8192 % 2048 = _; omega
    · show (k.val * 8192 + (i 1).val) % 8192 = _; omega
  rw [← hs, val_main_v12_apply, val_main_v10_apply, val_main_v8_apply, val_main_v7_apply, val_main_v11_apply,
    val_main_v9_apply, val_main_cst_apply, val_main_cst_0_apply]
  generalize (val_main_v6 (F := Ideal) x0 x1 x2 i : EReal) = z
  show Ideal.div (Ideal.ofBits .f32 0x3F800000#32) (Ideal.ofBits .f32 0x3F800000#32 + Ideal.exp (-z)) = _
  rw [Idealize.ShloMosaic.Ideal.ofBits_one_f32]
  rfl

open Cert.Reference3Ideal.Read in
/-- One branch's part of the reference's sum. -/
theorem refterm_at (x0 : S9216x2048.Idx → EReal) (x1 : S4x2048x8192.Idx → EReal) (x2 : S8192.Idx → EReal)
    (x3 : S4x9216x512.Idx → EReal) (x4 : S4x4x512x2048.Idx → EReal) (i : S9216x2048.Idx) (n : Fin 4) :
    (val_main_v19 (F := Ideal) x0 x1 x2 x3 x4 (idx_main_v20 i n) : EReal)
      = term x0 x1 x2 x3 x4 n.val (i 0).val (i 1).val := by
  have h0 : (i 0).val < 9216 := (i 0).isLt
  have h1 : (i 1).val < 2048 := (i 1).isLt
  have hn : n.val < 4 := n.isLt
  rw [val_main_v19_apply, val_main_v13_apply, refgate_at, val_main_v18_apply, val_main_v17_apply]
  have e0 : (idx_main_v13 (idx_main_v20 i n) 0).val = (i 0).val := by
    show (((i 0).val * 4 + n.val) * 2048 + (i 1).val) / 8192 = _; omega
  have e1 : (idx_main_v13 (idx_main_v20 i n) 1).val = n.val * 2048 + (i 1).val := by
    show (((i 0).val * 4 + n.val) * 2048 + (i 1).val) % 8192 = _; omega
  rw [e0, e1]
  unfold term
  refine congrArg (fun z : EReal => _ * z) (Finset.sum_congr rfl fun k _ => ?_)
  have hk : k.val < 512 := k.isLt
  rw [val_main_v16_apply, val_main_v15_apply, val_main_v14_apply]
  refine (mul_comm _ _).trans (congrArg₂ (· * ·) (at3_of x3 _ rfl rfl rfl) (at4_of x4 _ rfl ?_ ?_ ?_))
  · show ((n.val * 512 + k.val) * 2048 + (i 1).val) / 1048576 % 4 = _; omega
  · show ((n.val * 512 + k.val) * 2048 + (i 1).val) / 2048 % 512 = _; omega
  · show ((n.val * 512 + k.val) * 2048 + (i 1).val) % 2048 = _; omega

open Cert.Reference3Ideal.Read in
/-- The reference's result is the same array. -/
theorem ref_eq (x0 : S9216x2048.Idx → EReal) (x1 : S4x2048x8192.Idx → EReal) (x2 : S8192.Idx → EReal)
    (x3 : S4x9216x512.Idx → EReal) (x4 : S4x4x512x2048.Idx → EReal) :
    val_main_v21 (F := Ideal) x0 x1 x2 x3 x4 = G x0 x1 x2 x3 x4 := by
  refine funext fun (i : S9216x2048.Idx) => ?_
  rw [val_main_v21_apply, val_main_v20_apply, val_main_cst_1_apply]
  show Ideal.ofBits .f32 0x00000000#32 + _ = _
  rw [Ideal.ofBits_zero_f32, zero_add]
  refine (Finset.sum_congr rfl fun n _ => refterm_at x0 x1 x2 x3 x4 i n).trans ?_
  rw [Fin.sum_univ_four]
  rfl

end Cert.Proof.Merge

end
-- ==== Proof.OutProj.lean ====
/-
  Hand-written. The output projection with its gated residual: what the kernel's result holds after the run, and that
  it is what the reference's operations compute, element by element: `x + gate · Σ_k mixed·wo`.
-/
module

public import proofs.«01_k».proof.Proof.Common
public import proofs.«01_k».proof.Proof.Gen.Kernel4Ideal.Value
public import proofs.«01_k».proof.Proof.Gen.Reference4Ideal.Read

@[expose] public section

set_option maxRecDepth 16384

noncomputable section

namespace Cert.Proof.OutProj

open Idealize.ShloMosaic Idealize.ShloMosaic.ValueIdx Idealize.ShloMosaic.TcCoe Idealize.SL.Sem
open Idealize.ShloMosaic.Pipeline (Dat)
open Cert.Proof.Common Cert.Kernel4Ideal Cert.Kernel4Ideal.Gen
open scoped BigOperators

/-- The result at an element: the residual plus the row's gate times the product with the first layer's weights. -/
def elt (h : S9216x2048.Idx → EReal) (wo : S4x2048x2048.Idx → EReal) (x : S9216x2048.Idx → EReal)
    (mods : S8x9x1x2048.Idx → EReal) (a b : Nat) : EReal :=
  at2 x a b + at4 mods (a / 2048) 5 0 b * ∑ k : Fin 2048, at2 h a k.val * at3 wo 0 k.val b

/-- The result array. -/
def G (h : S9216x2048.Idx → EReal) (wo : S4x2048x2048.Idx → EReal) (x : S9216x2048.Idx → EReal)
    (mods : S8x9x1x2048.Idx → EReal) : S9216x2048.Idx → EReal := fun i => elt h wo x mods (i 0).val (i 1).val

/-! ## The kernel -/

/-- The block that one grid point leaves, at an element. -/
def blockElt (x0 : S1024x2048.Idx → EReal) (x1 : S1x2048x1024.Idx → EReal) (x2 : S1024x1024.Idx → EReal)
    (x3 : S1x1x1x1024.Idx → EReal) (y : S1024x1024.Idx) : EReal :=
  at2 x2 (y 0).val (y 1).val
    + at4 x3 0 0 0 (y 1).val * ∑ k : Fin 2048, at2 x0 (y 0).val k.val * at3 x1 0 k.val (y 1).val

/-- The body's one store leaves `blockElt`. -/
theorem out_eq (x0 : Vec Ideal S1024x2048 .bf16) (x1 : Vec Ideal S1x2048x1024 .f32) (x2 : Vec Ideal S1024x1024 .f32)
    (x3 : Vec Ideal S1x1x1x1024 .f32) : out0_4 x0 x1 x2 x3 = blockElt x0 x1 x2 x3 := by
  refine funext fun (x : S1024x1024.Idx) => ?_
  unfold out0_4
  rw [View.canon_unit_zero hz2, View.ld_unit_zero (S := S1024x1024) hz2, View.ld_unit_zero (S := S1024x2048) hz2,
    View.ld_unit_zero (S := S1x1x1x1024) hz4, View.ld_unit_zero (S := S1x2048x1024) hz3]
  unfold k0_pay1
  show (x2 x : EReal) + broadcastTo (α := EReal) S1024x1024 _ broadcasts_S1x1024_S1024x1024 x
      * matmul (F := Ideal) dot_S1024x2048_S2048x1024_S1024x1024_1_0_0_1_n_n none x0 _ _ x = _
  refine congrArg₂ (· + ·) (at2_of x2 x rfl rfl) (congrArg₂ (· * ·) ?_
    (((matmul_at dot_S1024x2048_S2048x1024_S1024x1024_1_0_0_1_n_n rfl none x0 _ _ x).trans (zero_acc x _)).trans
      (Finset.sum_congr rfl fun k _ => congrArg₂ (· * ·) (at2_of x0 _ rfl rfl) ?_)))
  · refine (broadcastTo_apply _ broadcasts_S1x1024_S1024x1024 x (ix2 0 (x 1)) (fun a => match a with
      | ⟨0, _⟩ => rfl
      | ⟨1, _⟩ => rfl)).trans ?_
    refine (shapeCast_apply x3 shapeCasts_S1x1x1x1024_S1x1024 (ix2 0 (x 1)) (ix4 0 0 0 (x 1)) (by
      rewrite [Shape.rowMajor_val_four, Shape.rowMajor_val_two]
      show ((0 * 1 + 0) * 1 + 0) * 1024 + (x 1).val = 0 * 1024 + (x 1).val; omega)).trans ?_
    exact at4_of x3 _ rfl rfl rfl rfl
  · refine (shapeCast_apply x1 shapeCasts_S1x2048x1024_S2048x1024 (ix2 k (x 1)) (ix3 0 k (x 1)) (by
      rewrite [Shape.rowMajor_val_three, Shape.rowMajor_val_two]
      show (0 * 2048 + k.val) * 1024 + (x 1).val = k.val * 1024 + (x 1).val; omega)).trans ?_
    exact at3_of x1 _ rfl rfl rfl

/-! The windows' blocks, by position. -/

theorem idx0 : ∀ t : Fin cfg0.N, win0_0.index t 0 = t.val % 9 ∧ win0_0.index t 1 = 0 :=
  (by decide +kernel : ∀ t : Fin grid0.N, win0_0.index t 0 = t.val % 9 ∧ win0_0.index t 1 = 0)
theorem idx1 : ∀ t : Fin cfg0.N, win0_1.index t 0 = 0 ∧ win0_1.index t 1 = 0 ∧ win0_1.index t 2 = t.val / 9 :=
  (by decide +kernel : ∀ t : Fin grid0.N, win0_1.index t 0 = 0 ∧ win0_1.index t 1 = 0 ∧ win0_1.index t 2 = t.val / 9)
theorem idx2 : ∀ t : Fin cfg0.N, win0_2.index t 0 = t.val % 9 ∧ win0_2.index t 1 = t.val / 9 :=
  (by decide +kernel : ∀ t : Fin grid0.N, win0_2.index t 0 = t.val % 9 ∧ win0_2.index t 1 = t.val / 9)
theorem idx3 : ∀ t : Fin cfg0.N, win0_3.index t 0 = t.val % 9 / 2 ∧ win0_3.index t 1 = 5 ∧ win0_3.index t 2 = 0
    ∧ win0_3.index t 3 = t.val / 9 :=
  (by decide +kernel : ∀ t : Fin grid0.N, win0_3.index t 0 = t.val % 9 / 2 ∧ win0_3.index t 1 = 5 ∧ win0_3.index t 2 = 0
    ∧ win0_3.index t 3 = t.val / 9)
theorem idx4 : ∀ t : Fin cfg0.N, win0_4.index t 0 = t.val % 9 ∧ win0_4.index t 1 = t.val / 9 :=
  (by decide +kernel : ∀ t : Fin grid0.N, win0_4.index t 0 = t.val % 9 ∧ win0_4.index t 1 = t.val / 9)

variable (m : (ℓ : Loc nD τ sig) → Buf (Elt Ideal) ℓ) (ρ : Dev nD → PrngReg)

/-- The launched arguments, as arrays of extended reals. -/
abbrev A0 (c : Dev nD) : S9216x2048.Idx → EReal := m ((c : Thread nD τ).loc main_arg0)
abbrev A1 (c : Dev nD) : S4x2048x2048.Idx → EReal := m ((c : Thread nD τ).loc main_arg1)
abbrev A2 (c : Dev nD) : S9216x2048.Idx → EReal := m ((c : Thread nD τ).loc main_arg2)
abbrev A3 (c : Dev nD) : S8x9x1x2048.Idx → EReal := m ((c : Thread nD τ).loc main_arg3)

theorem blk0 (c : Dev nD) (t : Fin cfg0.N) (a b : Nat) (ha : a < 1024) (hb : b < 2048) :
    at2 (iblk m c 0 t : S1024x2048.Idx → EReal) a b = at2 (A0 m c) (t.val % 9 * 1024 + a) b := by
  refine (at2_of (iblk m c 0 t : S1024x2048.Idx → EReal) (ix2 ⟨a, ha⟩ ⟨b, hb⟩) rfl rfl).symm.trans ?_
  unfold iblk
  rw [View.read_apply]
  refine at2_of (A0 m c) _ ?_ ?_
  · show win0_0.index t 0 * 1024 + 1 * a = _; rw [(idx0 t).1]; omega
  · show win0_0.index t 1 * 2048 + 1 * b = _; rw [(idx0 t).2]; omega

theorem blk1 (c : Dev nD) (t : Fin cfg0.N) (a b : Nat) (ha : a < 2048) (hb : b < 1024) :
    at3 (iblk m c 1 t : S1x2048x1024.Idx → EReal) 0 a b = at3 (A1 m c) 0 a (t.val / 9 * 1024 + b) := by
  refine (at3_of (iblk m c 1 t : S1x2048x1024.Idx → EReal) (ix3 0 ⟨a, ha⟩ ⟨b, hb⟩) rfl rfl rfl).symm.trans ?_
  unfold iblk
  rw [View.read_apply]
  refine at3_of (A1 m c) _ ?_ ?_ ?_
  · show win0_1.index t 0 * 1 + 1 * 0 = _; rw [(idx1 t).1]
  · show win0_1.index t 1 * 2048 + 1 * a = _; rw [(idx1 t).2.1]; omega
  · show win0_1.index t 2 * 1024 + 1 * b = _; rw [(idx1 t).2.2]; omega

theorem blk2 (c : Dev nD) (t : Fin cfg0.N) (a b : Nat) (ha : a < 1024) (hb : b < 1024) :
    at2 (iblk m c 2 t : S1024x1024.Idx → EReal) a b = at2 (A2 m c) (t.val % 9 * 1024 + a) (t.val / 9 * 1024 + b) := by
  refine (at2_of (iblk m c 2 t : S1024x1024.Idx → EReal) (ix2 ⟨a, ha⟩ ⟨b, hb⟩) rfl rfl).symm.trans ?_
  unfold iblk
  rw [View.read_apply]
  refine at2_of (A2 m c) _ ?_ ?_
  · show win0_2.index t 0 * 1024 + 1 * a = _; rw [(idx2 t).1]; omega
  · show win0_2.index t 1 * 1024 + 1 * b = _; rw [(idx2 t).2]; omega

theorem blk3 (c : Dev nD) (t : Fin cfg0.N) (b : Nat) (hb : b < 1024) :
    at4 (iblk m c 3 t : S1x1x1x1024.Idx → EReal) 0 0 0 b = at4 (A3 m c) (t.val % 9 / 2) 5 0 (t.val / 9 * 1024 + b) := by
  refine (at4_of (iblk m c 3 t : S1x1x1x1024.Idx → EReal) (ix4 0 0 0 ⟨b, hb⟩) rfl rfl rfl rfl).symm.trans ?_
  unfold iblk
  rw [View.read_apply]
  refine at4_of (A3 m c) _ ?_ ?_ ?_ ?_
  · show win0_3.index t 0 * 1 + 1 * 0 = _; rw [(idx3 t).1]; omega
  · show win0_3.index t 1 * 1 + 1 * 0 = _; rw [(idx3 t).2.1]
  · show win0_3.index t 2 * 1 + 1 * 0 = _; rw [(idx3 t).2.2.1]
  · show win0_3.index t 3 * 1024 + 1 * b = _; rw [(idx3 t).2.2.2]; omega

/-- What one grid point writes back is its block of the result array. -/
theorem flushed_eq (c : Dev nD) (t : Fin cfg0.N) : (dats m 0 c).flushed 4 t
    = ((cfg0.win 4).blk t).view.read (Elt Ideal) (G (A0 m c) (A1 m c) (A2 m c) (A3 m c)) := by
  rw [Cert.Kernel4Ideal.Value.flushed4, out_eq]
  refine funext fun (y : S1024x1024.Idx) => ?_
  have h0 : (y 0).val < 1024 := (y 0).isLt
  have h1 : (y 1).val < 1024 := (y 1).isLt
  have hr : (((cfg0.win 4).blk t).view.emb y 0).val = t.val % 9 * 1024 + (y 0).val := by
    show win0_4.index t 0 * 1024 + 1 * (y 0).val = _; rw [(idx4 t).1]; omega
  have hc : (((cfg0.win 4).blk t).view.emb y 1).val = t.val / 9 * 1024 + (y 1).val := by
    show win0_4.index t 1 * 1024 + 1 * (y 1).val = _; rw [(idx4 t).2]; omega
  refine Eq.trans ?_ (congrArg₂ (elt (A0 m c) (A1 m c) (A2 m c) (A3 m c)) hr hc).symm
  show blockElt (iblk m c 0 t) (iblk m c 1 t) (iblk m c 2 t) (iblk m c 3 t) y = _
  unfold blockElt elt
  rw [blk2 m c t _ _ h0 h1, blk3 m c t _ h1, show (t.val % 9 * 1024 + (y 0).val) / 2048 = t.val % 9 / 2 by omega]
  refine congrArg (fun z : EReal => _ + _ * z) (Finset.sum_congr rfl fun k _ => ?_)
  rw [blk0 m c t _ _ h0 k.isLt, blk1 m c t _ _ k.isLt h1]

/-- The result array after the run. -/
theorem final (c : Dev nD) : (dats m 0 c).arrAt 4 cfg0.N = G (A0 m c) (A1 m c) (A2 m c) (A3 m c) :=
  (dats m 0 c).arrAt_eq_of_cover 4 (G (A0 m c) (A1 m c) (A2 m c) (A3 m c)) (fun t _ => flushed_eq m c t)
    fun (i : S9216x2048.Idx) => by
      have h0 : (i 0).val < 9216 := (i 0).isLt
      have h1 : (i 1).val < 2048 := (i 1).isLt
      have hN : cfg0.N = 18 := N_0
      refine ⟨⟨(i 1).val / 1024 * 9 + (i 0).val / 1024, by omega⟩, flush0_4 _, ?_⟩
      generalize hT : (⟨(i 1).val / 1024 * 9 + (i 0).val / 1024, by omega⟩ : Fin cfg0.N) = t
      have ht : t.val = (i 1).val / 1024 * 9 + (i 0).val / 1024 := by rw [← hT]
      show i ∈ ((View.whole main_v0).slice (win0_4.rect t)).set
      rw [View.set_slice_whole, Rect.mem_set_unit]
      intro a
      match a with
      | ⟨0, _⟩ =>
        show win0_4.index t 0 * 1024 ≤ (i 0).val ∧ (i 0).val < win0_4.index t 0 * 1024 + 1024
        rw [(idx4 t).1]; omega
      | ⟨1, _⟩ =>
        show win0_4.index t 1 * 1024 ≤ (i 1).val ∧ (i 1).val < win0_4.index t 1 * 1024 + 1024
        rw [(idx4 t).2]; omega

/-- The kernel's run: the result array named, the arguments unchanged. -/
theorem run : θ_run defs (onTc (τ := τ) (main (F := Ideal))) ⟨m, fun _ => 0, ρ⟩ fun r => ∀ c : Dev nD,
      r.2.mem ((c : Thread nD τ).loc main_v0) = G (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.Kernel4Ideal.Value.run_blocks m ρ)

/-! ## The reference -/

open Cert.Reference4Ideal.Read in
/-- The gates, one row per row of the residual stream. -/
theorem gate_at (x3 : S8x9x1x2048.Idx → EReal) (i : S9216x2048.Idx) :
    (val_main_v7 (F := Ideal) x3 i : EReal) = at4 x3 ((i 0).val / 2048) 5 0 (i 1).val := by
  have h0 : (i 0).val < 9216 := (i 0).isLt
  have h1 : (i 1).val < 2048 := (i 1).isLt
  unfold val_main_v7
  by_cases hi : (i 0).val < 8192
  · refine (join_upper _ _ _ i hi).trans ?_
    rw [val_main_v3_apply, val_main_v2_apply, val_main_v1_apply, val_main_v0_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v6_apply, val_main_v5_apply, val_main_v4_apply]
    refine at4_of x3 _ ?_ rfl rfl ?_
    · show 4 + 0 = _; omega
    · show (0 * 2048 + (i 1).val) % 2048 = _; omega

open Cert.Reference4Ideal.Read in
/-- The reference's result is the same array. -/
theorem ref_eq (x0 : S9216x2048.Idx → EReal) (x1 : S4x2048x2048.Idx → EReal) (x2 : S9216x2048.Idx → EReal)
    (x3 : S8x9x1x2048.Idx → EReal) : val_main_v13 (F := Ideal) x0 x1 x2 x3 = G x0 x1 x2 x3 := by
  refine funext fun (i : S9216x2048.Idx) => ?_
  rw [val_main_v13_apply, val_main_v12_apply, val_main_v11_apply, gate_at]
  refine congrArg₂ (· + ·) (at2_of x2 i rfl rfl) (congrArg (fun z : EReal => _ * z) (Finset.sum_congr rfl fun k _ =>
    congrArg₂ (· * ·) (at2_of x0 _ rfl rfl) ?_))
  rw [val_main_v10_apply, val_main_v9_apply, val_main_v8_apply]
  have h1 : (i 1).val < 2048 := (i 1).isLt
  have hk : k.val < 2048 := k.isLt
  refine at3_of x1 _ rfl ?_ ?_
  · show (k.val * 2048 + (i 1).val) / 2048 % 2048 = _; omega
  · show (k.val * 2048 + (i 1).val) % 2048 = _; omega

end Cert.Proof.OutProj

end
-- ==== Proof.Rms.lean ====
/-
  Hand-written. A row's root-mean-square scale as the kernels and the reference compute it over the extended reals.
-/
module

public import proofs.«01_k».proof.Proof.Common

@[expose] public section

noncomputable section

namespace Cert.Proof.Rms

open Idealize.ShloMosaic Idealize.ShloMosaic.ValueIdx
open Cert.Proof.Common
open scoped BigOperators

/-- A row's scale: one over the root of the mean of the squares plus the small constant. -/
def rms (f : Nat → EReal) : EReal :=
  Ideal.rsqrt (Ideal.div (∑ k : Fin 2048, f k.val * f k.val) (Ideal.ofBits .f32 0x45000000#32)
    + Ideal.ofBits .f32 0x358637BD#32)

/-- The scale depends on the row's 2048 elements only. -/
theorem rms_congr (f g : Nat → EReal) (h : ∀ k < 2048, f k = g k) : rms f = rms g := by
  unfold rms
  rw [Finset.sum_congr rfl fun (k : Fin 2048) _ => by rw [h k.val k.isLt]]

/-- A row's sum, kept as a column. -/
theorem rowsum_at {n : Nat} (x : FVec Ideal ⟨2, ![n, 2048]⟩ .f32) (h : (⟨2, ![n, 2048]⟩ : Shape).Reduces [1] ⟨1, ![n]⟩)
    (hs : (⟨1, ![n]⟩ : Shape).ShapeCasts ⟨2, ![n, 1]⟩) (r : Fin n) :
    (shapeCast ⟨2, ![n, 1]⟩ (multiReduction .add [1] ⟨1, ![n]⟩ x 0x00000000#32 h (.inl rfl) rfl) hs (ix2 r 0) : EReal)
      = ∑ k : Fin 2048, at2 x r.val k.val := by
  refine (shapeCast_apply _ hs (ix2 r 0) (ix1 r) (by
    rewrite [Shape.rowMajor_val_one, Shape.rowMajor_val_two]
    show r.val = r.val * 1 + 0; omega)).trans ?_
  refine (Ideal.multiReduction_add_single x 0x00000000#32 h (.inl rfl) rfl (ix1 r)).trans ?_
  exact Finset.sum_congr rfl fun k _ => at2_of x _ rfl rfl

end Cert.Proof.Rms

end
-- ==== Proof.FfnABodyIdeal.lean ====
/-
  Hand-written. The first feed-forward call's body at a grid point, run on any buffers: the block it leaves of the gated product, the
  128 rows of the next tile it normalizes into the carried buffer, and the slab of the second weights it copies. Three cases: the first
  point, which first copies the first operand into the carried buffer; the points that copy a slab; the points after the last slab.
-/
module

public import proofs.«01_k».proof.Proof.Gen.Kernel5Ideal.Frame
public import proofs.«01_k».proof.Proof.Gen.Kernel5Ideal.Skeleton
public import Idealize.ShloMosaic.Lib.WritesUnit
public import Idealize.ShloMosaic.Lib.Claim
public import Idealize.ShloMosaic.Lib.ValueIdx
public import Idealize.ShloMosaic.Lib.Pipeline.Value

@[expose] public section

set_option maxRecDepth 16384

noncomputable section

namespace Cert.Kernel5Ideal.Hand

open Cert.Kernel5Ideal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if`: the grid's first point. -/
abbrev cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

theorem cond1_iff : ∀ i : grid0.Coords, cond1 i = 1#1 ↔ (i 0).val = 0 ∧ (i 1).val = 0 := by decide +kernel
theorem cond2_iff : ∀ i : grid0.Coords, k0_cond2 i = 1#1 ↔ 11 * (i 0).val + (i 1).val < 88 := by decide +kernel
theorem off1_eq : ∀ i : grid0.Coords, k0_off1 i = ![(i 0).val % 2, 0, 0] := by decide +kernel
theorem off3_eq : ∀ i : grid0.Coords, k0_off3 i = ![1 - (i 0).val % 2, 128 * min (i 1).val 7, 0] := by decide +kernel
theorem off4_eq : ∀ i : grid0.Coords, k0_off4 i = ![1 - (i 0).val % 2, 128 * min (i 1).val 7 + 16, 0] := by decide +kernel
theorem off5_eq : ∀ i : grid0.Coords, k0_off5 i = ![1 - (i 0).val % 2, 128 * min (i 1).val 7 + 32, 0] := by decide +kernel
theorem off6_eq : ∀ i : grid0.Coords, k0_off6 i = ![1 - (i 0).val % 2, 128 * min (i 1).val 7 + 48, 0] := by decide +kernel
theorem off7_eq : ∀ i : grid0.Coords, k0_off7 i = ![1 - (i 0).val % 2, 128 * min (i 1).val 7 + 64, 0] := by decide +kernel
theorem off8_eq : ∀ i : grid0.Coords, k0_off8 i = ![1 - (i 0).val % 2, 128 * min (i 1).val 7 + 80, 0] := by decide +kernel
theorem off9_eq : ∀ i : grid0.Coords, k0_off9 i = ![1 - (i 0).val % 2, 128 * min (i 1).val 7 + 96, 0] := by decide +kernel
theorem off10_eq : ∀ i : grid0.Coords, k0_off10 i = ![1 - (i 0).val % 2, 128 * min (i 1).val 7 + 112, 0] := by decide +kernel

/-! ## What the body leaves in the scratch tile -/

/-- Rows `16 k … 16 k + 15` of a 128-row block. -/
def chunk (x : Vec F S128x2048 .f32) (k : Fin 8) : Vec F S16x2048 .f32 := fun z =>
  x (ix2 ⟨16 * k.val + (z 0).val, by have h : (z 0).val < 16 := (z 0).isLt; omega⟩ (z 1))

/-- Sixteen rows normalized and modulated: the block's scale and shift, and the rows' own statistics. -/
def piece (x1 : Vec F S128x2048 .f32) (x2 : Vec F S1x2048 .f32) (x3 x4 : Vec F S1x1x1x2048 .f32) (k : Fin 8) :
    Vec F S1x16x2048 .bf16 :=
  k0_pay2 (k0_pay8 x2 x4) (k0_pay9 x3) (chunk x1 k) (k0_pay20 (chunk x1 k))

/-- The contents `d'` are `b` with the 128 rows of the other slot that the point normalizes replaced. -/
def Upd (i : grid0.Coords) (P : Fin 8 → Vec F S1x16x2048 .bf16) (b d' : Vec F S2x1024x2048 .bf16) : Prop :=
  (∀ (k : Fin 8) (z : S1x16x2048.Idx) (y : S2x1024x2048.Idx), (y 0).val = 1 - (i 0).val % 2 →
      (y 1).val = 128 * min (i 1).val 7 + 16 * k.val + (z 1).val → (y 2).val = (z 2).val → d' y = P k z)
  ∧ ∀ y : S2x1024x2048.Idx, ((y 0).val ≠ 1 - (i 0).val % 2 ∨ (y 1).val < 128 * min (i 1).val 7
      ∨ 128 * min (i 1).val 7 + 128 ≤ (y 1).val) → d' y = b y

theorem hit (v : View sig .tc .vmem S2x1024x2048 .bf16) (f : v.ty.Contents (Elt F)) (L : List (View.Piece (Elt F) S2x1024x2048 .bf16))
    (off : Fin 3 → ℕ) (inb : ∀ a, off a + S1x16x2048.size a ≤ S2x1024x2048.size a) (p q : ℕ) (w : S1x16x2048.Idx → Elt F .bf16)
    (hoff : off = ![p, q, 0]) (z : S1x16x2048.Idx) (y : S2x1024x2048.Idx) (h0 : (y 0).val = p) (h1 : (y 1).val = q + (z 1).val)
    (h2 : (y 2).val = (z 2).val) :
    v.read (Elt F) (v.writes (Elt F) f (⟨Rect.unit (s := S2x1024x2048) off S1x16x2048.size inb, w⟩ :: L)) y = w z := by
  refine View.read_writes_cons_unit_of_mem v f inb w L y z hoff fun a => ?_
  match a with
  | ⟨0, _⟩ => have hz : (z 0).val < 1 := (z 0).isLt; show (y 0).val = p + (z 0).val; omega
  | ⟨1, _⟩ => exact h1
  | ⟨2, _⟩ => show (y 2).val = 0 + (z 2).val; omega

theorem miss (v : View sig .tc .vmem S2x1024x2048 .bf16) (f : v.ty.Contents (Elt F)) (L : List (View.Piece (Elt F) S2x1024x2048 .bf16))
    (off : Fin 3 → ℕ) (inb : ∀ a, off a + S1x16x2048.size a ≤ S2x1024x2048.size a) (p q : ℕ) (w : S1x16x2048.Idx → Elt F .bf16)
    (hoff : off = ![p, q, 0]) (y : S2x1024x2048.Idx) (h : (y 0).val ≠ p ∨ (y 1).val < q ∨ q + 16 ≤ (y 1).val) :
    v.read (Elt F) (v.writes (Elt F) f (⟨Rect.unit (s := S2x1024x2048) off S1x16x2048.size inb, w⟩ :: L)) y
      = v.read (Elt F) (v.writes (Elt F) f L) y := by
  by_cases h0 : (y 0).val = p
  · refine View.read_writes_cons_unit_of_not_mem v f inb w L y hoff 1 ?_
    show (y 1).val < q ∨ q + 16 ≤ (y 1).val
    rcases h with h | h
    · exact absurd h0 h
    · exact h
  · refine View.read_writes_cons_unit_of_not_mem v f inb w L y hoff 0 ?_
    show (y 0).val < p ∨ p + 1 ≤ (y 0).val
    omega

/-- Eight stores of sixteen rows, one after the other, replace the point's 128 rows. -/
theorem upd8 (v : View sig .tc .vmem S2x1024x2048 .bf16) (f : v.ty.Contents (Elt F)) (L : List (View.Piece (Elt F) S2x1024x2048 .bf16))
    (i : grid0.Coords) (P : Fin 8 → Vec F S1x16x2048 .bf16) (w0 w1 w2 w3 w4 w5 w6 w7 : S1x16x2048.Idx → Elt F .bf16)
    (h0 : w0 = P 0) (h1 : w1 = P 1) (h2 : w2 = P 2) (h3 : w3 = P 3) (h4 : w4 = P 4) (h5 : w5 = P 5) (h6 : w6 = P 6) (h7 : w7 = P 7) :
    Upd i P (v.read (Elt F) (v.writes (Elt F) f L)) (v.read (Elt F) (v.writes (Elt F) f
      (⟨Rect.unit (s := S2x1024x2048) (k0_off10 i) S1x16x2048.size (k0_off10_inb i), w7⟩
        :: ⟨Rect.unit (s := S2x1024x2048) (k0_off9 i) S1x16x2048.size (k0_off9_inb i), w6⟩
        :: ⟨Rect.unit (s := S2x1024x2048) (k0_off8 i) S1x16x2048.size (k0_off8_inb i), w5⟩
        :: ⟨Rect.unit (s := S2x1024x2048) (k0_off7 i) S1x16x2048.size (k0_off7_inb i), w4⟩
        :: ⟨Rect.unit (s := S2x1024x2048) (k0_off6 i) S1x16x2048.size (k0_off6_inb i), w3⟩
        :: ⟨Rect.unit (s := S2x1024x2048) (k0_off5 i) S1x16x2048.size (k0_off5_inb i), w2⟩
        :: ⟨Rect.unit (s := S2x1024x2048) (k0_off4 i) S1x16x2048.size (k0_off4_inb i), w1⟩
        :: ⟨Rect.unit (s := S2x1024x2048) (k0_off3 i) S1x16x2048.size (k0_off3_inb i), w0⟩ :: L))) := by
  subst h0 h1 h2 h3 h4 h5 h6 h7
  generalize hq : 128 * min (i 1).val 7 = q
  generalize hp : 1 - (i 0).val % 2 = p
  have e3 := off3_eq i; have e4 := off4_eq i; have e5 := off5_eq i; have e6 := off6_eq i
  have e7 := off7_eq i; have e8 := off8_eq i; have e9 := off9_eq i; have e10 := off10_eq i
  rw [hq, hp] at e3 e4 e5 e6 e7 e8 e9 e10
  unfold Upd
  rw [hq, hp]
  constructor
  · intro k z y hy0 hy1 hy2
    have hz : (z 1).val < 16 := (z 1).isLt
    match k, hy1 with
    | ⟨7, _⟩, hy1 =>
      exact hit v f _ _ _ p (q + 112) _ e10 z y hy0 (by simp only [] at hy1; omega) hy2
    | ⟨6, _⟩, hy1 =>
      simp only [] at hy1
      refine (miss v f _ _ _ p (q + 112) _ e10 y (by omega)).trans ?_
      exact hit v f _ _ _ p (q + 96) _ e9 z y hy0 (by omega) hy2
    | ⟨5, _⟩, hy1 =>
      simp only [] at hy1
      refine (miss v f _ _ _ p (q + 112) _ e10 y (by omega)).trans ((miss v f _ _ _ p (q + 96) _ e9 y (by omega)).trans ?_)
      exact hit v f _ _ _ p (q + 80) _ e8 z y hy0 (by omega) hy2
    | ⟨4, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ?_))
      exact hit v f _ _ _ p (q + 64) _ e7 z y hy0 (by omega) hy2
    | ⟨3, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans ?_)))
      exact hit v f _ _ _ p (q + 48) _ e6 z y hy0 (by omega) hy2
    | ⟨2, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans
        ((miss v f _ _ _ p (q + 48) _ e6 y (by omega)).trans ?_))))
      exact hit v f _ _ _ p (q + 32) _ e5 z y hy0 (by omega) hy2
    | ⟨1, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans
        ((miss v f _ _ _ p (q + 48) _ e6 y (by omega)).trans ((miss v f _ _ _ p (q + 32) _ e5 y (by omega)).trans ?_)))))
      exact hit v f _ _ _ p (q + 16) _ e4 z y hy0 (by omega) hy2
    | ⟨0, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans
        ((miss v f _ _ _ p (q + 48) _ e6 y (by omega)).trans ((miss v f _ _ _ p (q + 32) _ e5 y (by omega)).trans
        ((miss v f _ _ _ p (q + 16) _ e4 y (by omega)).trans ?_))))))
      exact hit v f _ _ _ p q _ e3 z y hy0 (by omega) hy2
  · intro y hy
    exact (miss v f _ _ _ p (q + 112) _ e10 y (by omega)).trans ((miss v f _ _ _ p (q + 96) _ e9 y (by omega)).trans
      ((miss v f _ _ _ p (q + 80) _ e8 y (by omega)).trans ((miss v f _ _ _ p (q + 64) _ e7 y (by omega)).trans
      ((miss v f _ _ _ p (q + 48) _ e6 y (by omega)).trans ((miss v f _ _ _ p (q + 32) _ e5 y (by omega)).trans
      ((miss v f _ _ _ p (q + 16) _ e4 y (by omega)).trans (miss v f _ _ _ p q _ e3 y (by omega))))))))

/-- A load of sixteen rows of the block reads that chunk of it. -/
theorem chunk_of (arg3 : Memref sig .tc .vmem S128x2048 .f32) (harg3 : arg3.IsWhole) (x1 : Vec F S128x2048 .f32) (k : Fin 8) (o : ℕ)
    (ho : o = 16 * k.val) (inb : ∀ a, (![o, 0] : Fin 2 → ℕ) a + S16x2048.size a ≤ S128x2048.size a) :
    View.readAt (Elt F) arg3.view (Rect.unit (s := S128x2048) ![o, 0] S16x2048.size inb).toLoadRect (harg3.unread x1) = chunk x1 k := by
  subst ho
  rw [View.readAt_eq_ld, harg3.read_unread]
  funext z
  refine congrArg x1 (funext fun a => Fin.ext ?_)
  match a with
  | ⟨0, _⟩ => show 16 * k.val + 1 * (z 0).val = 16 * k.val + (z 0).val; omega
  | ⟨1, _⟩ => show 0 + 1 * (z 1).val = (z 1).val; omega

/-- The statistics' stores: sixteen rows each, the last first. -/
def statStores (X : Fin 8 → Vec F S16x1 .f32) : List (View.Piece (Elt F) S128x1 .f32) :=
  [⟨Rect.unit (s := S128x1) ![112, 0] S16x1.size inb_S128x1_S16x1_112_0, X 7⟩,
   ⟨Rect.unit (s := S128x1) ![96, 0] S16x1.size inb_S128x1_S16x1_96_0, X 6⟩,
   ⟨Rect.unit (s := S128x1) ![80, 0] S16x1.size inb_S128x1_S16x1_80_0, X 5⟩,
   ⟨Rect.unit (s := S128x1) ![64, 0] S16x1.size inb_S128x1_S16x1_64_0, X 4⟩,
   ⟨Rect.unit (s := S128x1) ![48, 0] S16x1.size inb_S128x1_S16x1_48_0, X 3⟩,
   ⟨Rect.unit (s := S128x1) ![32, 0] S16x1.size inb_S128x1_S16x1_32_0, X 2⟩,
   ⟨Rect.unit (s := S128x1) ![16, 0] S16x1.size inb_S128x1_S16x1_16_0, X 1⟩,
   ⟨Rect.unit (s := S128x1) ![0, 0] S16x1.size inb_S128x1_S16x1_0_0, X 0⟩]

/-- Two blocks of rows one below the other share no element. -/
theorem apart (o o' : ℕ) (inb : ∀ a, (![o, 0] : Fin 2 → ℕ) a + S16x1.size a ≤ S128x1.size a)
    (inb' : ∀ a, (![o', 0] : Fin 2 → ℕ) a + S16x1.size a ≤ S128x1.size a) (h : o' + 16 ≤ o) :
    Disjoint (Rect.unit (s := S128x1) ![o, 0] S16x1.size inb).set (Rect.unit (s := S128x1) ![o', 0] S16x1.size inb').toLoadRect.set := by
  rw [Finset.disjoint_left]
  intro y hy hy'
  have h1 : o ≤ (y 0).val := ((Rect.mem_set_unit).mp hy 0).1
  have h2 : (y 0).val < o' + 16 := ((Rect.mem_set_unit).mp hy' 0).2
  omega

theorem cov7 (v : View sig .tc .vmem S128x1 .f32) (X : Fin 8 → Vec F S16x1 .f32) :
    v.readCov (statStores X) (Rect.unit (s := S128x1) ![112, 0] S16x1.size inb_S128x1_S16x1_112_0).toLoadRect = X 7 := by
  unfold statStores
  exact View.readCov_cons_toLoadRect v _ _ _

theorem cov6 (v : View sig .tc .vmem S128x1 .f32) (X : Fin 8 → Vec F S16x1 .f32) :
    v.readCov (statStores X) (Rect.unit (s := S128x1) ![96, 0] S16x1.size inb_S128x1_S16x1_96_0).toLoadRect = X 6 := by
  unfold statStores
  rw [View.readCov_cons_of_disjoint v ⟨Rect.unit (s := S128x1) ![112, 0] S16x1.size inb_S128x1_S16x1_112_0, X 7⟩ _ _
    (apart 112 96 inb_S128x1_S16x1_112_0 inb_S128x1_S16x1_96_0 (by decide))]
  exact View.readCov_cons_toLoadRect v _ _ _

theorem cov5 (v : View sig .tc .vmem S128x1 .f32) (X : Fin 8 → Vec F S16x1 .f32) :
    v.readCov (statStores X) (Rect.unit (s := S128x1) ![80, 0] S16x1.size inb_S128x1_S16x1_80_0).toLoadRect = X 5 := by
  unfold statStores
  rw [View.readCov_cons_of_disjoint v ⟨Rect.unit (s := S128x1) ![112, 0] S16x1.size inb_S128x1_S16x1_112_0, X 7⟩ _ _
    (apart 112 80 inb_S128x1_S16x1_112_0 inb_S128x1_S16x1_80_0 (by decide))]
  rw [View.readCov_cons_of_disjoint v ⟨Rect.unit (s := S128x1) ![96, 0] S16x1.size inb_S128x1_S16x1_96_0, X 6⟩ _ _
    (apart 96 80 inb_S128x1_S16x1_96_0 inb_S128x1_S16x1_80_0 (by decide))]
  exact View.readCov_cons_toLoadRect v _ _ _

theorem cov4 (v : View sig .tc .vmem S128x1 .f32) (X : Fin 8 → Vec F S16x1 .f32) :
    v.readCov (statStores X) (Rect.unit (s := S128x1) ![64, 0] S16x1.size inb_S128x1_S16x1_64_0).toLoadRect = X 4 := by
  unfold statStores
  rw [View.readCov_cons_of_disjoint v ⟨Rect.unit (s := S128x1) ![112, 0] S16x1.size inb_S128x1_S16x1_112_0, X 7⟩ _ _
    (apart 112 64 inb_S128x1_S16x1_112_0 inb_S128x1_S16x1_64_0 (by decide))]
  rw [View.readCov_cons_of_disjoint v ⟨Rect.unit (s := S128x1) ![96, 0] S16x1.size inb_S128x1_S16x1_96_0, X 6⟩ _ _
    (apart 96 64 inb_S128x1_S16x1_96_0 inb_S128x1_S16x1_64_0 (by decide))]
  rw [View.readCov_cons_of_disjoint v ⟨Rect.unit (s := S128x1) ![80, 0] S16x1.size inb_S128x1_S16x1_80_0, X 5⟩ _ _
    (apart 80 64 inb_S128x1_S16x1_80_0 inb_S128x1_S16x1_64_0 (by decide))]
  exact View.readCov_cons_toLoadRect v _ _ _

theorem cov3 (v : View sig .tc .vmem S128x1 .f32) (X : Fin 8 → Vec F S16x1 .f32) :
    v.readCov (statStores X) (Rect.unit (s := S128x1) ![48, 0] S16x1.size inb_S128x1_S16x1_48_0).toLoadRect = X 3 := by
  unfold statStores
  rw [View.readCov_cons_of_disjoint v ⟨Rect.unit (s := S128x1) ![112, 0] S16x1.size inb_S128x1_S16x1_112_0, X 7⟩ _ _
    (apart 112 48 inb_S128x1_S16x1_112_0 inb_S128x1_S16x1_48_0 (by decide))]
  rw [View.readCov_cons_of_disjoint v ⟨Rect.unit (s := S128x1) ![96, 0] S16x1.size inb_S128x1_S16x1_96_0, X 6⟩ _ _
    (apart 96 48 inb_S128x1_S16x1_96_0 inb_S128x1_S16x1_48_0 (by decide))]
  rw [View.readCov_cons_of_disjoint v ⟨Rect.unit (s := S128x1) ![80, 0] S16x1.size inb_S128x1_S16x1_80_0, X 5⟩ _ _
    (apart 80 48 inb_S128x1_S16x1_80_0 inb_S128x1_S16x1_48_0 (by decide))]
  rw [View.readCov_cons_of_disjoint v ⟨Rect.unit (s := S128x1) ![64, 0] S16x1.size inb_S128x1_S16x1_64_0, X 4⟩ _ _
    (apart 64 48 inb_S128x1_S16x1_64_0 inb_S128x1_S16x1_48_0 (by decide))]
  exact View.readCov_cons_toLoadRect v _ _ _

theorem cov2 (v : View sig .tc .vmem S128x1 .f32) (X : Fin 8 → Vec F S16x1 .f32) :
    v.readCov (statStores X) (Rect.unit (s := S128x1) ![32, 0] S16x1.size inb_S128x1_S16x1_32_0).toLoadRect = X 2 := by
  unfold statStores
  rw [View.readCov_cons_of_disjoint v ⟨Rect.unit (s := S128x1) ![112, 0] S16x1.size inb_S128x1_S16x1_112_0, X 7⟩ _ _
    (apart 112 32 inb_S128x1_S16x1_112_0 inb_S128x1_S16x1_32_0 (by decide))]
  rw [View.readCov_cons_of_disjoint v ⟨Rect.unit (s := S128x1) ![96, 0] S16x1.size inb_S128x1_S16x1_96_0, X 6⟩ _ _
    (apart 96 32 inb_S128x1_S16x1_96_0 inb_S128x1_S16x1_32_0 (by decide))]
  rw [View.readCov_cons_of_disjoint v ⟨Rect.unit (s := S128x1) ![80, 0] S16x1.size inb_S128x1_S16x1_80_0, X 5⟩ _ _
    (apart 80 32 inb_S128x1_S16x1_80_0 inb_S128x1_S16x1_32_0 (by decide))]
  rw [View.readCov_cons_of_disjoint v ⟨Rect.unit (s := S128x1) ![64, 0] S16x1.size inb_S128x1_S16x1_64_0, X 4⟩ _ _
    (apart 64 32 inb_S128x1_S16x1_64_0 inb_S128x1_S16x1_32_0 (by decide))]
  rw [View.readCov_cons_of_disjoint v ⟨Rect.unit (s := S128x1) ![48, 0] S16x1.size inb_S128x1_S16x1_48_0, X 3⟩ _ _
    (apart 48 32 inb_S128x1_S16x1_48_0 inb_S128x1_S16x1_32_0 (by decide))]
  exact View.readCov_cons_toLoadRect v _ _ _

theorem cov1 (v : View sig .tc .vmem S128x1 .f32) (X : Fin 8 → Vec F S16x1 .f32) :
    v.readCov (statStores X) (Rect.unit (s := S128x1) ![16, 0] S16x1.size inb_S128x1_S16x1_16_0).toLoadRect = X 1 := by
  unfold statStores
  rw [View.readCov_cons_of_disjoint v ⟨Rect.unit (s := S128x1) ![112, 0] S16x1.size inb_S128x1_S16x1_112_0, X 7⟩ _ _
    (apart 112 16 inb_S128x1_S16x1_112_0 inb_S128x1_S16x1_16_0 (by decide))]
  rw [View.readCov_cons_of_disjoint v ⟨Rect.unit (s := S128x1) ![96, 0] S16x1.size inb_S128x1_S16x1_96_0, X 6⟩ _ _
    (apart 96 16 inb_S128x1_S16x1_96_0 inb_S128x1_S16x1_16_0 (by decide))]
  rw [View.readCov_cons_of_disjoint v ⟨Rect.unit (s := S128x1) ![80, 0] S16x1.size inb_S128x1_S16x1_80_0, X 5⟩ _ _
    (apart 80 16 inb_S128x1_S16x1_80_0 inb_S128x1_S16x1_16_0 (by decide))]
  rw [View.readCov_cons_of_disjoint v ⟨Rect.unit (s := S128x1) ![64, 0] S16x1.size inb_S128x1_S16x1_64_0, X 4⟩ _ _
    (apart 64 16 inb_S128x1_S16x1_64_0 inb_S128x1_S16x1_16_0 (by decide))]
  rw [View.readCov_cons_of_disjoint v ⟨Rect.unit (s := S128x1) ![48, 0] S16x1.size inb_S128x1_S16x1_48_0, X 3⟩ _ _
    (apart 48 16 inb_S128x1_S16x1_48_0 inb_S128x1_S16x1_16_0 (by decide))]
  rw [View.readCov_cons_of_disjoint v ⟨Rect.unit (s := S128x1) ![32, 0] S16x1.size inb_S128x1_S16x1_32_0, X 2⟩ _ _
    (apart 32 16 inb_S128x1_S16x1_32_0 inb_S128x1_S16x1_16_0 (by decide))]
  exact View.readCov_cons_toLoadRect v _ _ _

theorem cov0 (v : View sig .tc .vmem S128x1 .f32) (X : Fin 8 → Vec F S16x1 .f32) :
    v.readCov (statStores X) (Rect.unit (s := S128x1) ![0, 0] S16x1.size inb_S128x1_S16x1_0_0).toLoadRect = X 0 := by
  unfold statStores
  rw [View.readCov_cons_of_disjoint v ⟨Rect.unit (s := S128x1) ![112, 0] S16x1.size inb_S128x1_S16x1_112_0, X 7⟩ _ _
    (apart 112 0 inb_S128x1_S16x1_112_0 inb_S128x1_S16x1_0_0 (by decide))]
  rw [View.readCov_cons_of_disjoint v ⟨Rect.unit (s := S128x1) ![96, 0] S16x1.size inb_S128x1_S16x1_96_0, X 6⟩ _ _
    (apart 96 0 inb_S128x1_S16x1_96_0 inb_S128x1_S16x1_0_0 (by decide))]
  rw [View.readCov_cons_of_disjoint v ⟨Rect.unit (s := S128x1) ![80, 0] S16x1.size inb_S128x1_S16x1_80_0, X 5⟩ _ _
    (apart 80 0 inb_S128x1_S16x1_80_0 inb_S128x1_S16x1_0_0 (by decide))]
  rw [View.readCov_cons_of_disjoint v ⟨Rect.unit (s := S128x1) ![64, 0] S16x1.size inb_S128x1_S16x1_64_0, X 4⟩ _ _
    (apart 64 0 inb_S128x1_S16x1_64_0 inb_S128x1_S16x1_0_0 (by decide))]
  rw [View.readCov_cons_of_disjoint v ⟨Rect.unit (s := S128x1) ![48, 0] S16x1.size inb_S128x1_S16x1_48_0, X 3⟩ _ _
    (apart 48 0 inb_S128x1_S16x1_48_0 inb_S128x1_S16x1_0_0 (by decide))]
  rw [View.readCov_cons_of_disjoint v ⟨Rect.unit (s := S128x1) ![32, 0] S16x1.size inb_S128x1_S16x1_32_0, X 2⟩ _ _
    (apart 32 0 inb_S128x1_S16x1_32_0 inb_S128x1_S16x1_0_0 (by decide))]
  rw [View.readCov_cons_of_disjoint v ⟨Rect.unit (s := S128x1) ![16, 0] S16x1.size inb_S128x1_S16x1_16_0, X 1⟩ _ _
    (apart 16 0 inb_S128x1_S16x1_16_0 inb_S128x1_S16x1_0_0 (by decide))]
  exact View.readCov_cons_toLoadRect v _ _ _

/-- A load of the whole of a one-row operand reads it. -/
theorem whole2 (a : Memref sig .tc .vmem S1x2048 .f32) (h : a.IsWhole) (x : Vec F S1x2048 .f32) :
    View.readAt (Elt F) a.view (Rect.unit (s := S1x2048) ![0, 0] S1x2048.size inb_S1x2048_S1x2048_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

theorem whole4 (a : Memref sig .tc .vmem S1x1x1x2048 .f32) (h : a.IsWhole) (x : Vec F S1x1x1x2048 .f32) :
    View.readAt (Elt F) a.view (Rect.unit (s := S1x1x1x2048) ![0, 0, 0, 0] S1x1x1x2048.size inb_S1x1x1x2048_S1x1x1x2048_0_0_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega
  | ⟨3, _⟩ => show 0 + 1 * (z 3).val = (z 3).val; omega

theorem whole3 (a : Memref sig .tc .vmem S1x64x2048 .f32) (h : a.IsWhole) (x : Vec F S1x64x2048 .f32) :
    View.readAt (Elt F) a.view (Rect.unit (s := S1x64x2048) ![0, 0, 0] S1x64x2048.size inb_S1x64x2048_S1x64x2048_0_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

theorem whole2' (a : Memref sig .tc .vmem S1024x2048 .bf16) (h : a.IsWhole) (x : Vec F S1024x2048 .bf16) :
    View.readAt (Elt F) a.view (Rect.unit (s := S1024x2048) ![0, 0] S1024x2048.size inb_S1024x2048_S1024x2048_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

/-- The eight payloads, as the run spells them, are the eight pieces: the statistics a store left are read back. -/
theorem pay_of (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole)
    (x1 : Vec F S128x2048 .f32) (x2 : Vec F S1x2048 .f32) (x3 x4 : Vec F S1x1x1x2048 .f32) (k : Fin 8)
    (s : Vec F S16x1 .f32) (x : Vec F S16x2048 .f32) (hx : x = chunk x1 k) (hs : s = k0_pay20 (chunk x1 k)) :
    k0_pay2 (k0_pay8 (View.readAt (Elt F) arg4.view (Rect.unit (s := S1x2048) ![0, 0] S1x2048.size inb_S1x2048_S1x2048_0_0).toLoadRect (harg4.unread x2))
        (View.readAt (Elt F) arg6.view (Rect.unit (s := S1x1x1x2048) ![0, 0, 0, 0] S1x1x1x2048.size inb_S1x1x1x2048_S1x1x1x2048_0_0_0_0).toLoadRect (harg6.unread x4)))
      (k0_pay9 (View.readAt (Elt F) arg5.view (Rect.unit (s := S1x1x1x2048) ![0, 0, 0, 0] S1x1x1x2048.size inb_S1x1x1x2048_S1x1x1x2048_0_0_0_0).toLoadRect (harg5.unread x3)))
      x s = piece x1 x2 x3 x4 k := by
  rw [whole2, whole4, whole4, hx, hs]; rfl

/-- The statistics' stores with each payload read off its rows are the statistics of the chunks. -/
theorem stat_of (arg3 : Memref sig .tc .vmem S128x2048 .f32) (harg3 : arg3.IsWhole) (x1 : Vec F S128x2048 .f32) :
    ([⟨Rect.unit (s := S128x1) ![112, 0] S16x1.size inb_S128x1_S16x1_112_0, k0_pay20 (View.readAt (Elt F) arg3.view (Rect.unit (s := S128x2048) ![112, 0] S16x2048.size inb_S128x2048_S16x2048_112_0).toLoadRect (harg3.unread x1))⟩,
      ⟨Rect.unit (s := S128x1) ![96, 0] S16x1.size inb_S128x1_S16x1_96_0, k0_pay20 (View.readAt (Elt F) arg3.view (Rect.unit (s := S128x2048) ![96, 0] S16x2048.size inb_S128x2048_S16x2048_96_0).toLoadRect (harg3.unread x1))⟩,
      ⟨Rect.unit (s := S128x1) ![80, 0] S16x1.size inb_S128x1_S16x1_80_0, k0_pay20 (View.readAt (Elt F) arg3.view (Rect.unit (s := S128x2048) ![80, 0] S16x2048.size inb_S128x2048_S16x2048_80_0).toLoadRect (harg3.unread x1))⟩,
      ⟨Rect.unit (s := S128x1) ![64, 0] S16x1.size inb_S128x1_S16x1_64_0, k0_pay20 (View.readAt (Elt F) arg3.view (Rect.unit (s := S128x2048) ![64, 0] S16x2048.size inb_S128x2048_S16x2048_64_0).toLoadRect (harg3.unread x1))⟩,
      ⟨Rect.unit (s := S128x1) ![48, 0] S16x1.size inb_S128x1_S16x1_48_0, k0_pay20 (View.readAt (Elt F) arg3.view (Rect.unit (s := S128x2048) ![48, 0] S16x2048.size inb_S128x2048_S16x2048_48_0).toLoadRect (harg3.unread x1))⟩,
      ⟨Rect.unit (s := S128x1) ![32, 0] S16x1.size inb_S128x1_S16x1_32_0, k0_pay20 (View.readAt (Elt F) arg3.view (Rect.unit (s := S128x2048) ![32, 0] S16x2048.size inb_S128x2048_S16x2048_32_0).toLoadRect (harg3.unread x1))⟩,
      ⟨Rect.unit (s := S128x1) ![16, 0] S16x1.size inb_S128x1_S16x1_16_0, k0_pay20 (View.readAt (Elt F) arg3.view (Rect.unit (s := S128x2048) ![16, 0] S16x2048.size inb_S128x2048_S16x2048_16_0).toLoadRect (harg3.unread x1))⟩,
      ⟨Rect.unit (s := S128x1) ![0, 0] S16x1.size inb_S128x1_S16x1_0_0, k0_pay20 (View.readAt (Elt F) arg3.view (Rect.unit (s := S128x2048) ![0, 0] S16x2048.size inb_S128x2048_S16x2048_0_0).toLoadRect (harg3.unread x1))⟩]
        : List (View.Piece (Elt F) S128x1 .f32))
      = statStores fun k => k0_pay20 (chunk x1 k) := by
  rw [chunk_of arg3 harg3 x1 7 112 rfl, chunk_of arg3 harg3 x1 6 96 rfl, chunk_of arg3 harg3 x1 5 80 rfl, chunk_of arg3 harg3 x1 4 64 rfl,
    chunk_of arg3 harg3 x1 3 48 rfl, chunk_of arg3 harg3 x1 2 32 rfl, chunk_of arg3 harg3 x1 1 16 rfl, chunk_of arg3 harg3 x1 0 0 rfl]
  rfl

/-- The slot a point multiplies. -/
def slotOf (b : Vec F S2x1024x2048 .bf16) (n : ℕ) : Vec F S1x1024x2048 .bf16 := fun z =>
  b (ix3 ⟨n % 2, Nat.mod_lt _ (by decide)⟩ (z 1) (z 2))

theorem slot_load (arg12 : Memref sig .tc .vmem S2x1024x2048 .bf16) (f : arg12.view.ty.Contents (Elt F)) (i : grid0.Coords) :
    View.readAt (Elt F) arg12.view (Rect.unit (s := S2x1024x2048) (k0_off1 i) S1x1024x2048.size (k0_off1_inb i)).toLoadRect f
      = slotOf (arg12.view.read (Elt F) f) (i 0).val := by
  rw [View.readAt_eq_ld]
  funext z
  refine congrArg (arg12.view.read (Elt F) f) (funext fun a => Fin.ext ?_)
  have e0 : k0_off1 i 0 = (i 0).val % 2 := congrFun (off1_eq i) 0
  have e1 : k0_off1 i 1 = 0 := congrFun (off1_eq i) 1
  have e2 : k0_off1 i 2 = 0 := congrFun (off1_eq i) 2
  match a with
  | ⟨0, _⟩ =>
    have hz : (z 0).val < 1 := (z 0).isLt
    show k0_off1 i 0 + 1 * (z 0).val = (i 0).val % 2; omega
  | ⟨1, _⟩ => show k0_off1 i 1 + 1 * (z 1).val = (z 1).val; omega
  | ⟨2, _⟩ => show k0_off1 i 2 + 1 * (z 2).val = (z 2).val; omega

/-- The result block: columns 256… over columns 0…, each the gated product of the slot with its weight columns. -/
def hOut (u : Vec F S1x1024x2048 .bf16) (x5 x6 : Vec F S1x2048x512 .f32) : Vec F S1024x512 .bf16 := View.canon
  [⟨Rect.unit (s := S1024x512) ![0, 256] S1024x256.size inb_S1024x512_S1024x256_0_256,
      k0_pay7 (k0_pay5 u) (View.ld x5 (Rect.unit (s := S1x2048x512) ![0, 0, 256] S1x2048x256.size inb_S1x2048x512_S1x2048x256_0_0_256))
        (View.ld x6 (Rect.unit (s := S1x2048x512) ![0, 0, 256] S1x2048x256.size inb_S1x2048x512_S1x2048x256_0_0_256))⟩,
   ⟨Rect.unit (s := S1024x512) ![0, 0] S1024x256.size inb_S1024x512_S1024x256_0_0,
      k0_pay6 u (View.ld x5 (Rect.unit (s := S1x2048x512) ![0, 0, 0] S1x2048x256.size inb_S1x2048x512_S1x2048x256_0_0_0))
        (View.ld x6 (Rect.unit (s := S1x2048x512) ![0, 0, 0] S1x2048x256.size inb_S1x2048x512_S1x2048x256_0_0_0))⟩]

/-- The two stores read back are the result block. -/
theorem h_of (arg10 : Memref sig .tc .vmem S1024x512 .bf16) (f : arg10.view.ty.Contents (Elt F))
    (arg7 arg8 : Memref sig .tc .vmem S1x2048x512 .f32) (harg7 : arg7.IsWhole) (harg8 : arg8.IsWhole) (x5 x6 : Vec F S1x2048x512 .f32)
    (v u : Vec F S1x1024x2048 .bf16) (hu : v = u) :
    arg10.view.read (Elt F) (arg10.view.writes (Elt F) f
      [⟨Rect.unit (s := S1024x512) ![0, 256] S1024x256.size inb_S1024x512_S1024x256_0_256,
        k0_pay7 (k0_pay5 v) (View.readAt (Elt F) arg7.view (Rect.unit (s := S1x2048x512) ![0, 0, 256] S1x2048x256.size inb_S1x2048x512_S1x2048x256_0_0_256).toLoadRect (harg7.unread x5))
          (View.readAt (Elt F) arg8.view (Rect.unit (s := S1x2048x512) ![0, 0, 256] S1x2048x256.size inb_S1x2048x512_S1x2048x256_0_0_256).toLoadRect (harg8.unread x6))⟩,
       ⟨Rect.unit (s := S1024x512) ![0, 0] S1024x256.size inb_S1024x512_S1024x256_0_0,
        k0_pay6 v (View.readAt (Elt F) arg7.view (Rect.unit (s := S1x2048x512) ![0, 0, 0] S1x2048x256.size inb_S1x2048x512_S1x2048x256_0_0_0).toLoadRect (harg7.unread x5))
          (View.readAt (Elt F) arg8.view (Rect.unit (s := S1x2048x512) ![0, 0, 0] S1x2048x256.size inb_S1x2048x512_S1x2048x256_0_0_0).toLoadRect (harg8.unread x6))⟩])
      = hOut u x5 x6 := by
  subst hu
  refine (View.read_writes_eq_canon arg10.view f _ (View.cover_of_tiledL _ S1024x256.size (by sl_kernel_rfl))).trans ?_
  simp only [View.readAt_eq_ld, harg7.read_unread, harg8.read_unread]
  rfl

/-- The store of the whole slab read back. -/
theorem slab_of (arg11 : Memref sig .tc .vmem S64x2048 .bf16) (f : arg11.view.ty.Contents (Elt F))
    (arg9 : Memref sig .tc .vmem S1x64x2048 .f32) (harg9 : arg9.IsWhole) (x7 : Vec F S1x64x2048 .f32) :
    arg11.view.read (Elt F) (arg11.view.writes (Elt F) f
      [⟨Rect.unit (s := S64x2048) ![0, 0] S64x2048.size inb_S64x2048_S64x2048_0_0,
        k0_pay3 (View.readAt (Elt F) arg9.view (Rect.unit (s := S1x64x2048) ![0, 0, 0] S1x64x2048.size inb_S1x64x2048_S1x64x2048_0_0_0).toLoadRect (harg9.unread x7))⟩])
      = k0_pay3 x7 := by
  rw [whole3]
  funext y
  refine View.read_writes_cons_unit_of_mem _ _ _ _ _ y y rfl fun a => ?_
  match a with
  | ⟨0, _⟩ => show (y 0).val = 0 + (y 0).val; omega
  | ⟨1, _⟩ => show (y 1).val = 0 + (y 1).val; omega

/-- The first point's copy: slot 0 holds the first operand. -/
def baseA (x0 : Vec F S1024x2048 .bf16) (d : Vec F S2x1024x2048 .bf16) : Vec F S2x1024x2048 .bf16 := fun y =>
  if (y 0).val = 0 then x0 (ix2 (y 1) (y 2)) else d y

theorem pay4_at (x0 : Vec F S1024x2048 .bf16) (a : Fin 1024) (b : Fin 2048) : k0_pay4 x0 (ix3 0 a b) = x0 (ix2 a b) := by
  unfold k0_pay4
  refine shapeCast_apply _ _ _ _ ?_
  rewrite [Shape.rowMajor_val_two, Shape.rowMajor_val_three]
  show a.val * 2048 + b.val = (0 * 1024 + a.val) * 2048 + b.val
  omega

theorem base_of (arg12 : Memref sig .tc .vmem S2x1024x2048 .bf16) (harg12 : arg12.IsWhole)
    (arg2 : Memref sig .tc .vmem S1024x2048 .bf16) (harg2 : arg2.IsWhole) (x0 : Vec F S1024x2048 .bf16) (d : Vec F S2x1024x2048 .bf16) :
    arg12.view.read (Elt F) (arg12.view.writes (Elt F) (harg12.unread d)
      [⟨Rect.unit (s := S2x1024x2048) ![0, 0, 0] S1x1024x2048.size inb_S2x1024x2048_S1x1024x2048_0_0_0,
        k0_pay4 (View.readAt (Elt F) arg2.view (Rect.unit (s := S1024x2048) ![0, 0] S1024x2048.size inb_S1024x2048_S1024x2048_0_0).toLoadRect (harg2.unread x0))⟩])
      = baseA x0 d := by
  rw [whole2']
  funext y
  unfold baseA
  split
  next h =>
    refine (View.read_writes_cons_unit_of_mem _ _ _ _ _ y (ix3 0 (y 1) (y 2)) rfl fun a => ?_).trans ?_
    · match a with
      | ⟨0, _⟩ => show (y 0).val = 0 + 0; omega
      | ⟨1, _⟩ => show (y 1).val = 0 + (y 1).val; omega
      | ⟨2, _⟩ => show (y 2).val = 0 + (y 2).val; omega
    · exact pay4_at x0 (y 1) (y 2)
  next h =>
    refine (View.read_writes_cons_unit_of_not_mem _ _ _ _ _ y rfl 0 (Or.inr ?_)).trans ?_
    · show 0 + 1 ≤ (y 0).val; omega
    · exact congrFun (harg12.read_unread d) y

theorem off1_first (i : grid0.Coords) (h1 : cond1 i = 1#1) : k0_off1 i = ![0, 0, 0] := by
  rw [off1_eq, ((cond1_iff i).mp h1).1]

theorem base0 (arg12 : Memref sig .tc .vmem S2x1024x2048 .bf16) (f : arg12.view.ty.Contents (Elt F)) (x0 : Vec F S1024x2048 .bf16)
    (y : S2x1024x2048.Idx) (hy : (y 0).val = 0) :
    arg12.view.read (Elt F) (arg12.view.writes (Elt F) f
      [⟨Rect.unit (s := S2x1024x2048) ![0, 0, 0] S1x1024x2048.size inb_S2x1024x2048_S1x1024x2048_0_0_0, k0_pay4 x0⟩]) y
      = x0 (ix2 (y 1) (y 2)) := by
  refine (View.read_writes_cons_unit_of_mem _ _ _ _ _ y (ix3 0 (y 1) (y 2)) rfl fun a => ?_).trans ?_
  · match a with
    | ⟨0, _⟩ => show (y 0).val = 0 + 0; omega
    | ⟨1, _⟩ => show (y 1).val = 0 + (y 1).val; omega
    | ⟨2, _⟩ => show (y 2).val = 0 + (y 2).val; omega
  · exact pay4_at x0 (y 1) (y 2)

theorem slot_cov (arg12 : Memref sig .tc .vmem S2x1024x2048 .bf16) (arg2 : Memref sig .tc .vmem S1024x2048 .bf16) (harg2 : arg2.IsWhole)
    (x0 : Vec F S1024x2048 .bf16) (d : Vec F S2x1024x2048 .bf16) (i : grid0.Coords) (h1 : cond1 i = 1#1) :
    arg12.view.readCov [⟨Rect.unit (s := S2x1024x2048) ![0, 0, 0] S1x1024x2048.size inb_S2x1024x2048_S1x1024x2048_0_0_0,
        k0_pay4 (View.readAt (Elt F) arg2.view (Rect.unit (s := S1024x2048) ![0, 0] S1024x2048.size inb_S1024x2048_S1024x2048_0_0).toLoadRect (harg2.unread x0))⟩]
        (Rect.unit (s := S2x1024x2048) (k0_off1 i) S1x1024x2048.size (k0_off1_inb i)).toLoadRect
      = slotOf (baseA x0 d) (i 0).val := by
  have h0 : (i 0).val % 2 = 0 := by rw [((cond1_iff i).mp h1).1]
  refine (slot_load arg12 _ i).trans ?_
  rw [whole2']
  funext z
  refine (base0 arg12 _ x0 (ix3 ⟨(i 0).val % 2, Nat.mod_lt _ (by decide)⟩ (z 1) (z 2)) h0).trans ?_
  unfold slotOf baseA
  exact (if_pos h0).symm

set_option maxHeartbeats 1000000 in
/-- The body at the first point. -/
theorem runA (c : Dev nD) (i : grid0.Coords) (h1 : cond1 i = 1#1) (h2 : k0_cond2 i = 1#1)
    (arg2 : Memref sig .tc .vmem S1024x2048 .bf16) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S1x2048x512 .f32) (harg7 : arg7.IsWhole)
    (arg8 : Memref sig .tc .vmem S1x2048x512 .f32) (harg8 : arg8.IsWhole) (arg9 : Memref sig .tc .vmem S1x64x2048 .f32) (harg9 : arg9.IsWhole)
    (arg10 : Memref sig .tc .vmem S1024x512 .bf16) (harg10 : arg10.IsWhole) (arg11 : Memref sig .tc .vmem S64x2048 .bf16) (harg11 : arg11.IsWhole)
    (arg12 : Memref sig .tc .vmem S2x1024x2048 .bf16) (harg12 : arg12.IsWhole) (arg13 : Memref sig .tc .vmem S128x1 .f32) (harg13 : arg13.IsWhole)
    (x0 : Vec F S1024x2048 .bf16) (x1 : Vec F S128x2048 .f32) (x2 : Vec F S1x2048 .f32) (x3 x4 : Vec F S1x1x1x2048 .f32)
    (x5 x6 : Vec F S1x2048x512 .f32) (x7 : Vec F S1x64x2048 .f32) (d9 : Vec F S64x2048 .bf16) (d : Vec F S2x1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ owns (c : Thread nD τ) arg11 fullShare d9
        ∗ owns (c : Thread nD τ) arg12 fullShare d ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
          ∗ owns (c : Thread nD τ) arg10 fullShare (hOut (slotOf (baseA x0 d) (i 0).val) x5 x6) ∗ owns (c : Thread nD τ) arg11 fullShare (k0_pay3 x7)
          ∗ (∃ d', ⌜Upd i (piece x1 x2 x3 x4) (baseA x0 d) d'⌝ ∗ owns (c : Thread nD τ) arg12 fullShare d')
          ∗ (∃ d, owns (c : Thread nD τ) arg13 fullShare d)) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13) K := by
  simp only [cc0_ffn_a_eq_skeleton]; unfold cc0_ffn_a_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg12.eq_unread hfs0
  letI : ClosedOff (k0_off1 i) := ⟨![0, 0, 0], off1_first i h1⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact h_of arg10 f8 arg7 arg8 harg7 harg8 x5 x6 _ _ (slot_cov arg12 arg2 harg2 x0 d i h1)
  isplitl [H9]
  · iexists _; isplitr
    swap; · iexact H9
    ipureintro
    exact slab_of arg11 f9 arg9 harg9 x7
  isplitl [HS0]
  · iexists _; isplitr
    swap
    · iexists _; isplitr
      swap; · iexact HS0
      ipureintro; rfl
    ipureintro
    have hst : runA.sl.HS1_8 c arg3 harg3 x1 = statStores fun k => k0_pay20 (chunk x1 k) := stat_of arg3 harg3 x1
    rw [← base_of arg12 harg12 arg2 harg2 x0 d]
    refine upd8 arg12.view (harg12.unread d) _ i (piece x1 x2 x3 x4) _ _ _ _ _ _ _ _ ?_ ?_ ?_ ?_ ?_ ?_ ?_ ?_
    · exact pay_of arg3 harg3 arg4 harg4 arg5 harg5 arg6 harg6 x1 x2 x3 x4 0 _ _ (chunk_of arg3 harg3 x1 0 0 rfl _)
        ((congrArg (fun L => arg13.view.readCov L (Rect.unit (s := S128x1) ![0, 0] S16x1.size inb_S128x1_S16x1_0_0).toLoadRect) hst).trans (cov0 arg13.view _))
    · exact pay_of arg3 harg3 arg4 harg4 arg5 harg5 arg6 harg6 x1 x2 x3 x4 1 _ _ (chunk_of arg3 harg3 x1 1 16 rfl _)
        ((congrArg (fun L => arg13.view.readCov L (Rect.unit (s := S128x1) ![16, 0] S16x1.size inb_S128x1_S16x1_16_0).toLoadRect) hst).trans (cov1 arg13.view _))
    · exact pay_of arg3 harg3 arg4 harg4 arg5 harg5 arg6 harg6 x1 x2 x3 x4 2 _ _ (chunk_of arg3 harg3 x1 2 32 rfl _)
        ((congrArg (fun L => arg13.view.readCov L (Rect.unit (s := S128x1) ![32, 0] S16x1.size inb_S128x1_S16x1_32_0).toLoadRect) hst).trans (cov2 arg13.view _))
    · exact pay_of arg3 harg3 arg4 harg4 arg5 harg5 arg6 harg6 x1 x2 x3 x4 3 _ _ (chunk_of arg3 harg3 x1 3 48 rfl _)
        ((congrArg (fun L => arg13.view.readCov L (Rect.unit (s := S128x1) ![48, 0] S16x1.size inb_S128x1_S16x1_48_0).toLoadRect) hst).trans (cov3 arg13.view _))
    · exact pay_of arg3 harg3 arg4 harg4 arg5 harg5 arg6 harg6 x1 x2 x3 x4 4 _ _ (chunk_of arg3 harg3 x1 4 64 rfl _)
        ((congrArg (fun L => arg13.view.readCov L (Rect.unit (s := S128x1) ![64, 0] S16x1.size inb_S128x1_S16x1_64_0).toLoadRect) hst).trans (cov4 arg13.view _))
    · exact pay_of arg3 harg3 arg4 harg4 arg5 harg5 arg6 harg6 x1 x2 x3 x4 5 _ _ (chunk_of arg3 harg3 x1 5 80 rfl _)
        ((congrArg (fun L => arg13.view.readCov L (Rect.unit (s := S128x1) ![80, 0] S16x1.size inb_S128x1_S16x1_80_0).toLoadRect) hst).trans (cov5 arg13.view _))
    · exact pay_of arg3 harg3 arg4 harg4 arg5 harg5 arg6 harg6 x1 x2 x3 x4 6 _ _ (chunk_of arg3 harg3 x1 6 96 rfl _)
        ((congrArg (fun L => arg13.view.readCov L (Rect.unit (s := S128x1) ![96, 0] S16x1.size inb_S128x1_S16x1_96_0).toLoadRect) hst).trans (cov6 arg13.view _))
    · exact pay_of arg3 harg3 arg4 harg4 arg5 harg5 arg6 harg6 x1 x2 x3 x4 7 _ _ (chunk_of arg3 harg3 x1 7 112 rfl _)
        ((congrArg (fun L => arg13.view.readCov L (Rect.unit (s := S128x1) ![112, 0] S16x1.size inb_S128x1_S16x1_112_0).toLoadRect) hst).trans (cov7 arg13.view _))
  iexists _; iexists _; isplitr
  swap; · iexact HS1
  ipureintro; rfl

set_option maxHeartbeats 4000000 in
/-- The body at a point that casts a slab, but the first. -/
theorem runB (c : Dev nD) (i : grid0.Coords) (h1 : ¬ cond1 i = 1#1) (h2 : k0_cond2 i = 1#1)
    (arg2 : Memref sig .tc .vmem S1024x2048 .bf16) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S1x2048x512 .f32) (harg7 : arg7.IsWhole)
    (arg8 : Memref sig .tc .vmem S1x2048x512 .f32) (harg8 : arg8.IsWhole) (arg9 : Memref sig .tc .vmem S1x64x2048 .f32) (harg9 : arg9.IsWhole)
    (arg10 : Memref sig .tc .vmem S1024x512 .bf16) (harg10 : arg10.IsWhole) (arg11 : Memref sig .tc .vmem S64x2048 .bf16) (harg11 : arg11.IsWhole)
    (arg12 : Memref sig .tc .vmem S2x1024x2048 .bf16) (harg12 : arg12.IsWhole) (arg13 : Memref sig .tc .vmem S128x1 .f32) (harg13 : arg13.IsWhole)
    (x0 : Vec F S1024x2048 .bf16) (x1 : Vec F S128x2048 .f32) (x2 : Vec F S1x2048 .f32) (x3 x4 : Vec F S1x1x1x2048 .f32)
    (x5 x6 : Vec F S1x2048x512 .f32) (x7 : Vec F S1x64x2048 .f32) (d9 : Vec F S64x2048 .bf16) (d : Vec F S2x1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ owns (c : Thread nD τ) arg11 fullShare d9
        ∗ owns (c : Thread nD τ) arg12 fullShare d ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
          ∗ owns (c : Thread nD τ) arg10 fullShare (hOut (slotOf (d) (i 0).val) x5 x6) ∗ owns (c : Thread nD τ) arg11 fullShare (k0_pay3 x7)
          ∗ (∃ d', ⌜Upd i (piece x1 x2 x3 x4) (d) d'⌝ ∗ owns (c : Thread nD τ) arg12 fullShare d')
          ∗ (∃ d, owns (c : Thread nD τ) arg13 fullShare d)) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13) K := by
  simp only [cc0_ffn_a_eq_skeleton]; unfold cc0_ffn_a_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg12.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact h_of arg10 f8 arg7 arg8 harg7 harg8 x5 x6 _ _ ((slot_load arg12 _ i).trans (congrArg (slotOf · (i 0).val) (harg12.read_unread d)))
  isplitl [H9]
  · iexists _; isplitr
    swap; · iexact H9
    ipureintro
    exact slab_of arg11 f9 arg9 harg9 x7
  isplitl [HS0]
  · iexists _; isplitr
    swap
    · iexists _; isplitr
      swap; · iexact HS0
      ipureintro; rfl
    ipureintro
    have hst : runB.sl.HS1_8 c arg3 harg3 x1 = statStores fun k => k0_pay20 (chunk x1 k) := stat_of arg3 harg3 x1
    refine Eq.subst (motive := fun b => Upd i (piece x1 x2 x3 x4) b _) (harg12.read_unread d) ?_
    refine upd8 arg12.view (harg12.unread d) [] i (piece x1 x2 x3 x4) _ _ _ _ _ _ _ _ ?_ ?_ ?_ ?_ ?_ ?_ ?_ ?_
    · exact pay_of arg3 harg3 arg4 harg4 arg5 harg5 arg6 harg6 x1 x2 x3 x4 0 _ _ (chunk_of arg3 harg3 x1 0 0 rfl _)
        ((congrArg (fun L => arg13.view.readCov L (Rect.unit (s := S128x1) ![0, 0] S16x1.size inb_S128x1_S16x1_0_0).toLoadRect) hst).trans (cov0 arg13.view _))
    · exact pay_of arg3 harg3 arg4 harg4 arg5 harg5 arg6 harg6 x1 x2 x3 x4 1 _ _ (chunk_of arg3 harg3 x1 1 16 rfl _)
        ((congrArg (fun L => arg13.view.readCov L (Rect.unit (s := S128x1) ![16, 0] S16x1.size inb_S128x1_S16x1_16_0).toLoadRect) hst).trans (cov1 arg13.view _))
    · exact pay_of arg3 harg3 arg4 harg4 arg5 harg5 arg6 harg6 x1 x2 x3 x4 2 _ _ (chunk_of arg3 harg3 x1 2 32 rfl _)
        ((congrArg (fun L => arg13.view.readCov L (Rect.unit (s := S128x1) ![32, 0] S16x1.size inb_S128x1_S16x1_32_0).toLoadRect) hst).trans (cov2 arg13.view _))
    · exact pay_of arg3 harg3 arg4 harg4 arg5 harg5 arg6 harg6 x1 x2 x3 x4 3 _ _ (chunk_of arg3 harg3 x1 3 48 rfl _)
        ((congrArg (fun L => arg13.view.readCov L (Rect.unit (s := S128x1) ![48, 0] S16x1.size inb_S128x1_S16x1_48_0).toLoadRect) hst).trans (cov3 arg13.view _))
    · exact pay_of arg3 harg3 arg4 harg4 arg5 harg5 arg6 harg6 x1 x2 x3 x4 4 _ _ (chunk_of arg3 harg3 x1 4 64 rfl _)
        ((congrArg (fun L => arg13.view.readCov L (Rect.unit (s := S128x1) ![64, 0] S16x1.size inb_S128x1_S16x1_64_0).toLoadRect) hst).trans (cov4 arg13.view _))
    · exact pay_of arg3 harg3 arg4 harg4 arg5 harg5 arg6 harg6 x1 x2 x3 x4 5 _ _ (chunk_of arg3 harg3 x1 5 80 rfl _)
        ((congrArg (fun L => arg13.view.readCov L (Rect.unit (s := S128x1) ![80, 0] S16x1.size inb_S128x1_S16x1_80_0).toLoadRect) hst).trans (cov5 arg13.view _))
    · exact pay_of arg3 harg3 arg4 harg4 arg5 harg5 arg6 harg6 x1 x2 x3 x4 6 _ _ (chunk_of arg3 harg3 x1 6 96 rfl _)
        ((congrArg (fun L => arg13.view.readCov L (Rect.unit (s := S128x1) ![96, 0] S16x1.size inb_S128x1_S16x1_96_0).toLoadRect) hst).trans (cov6 arg13.view _))
    · exact pay_of arg3 harg3 arg4 harg4 arg5 harg5 arg6 harg6 x1 x2 x3 x4 7 _ _ (chunk_of arg3 harg3 x1 7 112 rfl _)
        ((congrArg (fun L => arg13.view.readCov L (Rect.unit (s := S128x1) ![112, 0] S16x1.size inb_S128x1_S16x1_112_0).toLoadRect) hst).trans (cov7 arg13.view _))
  iexists _; iexists _; isplitr
  swap; · iexact HS1
  ipureintro; rfl

set_option maxHeartbeats 4000000 in
/-- The body at a point that casts no slab: the slab buffer is left as found. -/
theorem runC (c : Dev nD) (i : grid0.Coords) (h1 : ¬ cond1 i = 1#1) (h2 : ¬ k0_cond2 i = 1#1)
    (arg2 : Memref sig .tc .vmem S1024x2048 .bf16) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S1x2048x512 .f32) (harg7 : arg7.IsWhole)
    (arg8 : Memref sig .tc .vmem S1x2048x512 .f32) (harg8 : arg8.IsWhole) (arg9 : Memref sig .tc .vmem S1x64x2048 .f32) (harg9 : arg9.IsWhole)
    (arg10 : Memref sig .tc .vmem S1024x512 .bf16) (harg10 : arg10.IsWhole) (arg11 : Memref sig .tc .vmem S64x2048 .bf16) (harg11 : arg11.IsWhole)
    (arg12 : Memref sig .tc .vmem S2x1024x2048 .bf16) (harg12 : arg12.IsWhole) (arg13 : Memref sig .tc .vmem S128x1 .f32) (harg13 : arg13.IsWhole)
    (x0 : Vec F S1024x2048 .bf16) (x1 : Vec F S128x2048 .f32) (x2 : Vec F S1x2048 .f32) (x3 x4 : Vec F S1x1x1x2048 .f32)
    (x5 x6 : Vec F S1x2048x512 .f32) (x7 : Vec F S1x64x2048 .f32) (d9 : Vec F S64x2048 .bf16) (d : Vec F S2x1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ owns (c : Thread nD τ) arg11 fullShare d9
        ∗ owns (c : Thread nD τ) arg12 fullShare d ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
          ∗ owns (c : Thread nD τ) arg10 fullShare (hOut (slotOf (d) (i 0).val) x5 x6) ∗ owns (c : Thread nD τ) arg11 fullShare d9
          ∗ (∃ d', ⌜Upd i (piece x1 x2 x3 x4) (d) d'⌝ ∗ owns (c : Thread nD τ) arg12 fullShare d')
          ∗ (∃ d, owns (c : Thread nD τ) arg13 fullShare d)) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13) K := by
  simp only [cc0_ffn_a_eq_skeleton]; unfold cc0_ffn_a_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg12.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact h_of arg10 f8 arg7 arg8 harg7 harg8 x5 x6 _ _ ((slot_load arg12 _ i).trans (congrArg (slotOf · (i 0).val) (harg12.read_unread d)))
  isplitl [H9]
  · iexists _; isplitr
    swap; · iexact H9
    ipureintro
    exact hf9
  isplitl [HS0]
  · iexists _; isplitr
    swap
    · iexists _; isplitr
      swap; · iexact HS0
      ipureintro; rfl
    ipureintro
    have hst : runC.sl.HS1_8 c arg3 harg3 x1 = statStores fun k => k0_pay20 (chunk x1 k) := stat_of arg3 harg3 x1
    refine Eq.subst (motive := fun b => Upd i (piece x1 x2 x3 x4) b _) (harg12.read_unread d) ?_
    refine upd8 arg12.view (harg12.unread d) [] i (piece x1 x2 x3 x4) _ _ _ _ _ _ _ _ ?_ ?_ ?_ ?_ ?_ ?_ ?_ ?_
    · exact pay_of arg3 harg3 arg4 harg4 arg5 harg5 arg6 harg6 x1 x2 x3 x4 0 _ _ (chunk_of arg3 harg3 x1 0 0 rfl _)
        ((congrArg (fun L => arg13.view.readCov L (Rect.unit (s := S128x1) ![0, 0] S16x1.size inb_S128x1_S16x1_0_0).toLoadRect) hst).trans (cov0 arg13.view _))
    · exact pay_of arg3 harg3 arg4 harg4 arg5 harg5 arg6 harg6 x1 x2 x3 x4 1 _ _ (chunk_of arg3 harg3 x1 1 16 rfl _)
        ((congrArg (fun L => arg13.view.readCov L (Rect.unit (s := S128x1) ![16, 0] S16x1.size inb_S128x1_S16x1_16_0).toLoadRect) hst).trans (cov1 arg13.view _))
    · exact pay_of arg3 harg3 arg4 harg4 arg5 harg5 arg6 harg6 x1 x2 x3 x4 2 _ _ (chunk_of arg3 harg3 x1 2 32 rfl _)
        ((congrArg (fun L => arg13.view.readCov L (Rect.unit (s := S128x1) ![32, 0] S16x1.size inb_S128x1_S16x1_32_0).toLoadRect) hst).trans (cov2 arg13.view _))
    · exact pay_of arg3 harg3 arg4 harg4 arg5 harg5 arg6 harg6 x1 x2 x3 x4 3 _ _ (chunk_of arg3 harg3 x1 3 48 rfl _)
        ((congrArg (fun L => arg13.view.readCov L (Rect.unit (s := S128x1) ![48, 0] S16x1.size inb_S128x1_S16x1_48_0).toLoadRect) hst).trans (cov3 arg13.view _))
    · exact pay_of arg3 harg3 arg4 harg4 arg5 harg5 arg6 harg6 x1 x2 x3 x4 4 _ _ (chunk_of arg3 harg3 x1 4 64 rfl _)
        ((congrArg (fun L => arg13.view.readCov L (Rect.unit (s := S128x1) ![64, 0] S16x1.size inb_S128x1_S16x1_64_0).toLoadRect) hst).trans (cov4 arg13.view _))
    · exact pay_of arg3 harg3 arg4 harg4 arg5 harg5 arg6 harg6 x1 x2 x3 x4 5 _ _ (chunk_of arg3 harg3 x1 5 80 rfl _)
        ((congrArg (fun L => arg13.view.readCov L (Rect.unit (s := S128x1) ![80, 0] S16x1.size inb_S128x1_S16x1_80_0).toLoadRect) hst).trans (cov5 arg13.view _))
    · exact pay_of arg3 harg3 arg4 harg4 arg5 harg5 arg6 harg6 x1 x2 x3 x4 6 _ _ (chunk_of arg3 harg3 x1 6 96 rfl _)
        ((congrArg (fun L => arg13.view.readCov L (Rect.unit (s := S128x1) ![96, 0] S16x1.size inb_S128x1_S16x1_96_0).toLoadRect) hst).trans (cov6 arg13.view _))
    · exact pay_of arg3 harg3 arg4 harg4 arg5 harg5 arg6 harg6 x1 x2 x3 x4 7 _ _ (chunk_of arg3 harg3 x1 7 112 rfl _)
        ((congrArg (fun L => arg13.view.readCov L (Rect.unit (s := S128x1) ![112, 0] S16x1.size inb_S128x1_S16x1_112_0).toLoadRect) hst).trans (cov7 arg13.view _))
  iexists _; iexists _; isplitr
  swap; · iexact HS1
  ipureintro; rfl

end Cert.Kernel5Ideal.Hand

end
-- ==== Proof.FfnAFrameIdeal.lean ====
/-
  Hand-written. The launch of the first feed-forward call with its normalized rows carried between the grid's points: what the two
  slots of the carried buffer hold at each point, the pipeline's proof data, and the frame: the run ends with every argument unchanged.
-/
module

public import proofs.«01_k».proof.Proof.FfnABodyIdeal

@[expose] public section

set_option maxRecDepth 16384

noncomputable section

namespace Cert.Kernel5Ideal.Hand

open Cert.Kernel5Ideal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- A point's coordinates: the row tile and the column tile. -/
theorem coords0 : ∀ t : Fin cfg0.N, (grid0.coords t 0).val = t.val / 11 :=
  (by decide +kernel : ∀ t : Fin grid0.N, (grid0.coords t 0).val = t.val / 11)
theorem coords1 : ∀ t : Fin cfg0.N, (grid0.coords t 1).val = t.val % 11 :=
  (by decide +kernel : ∀ t : Fin grid0.N, (grid0.coords t 1).val = t.val % 11)

theorem pt_lt (n : ℕ) (h : n < 99) : n < cfg0.N := h.trans_eq N_0.symm

/-- The point of the same row tile at which the 128 rows a point normalizes are first normalized. -/
def first (t : Fin cfg0.N) : Fin cfg0.N :=
  ⟨11 * (t.val / 11) + min (t.val % 11) 7, pt_lt _ (by have h : t.val < 99 := t.isLt.trans_eq N_0; omega)⟩

theorem ix_first1 : ∀ t : Fin cfg0.N, ∀ a, win0_1.index (first t) a = win0_1.index t a :=
  (by decide +kernel : ∀ t : Fin grid0.N, ∀ a, win0_1.index (first t) a = win0_1.index t a)
theorem ix_first2 : ∀ t : Fin cfg0.N, ∀ a, win0_2.index (first t) a = win0_2.index t a :=
  (by decide +kernel : ∀ t : Fin grid0.N, ∀ a, win0_2.index (first t) a = win0_2.index t a)
theorem ix_first3 : ∀ t : Fin cfg0.N, ∀ a, win0_3.index (first t) a = win0_3.index t a :=
  (by decide +kernel : ∀ t : Fin grid0.N, ∀ a, win0_3.index (first t) a = win0_3.index t a)
theorem ix_first4 : ∀ t : Fin cfg0.N, ∀ a, win0_4.index (first t) a = win0_4.index t a :=
  (by decide +kernel : ∀ t : Fin grid0.N, ∀ a, win0_4.index (first t) a = win0_4.index t a)

theorem blk_first1 (c : Dev nD) (t : Fin cfg0.N) : (iblk m c 1 (first t) : Vec F S128x2048 .f32) = iblk m c 1 t := by
  funext z; unfold iblk; rw [View.read_apply, View.read_apply]
  refine congrArg _ (congrArg (V m c (Pipeline.arrRef spec0 1)) (funext fun a => Fin.ext ?_))
  show win0_1.index (first t) a * S128x2048.size a + 1 * (z a).val = win0_1.index t a * S128x2048.size a + 1 * (z a).val
  rw [ix_first1]
theorem blk_first2 (c : Dev nD) (t : Fin cfg0.N) : (iblk m c 2 (first t) : Vec F S1x2048 .f32) = iblk m c 2 t := by
  funext z; unfold iblk; rw [View.read_apply, View.read_apply]
  refine congrArg _ (congrArg (V m c (Pipeline.arrRef spec0 2)) (funext fun a => Fin.ext ?_))
  show win0_2.index (first t) a * S1x2048.size a + 1 * (z a).val = win0_2.index t a * S1x2048.size a + 1 * (z a).val
  rw [ix_first2]
theorem blk_first3 (c : Dev nD) (t : Fin cfg0.N) : (iblk m c 3 (first t) : Vec F S1x1x1x2048 .f32) = iblk m c 3 t := by
  funext z; unfold iblk; rw [View.read_apply, View.read_apply]
  refine congrArg _ (congrArg (V m c (Pipeline.arrRef spec0 3)) (funext fun a => Fin.ext ?_))
  show win0_3.index (first t) a * S1x1x1x2048.size a + 1 * (z a).val = win0_3.index t a * S1x1x1x2048.size a + 1 * (z a).val
  rw [ix_first3]
theorem blk_first4 (c : Dev nD) (t : Fin cfg0.N) : (iblk m c 4 (first t) : Vec F S1x1x1x2048 .f32) = iblk m c 4 t := by
  funext z; unfold iblk; rw [View.read_apply, View.read_apply]
  refine congrArg _ (congrArg (V m c (Pipeline.arrRef spec0 4)) (funext fun a => Fin.ext ?_))
  show win0_4.index (first t) a * S1x1x1x2048.size a + 1 * (z a).val = win0_4.index t a * S1x1x1x2048.size a + 1 * (z a).val
  rw [ix_first4]

/-! ## What the carried buffer holds -/

/-- The sixteen normalized rows of chunk `k` that point `t` writes. -/
def rows (c : Dev nD) (t : Fin cfg0.N) (k : Fin 8) : Vec F S1x16x2048 .bf16 :=
  piece (iblk m c 1 t) (iblk m c 2 t) (iblk m c 3 t) (iblk m c 4 t) k

theorem rows_first (c : Dev nD) (t : Fin cfg0.N) (k : Fin 8) : rows m c (first t) k = rows m c t k := by
  unfold rows
  rw [blk_first1 m c t, blk_first2 m c t, blk_first3 m c t, blk_first4 m c t]

/-- The normalized rows of row tile `n` at a row and a column: the first tile's come from the first operand, a later tile's are
    written while the tile before it is multiplied. -/
def U (c : Dev nD) (n : ℕ) (r : Fin 1024) (q : Fin 2048) : Elt F .bf16 :=
  if n = 0 then (iblk m c 0 ⟨0, pt_lt 0 (by decide)⟩ : Vec F S1024x2048 .bf16) (ix2 r q)
  else if h : 11 * (n - 1) + r.val / 128 < 99 then
    rows m c ⟨11 * (n - 1) + r.val / 128, pt_lt _ h⟩ ⟨r.val % 128 / 16, by omega⟩ (ix3 0 ⟨r.val % 16, by omega⟩ q)
  else (iblk m c 0 ⟨0, pt_lt 0 (by decide)⟩ : Vec F S1024x2048 .bf16) (ix2 r q)

theorem U_next (c : Dev nD) (t : Fin cfg0.N) (r : Fin 1024) (q : Fin 2048) (hr : r.val / 128 = min (t.val % 11) 7) :
    U m c (t.val / 11 + 1) r q = rows m c t ⟨r.val % 128 / 16, by omega⟩ (ix3 0 ⟨r.val % 16, by omega⟩ q) := by
  have h : t.val < 99 := t.isLt.trans_eq N_0
  unfold U
  rw [if_neg (Nat.succ_ne_zero _), dif_pos (show 11 * (t.val / 11 + 1 - 1) + r.val / 128 < 99 by omega)]
  have e : (⟨11 * (t.val / 11 + 1 - 1) + r.val / 128, pt_lt _ (by omega)⟩ : Fin cfg0.N) = first t := by
    refine Fin.ext ?_
    show 11 * (t.val / 11 + 1 - 1) + r.val / 128 = 11 * (t.val / 11) + min (t.val % 11) 7
    omega
  rw [e, rows_first]

/-- What the carried buffer holds of the tile being multiplied at point `n`. -/
def Cur (c : Dev nD) (n : ℕ) (d : Vec F S2x1024x2048 .bf16) : Prop :=
  ∀ y : S2x1024x2048.Idx, (y 0).val = n / 11 % 2 → d y = U m c (n / 11) (y 1) (y 2)

/-- What it holds of the next tile: the rows normalized so far. -/
def Nxt (c : Dev nD) (n : ℕ) (d : Vec F S2x1024x2048 .bf16) : Prop :=
  ∀ y : S2x1024x2048.Idx, (y 0).val = 1 - n / 11 % 2 → (y 1).val < 128 * min (n % 11) 8 → d y = U m c (n / 11 + 1) (y 1) (y 2)

theorem step_next (c : Dev nD) (t : Fin cfg0.N) (b d' : Vec F S2x1024x2048 .bf16) (hb : Nxt m c t.val b)
    (hu : Upd (grid0.coords t) (rows m c t) b d') (y : S2x1024x2048.Idx) (h0 : (y 0).val = 1 - t.val / 11 % 2)
    (h1 : (y 1).val < 128 * min (t.val % 11 + 1) 8) : d' y = U m c (t.val / 11 + 1) (y 1) (y 2) := by
  have c0 := coords0 t
  have c1 := coords1 t
  by_cases h : (y 1).val < 128 * min (t.val % 11) 7
  · exact (hu.2 y (Or.inr (Or.inl (by rw [c1]; exact h)))).trans (hb y h0 (by omega))
  · rw [U_next m c t (y 1) (y 2) (by omega)]
    exact hu.1 _ _ y (by rw [c0]; exact h0) (by
      rw [c1]
      show (y 1).val = 128 * min (t.val % 11) 7 + 16 * ((y 1).val % 128 / 16) + (y 1).val % 16
      omega) rfl

/-- One point's step: the next tile gains 128 rows, and a tile whose rows are all there becomes the one being multiplied. -/
theorem step (c : Dev nD) (t : Fin cfg0.N) (b d' : Vec F S2x1024x2048 .bf16) (hc : Cur m c t.val b) (hb : Nxt m c t.val b)
    (hu : Upd (grid0.coords t) (rows m c t) b d') : Cur m c (t.val + 1) d' ∧ Nxt m c (t.val + 1) d' := by
  have c0 := coords0 t
  by_cases h : t.val % 11 = 10
  · have e : (t.val + 1) / 11 = t.val / 11 + 1 := by omega
    refine ⟨fun y h0 => ?_, fun y _ h1 => absurd h1 (by omega)⟩
    rw [e] at h0 ⊢
    have hy : (y 1).val < 1024 := (y 1).isLt
    exact step_next m c t b d' hb hu y (by omega) (by omega)
  · have e : (t.val + 1) / 11 = t.val / 11 := by omega
    have e1 : (t.val + 1) % 11 = t.val % 11 + 1 := by omega
    refine ⟨fun y h0 => ?_, fun y h0 h1 => ?_⟩
    · rw [e] at h0 ⊢
      exact (hu.2 y (Or.inl (by rw [c0]; omega))).trans (hc y h0)
    · rw [e] at h0 ⊢
      rw [e1] at h1
      exact step_next m c t b d' hb hu y h0 h1

/-- The tile multiplied at a point. -/
def tile (c : Dev nD) (n : ℕ) : Vec F S1x1024x2048 .bf16 := fun z => U m c n (z 1) (z 2)

theorem slot_tile (c : Dev nD) (t : Fin cfg0.N) (b : Vec F S2x1024x2048 .bf16) (hc : Cur m c t.val b) :
    slotOf b (grid0.coords t 0).val = tile m c (t.val / 11) := by
  funext z
  unfold slotOf tile
  exact hc _ (by show (grid0.coords t 0).val % 2 = _; rw [coords0])

theorem cur_first (c : Dev nD) (t : Fin cfg0.N) (ht : t.val = 0) (d : Vec F S2x1024x2048 .bf16) :
    Cur m c t.val (baseA (iblk m c 0 t) d) ∧ Nxt m c t.val (baseA (iblk m c 0 t) d) := by
  obtain rfl : t = ⟨0, pt_lt 0 (by decide)⟩ := Fin.ext ht
  refine ⟨fun y h0 => ?_, fun y _ h1 => absurd h1 (Nat.not_lt_zero _)⟩
  unfold baseA U
  rw [if_pos (show (y 0).val = 0 from h0), if_pos (show 0 / 11 = 0 from rfl)]

/-! ## The proof data -/

/-- The carried buffers. -/
abbrev scM0_0 : Memref sig .tc .vmem S2x1024x2048 .bf16 := Memref.whole cc0_scratch0
abbrev scM0_1 : Memref sig .tc .vmem S128x1 .f32 := Memref.whole cc0_scratch1

/-- What the carried buffer holds on entry to a point. -/
def Inv (c : Dev nD) (n : ℕ) (d : Vec F S2x1024x2048 .bf16) : Prop := (n ≠ 0 → Cur m c n d) ∧ Nxt m c n d

/-- The invariant on entry to a point: the carried buffer, the statistics' buffer and the generator's register. -/
def inv (c : Dev nD) (n : ℕ) : sProp 𝕄 :=
  iprop((∃ d, ⌜Inv m c n d⌝ ∗ owns (c : Thread nD τ) scM0_0 fullShare d) ∗ (∃ d, owns (c : Thread nD τ) scM0_1 fullShare d)
    ∗ (∃ r, prngReg c r))

/-- The proof data: every input at its block, the result at the gated product of the point's tile, the copied weights at their slab. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hOut (tile m c (t.val / 11)) (iblk m c 5 t) (iblk m c 6 t)
    | ⟨9, _⟩ => k0_pay3 (iblk m c 7 t)
    | ⟨_ + 10, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = hOut (tile m c (t.val / 11)) (iblk m c 5 t) (iblk m c 6 t) := by dsimp only [dats]
theorem after0_9 (c : Dev nD) (t : Fin cfg0.N) : (dats m 0 c).after 9 t = k0_pay3 (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The copied slabs: the last points copy nothing and leave the last slab in place -/

theorem fetch9 : ∀ t : Fin cfg0.N, (cfg0.win 9).fetch t = false :=
  (by decide +kernel : ∀ t : Fin grid0.N, win0_9.fetch t = false)
theorem flush9 : ∀ t : Fin cfg0.N, 87 ≤ t.val → t.val < 98 → (cfg0.win 9).flush t = false :=
  (by decide +kernel : ∀ t : Fin grid0.N, 87 ≤ t.val → t.val < 98 → win0_9.flush t = false)
theorem idle9 : ∀ t : Fin cfg0.N, cfg0.idle 9 (cfg0.grid.coords t) = decide (88 ≤ t.val) :=
  (by decide +kernel : ∀ t : Fin grid0.N, idle0 9 (grid0.coords t) = decide (88 ≤ t.val))
theorem ix_last7 : ∀ t : Fin cfg0.N, 88 ≤ t.val → ∀ a, win0_7.index t a = win0_7.index ⟨t.val - 1, Nat.lt_of_le_of_lt (Nat.sub_le _ _) t.isLt⟩ a :=
  (by decide +kernel : ∀ t : Fin grid0.N, 88 ≤ t.val → ∀ a, win0_7.index t a = win0_7.index ⟨t.val - 1, Nat.lt_of_le_of_lt (Nat.sub_le _ _) t.isLt⟩ a)

theorem blk_last7 (c : Dev nD) (t : Fin cfg0.N) (ht : 88 ≤ t.val) :
    (iblk m c 7 t : Vec F S1x64x2048 .f32) = iblk m c 7 ⟨t.val - 1, Nat.lt_of_le_of_lt (Nat.sub_le _ _) t.isLt⟩ := by
  funext z; unfold iblk; rw [View.read_apply, View.read_apply]
  refine congrArg _ (congrArg (V m c (Pipeline.arrRef spec0 7)) (funext fun a => Fin.ext ?_))
  show win0_7.index t a * S1x64x2048.size a + 1 * (z a).val
    = win0_7.index ⟨t.val - 1, Nat.lt_of_le_of_lt (Nat.sub_le _ _) t.isLt⟩ a * S1x64x2048.size a + 1 * (z a).val
  rw [ix_last7 t ht]

theorem before9 (c : Dev nD) (d) : ∀ (n : ℕ) (t : Fin cfg0.N), t.val = 88 + n →
    (dats m 0 c).before 9 t d = k0_pay3 (iblk m c 7 t)
  | 0, t, ht => by
    have h99 : t.val < 99 := t.isLt.trans_eq N_0
    rw [(dats m 0 c).before_of_pos 9 t (by omega) (fetch9 t) d,
      flush9 ⟨t.val - 1, _⟩ (by show 87 ≤ t.val - 1; omega) (by show t.val - 1 < 98; omega), if_neg Bool.false_ne_true]
    unfold Dat.left
    have hi := idle9 ⟨t.val - 1, Nat.lt_of_le_of_lt (Nat.sub_le _ _) t.isLt⟩
    rw [decide_eq_false (show ¬ 88 ≤ t.val - 1 by omega)] at hi
    rw [hi]
    show (dats m 0 c).after 9 ⟨t.val - 1, _⟩ = _
    rw [after0_9, blk_last7 m c t (by omega)]
  | n + 1, t, ht => by
    have h99 : t.val < 99 := t.isLt.trans_eq N_0
    rw [(dats m 0 c).before_of_pos 9 t (by omega) (fetch9 t) d,
      flush9 ⟨t.val - 1, _⟩ (by show 87 ≤ t.val - 1; omega) (by show t.val - 1 < 98; omega), if_neg Bool.false_ne_true]
    unfold Dat.left
    have hi := idle9 ⟨t.val - 1, Nat.lt_of_le_of_lt (Nat.sub_le _ _) t.isLt⟩
    rw [decide_eq_true (show 88 ≤ t.val - 1 by omega)] at hi
    rw [hi]
    show (dats m 0 c).before 9 ⟨t.val - 1, _⟩ d = _
    rw [before9 c d n ⟨t.val - 1, _⟩ (by show t.val - 1 = 88 + n; omega), blk_last7 m c t (by omega)]

theorem kept9 (c : Dev nD) (t : Fin cfg0.N) (ht : 88 ≤ t.val) (d) : (dats m 0 c).before 9 t d = (dats m 0 c).after 9 t := by
  rw [before9 m c d (t.val - 88) t (by omega), after0_9]

/-- A window whose buffer holds at its idle points what the proof data say is left as the obligation asks. -/
theorem leave (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t)
      ⊢ ((dats m 0 c).leavesExact w t : sProp 𝕄) := by
  unfold Dat.leavesExact
  revert h
  cases cfg0.idle w (cfg0.grid.coords t)
  · intro _; exact .rfl
  · intro h
    cases (cfg0.win w).flush t
    · iintro H; iexists (dats m 0 c).after w t; rw [h rfl]; iexact H
    · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

theorem sound_runA (c : Dev nD) (t : Fin cfg0.N) (ht : t.val = 0) :
    bodyPre m c t ⊢ wp frame (wpE (defs₀ (F := F)) Variants.none c none) Set.univ (bodyAt0 t) (fun _ => bodyPost m c t) := by
  have c0 := coords0 t
  have c1 := coords1 t
  have h99 : t.val < 99 := t.isLt.trans_eq N_0
  have h1 : cond1 (grid0.coords t) = 1#1 := (cond1_iff _).mpr (by rw [c0, c1]; omega)
  have h2 : k0_cond2 (grid0.coords t) = 1#1 := (cond2_iff _).mpr (by rw [c0, c1]; omega)
  unfold bodyPre bodyPost bodyAt0
  simp only [before0_0, before0_1, before0_2, before0_3, before0_4, before0_5, before0_6, before0_7]
  rw [show (dats m 0 c).Φ t.castSucc = inv m c t.val from by dsimp only [dats]; rfl,
    show (dats m 0 c).Φ t.succ = inv m c (t.val + 1) from by dsimp only [dats]; rfl,
    show (dats m 0 c).owesAt () t.succ = (dats m 0 c).owesAt () t.castSucc from rfl,
    after0_0, after0_1, after0_2, after0_3, after0_4, after0_5, after0_6, after0_7, after0_8]
  unfold inv
  iintro ⟨⟨⟨%d, %hI, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hcur := cur_first m c t ht d
  iapply (runA c (grid0.coords t) h1 h2 _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    ((dats m 0 c).before 9 t d9) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]; · iexact HS1
  iintro ⟨H0, H1, H2, H3, H4, H5, H6, H7, H8, H9, ⟨%d', %hu, HS0⟩, HS1⟩
  isplitl [HS0 HS1 Hg]
  · isplitl [HS0]
    · iexists d'; isplitr
      · ipureintro
        have hs := step m c t _ d' hcur.1 hcur.2 hu
        exact ⟨fun _ => hs.1, hs.2⟩
      iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [← slot_tile m c t _ hcur.1]; iexact H8
  iapply (leave m c 9 t (fun h => absurd ((idle9 t).symm.trans h) (by rw [decide_eq_false (by omega)]; exact Bool.false_ne_true)))
  rw [after0_9]; iexact H9

theorem sound_runB (c : Dev nD) (t : Fin cfg0.N) (ht0 : t.val ≠ 0) (ht1 : t.val < 88) :
    bodyPre m c t ⊢ wp frame (wpE (defs₀ (F := F)) Variants.none c none) Set.univ (bodyAt0 t) (fun _ => bodyPost m c t) := by
  have c0 := coords0 t
  have c1 := coords1 t
  have h99 : t.val < 99 := t.isLt.trans_eq N_0
  have h1 : ¬ cond1 (grid0.coords t) = 1#1 := fun h => absurd ((cond1_iff _).mp h) (by rw [c0, c1]; omega)
  have h2 : k0_cond2 (grid0.coords t) = 1#1 := (cond2_iff _).mpr (by rw [c0, c1]; omega)
  unfold bodyPre bodyPost bodyAt0
  simp only [before0_0, before0_1, before0_2, before0_3, before0_4, before0_5, before0_6, before0_7]
  rw [show (dats m 0 c).Φ t.castSucc = inv m c t.val from by dsimp only [dats]; rfl,
    show (dats m 0 c).Φ t.succ = inv m c (t.val + 1) from by dsimp only [dats]; rfl,
    show (dats m 0 c).owesAt () t.succ = (dats m 0 c).owesAt () t.castSucc from rfl,
    after0_0, after0_1, after0_2, after0_3, after0_4, after0_5, after0_6, after0_7, after0_8]
  unfold inv
  iintro ⟨⟨⟨%d, %hI, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hcur := And.intro (hI.1 ht0) hI.2
  iapply (runB c (grid0.coords t) h1 h2 _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    ((dats m 0 c).before 9 t d9) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]; · iexact HS1
  iintro ⟨H0, H1, H2, H3, H4, H5, H6, H7, H8, H9, ⟨%d', %hu, HS0⟩, HS1⟩
  isplitl [HS0 HS1 Hg]
  · isplitl [HS0]
    · iexists d'; isplitr
      · ipureintro
        have hs := step m c t _ d' hcur.1 hcur.2 hu
        exact ⟨fun _ => hs.1, hs.2⟩
      iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [← slot_tile m c t _ hcur.1]; iexact H8
  iapply (leave m c 9 t (fun h => absurd ((idle9 t).symm.trans h) (by rw [decide_eq_false (by omega)]; exact Bool.false_ne_true)))
  rw [after0_9]; iexact H9

theorem sound_runC (c : Dev nD) (t : Fin cfg0.N) (ht : 88 ≤ t.val) :
    bodyPre m c t ⊢ wp frame (wpE (defs₀ (F := F)) Variants.none c none) Set.univ (bodyAt0 t) (fun _ => bodyPost m c t) := by
  have c0 := coords0 t
  have c1 := coords1 t
  have h99 : t.val < 99 := t.isLt.trans_eq N_0
  have h1 : ¬ cond1 (grid0.coords t) = 1#1 := fun h => absurd ((cond1_iff _).mp h) (by rw [c0, c1]; omega)
  have h2 : ¬ k0_cond2 (grid0.coords t) = 1#1 := fun h => absurd ((cond2_iff _).mp h) (by rw [c0, c1]; omega)
  unfold bodyPre bodyPost bodyAt0
  simp only [before0_0, before0_1, before0_2, before0_3, before0_4, before0_5, before0_6, before0_7]
  rw [show (dats m 0 c).Φ t.castSucc = inv m c t.val from by dsimp only [dats]; rfl,
    show (dats m 0 c).Φ t.succ = inv m c (t.val + 1) from by dsimp only [dats]; rfl,
    show (dats m 0 c).owesAt () t.succ = (dats m 0 c).owesAt () t.castSucc from rfl,
    after0_0, after0_1, after0_2, after0_3, after0_4, after0_5, after0_6, after0_7, after0_8]
  unfold inv
  iintro ⟨⟨⟨%d, %hI, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hcur := And.intro (hI.1 (by omega)) hI.2
  iapply (runC c (grid0.coords t) h1 h2 _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    ((dats m 0 c).before 9 t d9) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]; · iexact HS1
  iintro ⟨H0, H1, H2, H3, H4, H5, H6, H7, H8, H9, ⟨%d', %hu, HS0⟩, HS1⟩
  isplitl [HS0 HS1 Hg]
  · isplitl [HS0]
    · iexists d'; isplitr
      · ipureintro
        have hs := step m c t _ d' hcur.1 hcur.2 hu
        exact ⟨fun _ => hs.1, hs.2⟩
      iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [← slot_tile m c t _ hcur.1]; iexact H8
  iapply (leave m c 9 t (fun _ d => kept9 m c t ht d))
  rw [← kept9 m c t ht d9]; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht0 : t.val = 0
  · exact sound_runA m c t ht0
  · by_cases ht : t.val < 88
    · exact sound_runB m c t ht0 ht
    · exact sound_runC m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; rfl

theorem inv_in (c : Dev nD) : (Pipeline.ΦA spec0 c : sProp 𝕄) ⊢ (dats m 0 c).Φ 0 := by
  rw [show (dats m 0 c).Φ 0 = inv m c 0 from by dsimp only [dats]; rfl, PhiA0_eq]
  unfold inv
  iintro ⟨⟨⟨%d, HS0⟩, HS1⟩, Hg⟩
  isplitl [HS0]
  · iexists d; isplitr
    · ipureintro; exact ⟨fun h => absurd rfl h, fun y _ h1 => absurd h1 (Nat.not_lt_zero _)⟩
    iexact HS0
  isplitl [HS1]; · iexact HS1
  iexact Hg

theorem inv_out (c : Dev nD) (n : ℕ) : inv m c n ⊢ (Pipeline.ΦA spec0 c : sProp 𝕄) := by
  rw [PhiA0_eq]
  unfold inv
  iintro ⟨⟨%d, -, HS0⟩, HS1, Hg⟩
  isplitl [HS0 HS1]
  · isplitl [HS0]; · iexists d; iexact HS0
    iexact HS1
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := inv_in m) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel5Ideal.Hand

end
-- ==== Proof.FfnA.lean ====
/-
  Hand-written. The first feed-forward call: what the kernel's two results hold after the run, and that it is what the reference's
  operations compute, element by element: the gated product of the normalized, modulated rows with the two halves of the weights, and
  the copied output weights.
-/
module

public import proofs.«01_k».proof.Proof.Rms
public import proofs.«01_k».proof.Proof.FfnAFrameIdeal
public import proofs.«01_k».proof.Proof.Gen.Reference5Ideal.Read
public import Idealize.ShloMosaic.Lib.IdealHost

@[expose] public section

set_option maxRecDepth 16384

noncomputable section

namespace Cert.Proof.FfnA

open Idealize.ShloMosaic Idealize.ShloMosaic.ValueIdx Idealize.ShloMosaic.TcCoe Idealize.SL.Sem
open Idealize.ShloMosaic.Tactic
open Idealize.ShloMosaic.Pipeline (Dat)
open Cert.Proof.Common Cert.Proof.Rms Cert.Kernel5Ideal Cert.Kernel5Ideal.Gen Cert.Kernel5Ideal.Hand
open scoped BigOperators

/-- One, as the constant's bits spell it. -/
abbrev one : EReal := Ideal.ofBits .f32 0x3F800000#32

/-- A value times its logistic. -/
def silu (z : EReal) : EReal := z * Ideal.logistic z

/-- A normalized, modulated element: the residual stream's element times its row's scale times the gain, times one plus the row's
    modulation, plus the row's shift. Row `a`'s modulation is that of its batch element `a / 2048`. -/
def norm (x : S9216x2048.Idx → EReal) (g : S2048.Idx → EReal) (mods : S8x9x1x2048.Idx → EReal) (a b : Nat) : EReal :=
  at2 x a b * rms (at2 x a) * at1 g b * (one + at4 mods (a / 2048) 7 0 b) + at4 mods (a / 2048) 6 0 b

/-- The left operand of the products: its first 1024 rows are given, the others are normalized here. -/
def left (u0 : S1024x2048.Idx → EReal) (x : S9216x2048.Idx → EReal) (g : S2048.Idx → EReal) (mods : S8x9x1x2048.Idx → EReal)
    (a b : Nat) : EReal := if a < 1024 then at2 u0 a b else norm x g mods a b

/-- The gated product at an element. -/
def elt (u0 : S1024x2048.Idx → EReal) (x : S9216x2048.Idx → EReal) (g : S2048.Idx → EReal) (mods : S8x9x1x2048.Idx → EReal)
    (wi : S4x2048x11264.Idx → EReal) (a b : Nat) : EReal :=
  silu (∑ k : Fin 2048, left u0 x g mods a k.val * at3 wi 0 k.val b)
    * ∑ k : Fin 2048, left u0 x g mods a k.val * at3 wi 0 k.val (5632 + b)

/-- The first result array. -/
def G (u0 : S1024x2048.Idx → EReal) (x : S9216x2048.Idx → EReal) (g : S2048.Idx → EReal) (mods : S8x9x1x2048.Idx → EReal)
    (wi : S4x2048x11264.Idx → EReal) : S9216x5632.Idx → EReal := fun i => elt u0 x g mods wi (i 0).val (i 1).val

/-- The second result array: the layer's output weights. -/
def W (wo : S4x5632x2048.Idx → EReal) : S5632x2048.Idx → EReal := fun i => at3 wo 0 (i 0).val (i 1).val

/-! ## The kernel's operations, at an element -/

/-- Sixteen rows' scales, as the body computes them. -/
theorem stats_at (v : Vec Ideal S16x2048 .f32) (x : S16x1.Idx) : (k0_pay20 (F := Ideal) v x : EReal) = rms (at2 v (x 0).val) := by
  unfold k0_pay20
  have hx : x = ix2 (x 0) 0 := (eq_ix2 x).trans (congrArg (ix2 (x 0)) (Subsingleton.elim (α := Fin 1) (x 1) 0))
  refine (shapeCast_apply _ shapeCasts_S16x1_S16x1 x x rfl).trans ?_
  show Ideal.rsqrt (Ideal.div (shapeCast (α := EReal) S16x1 (multiReduction (F := Ideal) (φ := .f32) .add [1] S16 (mulf v v) 0x00000000#32 reduces_S16x2048_S16 (.inl rfl) rfl)
    shapeCasts_S16_S16x1 x) (Ideal.ofBits .f32 0x45000000#32) + Ideal.ofBits .f32 0x358637BD#32) = _
  unfold rms
  refine congrArg (fun z : EReal => Ideal.rsqrt (Ideal.div z (Ideal.ofBits .f32 0x45000000#32) + Ideal.ofBits .f32 0x358637BD#32)) ?_
  refine (congrArg _ hx).trans ((rowsum_at (mulf v v) reduces_S16x2048_S16 shapeCasts_S16_S16x1 (x 0)).trans
    (Finset.sum_congr rfl fun k _ => ?_))
  refine (at2_of (mulf (F := Ideal) (φ := .f32) v v : S16x2048.Idx → EReal) (ix2 (x 0) k) rfl rfl).symm.trans ?_
  exact congrArg₂ (· * ·) (at2_of v _ rfl rfl) (at2_of v _ rfl rfl)

/-- The row of gains times one plus the modulation. -/
theorem gain_row (x2 : Vec Ideal S1x2048 .f32) (x4 : Vec Ideal S1x1x1x2048 .f32) (q : Fin 2048) :
    (k0_pay8 (F := Ideal) x2 x4 (ix2 0 q) : EReal) = at2 x2 0 q.val * (one + at4 x4 0 0 0 q.val) := by
  unfold k0_pay8
  refine congrArg₂ (· * ·) ((shapeCast_apply x2 shapeCasts_S1x2048_S1x2048 (ix2 0 q) (ix2 0 q) rfl).trans (at2_of x2 _ rfl rfl))
    (congrArg (one + ·) ?_)
  refine (shapeCast_apply x4 shapeCasts_S1x1x1x2048_S1x2048 (ix2 0 q) (ix4 0 0 0 q) (by
      rewrite [Shape.rowMajor_val_four, Shape.rowMajor_val_two]
      show ((0 * 1 + 0) * 1 + 0) * 2048 + q.val = 0 * 2048 + q.val; omega)).trans ?_
  exact at4_of x4 _ rfl rfl rfl rfl

/-- The row of shifts. -/
theorem shift_row (x3 : Vec Ideal S1x1x1x2048 .f32) (q : Fin 2048) :
    (k0_pay9 (F := Ideal) x3 (ix2 0 q) : EReal) = at4 x3 0 0 0 q.val := by
  unfold k0_pay9
  refine (shapeCast_apply x3 shapeCasts_S1x1x1x2048_S1x2048 (ix2 0 q) (ix4 0 0 0 q) (by
      rewrite [Shape.rowMajor_val_four, Shape.rowMajor_val_two]
      show ((0 * 1 + 0) * 1 + 0) * 2048 + q.val = 0 * 2048 + q.val; omega)).trans ?_
  exact at4_of x3 _ rfl rfl rfl rfl

/-- Sixteen rows modulated, at an element, from the rows, their scales and the two modulation rows. -/
theorem mod_at (sc sh : FVec Ideal S1x2048 .f32) (v : Vec Ideal S16x2048 .f32) (r : Vec Ideal S16x1 .f32) (s : Fin 16) (q : Fin 2048) :
    (k0_pay2 (F := Ideal) sc sh v r (ix3 0 s q) : EReal)
      = v (ix2 s q) * r (ix2 s 0) * sc (ix2 0 q) + sh (ix2 0 q) := by
  unfold k0_pay2
  refine (shapeCast_apply _ shapeCasts_S16x2048_S1x16x2048 (ix3 0 s q) (ix2 s q) (by
      rewrite [Shape.rowMajor_val_two, Shape.rowMajor_val_three]
      show s.val * 2048 + q.val = (0 * 16 + s.val) * 2048 + q.val; omega)).trans ?_
  refine (shapeCast_apply _ shapeCasts_S16x2048_S16x2048 (ix2 s q) (ix2 s q) rfl).trans ?_
  show (v (ix2 s q) : EReal) * broadcastTo (α := EReal) S16x2048 r broadcasts_S16x1_S16x2048 (ix2 s q)
      * broadcastTo (α := EReal) S16x2048 sc broadcasts_S1x2048_S16x2048 (ix2 s q)
      + broadcastTo (α := EReal) S16x2048 sh broadcasts_S1x2048_S16x2048 (ix2 s q) = _
  rw [broadcastTo_apply r broadcasts_S16x1_S16x2048 (ix2 s q) (ix2 s 0) (fun a => match a with
      | ⟨0, _⟩ => rfl
      | ⟨1, _⟩ => rfl),
    broadcastTo_apply sc broadcasts_S1x2048_S16x2048 (ix2 s q) (ix2 0 q) (fun a => match a with
      | ⟨0, _⟩ => rfl
      | ⟨1, _⟩ => rfl),
    broadcastTo_apply sh broadcasts_S1x2048_S16x2048 (ix2 s q) (ix2 0 q) (fun a => match a with
      | ⟨0, _⟩ => rfl
      | ⟨1, _⟩ => rfl)]

/-- A chunk's element is its block's. -/
theorem chunk_at (x1 : Vec Ideal S128x2048 .f32) (k : Fin 8) (s q : Nat) (hs : s < 16) (hq : q < 2048) :
    at2 (chunk (F := Ideal) x1 k : S16x2048.Idx → EReal) s q = at2 x1 (16 * k.val + s) q :=
  (at2_of (chunk (F := Ideal) x1 k : S16x2048.Idx → EReal) (ix2 ⟨s, hs⟩ ⟨q, hq⟩) rfl rfl).symm.trans (at2_of x1 _ rfl rfl)

/-- Sixteen rows of a block normalized and modulated, at an element. -/
theorem piece_at (x1 : Vec Ideal S128x2048 .f32) (x2 : Vec Ideal S1x2048 .f32) (x3 x4 : Vec Ideal S1x1x1x2048 .f32) (k : Fin 8)
    (s : Fin 16) (q : Fin 2048) : (Cert.Kernel5Ideal.Hand.piece (F := Ideal) x1 x2 x3 x4 k (ix3 0 s q) : EReal)
      = at2 x1 (16 * k.val + s.val) q.val * rms (at2 x1 (16 * k.val + s.val)) * at2 x2 0 q.val * (one + at4 x4 0 0 0 q.val)
        + at4 x3 0 0 0 q.val := by
  unfold Cert.Kernel5Ideal.Hand.piece
  refine (mod_at _ _ _ _ s q).trans ?_
  rw [stats_at, gain_row, shift_row]
  refine congrArg (· + _) ?_
  refine Eq.trans (congrArg₂ (· * ·) (congrArg₂ (· * ·)
    ((at2_of (chunk (F := Ideal) x1 k : S16x2048.Idx → EReal) _ rfl rfl).trans (chunk_at x1 k s.val q.val s.isLt q.isLt))
    (rms_congr _ _ fun j hj => chunk_at x1 k s.val j s.isLt hj)) rfl) ?_
  exact (mul_assoc _ _ _).symm

/-- A store's payload at an element, from the loads that it is made of. -/
theorem gated_at (u : Vec Ideal S1x1024x2048 .bf16) (wa wb : Vec Ideal S1x2048x256 .f32) (x : S1024x256.Idx) :
    (k0_pay6 (F := Ideal) u wa wb x : EReal)
      = silu (∑ k : Fin 2048, u (ix3 0 (x 0) k) * wa (ix3 0 k (x 1))) * ∑ k : Fin 2048, u (ix3 0 (x 0) k) * wb (ix3 0 k (x 1)) := by
  have hm : ∀ w : Vec Ideal S1x2048x256 .f32,
      (matmul (F := Ideal) (φ₁ := .bf16) (φ₂ := .bf16) dot_S1024x2048_S2048x256_S1024x256_1_0_0_1_n_n none (k0_pay5 (F := Ideal) u)
        (truncf .bf16 (shapeCast S2048x256 w shapeCasts_S1x2048x256_S2048x256) bitsLt_bf16_f32)
        (constant S1024x256 .f32 0x00000000#32) x : EReal) = ∑ k : Fin 2048, u (ix3 0 (x 0) k) * w (ix3 0 k (x 1)) := by
    intro w
    refine ((matmul_at dot_S1024x2048_S2048x256_S1024x256_1_0_0_1_n_n rfl none _ _ _ x).trans (zero_acc x _)).trans
      (Finset.sum_congr rfl fun k _ => congrArg₂ (· * ·) ?_ ?_)
    · unfold k0_pay5
      exact shapeCast_apply u shapeCasts_S1x1024x2048_S1024x2048 (ix2 (x 0) k) (ix3 0 (x 0) k) (by
        rewrite [Shape.rowMajor_val_three, Shape.rowMajor_val_two]
        show (0 * 1024 + (x 0).val) * 2048 + k.val = (x 0).val * 2048 + k.val; omega)
    · exact shapeCast_apply w shapeCasts_S1x2048x256_S2048x256 (ix2 k (x 1)) (ix3 0 k (x 1)) (by
        rewrite [Shape.rowMajor_val_three, Shape.rowMajor_val_two]
        show (0 * 2048 + k.val) * 256 + (x 1).val = k.val * 256 + (x 1).val; omega)
  rw [← hm wa, ← hm wb]
  rfl

/-- The other store's payload is the same function of its loads. -/
theorem pay7_eq (u : Vec Ideal S1x1024x2048 .bf16) (wa wb : Vec Ideal S1x2048x256 .f32) :
    k0_pay7 (F := Ideal) (k0_pay5 u) wa wb = k0_pay6 u wa wb := rfl

/-- The block that one grid point leaves, at an element. -/
def blockElt (u : S1x1024x2048.Idx → EReal) (x5 x6 : S1x2048x512.Idx → EReal) (y : S1024x512.Idx) : EReal :=
  silu (∑ k : Fin 2048, at3 u 0 (y 0).val k.val * at3 x5 0 k.val (y 1).val)
    * ∑ k : Fin 2048, at3 u 0 (y 0).val k.val * at3 x6 0 k.val (y 1).val

/-- The body's two stores leave `blockElt`. -/
theorem out_eq (u : Vec Ideal S1x1024x2048 .bf16) (x5 x6 : Vec Ideal S1x2048x512 .f32) :
    (hOut (F := Ideal) u x5 x6 : S1024x512.Idx → EReal) = blockElt u x5 x6 := by
  funext y
  unfold hOut
  rw [pay7_eq]
  refine View.canon_apply_of_pieces (Val := Elt Ideal) (e := .bf16) (blockElt u x5 x6) _ ?_ y
    (View.cover_of_tiledL (s := S1024x512) _ S1024x256.size ?_ y)
  swap
  · sl_kernel_rfl
  intro p hp x
  rcases List.mem_cons.mp hp with rfl | hp
  · refine (gated_at u _ _ x).trans ?_
    refine congrArg₂ (· * ·) (congrArg silu (Finset.sum_congr rfl fun k _ => congrArg₂ (· * ·) (at3_of u _ rfl ?_ rfl)
      (at3_of x5 _ rfl ?_ rfl))) (Finset.sum_congr rfl fun k _ => congrArg₂ (· * ·) (at3_of u _ rfl ?_ rfl) (at3_of x6 _ rfl ?_ rfl))
    · show (x 0).val = 0 + 1 * (x 0).val; omega
    · show 0 + 1 * k.val = k.val; omega
    · show (x 0).val = 0 + 1 * (x 0).val; omega
    · show 0 + 1 * k.val = k.val; omega
  · obtain rfl := List.mem_singleton.mp hp
    refine (gated_at u _ _ x).trans ?_
    refine congrArg₂ (· * ·) (congrArg silu (Finset.sum_congr rfl fun k _ => congrArg₂ (· * ·) (at3_of u _ rfl ?_ rfl)
      (at3_of x5 _ rfl ?_ rfl))) (Finset.sum_congr rfl fun k _ => congrArg₂ (· * ·) (at3_of u _ rfl ?_ rfl) (at3_of x6 _ rfl ?_ rfl))
    · show (x 0).val = 0 + 1 * (x 0).val; omega
    · show 0 + 1 * k.val = k.val; omega
    · show (x 0).val = 0 + 1 * (x 0).val; omega
    · show 0 + 1 * k.val = k.val; omega

/-- The copied slab at an element. -/
theorem copy_at (x7 : Vec Ideal S1x64x2048 .f32) (y : S64x2048.Idx) :
    (k0_pay3 (F := Ideal) x7 y : EReal) = at3 x7 0 (y 0).val (y 1).val := by
  unfold k0_pay3
  refine (shapeCast_apply x7 shapeCasts_S1x64x2048_S64x2048 y (ix3 0 (y 0) (y 1)) (by
      rewrite [Shape.rowMajor_val_three, Shape.rowMajor_val_two]
      show (0 * 64 + (y 0).val) * 2048 + (y 1).val = (y 0).val * 2048 + (y 1).val; omega)).trans ?_
  exact at3_of x7 _ rfl rfl rfl

/-! ## The windows' blocks, by position -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = min (t.val / 11 + 1) 8 * 8 + min (t.val % 11) 7 ∧ win0_1.index t 1 = 0 :=
  (by decide +kernel : ∀ t : Fin grid0.N, win0_1.index t 0 = min (t.val / 11 + 1) 8 * 8 + min (t.val % 11) 7 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = min (t.val / 11 + 1) 8 / 2 ∧ win0_3.index t 1 = 6 ∧ win0_3.index t 2 = 0
    ∧ win0_3.index t 3 = 0 :=
  (by decide +kernel : ∀ t : Fin grid0.N, win0_3.index t 0 = min (t.val / 11 + 1) 8 / 2 ∧ win0_3.index t 1 = 6
    ∧ win0_3.index t 2 = 0 ∧ win0_3.index t 3 = 0)
theorem idx4 : ∀ t : Fin cfg0.N, win0_4.index t 0 = min (t.val / 11 + 1) 8 / 2 ∧ win0_4.index t 1 = 7 ∧ win0_4.index t 2 = 0
    ∧ win0_4.index t 3 = 0 :=
  (by decide +kernel : ∀ t : Fin grid0.N, win0_4.index t 0 = min (t.val / 11 + 1) 8 / 2 ∧ win0_4.index t 1 = 7
    ∧ win0_4.index t 2 = 0 ∧ win0_4.index t 3 = 0)
theorem idx5 : ∀ t : Fin cfg0.N, win0_5.index t 0 = 0 ∧ win0_5.index t 1 = 0 ∧ win0_5.index t 2 = t.val % 11 :=
  (by decide +kernel : ∀ t : Fin grid0.N, win0_5.index t 0 = 0 ∧ win0_5.index t 1 = 0 ∧ win0_5.index t 2 = t.val % 11)
theorem idx6 : ∀ t : Fin cfg0.N, win0_6.index t 0 = 0 ∧ win0_6.index t 1 = 0 ∧ win0_6.index t 2 = t.val % 11 + 11 :=
  (by decide +kernel : ∀ t : Fin grid0.N, win0_6.index t 0 = 0 ∧ win0_6.index t 1 = 0 ∧ win0_6.index t 2 = t.val % 11 + 11)
theorem idx7 : ∀ t : Fin cfg0.N, win0_7.index t 0 = 0 ∧ win0_7.index t 1 = min t.val 87 ∧ win0_7.index t 2 = 0 :=
  (by decide +kernel : ∀ t : Fin grid0.N, win0_7.index t 0 = 0 ∧ win0_7.index t 1 = min t.val 87 ∧ win0_7.index t 2 = 0)
theorem idx8 : ∀ t : Fin cfg0.N, win0_8.index t 0 = t.val / 11 ∧ win0_8.index t 1 = t.val % 11 :=
  (by decide +kernel : ∀ t : Fin grid0.N, win0_8.index t 0 = t.val / 11 ∧ win0_8.index t 1 = t.val % 11)
theorem idx9 : ∀ t : Fin cfg0.N, win0_9.index t 0 = min t.val 87 ∧ win0_9.index t 1 = 0 :=
  (by decide +kernel : ∀ t : Fin grid0.N, win0_9.index t 0 = min t.val 87 ∧ win0_9.index t 1 = 0)
/-- The copied slabs are written back at the first points and at the last one. -/
theorem flushes9 : ∀ t : Fin cfg0.N, t.val < 87 ∨ t.val = 98 → (cfg0.win 9).flush t = true :=
  (by decide +kernel : ∀ t : Fin grid0.N, t.val < 87 ∨ t.val = 98 → win0_9.flush t = true)

variable (m : (ℓ : Loc nD τ sig) → Buf (Elt Ideal) ℓ) (ρ : Dev nD → PrngReg)

/-- The launched arguments, as arrays of extended reals. -/
abbrev A0 (c : Dev nD) : S1024x2048.Idx → EReal := m ((c : Thread nD τ).loc main_arg0)
abbrev A1 (c : Dev nD) : S9216x2048.Idx → EReal := m ((c : Thread nD τ).loc main_arg1)
abbrev A2 (c : Dev nD) : S2048.Idx → EReal := m ((c : Thread nD τ).loc main_arg2)
abbrev A3 (c : Dev nD) : S8x9x1x2048.Idx → EReal := m ((c : Thread nD τ).loc main_arg3)
abbrev A4 (c : Dev nD) : S4x2048x11264.Idx → EReal := m ((c : Thread nD τ).loc main_arg4)
abbrev A5 (c : Dev nD) : S4x5632x2048.Idx → EReal := m ((c : Thread nD τ).loc main_arg5)

/-- The gain as the launch finds it: one row. -/
theorem gain_eq (c : Dev nD) : (V m c main_v0 : S1x2048.Idx → EReal)
    = shapeCast S1x2048 (A2 m c) shapeCasts_S2048_S1x2048 := by
  show StableHlo.after hostOps0 (fun b => m (c, b)) _ = _
  unfold hostOps0
  rfl

/-- That row at an element. -/
theorem gain_at (c : Dev nD) (i : S1x2048.Idx) : (V m c main_v0 : S1x2048.Idx → EReal) i = at1 (A2 m c) (i 1).val := by
  have h0 : (i 0).val < 1 := (i 0).isLt
  rw [gain_eq]
  refine (shapeCast_apply (A2 m c) shapeCasts_S2048_S1x2048 i (ix1 (i 1)) (by
    rewrite [Shape.rowMajor_val_two, Shape.rowMajor_val_one]
    show (i 1).val = (i 0).val * 2048 + (i 1).val; omega)).trans ?_
  exact at1_of (A2 m c) _ rfl

theorem blk0 (c : Dev nD) (t : Fin cfg0.N) (j : S1024x2048.Idx) :
    (iblk m c 0 t : S1024x2048.Idx → EReal) j = at2 (A0 m c) (j 0).val (j 1).val := by
  unfold iblk
  rw [View.read_apply]
  refine (congrFun (V_main_arg0 m c) _).trans (at2_of (A0 m c) _ ?_ ?_)
  · show win0_0.index t 0 * 1024 + 1 * (j 0).val = _; rw [(idx0 t).1]; omega
  · show win0_0.index t 1 * 2048 + 1 * (j 1).val = _; rw [(idx0 t).2]; omega

theorem blk1 (c : Dev nD) (t : Fin cfg0.N) (a b : Nat) (ha : a < 128) (hb : b < 2048) :
    at2 (iblk m c 1 t : S128x2048.Idx → EReal) a b
      = at2 (A1 m c) ((min (t.val / 11 + 1) 8 * 8 + min (t.val % 11) 7) * 128 + a) b := by
  refine (at2_of (iblk m c 1 t : S128x2048.Idx → EReal) (ix2 ⟨a, ha⟩ ⟨b, hb⟩) rfl rfl).symm.trans ?_
  unfold iblk
  rw [View.read_apply]
  refine (congrFun (V_main_arg1 m c) _).trans (at2_of (A1 m c) _ ?_ ?_)
  · show win0_1.index t 0 * 128 + 1 * a = _; rw [(idx1 t).1]; omega
  · show win0_1.index t 1 * 2048 + 1 * b = _; rw [(idx1 t).2]; omega

theorem blk2 (c : Dev nD) (t : Fin cfg0.N) (b : Nat) (hb : b < 2048) :
    at2 (iblk m c 2 t : S1x2048.Idx → EReal) 0 b = at1 (A2 m c) b := by
  refine (at2_of (iblk m c 2 t : S1x2048.Idx → EReal) (ix2 0 ⟨b, hb⟩) rfl rfl).symm.trans ?_
  unfold iblk
  rw [View.read_apply]
  refine (gain_at m c _).trans (congrArg (at1 (A2 m c)) ?_)
  show win0_2.index t 1 * 2048 + 1 * b = _; rw [(idx2 t).2]; omega

theorem blk3 (c : Dev nD) (t : Fin cfg0.N) (b : Nat) (hb : b < 2048) :
    at4 (iblk m c 3 t : S1x1x1x2048.Idx → EReal) 0 0 0 b = at4 (A3 m c) (min (t.val / 11 + 1) 8 / 2) 6 0 b := by
  refine (at4_of (iblk m c 3 t : S1x1x1x2048.Idx → EReal) (ix4 0 0 0 ⟨b, hb⟩) rfl rfl rfl rfl).symm.trans ?_
  unfold iblk
  rw [View.read_apply]
  refine (congrFun (V_main_arg3 m c) _).trans (at4_of (A3 m c) _ ?_ ?_ ?_ ?_)
  · show win0_3.index t 0 * 1 + 1 * 0 = _; rw [(idx3 t).1]; omega
  · show win0_3.index t 1 * 1 + 1 * 0 = _; rw [(idx3 t).2.1]
  · show win0_3.index t 2 * 1 + 1 * 0 = _; rw [(idx3 t).2.2.1]
  · show win0_3.index t 3 * 2048 + 1 * b = _; rw [(idx3 t).2.2.2]; omega

theorem blk4 (c : Dev nD) (t : Fin cfg0.N) (b : Nat) (hb : b < 2048) :
    at4 (iblk m c 4 t : S1x1x1x2048.Idx → EReal) 0 0 0 b = at4 (A3 m c) (min (t.val / 11 + 1) 8 / 2) 7 0 b := by
  refine (at4_of (iblk m c 4 t : S1x1x1x2048.Idx → EReal) (ix4 0 0 0 ⟨b, hb⟩) rfl rfl rfl rfl).symm.trans ?_
  unfold iblk
  rw [View.read_apply]
  refine (congrFun (V_main_arg3 m c) _).trans (at4_of (A3 m c) _ ?_ ?_ ?_ ?_)
  · show win0_4.index t 0 * 1 + 1 * 0 = _; rw [(idx4 t).1]; omega
  · show win0_4.index t 1 * 1 + 1 * 0 = _; rw [(idx4 t).2.1]
  · show win0_4.index t 2 * 1 + 1 * 0 = _; rw [(idx4 t).2.2.1]
  · show win0_4.index t 3 * 2048 + 1 * b = _; rw [(idx4 t).2.2.2]; omega

theorem blk5 (c : Dev nD) (t : Fin cfg0.N) (a b : Nat) (ha : a < 2048) (hb : b < 512) :
    at3 (iblk m c 5 t : S1x2048x512.Idx → EReal) 0 a b = at3 (A4 m c) 0 a (t.val % 11 * 512 + b) := by
  refine (at3_of (iblk m c 5 t : S1x2048x512.Idx → EReal) (ix3 0 ⟨a, ha⟩ ⟨b, hb⟩) rfl rfl rfl).symm.trans ?_
  unfold iblk
  rw [View.read_apply]
  refine (congrFun (V_main_arg4 m c) _).trans (at3_of (A4 m c) _ ?_ ?_ ?_)
  · show win0_5.index t 0 * 1 + 1 * 0 = _; rw [(idx5 t).1]
  · show win0_5.index t 1 * 2048 + 1 * a = _; rw [(idx5 t).2.1]; omega
  · show win0_5.index t 2 * 512 + 1 * b = _; rw [(idx5 t).2.2]; omega

theorem blk6 (c : Dev nD) (t : Fin cfg0.N) (a b : Nat) (ha : a < 2048) (hb : b < 512) :
    at3 (iblk m c 6 t : S1x2048x512.Idx → EReal) 0 a b = at3 (A4 m c) 0 a (5632 + (t.val % 11 * 512 + b)) := by
  refine (at3_of (iblk m c 6 t : S1x2048x512.Idx → EReal) (ix3 0 ⟨a, ha⟩ ⟨b, hb⟩) rfl rfl rfl).symm.trans ?_
  unfold iblk
  rw [View.read_apply]
  refine (congrFun (V_main_arg4 m c) _).trans (at3_of (A4 m c) _ ?_ ?_ ?_)
  · show win0_6.index t 0 * 1 + 1 * 0 = _; rw [(idx6 t).1]
  · show win0_6.index t 1 * 2048 + 1 * a = _; rw [(idx6 t).2.1]; omega
  · show win0_6.index t 2 * 512 + 1 * b = _; rw [(idx6 t).2.2]; omega

theorem blk7 (c : Dev nD) (t : Fin cfg0.N) (a b : Nat) (ha : a < 64) (hb : b < 2048) :
    at3 (iblk m c 7 t : S1x64x2048.Idx → EReal) 0 a b = at3 (A5 m c) 0 (min t.val 87 * 64 + a) b := by
  refine (at3_of (iblk m c 7 t : S1x64x2048.Idx → EReal) (ix3 0 ⟨a, ha⟩ ⟨b, hb⟩) rfl rfl rfl).symm.trans ?_
  unfold iblk
  rw [View.read_apply]
  refine (congrFun (V_main_arg5 m c) _).trans (at3_of (A5 m c) _ ?_ ?_ ?_)
  · show win0_7.index t 0 * 1 + 1 * 0 = _; rw [(idx7 t).1]
  · show win0_7.index t 1 * 64 + 1 * a = _; rw [(idx7 t).2.1]; omega
  · show win0_7.index t 2 * 2048 + 1 * b = _; rw [(idx7 t).2.2]; omega

/-! ## The results -/

/-- The rows that one point normalizes, at an element: `r` is the row's place in its tile of 1024 rows. -/
theorem rows_at (c : Dev nD) (t : Fin cfg0.N) (k : Fin 8) (s : Fin 16) (q : Fin 2048) (a : Nat)
    (ha : a = (min (t.val / 11 + 1) 8 * 8 + min (t.val % 11) 7) * 128 + (16 * k.val + s.val)) :
    (rows m c t k (ix3 0 s q) : EReal) = norm (A1 m c) (A2 m c) (A3 m c) a q.val := by
  have hk : 16 * k.val + s.val < 128 := by have := k.isLt; have := s.isLt; omega
  unfold rows norm
  rw [show a / 2048 = min (t.val / 11 + 1) 8 / 2 by omega]
  subst ha
  refine (piece_at (iblk m c 1 t) (iblk m c 2 t) (iblk m c 3 t) (iblk m c 4 t) k s q).trans ?_
  rw [blk1 m c t _ _ hk q.isLt, blk2 m c t _ q.isLt, blk3 m c t _ q.isLt, blk4 m c t _ q.isLt,
    rms_congr _ _ fun j hj => blk1 m c t _ j hk hj]

/-- The tile's rows, at an element. -/
theorem tile_at (c : Dev nD) (n : Nat) (hn : n < 9) (r : Fin 1024) (q : Fin 2048) :
    (U m c n r q : EReal) = left (A0 m c) (A1 m c) (A2 m c) (A3 m c) (n * 1024 + r.val) q.val := by
  have hr := r.isLt
  unfold U left
  by_cases h : n = 0
  · subst h
    rw [if_pos rfl, if_pos (by omega)]
    refine (blk0 m c _ (ix2 r q)).trans (congrArg (fun z => at2 (A0 m c) z q.val) ?_)
    show r.val = 0 * 1024 + r.val; omega
  · rw [if_neg h, dif_pos (by omega), if_neg (by omega)]
    refine rows_at m c _ _ _ q _ ?_
    show n * 1024 + r.val = (min ((11 * (n - 1) + r.val / 128) / 11 + 1) 8 * 8 + min ((11 * (n - 1) + r.val / 128) % 11) 7) * 128
      + (16 * (r.val % 128 / 16) + r.val % 16)
    omega

/-- What one grid point writes back of the first result is its block of the result array. -/
theorem flushed_eq8 (c : Dev nD) (t : Fin cfg0.N) : (dats m 0 c).flushed 8 t
    = ((cfg0.win 8).blk t).view.read (Elt Ideal) (G (A0 m c) (A1 m c) (A2 m c) (A3 m c) (A4 m c)) := by
  show (cfg0.win 8).cut (grid0.coords t) ((dats m 0 c).after 8 t) = _
  have ht : t.val < 99 := t.isLt.trans_eq N_0
  rw [after0_8, out_eq]
  refine funext fun (y : S1024x512.Idx) => ?_
  have h0 : (y 0).val < 1024 := (y 0).isLt
  have h1 : (y 1).val < 512 := (y 1).isLt
  have hr : (((cfg0.win 8).blk t).view.emb y 0).val = t.val / 11 * 1024 + (y 0).val := by
    show win0_8.index t 0 * 1024 + 1 * (y 0).val = _; rw [(idx8 t).1]; omega
  have hc : (((cfg0.win 8).blk t).view.emb y 1).val = t.val % 11 * 512 + (y 1).val := by
    show win0_8.index t 1 * 512 + 1 * (y 1).val = _; rw [(idx8 t).2]; omega
  refine Eq.trans ?_ (congrArg₂ (elt (A0 m c) (A1 m c) (A2 m c) (A3 m c) (A4 m c)) hr hc).symm
  show blockElt (tile m c (t.val / 11)) (iblk m c 5 t) (iblk m c 6 t) y = _
  unfold blockElt elt
  have hu : ∀ k : Fin 2048, at3 (tile m c (t.val / 11) : S1x1024x2048.Idx → EReal) 0 (y 0).val k.val
      = left (A0 m c) (A1 m c) (A2 m c) (A3 m c) (t.val / 11 * 1024 + (y 0).val) k.val := fun k =>
    (at3_of (tile m c (t.val / 11) : S1x1024x2048.Idx → EReal) (ix3 0 ⟨(y 0).val, h0⟩ k) rfl rfl rfl).symm.trans
      (tile_at m c (t.val / 11) (by omega) ⟨(y 0).val, h0⟩ k)
  refine congrArg₂ (· * ·) (congrArg silu (Finset.sum_congr rfl fun k _ => ?_)) (Finset.sum_congr rfl fun k _ => ?_)
  · rw [hu k, blk5 m c t _ _ k.isLt h1]
  · rw [hu k, blk6 m c t _ _ k.isLt h1]

/-- The first result array after the run. -/
theorem final8 (c : Dev nD) : (dats m 0 c).arrAt 8 cfg0.N = G (A0 m c) (A1 m c) (A2 m c) (A3 m c) (A4 m c) :=
  (dats m 0 c).arrAt_eq_of_cover 8 (G (A0 m c) (A1 m c) (A2 m c) (A3 m c) (A4 m c)) (fun t _ => flushed_eq8 m c t)
    fun (i : S9216x5632.Idx) => by
      have h0 : (i 0).val < 9216 := (i 0).isLt
      have h1 : (i 1).val < 5632 := (i 1).isLt
      have hN : cfg0.N = 99 := N_0
      refine ⟨⟨(i 0).val / 1024 * 11 + (i 1).val / 512, by omega⟩, flush0_8 _, ?_⟩
      generalize hT : (⟨(i 0).val / 1024 * 11 + (i 1).val / 512, by omega⟩ : Fin cfg0.N) = t
      have ht : t.val = (i 0).val / 1024 * 11 + (i 1).val / 512 := by rw [← hT]
      show i ∈ ((View.whole main_v1_0).slice (win0_8.rect t)).set
      rw [View.set_slice_whole, Rect.mem_set_unit]
      intro a
      match a with
      | ⟨0, _⟩ =>
        show win0_8.index t 0 * 1024 ≤ (i 0).val ∧ (i 0).val < win0_8.index t 0 * 1024 + 1024
        rw [(idx8 t).1]; omega
      | ⟨1, _⟩ =>
        show win0_8.index t 1 * 512 ≤ (i 1).val ∧ (i 1).val < win0_8.index t 1 * 512 + 512
        rw [(idx8 t).2]; omega

/-- What one grid point writes back of the second result is its slab of the output weights. -/
theorem flushed_eq9 (c : Dev nD) (t : Fin cfg0.N) : (dats m 0 c).flushed 9 t
    = ((cfg0.win 9).blk t).view.read (Elt Ideal) (W (A5 m c)) := by
  show (cfg0.win 9).cut (grid0.coords t) ((dats m 0 c).after 9 t) = _
  rw [after0_9]
  refine funext fun (y : S64x2048.Idx) => ?_
  have h0 : (y 0).val < 64 := (y 0).isLt
  have h1 : (y 1).val < 2048 := (y 1).isLt
  have hr : (((cfg0.win 9).blk t).view.emb y 0).val = min t.val 87 * 64 + (y 0).val := by
    show win0_9.index t 0 * 64 + 1 * (y 0).val = _; rw [(idx9 t).1]; omega
  have hc : (((cfg0.win 9).blk t).view.emb y 1).val = (y 1).val := by
    show win0_9.index t 1 * 2048 + 1 * (y 1).val = _; rw [(idx9 t).2]; omega
  refine Eq.trans ?_ (congrArg₂ (at3 (A5 m c) 0) hr hc).symm
  exact (copy_at (iblk m c 7 t) y).trans (blk7 m c t _ _ h0 h1)

/-- The second result array after the run. -/
theorem final9 (c : Dev nD) : (dats m 0 c).arrAt 9 cfg0.N = W (A5 m c) :=
  (dats m 0 c).arrAt_eq_of_cover 9 (W (A5 m c)) (fun t _ => flushed_eq9 m c t)
    fun (i : S5632x2048.Idx) => by
      have h0 : (i 0).val < 5632 := (i 0).isLt
      have h1 : (i 1).val < 2048 := (i 1).isLt
      have hN : cfg0.N = 99 := N_0
      have hex : ∃ t : Fin cfg0.N, (t.val < 87 ∨ t.val = 98) ∧ min t.val 87 = (i 0).val / 64 := by
        by_cases h : (i 0).val / 64 < 87
        · exact ⟨⟨(i 0).val / 64, by omega⟩, Or.inl h, by show min ((i 0).val / 64) 87 = _; omega⟩
        · exact ⟨⟨98, by omega⟩, Or.inr rfl, by show min 98 87 = _; omega⟩
      obtain ⟨t, hf, ht⟩ := hex
      refine ⟨t, flushes9 t hf, ?_⟩
      show i ∈ ((View.whole main_v1_1).slice (win0_9.rect t)).set
      rw [View.set_slice_whole, Rect.mem_set_unit]
      intro a
      match a with
      | ⟨0, _⟩ =>
        show win0_9.index t 0 * 64 ≤ (i 0).val ∧ (i 0).val < win0_9.index t 0 * 64 + 64
        rw [(idx9 t).1]; omega
      | ⟨1, _⟩ =>
        show win0_9.index t 1 * 2048 ≤ (i 1).val ∧ (i 1).val < win0_9.index t 1 * 2048 + 2048
        rw [(idx9 t).2]; omega

/-- The kernel's run: the result arrays named, the arguments unchanged. -/
theorem run : θ_run defs (onTc (τ := τ) (main (F := Ideal))) ⟨m, fun _ => 0, ρ⟩ fun r => ∀ c : Dev nD,
      r.2.mem ((c : Thread nD τ).loc main_v1_0) = G (A0 m c) (A1 m c) (A2 m c) (A3 m c) (A4 m c)
      ∧ r.2.mem ((c : Thread nD τ).loc main_v1_1) = W (A5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.2 c).1 8).trans (final8 m c), ((h.2 c).1 9).trans (final9 m c), h.1 c⟩)
    (θ_run_and (unchanged m ρ) (run_main m ρ))

/-! ## The reference -/

open Cert.Reference5Ideal.Read in
/-- The shifts, one row per row of the residual stream. -/
theorem shift_at (x3 : S8x9x1x2048.Idx → EReal) (i : S9216x2048.Idx) :
    (val_main_v7 (F := Ideal) x3 i : EReal) = at4 x3 ((i 0).val / 2048) 6 0 (i 1).val := by
  have h0 : (i 0).val < 9216 := (i 0).isLt
  have h1 : (i 1).val < 2048 := (i 1).isLt
  unfold val_main_v7
  by_cases hi : (i 0).val < 8192
  · refine (join_upper _ _ _ i hi).trans ?_
    rw [val_main_v3_apply, val_main_v2_apply, val_main_v1_apply, val_main_v0_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v6_apply, val_main_v5_apply, val_main_v4_apply]
    refine at4_of x3 _ ?_ rfl rfl ?_
    · show 4 + 0 = _; omega
    · show (0 * 2048 + (i 1).val) % 2048 = _; omega

open Cert.Reference5Ideal.Read in
/-- The modulations, one row per row of the residual stream. -/
theorem scale_at (x3 : S8x9x1x2048.Idx → EReal) (i : S9216x2048.Idx) :
    (val_main_v15 (F := Ideal) x3 i : EReal) = at4 x3 ((i 0).val / 2048) 7 0 (i 1).val := by
  have h0 : (i 0).val < 9216 := (i 0).isLt
  have h1 : (i 1).val < 2048 := (i 1).isLt
  unfold val_main_v15
  by_cases hi : (i 0).val < 8192
  · refine (join_upper _ _ _ i hi).trans ?_
    rw [val_main_v11_apply, val_main_v10_apply, val_main_v9_apply, val_main_v8_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v14_apply, val_main_v13_apply, val_main_v12_apply]
    refine at4_of x3 _ ?_ rfl rfl ?_
    · show 4 + 0 = _; omega
    · show (0 * 2048 + (i 1).val) % 2048 = _; omega

open Cert.Reference5Ideal.Read in
/-- The reference's normalized, modulated rows. -/
theorem norm_at (x1 : S9216x2048.Idx → EReal) (x2 : S2048.Idx → EReal) (x3 : S8x9x1x2048.Idx → EReal) (i : S9216x2048.Idx) :
    (val_main_v33 (F := Ideal) x1 x2 x3 i : EReal) = norm x1 x2 x3 (i 0).val (i 1).val := by
  have hr : (val_main_v24 (F := Ideal) x1 i : EReal) = rms (at2 x1 (i 0).val) := by
    rw [val_main_v24_apply, val_main_v23_apply, val_main_v22_apply, val_main_v20_apply, val_main_v18_apply, val_main_v17_apply,
      val_main_v19_apply, val_main_v21_apply, val_main_cst_apply, val_main_cst_0_apply, val_main_cst_1_apply]
    unfold rms
    show Ideal.rsqrt (Ideal.div (Ideal.ofBits .f32 0x00000000#32 + _) (Ideal.ofBits .f32 0x45000000#32)
      + Ideal.ofBits .f32 0x358637BD#32) = _
    rw [Ideal.ofBits_zero_f32, zero_add]
    refine congrArg (fun z : EReal => Ideal.rsqrt (Ideal.div z (Ideal.ofBits .f32 0x45000000#32) + Ideal.ofBits .f32 0x358637BD#32))
      (Finset.sum_congr rfl fun k _ => ?_)
    rw [val_main_v16_apply]
    exact congrArg₂ (· * ·) (at2_of x1 _ rfl rfl) (at2_of x1 _ rfl rfl)
  rw [val_main_v33_apply, val_main_v32_apply, val_main_v31_apply, val_main_v28_apply, val_main_v25_apply, hr, val_main_v27_apply,
    val_main_v26_apply, val_main_v30_apply, val_main_v29_apply, val_main_cst_2_apply, scale_at, shift_at]
  refine congrArg₂ (· + ·) (congrArg₂ (· * ·) (congrArg₂ (· * ·) (congrArg (fun z : EReal => z * _) (at2_of x1 _ rfl rfl))
    (at1_of x2 _ rfl)) rfl) rfl

open Cert.Reference5Ideal.Read in
/-- The reference's left operand. -/
theorem left_at (x0 : S1024x2048.Idx → EReal) (x1 : S9216x2048.Idx → EReal) (x2 : S2048.Idx → EReal)
    (x3 : S8x9x1x2048.Idx → EReal) (i : S9216x2048.Idx) :
    (val_main_v35 (F := Ideal) x0 x1 x2 x3 i : EReal) = left x0 x1 x2 x3 (i 0).val (i 1).val := by
  have h0 : (i 0).val < 9216 := (i 0).isLt
  unfold val_main_v35 left
  by_cases hi : (i 0).val < 1024
  · rw [if_pos hi]
    exact (join_upper _ _ _ i hi).trans (at2_of x0 _ rfl rfl)
  · rw [if_neg hi]
    refine (join_lower _ _ _ i (by omega) (by omega)).trans ?_
    rw [val_main_v34_apply, norm_at]
    refine congrArg (fun z => norm x1 x2 x3 z (i 1).val) ?_
    show 1024 + ((i 0).val - 1024) = _; omega

open Cert.Reference5Ideal.Read in
/-- The layer's input weights, at an element. -/
theorem weight_at (x4 : S4x2048x11264.Idx → EReal) (j : Cert.Reference5Ideal.S2048x11264.Idx) :
    (val_main_v38 (F := Ideal) x4 j : EReal) = at3 x4 0 (j 0).val (j 1).val := by
  have h0 : (j 0).val < 2048 := (j 0).isLt
  have h1 : (j 1).val < 11264 := (j 1).isLt
  rw [val_main_v38_apply, val_main_v37_apply, val_main_v36_apply]
  refine at3_of x4 _ rfl ?_ ?_
  · show ((j 0).val * 11264 + (j 1).val) / 11264 % 2048 = _; omega
  · show ((j 0).val * 11264 + (j 1).val) % 11264 = _; omega

open Cert.Reference5Ideal.Read in
/-- The reference's first result is the same array. -/
theorem ref_eq (x0 : S1024x2048.Idx → EReal) (x1 : S9216x2048.Idx → EReal) (x2 : S2048.Idx → EReal)
    (x3 : S8x9x1x2048.Idx → EReal) (x4 : S4x2048x11264.Idx → EReal) :
    val_main_v51 (F := Ideal) x0 x1 x2 x3 x4 = G x0 x1 x2 x3 x4 := by
  refine funext fun (i : S9216x5632.Idx) => ?_
  have ha : (val_main_v40 (F := Ideal) x0 x1 x2 x3 x4 i : EReal)
      = ∑ k : Fin 2048, left x0 x1 x2 x3 (i 0).val k.val * at3 x4 0 k.val (i 1).val := by
    rw [val_main_v40_apply]
    refine Finset.sum_congr rfl fun k _ => congrArg₂ (· * ·) (left_at x0 x1 x2 x3 _) ?_
    rw [val_main_v39_apply, weight_at]
  have hb : (val_main_v42 (F := Ideal) x0 x1 x2 x3 x4 i : EReal)
      = ∑ k : Fin 2048, left x0 x1 x2 x3 (i 0).val k.val * at3 x4 0 k.val (5632 + (i 1).val) := by
    rw [val_main_v42_apply]
    refine Finset.sum_congr rfl fun k _ => congrArg₂ (· * ·) (left_at x0 x1 x2 x3 _) ?_
    rw [val_main_v41_apply, weight_at]
  show _ = elt x0 x1 x2 x3 x4 (i 0).val (i 1).val
  unfold elt
  rw [← ha, ← hb, val_main_v51_apply, val_main_v50_apply, val_main_v49_apply, val_main_v48_apply, val_main_v47_apply,
    val_main_v46_apply, val_main_v45_apply, val_main_v44_apply, val_main_v43_apply, val_main_cst_3_apply, val_main_cst_4_apply]
  generalize (val_main_v40 (F := Ideal) x0 x1 x2 x3 x4 i : EReal) = z
  generalize (val_main_v42 (F := Ideal) x0 x1 x2 x3 x4 i : EReal) = y
  show z * Ideal.div (Ideal.ofBits .f32 0x3F800000#32) (Ideal.ofBits .f32 0x3F800000#32 + Ideal.exp (-z)) * y = _
  rw [Idealize.ShloMosaic.Ideal.ofBits_one_f32]
  rfl

open Cert.Reference5Ideal.Read in
/-- The reference's second result is the same array. -/
theorem ref_eq_copy (x5 : S4x5632x2048.Idx → EReal) : val_main_v54 (F := Ideal) x5 = W x5 := by
  refine funext fun (i : S5632x2048.Idx) => ?_
  have h0 : (i 0).val < 5632 := (i 0).isLt
  have h1 : (i 1).val < 2048 := (i 1).isLt
  rw [val_main_v54_apply, val_main_v53_apply, val_main_v52_apply]
  refine at3_of x5 _ rfl ?_ ?_
  · show ((i 0).val * 2048 + (i 1).val) / 2048 % 5632 = _; omega
  · show ((i 0).val * 2048 + (i 1).val) % 2048 = _; omega

end Cert.Proof.FfnA

end
-- ==== Proof.FinalNorm.lean ====
/-
  Hand-written. The final normalisation: what the kernel's result holds after the run, and that it is what the reference's
  operations compute, element by element: `x · rms(row) · g`.
-/
module

public import proofs.«01_k».proof.Proof.Rms
public import proofs.«01_k».proof.Proof.Gen.Kernel6Ideal.Value
public import proofs.«01_k».proof.Proof.Gen.Reference6Ideal.Read

@[expose] public section

set_option maxRecDepth 16384

noncomputable section

namespace Cert.Proof.FinalNorm

open Idealize.ShloMosaic Idealize.ShloMosaic.ValueIdx Idealize.ShloMosaic.TcCoe Idealize.SL.Sem Idealize.ShloMosaic.Tactic
open Idealize.ShloMosaic.Pipeline (Dat)
open Cert.Proof.Common Cert.Proof.Rms Cert.Kernel6Ideal Cert.Kernel6Ideal.Gen
open scoped BigOperators

/-- The result at an element: the residual stream's element times its row's scale times the gain. -/
def elt (x : S9216x2048.Idx → EReal) (g : S2048.Idx → EReal) (a b : Nat) : EReal :=
  at2 x a b * rms (at2 x a) * at1 g b

/-- The result array. -/
def G (x : S9216x2048.Idx → EReal) (g : S2048.Idx → EReal) : S8192x2048.Idx → EReal :=
  fun i => elt x g (i 0).val (i 1).val

/-! ## The kernel -/

/-- The block that one grid point leaves, at an element. -/
def blockElt (x0 : S512x2048.Idx → EReal) (x1 : S1x2048.Idx → EReal) (y : S512x2048.Idx) : EReal :=
  at2 x0 (y 0).val (y 1).val * rms (at2 x0 (y 0).val) * at2 x1 0 (y 1).val

/-- The scales of the block's rows. -/
def scales (x0 : S512x2048.Idx → EReal) (y : S512x1.Idx) : EReal := rms (at2 x0 (y 0).val)

/-- Sixteen rows' scales, as the body computes them. -/
theorem stats_at (v : Vec Ideal S16x2048 .f32) (x : S16x1.Idx) : (k0_pay3 (F := Ideal) v x : EReal) = rms (at2 v (x 0).val) := by
  unfold k0_pay3
  have hx : x = ix2 (x 0) 0 := (eq_ix2 x).trans (congrArg (ix2 (x 0)) (Subsingleton.elim (α := Fin 1) (x 1) 0))
  refine (shapeCast_apply _ shapeCasts_S16x1_S16x1 x x rfl).trans ?_
  show Ideal.rsqrt (Ideal.div (shapeCast (α := EReal) S16x1 (multiReduction (F := Ideal) (φ := .f32) .add [1] S16 (mulf v v) 0x00000000#32 reduces_S16x2048_S16 (.inl rfl) rfl)
    shapeCasts_S16_S16x1 x) (Ideal.ofBits .f32 0x45000000#32) + Ideal.ofBits .f32 0x358637BD#32) = _
  unfold rms
  refine congrArg (fun z : EReal => Ideal.rsqrt (Ideal.div z (Ideal.ofBits .f32 0x45000000#32) + Ideal.ofBits .f32 0x358637BD#32)) ?_
  refine (congrArg _ hx).trans ((rowsum_at (mulf v v) reduces_S16x2048_S16 shapeCasts_S16_S16x1 (x 0)).trans
    (Finset.sum_congr rfl fun k _ => ?_))
  refine (at2_of (mulf (F := Ideal) (φ := .f32) v v : S16x2048.Idx → EReal) (ix2 (x 0) k) rfl rfl).symm.trans ?_
  exact congrArg₂ (· * ·) (at2_of v _ rfl rfl) (at2_of v _ rfl rfl)

/-- The body's stores into the scratch column, last first. -/
def pieces (x0 : Vec Ideal S512x2048 .f32) : List (View.Piece (Elt Ideal) S512x1 .f32) :=
  [⟨Rect.unit (s := S512x1) ![496, 0] S16x1.size inb_S512x1_S16x1_496_0,
      k0_pay3 (View.ld x0 (Rect.unit (s := S512x2048) ![496, 0] S16x2048.size inb_S512x2048_S16x2048_496_0))⟩,
    ⟨Rect.unit (s := S512x1) ![480, 0] S16x1.size inb_S512x1_S16x1_480_0,
      k0_pay3 (View.ld x0 (Rect.unit (s := S512x2048) ![480, 0] S16x2048.size inb_S512x2048_S16x2048_480_0))⟩,
    ⟨Rect.unit (s := S512x1) ![464, 0] S16x1.size inb_S512x1_S16x1_464_0,
      k0_pay3 (View.ld x0 (Rect.unit (s := S512x2048) ![464, 0] S16x2048.size inb_S512x2048_S16x2048_464_0))⟩,
    ⟨Rect.unit (s := S512x1) ![448, 0] S16x1.size inb_S512x1_S16x1_448_0,
      k0_pay3 (View.ld x0 (Rect.unit (s := S512x2048) ![448, 0] S16x2048.size inb_S512x2048_S16x2048_448_0))⟩,
    ⟨Rect.unit (s := S512x1) ![432, 0] S16x1.size inb_S512x1_S16x1_432_0,
      k0_pay3 (View.ld x0 (Rect.unit (s := S512x2048) ![432, 0] S16x2048.size inb_S512x2048_S16x2048_432_0))⟩,
    ⟨Rect.unit (s := S512x1) ![416, 0] S16x1.size inb_S512x1_S16x1_416_0,
      k0_pay3 (View.ld x0 (Rect.unit (s := S512x2048) ![416, 0] S16x2048.size inb_S512x2048_S16x2048_416_0))⟩,
    ⟨Rect.unit (s := S512x1) ![400, 0] S16x1.size inb_S512x1_S16x1_400_0,
      k0_pay3 (View.ld x0 (Rect.unit (s := S512x2048) ![400, 0] S16x2048.size inb_S512x2048_S16x2048_400_0))⟩,
    ⟨Rect.unit (s := S512x1) ![384, 0] S16x1.size inb_S512x1_S16x1_384_0,
      k0_pay3 (View.ld x0 (Rect.unit (s := S512x2048) ![384, 0] S16x2048.size inb_S512x2048_S16x2048_384_0))⟩,
    ⟨Rect.unit (s := S512x1) ![368, 0] S16x1.size inb_S512x1_S16x1_368_0,
      k0_pay3 (View.ld x0 (Rect.unit (s := S512x2048) ![368, 0] S16x2048.size inb_S512x2048_S16x2048_368_0))⟩,
    ⟨Rect.unit (s := S512x1) ![352, 0] S16x1.size inb_S512x1_S16x1_352_0,
      k0_pay3 (View.ld x0 (Rect.unit (s := S512x2048) ![352, 0] S16x2048.size inb_S512x2048_S16x2048_352_0))⟩,
    ⟨Rect.unit (s := S512x1) ![336, 0] S16x1.size inb_S512x1_S16x1_336_0,
      k0_pay3 (View.ld x0 (Rect.unit (s := S512x2048) ![336, 0] S16x2048.size inb_S512x2048_S16x2048_336_0))⟩,
    ⟨Rect.unit (s := S512x1) ![320, 0] S16x1.size inb_S512x1_S16x1_320_0,
      k0_pay3 (View.ld x0 (Rect.unit (s := S512x2048) ![320, 0] S16x2048.size inb_S512x2048_S16x2048_320_0))⟩,
    ⟨Rect.unit (s := S512x1) ![304, 0] S16x1.size inb_S512x1_S16x1_304_0,
      k0_pay3 (View.ld x0 (Rect.unit (s := S512x2048) ![304, 0] S16x2048.size inb_S512x2048_S16x2048_304_0))⟩,
    ⟨Rect.unit (s := S512x1) ![288, 0] S16x1.size inb_S512x1_S16x1_288_0,
      k0_pay3 (View.ld x0 (Rect.unit (s := S512x2048) ![288, 0] S16x2048.size inb_S512x2048_S16x2048_288_0))⟩,
    ⟨Rect.unit (s := S512x1) ![272, 0] S16x1.size inb_S512x1_S16x1_272_0,
      k0_pay3 (View.ld x0 (Rect.unit (s := S512x2048) ![272, 0] S16x2048.size inb_S512x2048_S16x2048_272_0))⟩,
    ⟨Rect.unit (s := S512x1) ![256, 0] S16x1.size inb_S512x1_S16x1_256_0,
      k0_pay3 (View.ld x0 (Rect.unit (s := S512x2048) ![256, 0] S16x2048.size inb_S512x2048_S16x2048_256_0))⟩,
    ⟨Rect.unit (s := S512x1) ![240, 0] S16x1.size inb_S512x1_S16x1_240_0,
      k0_pay3 (View.ld x0 (Rect.unit (s := S512x2048) ![240, 0] S16x2048.size inb_S512x2048_S16x2048_240_0))⟩,
    ⟨Rect.unit (s := S512x1) ![224, 0] S16x1.size inb_S512x1_S16x1_224_0,
      k0_pay3 (View.ld x0 (Rect.unit (s := S512x2048) ![224, 0] S16x2048.size inb_S512x2048_S16x2048_224_0))⟩,
    ⟨Rect.unit (s := S512x1) ![208, 0] S16x1.size inb_S512x1_S16x1_208_0,
      k0_pay3 (View.ld x0 (Rect.unit (s := S512x2048) ![208, 0] S16x2048.size inb_S512x2048_S16x2048_208_0))⟩,
    ⟨Rect.unit (s := S512x1) ![192, 0] S16x1.size inb_S512x1_S16x1_192_0,
      k0_pay3 (View.ld x0 (Rect.unit (s := S512x2048) ![192, 0] S16x2048.size inb_S512x2048_S16x2048_192_0))⟩,
    ⟨Rect.unit (s := S512x1) ![176, 0] S16x1.size inb_S512x1_S16x1_176_0,
      k0_pay3 (View.ld x0 (Rect.unit (s := S512x2048) ![176, 0] S16x2048.size inb_S512x2048_S16x2048_176_0))⟩,
    ⟨Rect.unit (s := S512x1) ![160, 0] S16x1.size inb_S512x1_S16x1_160_0,
      k0_pay3 (View.ld x0 (Rect.unit (s := S512x2048) ![160, 0] S16x2048.size inb_S512x2048_S16x2048_160_0))⟩,
    ⟨Rect.unit (s := S512x1) ![144, 0] S16x1.size inb_S512x1_S16x1_144_0,
      k0_pay3 (View.ld x0 (Rect.unit (s := S512x2048) ![144, 0] S16x2048.size inb_S512x2048_S16x2048_144_0))⟩,
    ⟨Rect.unit (s := S512x1) ![128, 0] S16x1.size inb_S512x1_S16x1_128_0,
      k0_pay3 (View.ld x0 (Rect.unit (s := S512x2048) ![128, 0] S16x2048.size inb_S512x2048_S16x2048_128_0))⟩,
    ⟨Rect.unit (s := S512x1) ![112, 0] S16x1.size inb_S512x1_S16x1_112_0,
      k0_pay3 (View.ld x0 (Rect.unit (s := S512x2048) ![112, 0] S16x2048.size inb_S512x2048_S16x2048_112_0))⟩,
    ⟨Rect.unit (s := S512x1) ![96, 0] S16x1.size inb_S512x1_S16x1_96_0,
      k0_pay3 (View.ld x0 (Rect.unit (s := S512x2048) ![96, 0] S16x2048.size inb_S512x2048_S16x2048_96_0))⟩,
    ⟨Rect.unit (s := S512x1) ![80, 0] S16x1.size inb_S512x1_S16x1_80_0,
      k0_pay3 (View.ld x0 (Rect.unit (s := S512x2048) ![80, 0] S16x2048.size inb_S512x2048_S16x2048_80_0))⟩,
    ⟨Rect.unit (s := S512x1) ![64, 0] S16x1.size inb_S512x1_S16x1_64_0,
      k0_pay3 (View.ld x0 (Rect.unit (s := S512x2048) ![64, 0] S16x2048.size inb_S512x2048_S16x2048_64_0))⟩,
    ⟨Rect.unit (s := S512x1) ![48, 0] S16x1.size inb_S512x1_S16x1_48_0,
      k0_pay3 (View.ld x0 (Rect.unit (s := S512x2048) ![48, 0] S16x2048.size inb_S512x2048_S16x2048_48_0))⟩,
    ⟨Rect.unit (s := S512x1) ![32, 0] S16x1.size inb_S512x1_S16x1_32_0,
      k0_pay3 (View.ld x0 (Rect.unit (s := S512x2048) ![32, 0] S16x2048.size inb_S512x2048_S16x2048_32_0))⟩,
    ⟨Rect.unit (s := S512x1) ![16, 0] S16x1.size inb_S512x1_S16x1_16_0,
      k0_pay3 (View.ld x0 (Rect.unit (s := S512x2048) ![16, 0] S16x2048.size inb_S512x2048_S16x2048_16_0))⟩,
    ⟨Rect.unit (s := S512x1) ![0, 0] S16x1.size inb_S512x1_S16x1_0_0,
      k0_pay3 (View.ld x0 (Rect.unit (s := S512x2048) ![0, 0] S16x2048.size inb_S512x2048_S16x2048_0_0))⟩]

/-- Sixteen of those rows are the block's scales there. -/
theorem stat_piece (x0 : Vec Ideal S512x2048 .f32) (o : Nat)
    (inb : ∀ a, (![o, 0] : Fin 2 → Nat) a + S16x2048.size a ≤ S512x2048.size a)
    (inb1 : ∀ a, (![o, 0] : Fin 2 → Nat) a + S16x1.size a ≤ S512x1.size a) (x : S16x1.Idx) :
    (k0_pay3 (F := Ideal) (View.ld x0 (Rect.unit (s := S512x2048) ![o, 0] S16x2048.size inb)) x : EReal)
      = scales x0 ((Rect.unit (s := S512x1) ![o, 0] S16x1.size inb1).emb x) := by
  refine (stats_at _ x).trans (rms_congr _ _ fun k hk => ?_)
  refine (at2_of _ (ix2 (x 0) ⟨k, hk⟩ : S16x2048.Idx) rfl rfl).symm.trans ?_
  refine at2_of x0 _ ?_ ?_
  · show o + 1 * (x 0).val = o + 1 * (x 0).val; rfl
  · show 0 + 1 * k = k; omega

/-- The scratch column holds the block's scales. -/
theorem pieces_eq (x0 : Vec Ideal S512x2048 .f32) : View.canon (pieces x0) = scales x0 := by
  refine funext fun y => View.canon_apply_of_pieces (Val := Elt Ideal) (e := .f32) (scales x0) (pieces x0) ?_ y
    (View.cover_of_tiledL (pieces x0) S16x1.size (by unfold pieces; sl_kernel_rfl) y)
  unfold pieces
  intro p hp x
  rcases List.mem_cons.mp hp with rfl | hp
  · exact stat_piece x0 496 inb_S512x2048_S16x2048_496_0 inb_S512x1_S16x1_496_0 x
  rcases List.mem_cons.mp hp with rfl | hp
  · exact stat_piece x0 480 inb_S512x2048_S16x2048_480_0 inb_S512x1_S16x1_480_0 x
  rcases List.mem_cons.mp hp with rfl | hp
  · exact stat_piece x0 464 inb_S512x2048_S16x2048_464_0 inb_S512x1_S16x1_464_0 x
  rcases List.mem_cons.mp hp with rfl | hp
  · exact stat_piece x0 448 inb_S512x2048_S16x2048_448_0 inb_S512x1_S16x1_448_0 x
  rcases List.mem_cons.mp hp with rfl | hp
  · exact stat_piece x0 432 inb_S512x2048_S16x2048_432_0 inb_S512x1_S16x1_432_0 x
  rcases List.mem_cons.mp hp with rfl | hp
  · exact stat_piece x0 416 inb_S512x2048_S16x2048_416_0 inb_S512x1_S16x1_416_0 x
  rcases List.mem_cons.mp hp with rfl | hp
  · exact stat_piece x0 400 inb_S512x2048_S16x2048_400_0 inb_S512x1_S16x1_400_0 x
  rcases List.mem_cons.mp hp with rfl | hp
  · exact stat_piece x0 384 inb_S512x2048_S16x2048_384_0 inb_S512x1_S16x1_384_0 x
  rcases List.mem_cons.mp hp with rfl | hp
  · exact stat_piece x0 368 inb_S512x2048_S16x2048_368_0 inb_S512x1_S16x1_368_0 x
  rcases List.mem_cons.mp hp with rfl | hp
  · exact stat_piece x0 352 inb_S512x2048_S16x2048_352_0 inb_S512x1_S16x1_352_0 x
  rcases List.mem_cons.mp hp with rfl | hp
  · exact stat_piece x0 336 inb_S512x2048_S16x2048_336_0 inb_S512x1_S16x1_336_0 x
  rcases List.mem_cons.mp hp with rfl | hp
  · exact stat_piece x0 320 inb_S512x2048_S16x2048_320_0 inb_S512x1_S16x1_320_0 x
  rcases List.mem_cons.mp hp with rfl | hp
  · exact stat_piece x0 304 inb_S512x2048_S16x2048_304_0 inb_S512x1_S16x1_304_0 x
  rcases List.mem_cons.mp hp with rfl | hp
  · exact stat_piece x0 288 inb_S512x2048_S16x2048_288_0 inb_S512x1_S16x1_288_0 x
  rcases List.mem_cons.mp hp with rfl | hp
  · exact stat_piece x0 272 inb_S512x2048_S16x2048_272_0 inb_S512x1_S16x1_272_0 x
  rcases List.mem_cons.mp hp with rfl | hp
  · exact stat_piece x0 256 inb_S512x2048_S16x2048_256_0 inb_S512x1_S16x1_256_0 x
  rcases List.mem_cons.mp hp with rfl | hp
  · exact stat_piece x0 240 inb_S512x2048_S16x2048_240_0 inb_S512x1_S16x1_240_0 x
  rcases List.mem_cons.mp hp with rfl | hp
  · exact stat_piece x0 224 inb_S512x2048_S16x2048_224_0 inb_S512x1_S16x1_224_0 x
  rcases List.mem_cons.mp hp with rfl | hp
  · exact stat_piece x0 208 inb_S512x2048_S16x2048_208_0 inb_S512x1_S16x1_208_0 x
  rcases List.mem_cons.mp hp with rfl | hp
  · exact stat_piece x0 192 inb_S512x2048_S16x2048_192_0 inb_S512x1_S16x1_192_0 x
  rcases List.mem_cons.mp hp with rfl | hp
  · exact stat_piece x0 176 inb_S512x2048_S16x2048_176_0 inb_S512x1_S16x1_176_0 x
  rcases List.mem_cons.mp hp with rfl | hp
  · exact stat_piece x0 160 inb_S512x2048_S16x2048_160_0 inb_S512x1_S16x1_160_0 x
  rcases List.mem_cons.mp hp with rfl | hp
  · exact stat_piece x0 144 inb_S512x2048_S16x2048_144_0 inb_S512x1_S16x1_144_0 x
  rcases List.mem_cons.mp hp with rfl | hp
  · exact stat_piece x0 128 inb_S512x2048_S16x2048_128_0 inb_S512x1_S16x1_128_0 x
  rcases List.mem_cons.mp hp with rfl | hp
  · exact stat_piece x0 112 inb_S512x2048_S16x2048_112_0 inb_S512x1_S16x1_112_0 x
  rcases List.mem_cons.mp hp with rfl | hp
  · exact stat_piece x0 96 inb_S512x2048_S16x2048_96_0 inb_S512x1_S16x1_96_0 x
  rcases List.mem_cons.mp hp with rfl | hp
  · exact stat_piece x0 80 inb_S512x2048_S16x2048_80_0 inb_S512x1_S16x1_80_0 x
  rcases List.mem_cons.mp hp with rfl | hp
  · exact stat_piece x0 64 inb_S512x2048_S16x2048_64_0 inb_S512x1_S16x1_64_0 x
  rcases List.mem_cons.mp hp with rfl | hp
  · exact stat_piece x0 48 inb_S512x2048_S16x2048_48_0 inb_S512x1_S16x1_48_0 x
  rcases List.mem_cons.mp hp with rfl | hp
  · exact stat_piece x0 32 inb_S512x2048_S16x2048_32_0 inb_S512x1_S16x1_32_0 x
  rcases List.mem_cons.mp hp with rfl | hp
  · exact stat_piece x0 16 inb_S512x2048_S16x2048_16_0 inb_S512x1_S16x1_16_0 x
  · obtain rfl := List.mem_singleton.mp hp
    exact stat_piece x0 0 inb_S512x2048_S16x2048_0_0 inb_S512x1_S16x1_0_0 x

/-- A store into the output is the block's part there. -/
theorem piece_at {κ : Kind} {sp : Space} (w : View sig κ sp S512x1 .f32) (x0 : Vec Ideal S512x2048 .f32) (x1 : Vec Ideal S1x2048 .f32) (o : Nat)
    (inb : ∀ a, (![o, 0] : Fin 2 → Nat) a + S16x2048.size a ≤ S512x2048.size a)
    (inb1 : ∀ a, (![o, 0] : Fin 2 → Nat) a + S16x1.size a ≤ S512x1.size a) (x : S16x2048.Idx) :
    (k0_pay45 (F := Ideal) (k0_pay2 x1) (View.ld x0 (Rect.unit (s := S512x2048) ![o, 0] S16x2048.size inb))
      (w.readCov (pieces x0) (Rect.unit (s := S512x1) ![o, 0] S16x1.size inb1).toLoadRect) x : EReal)
      = blockElt x0 x1 ((Rect.unit (s := S512x2048) ![o, 0] S16x2048.size inb).emb x) := by
  rw [View.readCov_eq_canon', pieces_eq]
  unfold k0_pay45 k0_pay2
  show View.ld x0 (Rect.unit (s := S512x2048) ![o, 0] S16x2048.size inb) x
    * broadcastTo (α := EReal) S16x2048 _ broadcasts_S16x1_S16x2048 x * broadcastTo (α := EReal) S16x2048 _ broadcasts_S1x2048_S16x2048 x = _
  refine congrArg₂ (· * ·) (congrArg₂ (· * ·) (at2_of x0 _ rfl rfl) ?_) ?_
  · refine (broadcastTo_apply _ broadcasts_S16x1_S16x2048 x (ix2 (x 0) 0) (fun a => match a with
      | ⟨0, _⟩ => rfl
      | ⟨1, _⟩ => rfl)).trans ?_
    rfl
  · refine (broadcastTo_apply _ broadcasts_S1x2048_S16x2048 x (ix2 0 (x 1)) (fun a => match a with
      | ⟨0, _⟩ => rfl
      | ⟨1, _⟩ => rfl)).trans ?_
    refine (shapeCast_apply x1 shapeCasts_S1x2048_S1x2048 (ix2 0 (x 1)) (ix2 0 (x 1)) rfl).trans ?_
    refine at2_of x1 _ rfl ?_
    show (x 1).val = 0 + 1 * (x 1).val; omega

/-- The body's 32 stores leave `blockElt`. -/
theorem out_eq (c : Dev nD) (i : grid0.Coords) (arg1 : Memref sig .tc .vmem S512x2048 .f32) (harg1 : arg1.IsWhole)
    (arg2 : Memref sig .tc .vmem S1x2048 .f32) (harg2 : arg2.IsWhole) (arg3 : Memref sig .tc .vmem S512x2048 .f32)
    (harg3 : arg3.IsWhole) (arg4 : Memref sig .tc .vmem S512x1 .f32) (harg4 : arg4.IsWhole)
    (x0 : Vec Ideal S512x2048 .f32) (x1 : Vec Ideal S1x2048 .f32) :
    out0_A_2 c i arg1 harg1 arg2 harg2 arg3 harg3 arg4 harg4 x0 x1 = blockElt x0 x1 := by
  refine funext fun (y : S512x2048.Idx) => ?_
  have hcov := cover0_A_2 c i arg1 harg1 arg2 harg2 arg3 harg3 arg4 harg4 x0 x1
  unfold out0_A_2
  rw [View.read_writes_eq_canon _ _ _ hcov]
  refine View.canon_apply_of_pieces (Val := Elt Ideal) (e := .f32) (blockElt x0 x1) _ ?_ y (hcov y)
  clear hcov
  unfold kernelRun0_A
  dsimp only
  sl_unfold_words
  simp only [View.readAt_eq_ld, harg1.read_unread, harg2.read_unread, View.ld_unit_zero (S := S1x2048) hz2]
  intro p hp x
  rcases List.mem_cons.mp hp with rfl | hp
  · exact piece_at arg4.view x0 x1 496 inb_S512x2048_S16x2048_496_0 inb_S512x1_S16x1_496_0 x
  rcases List.mem_cons.mp hp with rfl | hp
  · exact piece_at arg4.view x0 x1 480 inb_S512x2048_S16x2048_480_0 inb_S512x1_S16x1_480_0 x
  rcases List.mem_cons.mp hp with rfl | hp
  · exact piece_at arg4.view x0 x1 464 inb_S512x2048_S16x2048_464_0 inb_S512x1_S16x1_464_0 x
  rcases List.mem_cons.mp hp with rfl | hp
  · exact piece_at arg4.view x0 x1 448 inb_S512x2048_S16x2048_448_0 inb_S512x1_S16x1_448_0 x
  rcases List.mem_cons.mp hp with rfl | hp
  · exact piece_at arg4.view x0 x1 432 inb_S512x2048_S16x2048_432_0 inb_S512x1_S16x1_432_0 x
  rcases List.mem_cons.mp hp with rfl | hp
  · exact piece_at arg4.view x0 x1 416 inb_S512x2048_S16x2048_416_0 inb_S512x1_S16x1_416_0 x
  rcases List.mem_cons.mp hp with rfl | hp
  · exact piece_at arg4.view x0 x1 400 inb_S512x2048_S16x2048_400_0 inb_S512x1_S16x1_400_0 x
  rcases List.mem_cons.mp hp with rfl | hp
  · exact piece_at arg4.view x0 x1 384 inb_S512x2048_S16x2048_384_0 inb_S512x1_S16x1_384_0 x
  rcases List.mem_cons.mp hp with rfl | hp
  · exact piece_at arg4.view x0 x1 368 inb_S512x2048_S16x2048_368_0 inb_S512x1_S16x1_368_0 x
  rcases List.mem_cons.mp hp with rfl | hp
  · exact piece_at arg4.view x0 x1 352 inb_S512x2048_S16x2048_352_0 inb_S512x1_S16x1_352_0 x
  rcases List.mem_cons.mp hp with rfl | hp
  · exact piece_at arg4.view x0 x1 336 inb_S512x2048_S16x2048_336_0 inb_S512x1_S16x1_336_0 x
  rcases List.mem_cons.mp hp with rfl | hp
  · exact piece_at arg4.view x0 x1 320 inb_S512x2048_S16x2048_320_0 inb_S512x1_S16x1_320_0 x
  rcases List.mem_cons.mp hp with rfl | hp
  · exact piece_at arg4.view x0 x1 304 inb_S512x2048_S16x2048_304_0 inb_S512x1_S16x1_304_0 x
  rcases List.mem_cons.mp hp with rfl | hp
  · exact piece_at arg4.view x0 x1 288 inb_S512x2048_S16x2048_288_0 inb_S512x1_S16x1_288_0 x
  rcases List.mem_cons.mp hp with rfl | hp
  · exact piece_at arg4.view x0 x1 272 inb_S512x2048_S16x2048_272_0 inb_S512x1_S16x1_272_0 x
  rcases List.mem_cons.mp hp with rfl | hp
  · exact piece_at arg4.view x0 x1 256 inb_S512x2048_S16x2048_256_0 inb_S512x1_S16x1_256_0 x
  rcases List.mem_cons.mp hp with rfl | hp
  · exact piece_at arg4.view x0 x1 240 inb_S512x2048_S16x2048_240_0 inb_S512x1_S16x1_240_0 x
  rcases List.mem_cons.mp hp with rfl | hp
  · exact piece_at arg4.view x0 x1 224 inb_S512x2048_S16x2048_224_0 inb_S512x1_S16x1_224_0 x
  rcases List.mem_cons.mp hp with rfl | hp
  · exact piece_at arg4.view x0 x1 208 inb_S512x2048_S16x2048_208_0 inb_S512x1_S16x1_208_0 x
  rcases List.mem_cons.mp hp with rfl | hp
  · exact piece_at arg4.view x0 x1 192 inb_S512x2048_S16x2048_192_0 inb_S512x1_S16x1_192_0 x
  rcases List.mem_cons.mp hp with rfl | hp
  · exact piece_at arg4.view x0 x1 176 inb_S512x2048_S16x2048_176_0 inb_S512x1_S16x1_176_0 x
  rcases List.mem_cons.mp hp with rfl | hp
  · exact piece_at arg4.view x0 x1 160 inb_S512x2048_S16x2048_160_0 inb_S512x1_S16x1_160_0 x
  rcases List.mem_cons.mp hp with rfl | hp
  · exact piece_at arg4.view x0 x1 144 inb_S512x2048_S16x2048_144_0 inb_S512x1_S16x1_144_0 x
  rcases List.mem_cons.mp hp with rfl | hp
  · exact piece_at arg4.view x0 x1 128 inb_S512x2048_S16x2048_128_0 inb_S512x1_S16x1_128_0 x
  rcases List.mem_cons.mp hp with rfl | hp
  · exact piece_at arg4.view x0 x1 112 inb_S512x2048_S16x2048_112_0 inb_S512x1_S16x1_112_0 x
  rcases List.mem_cons.mp hp with rfl | hp
  · exact piece_at arg4.view x0 x1 96 inb_S512x2048_S16x2048_96_0 inb_S512x1_S16x1_96_0 x
  rcases List.mem_cons.mp hp with rfl | hp
  · exact piece_at arg4.view x0 x1 80 inb_S512x2048_S16x2048_80_0 inb_S512x1_S16x1_80_0 x
  rcases List.mem_cons.mp hp with rfl | hp
  · exact piece_at arg4.view x0 x1 64 inb_S512x2048_S16x2048_64_0 inb_S512x1_S16x1_64_0 x
  rcases List.mem_cons.mp hp with rfl | hp
  · exact piece_at arg4.view x0 x1 48 inb_S512x2048_S16x2048_48_0 inb_S512x1_S16x1_48_0 x
  rcases List.mem_cons.mp hp with rfl | hp
  · exact piece_at arg4.view x0 x1 32 inb_S512x2048_S16x2048_32_0 inb_S512x1_S16x1_32_0 x
  rcases List.mem_cons.mp hp with rfl | hp
  · exact piece_at arg4.view x0 x1 16 inb_S512x2048_S16x2048_16_0 inb_S512x1_S16x1_16_0 x
  · obtain rfl := List.mem_singleton.mp hp
    exact piece_at arg4.view x0 x1 0 inb_S512x2048_S16x2048_0_0 inb_S512x1_S16x1_0_0 x

/-! ## The windows' blocks, by position -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (ρ : Dev nD → PrngReg)

/-- The launched arguments, as arrays of extended reals. -/
abbrev A0 (c : Dev nD) : S9216x2048.Idx → EReal := m ((c : Thread nD τ).loc main_arg0)
abbrev A1 (c : Dev nD) : S2048.Idx → EReal := m ((c : Thread nD τ).loc main_arg1)

/-- The gain as the launch finds it: one row. -/
theorem gain_eq (c : Dev nD) : (V m c main_v0 : S1x2048.Idx → EReal)
    = shapeCast S1x2048 (A1 m c) shapeCasts_S2048_S1x2048 := by
  show StableHlo.after hostOps0 (fun b => m (c, b)) _ = _
  unfold hostOps0
  rfl

/-- That row at an element. -/
theorem gain_at (c : Dev nD) (i : S1x2048.Idx) : (V m c main_v0 : S1x2048.Idx → EReal) i = at1 (A1 m c) (i 1).val := by
  have h0 : (i 0).val < 1 := (i 0).isLt
  rw [gain_eq]
  refine (shapeCast_apply (A1 m c) shapeCasts_S2048_S1x2048 i (ix1 (i 1)) (by
    rewrite [Shape.rowMajor_val_two, Shape.rowMajor_val_one]
    show (i 1).val = (i 0).val * 2048 + (i 1).val; omega)).trans ?_
  exact at1_of (A1 m c) _ rfl

theorem blk0 (c : Dev nD) (t : Fin cfg0.N) (a b : Nat) (ha : a < 512) (hb : b < 2048) :
    at2 (iblk m c 0 t : S512x2048.Idx → EReal) a b = at2 (A0 m c) (t.val * 512 + a) b := by
  refine (at2_of (iblk m c 0 t : S512x2048.Idx → EReal) (ix2 ⟨a, ha⟩ ⟨b, hb⟩) rfl rfl).symm.trans ?_
  unfold iblk
  rw [View.read_apply]
  refine (congrFun (V_main_arg0 m c) _).trans (at2_of (A0 m c) _ ?_ ?_)
  · show win0_0.index t 0 * 512 + 1 * a = _; rw [(idx0 t).1]; omega
  · show win0_0.index t 1 * 2048 + 1 * b = _; rw [(idx0 t).2]; omega

theorem blk1 (c : Dev nD) (t : Fin cfg0.N) (b : Nat) (hb : b < 2048) :
    at2 (iblk m c 1 t : S1x2048.Idx → EReal) 0 b = at1 (A1 m c) b := by
  refine (at2_of (iblk m c 1 t : S1x2048.Idx → EReal) (ix2 0 ⟨b, hb⟩) rfl rfl).symm.trans ?_
  unfold iblk
  rw [View.read_apply]
  refine (gain_at m c _).trans (congrArg (at1 (A1 m c)) ?_)
  show win0_1.index t 1 * 2048 + 1 * b = _; rw [(idx1 t).2]; omega

/-- What one grid point writes back is its block of the result array. -/
theorem flushed_eq (c : Dev nD) (t : Fin cfg0.N) : (dats m 0 c).flushed 2 t
    = ((cfg0.win 2).blk t).view.read (Elt Ideal) (G (A0 m c) (A1 m c)) := by
  rw [Cert.Kernel6Ideal.Value.flushed2_A, out_eq]
  refine funext fun (y : S512x2048.Idx) => ?_
  have h0 : (y 0).val < 512 := (y 0).isLt
  have h1 : (y 1).val < 2048 := (y 1).isLt
  have hr : (((cfg0.win 2).blk t).view.emb y 0).val = t.val * 512 + (y 0).val := by
    show win0_2.index t 0 * 512 + 1 * (y 0).val = _; rw [(idx2 t).1]; omega
  have hc : (((cfg0.win 2).blk t).view.emb y 1).val = (y 1).val := by
    show win0_2.index t 1 * 2048 + 1 * (y 1).val = _; rw [(idx2 t).2]; omega
  refine Eq.trans ?_ (congrArg₂ (elt (A0 m c) (A1 m c)) hr hc).symm
  show blockElt (iblk m c 0 t) (iblk m c 1 t) y = _
  unfold blockElt elt
  rw [blk0 m c t _ _ h0 h1, blk1 m c t _ h1, rms_congr _ _ fun k hk => blk0 m c t _ k h0 hk]

/-- The result array after the run. -/
theorem final (c : Dev nD) : (dats m 0 c).arrAt 2 cfg0.N = G (A0 m c) (A1 m c) :=
  (dats m 0 c).arrAt_eq_of_cover 2 (G (A0 m c) (A1 m c)) (fun t _ => flushed_eq m c t)
    fun (i : S8192x2048.Idx) => by
      have h0 : (i 0).val < 8192 := (i 0).isLt
      have h1 : (i 1).val < 2048 := (i 1).isLt
      have hN : cfg0.N = 16 := N_0
      refine ⟨⟨(i 0).val / 512, by omega⟩, flush0_2 _, ?_⟩
      generalize hT : (⟨(i 0).val / 512, by omega⟩ : Fin cfg0.N) = t
      have ht : t.val = (i 0).val / 512 := by rw [← hT]
      show i ∈ ((View.whole main_v1).slice (win0_2.rect t)).set
      rw [View.set_slice_whole, Rect.mem_set_unit]
      intro a
      match a with
      | ⟨0, _⟩ =>
        show win0_2.index t 0 * 512 ≤ (i 0).val ∧ (i 0).val < win0_2.index t 0 * 512 + 512
        rw [(idx2 t).1]; omega
      | ⟨1, _⟩ =>
        show win0_2.index t 1 * 2048 ≤ (i 1).val ∧ (i 1).val < win0_2.index t 1 * 2048 + 2048
        rw [(idx2 t).2]; omega

/-- The kernel's run: the result array named, the arguments unchanged. -/
theorem run : θ_run defs (onTc (τ := τ) (main (F := Ideal))) ⟨m, fun _ => 0, ρ⟩ fun r => ∀ c : Dev nD,
      r.2.mem ((c : Thread nD τ).loc main_v1) = G (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Kernel6Ideal.Value.run_blocks m ρ)

/-! ## The reference -/

open Cert.Reference6Ideal.Read in
/-- The reference's result is the same array. -/
theorem ref_eq (x0 : S9216x2048.Idx → EReal) (x1 : S2048.Idx → EReal) :
    val_main_v13 (F := Ideal) x0 x1 = G x0 x1 := by
  refine funext fun (i : S8192x2048.Idx) => ?_
  have h0 : (i 0).val < 8192 := (i 0).isLt
  rw [val_main_v13_apply, val_main_v10_apply, val_main_v12_apply, val_main_v11_apply, val_main_v9_apply,
    val_main_v8_apply, val_main_v7_apply, val_main_v5_apply, val_main_v3_apply, val_main_v2_apply, val_main_v4_apply,
    val_main_v6_apply, val_main_v0_apply, val_main_cst_apply, val_main_cst_0_apply, val_main_cst_1_apply]
  refine congrArg₂ (· * ·) (congrArg₂ (· * ·) (at2_of x0 _ rfl rfl) ?_) (at1_of x1 _ rfl)
  unfold rms
  show Ideal.rsqrt (Ideal.div (Ideal.ofBits .f32 0x00000000#32 + _) (Ideal.ofBits .f32 0x45000000#32)
    + Ideal.ofBits .f32 0x358637BD#32) = _
  rw [Ideal.ofBits_zero_f32, zero_add]
  refine congrArg (fun z : EReal => Ideal.rsqrt (Ideal.div z (Ideal.ofBits .f32 0x45000000#32) + Ideal.ofBits .f32 0x358637BD#32))
    (Finset.sum_congr rfl fun k _ => ?_)
  rw [val_main_v1_apply, val_main_v0_apply]
  exact congrArg₂ (· * ·) (at2_of x0 _ rfl rfl) (at2_of x0 _ rfl rfl)

end Cert.Proof.FinalNorm

end
-- ==== Proof.FfnABody7.lean ====
/-
  Hand-written. The first feed-forward call's body at a grid point, run on any buffers: the block it leaves of the gated product, the
  128 rows of the next tile it normalizes into the carried buffer, and the slab of the second weights it copies. Three cases: the first
  point, which first copies the first operand into the carried buffer; the points that copy a slab; the points after the last slab.
-/
module

public import proofs.«01_k».proof.Proof.Gen.Kernel7Ideal.Frame
public import proofs.«01_k».proof.Proof.Gen.Kernel7Ideal.Skeleton
public import Idealize.ShloMosaic.Lib.WritesUnit
public import Idealize.ShloMosaic.Lib.Claim
public import Idealize.ShloMosaic.Lib.ValueIdx
public import Idealize.ShloMosaic.Lib.Pipeline.Value

@[expose] public section

set_option maxRecDepth 16384

noncomputable section

namespace Cert.Kernel7Ideal.Hand

open Cert.Kernel7Ideal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if`: the grid's first point. -/
abbrev cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

theorem cond1_iff : ∀ i : grid0.Coords, cond1 i = 1#1 ↔ (i 0).val = 0 ∧ (i 1).val = 0 := by decide +kernel
theorem cond2_iff : ∀ i : grid0.Coords, k0_cond2 i = 1#1 ↔ 11 * (i 0).val + (i 1).val < 88 := by decide +kernel
theorem off1_eq : ∀ i : grid0.Coords, k0_off1 i = ![(i 0).val % 2, 0, 0] := by decide +kernel
theorem off3_eq : ∀ i : grid0.Coords, k0_off3 i = ![1 - (i 0).val % 2, 128 * min (i 1).val 7, 0] := by decide +kernel
theorem off4_eq : ∀ i : grid0.Coords, k0_off4 i = ![1 - (i 0).val % 2, 128 * min (i 1).val 7 + 16, 0] := by decide +kernel
theorem off5_eq : ∀ i : grid0.Coords, k0_off5 i = ![1 - (i 0).val % 2, 128 * min (i 1).val 7 + 32, 0] := by decide +kernel
theorem off6_eq : ∀ i : grid0.Coords, k0_off6 i = ![1 - (i 0).val % 2, 128 * min (i 1).val 7 + 48, 0] := by decide +kernel
theorem off7_eq : ∀ i : grid0.Coords, k0_off7 i = ![1 - (i 0).val % 2, 128 * min (i 1).val 7 + 64, 0] := by decide +kernel
theorem off8_eq : ∀ i : grid0.Coords, k0_off8 i = ![1 - (i 0).val % 2, 128 * min (i 1).val 7 + 80, 0] := by decide +kernel
theorem off9_eq : ∀ i : grid0.Coords, k0_off9 i = ![1 - (i 0).val % 2, 128 * min (i 1).val 7 + 96, 0] := by decide +kernel
theorem off10_eq : ∀ i : grid0.Coords, k0_off10 i = ![1 - (i 0).val % 2, 128 * min (i 1).val 7 + 112, 0] := by decide +kernel

/-! ## What the body leaves in the scratch tile -/

/-- Rows `16 k … 16 k + 15` of a 128-row block. -/
def chunk (x : Vec F S128x2048 .f32) (k : Fin 8) : Vec F S16x2048 .f32 := fun z =>
  x (ix2 ⟨16 * k.val + (z 0).val, by have h : (z 0).val < 16 := (z 0).isLt; omega⟩ (z 1))

/-- Sixteen rows normalized and modulated: the block's scale and shift, and the rows' own statistics. -/
def piece (x1 : Vec F S128x2048 .f32) (x2 : Vec F S1x2048 .f32) (x3 x4 : Vec F S1x1x1x2048 .f32) (k : Fin 8) :
    Vec F S1x16x2048 .bf16 :=
  k0_pay2 (k0_pay8 x2 x4) (k0_pay9 x3) (chunk x1 k) (k0_pay20 (chunk x1 k))

/-- The contents `d'` are `b` with the 128 rows of the other slot that the point normalizes replaced. -/
def Upd (i : grid0.Coords) (P : Fin 8 → Vec F S1x16x2048 .bf16) (b d' : Vec F S2x1024x2048 .bf16) : Prop :=
  (∀ (k : Fin 8) (z : S1x16x2048.Idx) (y : S2x1024x2048.Idx), (y 0).val = 1 - (i 0).val % 2 →
      (y 1).val = 128 * min (i 1).val 7 + 16 * k.val + (z 1).val → (y 2).val = (z 2).val → d' y = P k z)
  ∧ ∀ y : S2x1024x2048.Idx, ((y 0).val ≠ 1 - (i 0).val % 2 ∨ (y 1).val < 128 * min (i 1).val 7
      ∨ 128 * min (i 1).val 7 + 128 ≤ (y 1).val) → d' y = b y

theorem hit (v : View sig .tc .vmem S2x1024x2048 .bf16) (f : v.ty.Contents (Elt F)) (L : List (View.Piece (Elt F) S2x1024x2048 .bf16))
    (off : Fin 3 → ℕ) (inb : ∀ a, off a + S1x16x2048.size a ≤ S2x1024x2048.size a) (p q : ℕ) (w : S1x16x2048.Idx → Elt F .bf16)
    (hoff : off = ![p, q, 0]) (z : S1x16x2048.Idx) (y : S2x1024x2048.Idx) (h0 : (y 0).val = p) (h1 : (y 1).val = q + (z 1).val)
    (h2 : (y 2).val = (z 2).val) :
    v.read (Elt F) (v.writes (Elt F) f (⟨Rect.unit (s := S2x1024x2048) off S1x16x2048.size inb, w⟩ :: L)) y = w z := by
  refine View.read_writes_cons_unit_of_mem v f inb w L y z hoff fun a => ?_
  match a with
  | ⟨0, _⟩ => have hz : (z 0).val < 1 := (z 0).isLt; show (y 0).val = p + (z 0).val; omega
  | ⟨1, _⟩ => exact h1
  | ⟨2, _⟩ => show (y 2).val = 0 + (z 2).val; omega

theorem miss (v : View sig .tc .vmem S2x1024x2048 .bf16) (f : v.ty.Contents (Elt F)) (L : List (View.Piece (Elt F) S2x1024x2048 .bf16))
    (off : Fin 3 → ℕ) (inb : ∀ a, off a + S1x16x2048.size a ≤ S2x1024x2048.size a) (p q : ℕ) (w : S1x16x2048.Idx → Elt F .bf16)
    (hoff : off = ![p, q, 0]) (y : S2x1024x2048.Idx) (h : (y 0).val ≠ p ∨ (y 1).val < q ∨ q + 16 ≤ (y 1).val) :
    v.read (Elt F) (v.writes (Elt F) f (⟨Rect.unit (s := S2x1024x2048) off S1x16x2048.size inb, w⟩ :: L)) y
      = v.read (Elt F) (v.writes (Elt F) f L) y := by
  by_cases h0 : (y 0).val = p
  · refine View.read_writes_cons_unit_of_not_mem v f inb w L y hoff 1 ?_
    show (y 1).val < q ∨ q + 16 ≤ (y 1).val
    rcases h with h | h
    · exact absurd h0 h
    · exact h
  · refine View.read_writes_cons_unit_of_not_mem v f inb w L y hoff 0 ?_
    show (y 0).val < p ∨ p + 1 ≤ (y 0).val
    omega

/-- Eight stores of sixteen rows, one after the other, replace the point's 128 rows. -/
theorem upd8 (v : View sig .tc .vmem S2x1024x2048 .bf16) (f : v.ty.Contents (Elt F)) (L : List (View.Piece (Elt F) S2x1024x2048 .bf16))
    (i : grid0.Coords) (P : Fin 8 → Vec F S1x16x2048 .bf16) (w0 w1 w2 w3 w4 w5 w6 w7 : S1x16x2048.Idx → Elt F .bf16)
    (h0 : w0 = P 0) (h1 : w1 = P 1) (h2 : w2 = P 2) (h3 : w3 = P 3) (h4 : w4 = P 4) (h5 : w5 = P 5) (h6 : w6 = P 6) (h7 : w7 = P 7) :
    Upd i P (v.read (Elt F) (v.writes (Elt F) f L)) (v.read (Elt F) (v.writes (Elt F) f
      (⟨Rect.unit (s := S2x1024x2048) (k0_off10 i) S1x16x2048.size (k0_off10_inb i), w7⟩
        :: ⟨Rect.unit (s := S2x1024x2048) (k0_off9 i) S1x16x2048.size (k0_off9_inb i), w6⟩
        :: ⟨Rect.unit (s := S2x1024x2048) (k0_off8 i) S1x16x2048.size (k0_off8_inb i), w5⟩
        :: ⟨Rect.unit (s := S2x1024x2048) (k0_off7 i) S1x16x2048.size (k0_off7_inb i), w4⟩
        :: ⟨Rect.unit (s := S2x1024x2048) (k0_off6 i) S1x16x2048.size (k0_off6_inb i), w3⟩
        :: ⟨Rect.unit (s := S2x1024x2048) (k0_off5 i) S1x16x2048.size (k0_off5_inb i), w2⟩
        :: ⟨Rect.unit (s := S2x1024x2048) (k0_off4 i) S1x16x2048.size (k0_off4_inb i), w1⟩
        :: ⟨Rect.unit (s := S2x1024x2048) (k0_off3 i) S1x16x2048.size (k0_off3_inb i), w0⟩ :: L))) := by
  subst h0 h1 h2 h3 h4 h5 h6 h7
  generalize hq : 128 * min (i 1).val 7 = q
  generalize hp : 1 - (i 0).val % 2 = p
  have e3 := off3_eq i; have e4 := off4_eq i; have e5 := off5_eq i; have e6 := off6_eq i
  have e7 := off7_eq i; have e8 := off8_eq i; have e9 := off9_eq i; have e10 := off10_eq i
  rw [hq, hp] at e3 e4 e5 e6 e7 e8 e9 e10
  unfold Upd
  rw [hq, hp]
  constructor
  · intro k z y hy0 hy1 hy2
    have hz : (z 1).val < 16 := (z 1).isLt
    match k, hy1 with
    | ⟨7, _⟩, hy1 =>
      exact hit v f _ _ _ p (q + 112) _ e10 z y hy0 (by simp only [] at hy1; omega) hy2
    | ⟨6, _⟩, hy1 =>
      simp only [] at hy1
      refine (miss v f _ _ _ p (q + 112) _ e10 y (by omega)).trans ?_
      exact hit v f _ _ _ p (q + 96) _ e9 z y hy0 (by omega) hy2
    | ⟨5, _⟩, hy1 =>
      simp only [] at hy1
      refine (miss v f _ _ _ p (q + 112) _ e10 y (by omega)).trans ((miss v f _ _ _ p (q + 96) _ e9 y (by omega)).trans ?_)
      exact hit v f _ _ _ p (q + 80) _ e8 z y hy0 (by omega) hy2
    | ⟨4, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ?_))
      exact hit v f _ _ _ p (q + 64) _ e7 z y hy0 (by omega) hy2
    | ⟨3, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans ?_)))
      exact hit v f _ _ _ p (q + 48) _ e6 z y hy0 (by omega) hy2
    | ⟨2, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans
        ((miss v f _ _ _ p (q + 48) _ e6 y (by omega)).trans ?_))))
      exact hit v f _ _ _ p (q + 32) _ e5 z y hy0 (by omega) hy2
    | ⟨1, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans
        ((miss v f _ _ _ p (q + 48) _ e6 y (by omega)).trans ((miss v f _ _ _ p (q + 32) _ e5 y (by omega)).trans ?_)))))
      exact hit v f _ _ _ p (q + 16) _ e4 z y hy0 (by omega) hy2
    | ⟨0, _⟩, hy1 =>
      simp only [] at hy1
      refine (miss v f _ _ _ p (q + 112) _ e10 y (by omega)).trans ((miss v f _ _ _ p (q + 96) _ e9 y (by omega)).trans
        ((miss v f _ _ _ p (q + 80) _ e8 y (by omega)).trans ((miss v f _ _ _ p (q + 64) _ e7 y (by omega)).trans
        ((miss v f _ _ _ p (q + 48) _ e6 y (by omega)).trans ((miss v f _ _ _ p (q + 32) _ e5 y (by omega)).trans
        ((miss v f _ _ _ p (q + 16) _ e4 y (by omega)).trans ?_))))))
      exact hit v f _ _ _ p q _ e3 z y hy0 (by omega) hy2
  · intro y hy
    exact (miss v f _ _ _ p (q + 112) _ e10 y (by omega)).trans ((miss v f _ _ _ p (q + 96) _ e9 y (by omega)).trans
      ((miss v f _ _ _ p (q + 80) _ e8 y (by omega)).trans ((miss v f _ _ _ p (q + 64) _ e7 y (by omega)).trans
      ((miss v f _ _ _ p (q + 48) _ e6 y (by omega)).trans ((miss v f _ _ _ p (q + 32) _ e5 y (by omega)).trans
      ((miss v f _ _ _ p (q + 16) _ e4 y (by omega)).trans (miss v f _ _ _ p q _ e3 y (by omega))))))))

/-- A load of sixteen rows of the block reads that chunk of it. -/
theorem chunk_of (arg3 : Memref sig .tc .vmem S128x2048 .f32) (harg3 : arg3.IsWhole) (x1 : Vec F S128x2048 .f32) (k : Fin 8) (o : ℕ)
    (ho : o = 16 * k.val) (inb : ∀ a, (![o, 0] : Fin 2 → ℕ) a + S16x2048.size a ≤ S128x2048.size a) :
    View.readAt (Elt F) arg3.view (Rect.unit (s := S128x2048) ![o, 0] S16x2048.size inb).toLoadRect (harg3.unread x1) = chunk x1 k := by
  subst ho
  rw [View.readAt_eq_ld, harg3.read_unread]
  funext z
  refine congrArg x1 (funext fun a => Fin.ext ?_)
  match a with
  | ⟨0, _⟩ => show 16 * k.val + 1 * (z 0).val = 16 * k.val + (z 0).val; omega
  | ⟨1, _⟩ => show 0 + 1 * (z 1).val = (z 1).val; omega

/-- The statistics' stores: sixteen rows each, the last first. -/
def statStores (X : Fin 8 → Vec F S16x1 .f32) : List (View.Piece (Elt F) S128x1 .f32) :=
  [⟨Rect.unit (s := S128x1) ![112, 0] S16x1.size inb_S128x1_S16x1_112_0, X 7⟩,
   ⟨Rect.unit (s := S128x1) ![96, 0] S16x1.size inb_S128x1_S16x1_96_0, X 6⟩,
   ⟨Rect.unit (s := S128x1) ![80, 0] S16x1.size inb_S128x1_S16x1_80_0, X 5⟩,
   ⟨Rect.unit (s := S128x1) ![64, 0] S16x1.size inb_S128x1_S16x1_64_0, X 4⟩,
   ⟨Rect.unit (s := S128x1) ![48, 0] S16x1.size inb_S128x1_S16x1_48_0, X 3⟩,
   ⟨Rect.unit (s := S128x1) ![32, 0] S16x1.size inb_S128x1_S16x1_32_0, X 2⟩,
   ⟨Rect.unit (s := S128x1) ![16, 0] S16x1.size inb_S128x1_S16x1_16_0, X 1⟩,
   ⟨Rect.unit (s := S128x1) ![0, 0] S16x1.size inb_S128x1_S16x1_0_0, X 0⟩]

/-- Two blocks of rows one below the other share no element. -/
theorem apart (o o' : ℕ) (inb : ∀ a, (![o, 0] : Fin 2 → ℕ) a + S16x1.size a ≤ S128x1.size a)
    (inb' : ∀ a, (![o', 0] : Fin 2 → ℕ) a + S16x1.size a ≤ S128x1.size a) (h : o' + 16 ≤ o) :
    Disjoint (Rect.unit (s := S128x1) ![o, 0] S16x1.size inb).set (Rect.unit (s := S128x1) ![o', 0] S16x1.size inb').toLoadRect.set := by
  rw [Finset.disjoint_left]
  intro y hy hy'
  have h1 : o ≤ (y 0).val := ((Rect.mem_set_unit).mp hy 0).1
  have h2 : (y 0).val < o' + 16 := ((Rect.mem_set_unit).mp hy' 0).2
  omega

theorem cov7 (v : View sig .tc .vmem S128x1 .f32) (X : Fin 8 → Vec F S16x1 .f32) :
    v.readCov (statStores X) (Rect.unit (s := S128x1) ![112, 0] S16x1.size inb_S128x1_S16x1_112_0).toLoadRect = X 7 := by
  unfold statStores
  exact View.readCov_cons_toLoadRect v _ _ _

theorem cov6 (v : View sig .tc .vmem S128x1 .f32) (X : Fin 8 → Vec F S16x1 .f32) :
    v.readCov (statStores X) (Rect.unit (s := S128x1) ![96, 0] S16x1.size inb_S128x1_S16x1_96_0).toLoadRect = X 6 := by
  unfold statStores
  rw [View.readCov_cons_of_disjoint v ⟨Rect.unit (s := S128x1) ![112, 0] S16x1.size inb_S128x1_S16x1_112_0, X 7⟩ _ _
    (apart 112 96 inb_S128x1_S16x1_112_0 inb_S128x1_S16x1_96_0 (by decide))]
  exact View.readCov_cons_toLoadRect v _ _ _

theorem cov5 (v : View sig .tc .vmem S128x1 .f32) (X : Fin 8 → Vec F S16x1 .f32) :
    v.readCov (statStores X) (Rect.unit (s := S128x1) ![80, 0] S16x1.size inb_S128x1_S16x1_80_0).toLoadRect = X 5 := by
  unfold statStores
  rw [View.readCov_cons_of_disjoint v ⟨Rect.unit (s := S128x1) ![112, 0] S16x1.size inb_S128x1_S16x1_112_0, X 7⟩ _ _
    (apart 112 80 inb_S128x1_S16x1_112_0 inb_S128x1_S16x1_80_0 (by decide))]
  rw [View.readCov_cons_of_disjoint v ⟨Rect.unit (s := S128x1) ![96, 0] S16x1.size inb_S128x1_S16x1_96_0, X 6⟩ _ _
    (apart 96 80 inb_S128x1_S16x1_96_0 inb_S128x1_S16x1_80_0 (by decide))]
  exact View.readCov_cons_toLoadRect v _ _ _

theorem cov4 (v : View sig .tc .vmem S128x1 .f32) (X : Fin 8 → Vec F S16x1 .f32) :
    v.readCov (statStores X) (Rect.unit (s := S128x1) ![64, 0] S16x1.size inb_S128x1_S16x1_64_0).toLoadRect = X 4 := by
  unfold statStores
  rw [View.readCov_cons_of_disjoint v ⟨Rect.unit (s := S128x1) ![112, 0] S16x1.size inb_S128x1_S16x1_112_0, X 7⟩ _ _
    (apart 112 64 inb_S128x1_S16x1_112_0 inb_S128x1_S16x1_64_0 (by decide))]
  rw [View.readCov_cons_of_disjoint v ⟨Rect.unit (s := S128x1) ![96, 0] S16x1.size inb_S128x1_S16x1_96_0, X 6⟩ _ _
    (apart 96 64 inb_S128x1_S16x1_96_0 inb_S128x1_S16x1_64_0 (by decide))]
  rw [View.readCov_cons_of_disjoint v ⟨Rect.unit (s := S128x1) ![80, 0] S16x1.size inb_S128x1_S16x1_80_0, X 5⟩ _ _
    (apart 80 64 inb_S128x1_S16x1_80_0 inb_S128x1_S16x1_64_0 (by decide))]
  exact View.readCov_cons_toLoadRect v _ _ _

theorem cov3 (v : View sig .tc .vmem S128x1 .f32) (X : Fin 8 → Vec F S16x1 .f32) :
    v.readCov (statStores X) (Rect.unit (s := S128x1) ![48, 0] S16x1.size inb_S128x1_S16x1_48_0).toLoadRect = X 3 := by
  unfold statStores
  rw [View.readCov_cons_of_disjoint v ⟨Rect.unit (s := S128x1) ![112, 0] S16x1.size inb_S128x1_S16x1_112_0, X 7⟩ _ _
    (apart 112 48 inb_S128x1_S16x1_112_0 inb_S128x1_S16x1_48_0 (by decide))]
  rw [View.readCov_cons_of_disjoint v ⟨Rect.unit (s := S128x1) ![96, 0] S16x1.size inb_S128x1_S16x1_96_0, X 6⟩ _ _
    (apart 96 48 inb_S128x1_S16x1_96_0 inb_S128x1_S16x1_48_0 (by decide))]
  rw [View.readCov_cons_of_disjoint v ⟨Rect.unit (s := S128x1) ![80, 0] S16x1.size inb_S128x1_S16x1_80_0, X 5⟩ _ _
    (apart 80 48 inb_S128x1_S16x1_80_0 inb_S128x1_S16x1_48_0 (by decide))]
  rw [View.readCov_cons_of_disjoint v ⟨Rect.unit (s := S128x1) ![64, 0] S16x1.size inb_S128x1_S16x1_64_0, X 4⟩ _ _
    (apart 64 48 inb_S128x1_S16x1_64_0 inb_S128x1_S16x1_48_0 (by decide))]
  exact View.readCov_cons_toLoadRect v _ _ _

theorem cov2 (v : View sig .tc .vmem S128x1 .f32) (X : Fin 8 → Vec F S16x1 .f32) :
    v.readCov (statStores X) (Rect.unit (s := S128x1) ![32, 0] S16x1.size inb_S128x1_S16x1_32_0).toLoadRect = X 2 := by
  unfold statStores
  rw [View.readCov_cons_of_disjoint v ⟨Rect.unit (s := S128x1) ![112, 0] S16x1.size inb_S128x1_S16x1_112_0, X 7⟩ _ _
    (apart 112 32 inb_S128x1_S16x1_112_0 inb_S128x1_S16x1_32_0 (by decide))]
  rw [View.readCov_cons_of_disjoint v ⟨Rect.unit (s := S128x1) ![96, 0] S16x1.size inb_S128x1_S16x1_96_0, X 6⟩ _ _
    (apart 96 32 inb_S128x1_S16x1_96_0 inb_S128x1_S16x1_32_0 (by decide))]
  rw [View.readCov_cons_of_disjoint v ⟨Rect.unit (s := S128x1) ![80, 0] S16x1.size inb_S128x1_S16x1_80_0, X 5⟩ _ _
    (apart 80 32 inb_S128x1_S16x1_80_0 inb_S128x1_S16x1_32_0 (by decide))]
  rw [View.readCov_cons_of_disjoint v ⟨Rect.unit (s := S128x1) ![64, 0] S16x1.size inb_S128x1_S16x1_64_0, X 4⟩ _ _
    (apart 64 32 inb_S128x1_S16x1_64_0 inb_S128x1_S16x1_32_0 (by decide))]
  rw [View.readCov_cons_of_disjoint v ⟨Rect.unit (s := S128x1) ![48, 0] S16x1.size inb_S128x1_S16x1_48_0, X 3⟩ _ _
    (apart 48 32 inb_S128x1_S16x1_48_0 inb_S128x1_S16x1_32_0 (by decide))]
  exact View.readCov_cons_toLoadRect v _ _ _

theorem cov1 (v : View sig .tc .vmem S128x1 .f32) (X : Fin 8 → Vec F S16x1 .f32) :
    v.readCov (statStores X) (Rect.unit (s := S128x1) ![16, 0] S16x1.size inb_S128x1_S16x1_16_0).toLoadRect = X 1 := by
  unfold statStores
  rw [View.readCov_cons_of_disjoint v ⟨Rect.unit (s := S128x1) ![112, 0] S16x1.size inb_S128x1_S16x1_112_0, X 7⟩ _ _
    (apart 112 16 inb_S128x1_S16x1_112_0 inb_S128x1_S16x1_16_0 (by decide))]
  rw [View.readCov_cons_of_disjoint v ⟨Rect.unit (s := S128x1) ![96, 0] S16x1.size inb_S128x1_S16x1_96_0, X 6⟩ _ _
    (apart 96 16 inb_S128x1_S16x1_96_0 inb_S128x1_S16x1_16_0 (by decide))]
  rw [View.readCov_cons_of_disjoint v ⟨Rect.unit (s := S128x1) ![80, 0] S16x1.size inb_S128x1_S16x1_80_0, X 5⟩ _ _
    (apart 80 16 inb_S128x1_S16x1_80_0 inb_S128x1_S16x1_16_0 (by decide))]
  rw [View.readCov_cons_of_disjoint v ⟨Rect.unit (s := S128x1) ![64, 0] S16x1.size inb_S128x1_S16x1_64_0, X 4⟩ _ _
    (apart 64 16 inb_S128x1_S16x1_64_0 inb_S128x1_S16x1_16_0 (by decide))]
  rw [View.readCov_cons_of_disjoint v ⟨Rect.unit (s := S128x1) ![48, 0] S16x1.size inb_S128x1_S16x1_48_0, X 3⟩ _ _
    (apart 48 16 inb_S128x1_S16x1_48_0 inb_S128x1_S16x1_16_0 (by decide))]
  rw [View.readCov_cons_of_disjoint v ⟨Rect.unit (s := S128x1) ![32, 0] S16x1.size inb_S128x1_S16x1_32_0, X 2⟩ _ _
    (apart 32 16 inb_S128x1_S16x1_32_0 inb_S128x1_S16x1_16_0 (by decide))]
  exact View.readCov_cons_toLoadRect v _ _ _

theorem cov0 (v : View sig .tc .vmem S128x1 .f32) (X : Fin 8 → Vec F S16x1 .f32) :
    v.readCov (statStores X) (Rect.unit (s := S128x1) ![0, 0] S16x1.size inb_S128x1_S16x1_0_0).toLoadRect = X 0 := by
  unfold statStores
  rw [View.readCov_cons_of_disjoint v ⟨Rect.unit (s := S128x1) ![112, 0] S16x1.size inb_S128x1_S16x1_112_0, X 7⟩ _ _
    (apart 112 0 inb_S128x1_S16x1_112_0 inb_S128x1_S16x1_0_0 (by decide))]
  rw [View.readCov_cons_of_disjoint v ⟨Rect.unit (s := S128x1) ![96, 0] S16x1.size inb_S128x1_S16x1_96_0, X 6⟩ _ _
    (apart 96 0 inb_S128x1_S16x1_96_0 inb_S128x1_S16x1_0_0 (by decide))]
  rw [View.readCov_cons_of_disjoint v ⟨Rect.unit (s := S128x1) ![80, 0] S16x1.size inb_S128x1_S16x1_80_0, X 5⟩ _ _
    (apart 80 0 inb_S128x1_S16x1_80_0 inb_S128x1_S16x1_0_0 (by decide))]
  rw [View.readCov_cons_of_disjoint v ⟨Rect.unit (s := S128x1) ![64, 0] S16x1.size inb_S128x1_S16x1_64_0, X 4⟩ _ _
    (apart 64 0 inb_S128x1_S16x1_64_0 inb_S128x1_S16x1_0_0 (by decide))]
  rw [View.readCov_cons_of_disjoint v ⟨Rect.unit (s := S128x1) ![48, 0] S16x1.size inb_S128x1_S16x1_48_0, X 3⟩ _ _
    (apart 48 0 inb_S128x1_S16x1_48_0 inb_S128x1_S16x1_0_0 (by decide))]
  rw [View.readCov_cons_of_disjoint v ⟨Rect.unit (s := S128x1) ![32, 0] S16x1.size inb_S128x1_S16x1_32_0, X 2⟩ _ _
    (apart 32 0 inb_S128x1_S16x1_32_0 inb_S128x1_S16x1_0_0 (by decide))]
  rw [View.readCov_cons_of_disjoint v ⟨Rect.unit (s := S128x1) ![16, 0] S16x1.size inb_S128x1_S16x1_16_0, X 1⟩ _ _
    (apart 16 0 inb_S128x1_S16x1_16_0 inb_S128x1_S16x1_0_0 (by decide))]
  exact View.readCov_cons_toLoadRect v _ _ _

/-- A load of the whole of a one-row operand reads it. -/
theorem whole2 (a : Memref sig .tc .vmem S1x2048 .f32) (h : a.IsWhole) (x : Vec F S1x2048 .f32) :
    View.readAt (Elt F) a.view (Rect.unit (s := S1x2048) ![0, 0] S1x2048.size inb_S1x2048_S1x2048_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

theorem whole4 (a : Memref sig .tc .vmem S1x1x1x2048 .f32) (h : a.IsWhole) (x : Vec F S1x1x1x2048 .f32) :
    View.readAt (Elt F) a.view (Rect.unit (s := S1x1x1x2048) ![0, 0, 0, 0] S1x1x1x2048.size inb_S1x1x1x2048_S1x1x1x2048_0_0_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega
  | ⟨3, _⟩ => show 0 + 1 * (z 3).val = (z 3).val; omega

theorem whole3 (a : Memref sig .tc .vmem S1x64x2048 .f32) (h : a.IsWhole) (x : Vec F S1x64x2048 .f32) :
    View.readAt (Elt F) a.view (Rect.unit (s := S1x64x2048) ![0, 0, 0] S1x64x2048.size inb_S1x64x2048_S1x64x2048_0_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

theorem whole2' (a : Memref sig .tc .vmem S1024x2048 .bf16) (h : a.IsWhole) (x : Vec F S1024x2048 .bf16) :
    View.readAt (Elt F) a.view (Rect.unit (s := S1024x2048) ![0, 0] S1024x2048.size inb_S1024x2048_S1024x2048_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

/-- The eight payloads, as the run spells them, are the eight pieces: the statistics a store left are read back. -/
theorem pay_of (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole)
    (x1 : Vec F S128x2048 .f32) (x2 : Vec F S1x2048 .f32) (x3 x4 : Vec F S1x1x1x2048 .f32) (k : Fin 8)
    (s : Vec F S16x1 .f32) (x : Vec F S16x2048 .f32) (hx : x = chunk x1 k) (hs : s = k0_pay20 (chunk x1 k)) :
    k0_pay2 (k0_pay8 (View.readAt (Elt F) arg4.view (Rect.unit (s := S1x2048) ![0, 0] S1x2048.size inb_S1x2048_S1x2048_0_0).toLoadRect (harg4.unread x2))
        (View.readAt (Elt F) arg6.view (Rect.unit (s := S1x1x1x2048) ![0, 0, 0, 0] S1x1x1x2048.size inb_S1x1x1x2048_S1x1x1x2048_0_0_0_0).toLoadRect (harg6.unread x4)))
      (k0_pay9 (View.readAt (Elt F) arg5.view (Rect.unit (s := S1x1x1x2048) ![0, 0, 0, 0] S1x1x1x2048.size inb_S1x1x1x2048_S1x1x1x2048_0_0_0_0).toLoadRect (harg5.unread x3)))
      x s = piece x1 x2 x3 x4 k := by
  rw [whole2, whole4, whole4, hx, hs]; rfl

/-- The statistics' stores with each payload read off its rows are the statistics of the chunks. -/
theorem stat_of (arg3 : Memref sig .tc .vmem S128x2048 .f32) (harg3 : arg3.IsWhole) (x1 : Vec F S128x2048 .f32) :
    ([⟨Rect.unit (s := S128x1) ![112, 0] S16x1.size inb_S128x1_S16x1_112_0, k0_pay20 (View.readAt (Elt F) arg3.view (Rect.unit (s := S128x2048) ![112, 0] S16x2048.size inb_S128x2048_S16x2048_112_0).toLoadRect (harg3.unread x1))⟩,
      ⟨Rect.unit (s := S128x1) ![96, 0] S16x1.size inb_S128x1_S16x1_96_0, k0_pay20 (View.readAt (Elt F) arg3.view (Rect.unit (s := S128x2048) ![96, 0] S16x2048.size inb_S128x2048_S16x2048_96_0).toLoadRect (harg3.unread x1))⟩,
      ⟨Rect.unit (s := S128x1) ![80, 0] S16x1.size inb_S128x1_S16x1_80_0, k0_pay20 (View.readAt (Elt F) arg3.view (Rect.unit (s := S128x2048) ![80, 0] S16x2048.size inb_S128x2048_S16x2048_80_0).toLoadRect (harg3.unread x1))⟩,
      ⟨Rect.unit (s := S128x1) ![64, 0] S16x1.size inb_S128x1_S16x1_64_0, k0_pay20 (View.readAt (Elt F) arg3.view (Rect.unit (s := S128x2048) ![64, 0] S16x2048.size inb_S128x2048_S16x2048_64_0).toLoadRect (harg3.unread x1))⟩,
      ⟨Rect.unit (s := S128x1) ![48, 0] S16x1.size inb_S128x1_S16x1_48_0, k0_pay20 (View.readAt (Elt F) arg3.view (Rect.unit (s := S128x2048) ![48, 0] S16x2048.size inb_S128x2048_S16x2048_48_0).toLoadRect (harg3.unread x1))⟩,
      ⟨Rect.unit (s := S128x1) ![32, 0] S16x1.size inb_S128x1_S16x1_32_0, k0_pay20 (View.readAt (Elt F) arg3.view (Rect.unit (s := S128x2048) ![32, 0] S16x2048.size inb_S128x2048_S16x2048_32_0).toLoadRect (harg3.unread x1))⟩,
      ⟨Rect.unit (s := S128x1) ![16, 0] S16x1.size inb_S128x1_S16x1_16_0, k0_pay20 (View.readAt (Elt F) arg3.view (Rect.unit (s := S128x2048) ![16, 0] S16x2048.size inb_S128x2048_S16x2048_16_0).toLoadRect (harg3.unread x1))⟩,
      ⟨Rect.unit (s := S128x1) ![0, 0] S16x1.size inb_S128x1_S16x1_0_0, k0_pay20 (View.readAt (Elt F) arg3.view (Rect.unit (s := S128x2048) ![0, 0] S16x2048.size inb_S128x2048_S16x2048_0_0).toLoadRect (harg3.unread x1))⟩]
        : List (View.Piece (Elt F) S128x1 .f32))
      = statStores fun k => k0_pay20 (chunk x1 k) := by
  rw [chunk_of arg3 harg3 x1 7 112 rfl, chunk_of arg3 harg3 x1 6 96 rfl, chunk_of arg3 harg3 x1 5 80 rfl, chunk_of arg3 harg3 x1 4 64 rfl,
    chunk_of arg3 harg3 x1 3 48 rfl, chunk_of arg3 harg3 x1 2 32 rfl, chunk_of arg3 harg3 x1 1 16 rfl, chunk_of arg3 harg3 x1 0 0 rfl]
  rfl

/-- The slot a point multiplies. -/
def slotOf (b : Vec F S2x1024x2048 .bf16) (n : ℕ) : Vec F S1x1024x2048 .bf16 := fun z =>
  b (ix3 ⟨n % 2, Nat.mod_lt _ (by decide)⟩ (z 1) (z 2))

theorem slot_load (arg12 : Memref sig .tc .vmem S2x1024x2048 .bf16) (f : arg12.view.ty.Contents (Elt F)) (i : grid0.Coords) :
    View.readAt (Elt F) arg12.view (Rect.unit (s := S2x1024x2048) (k0_off1 i) S1x1024x2048.size (k0_off1_inb i)).toLoadRect f
      = slotOf (arg12.view.read (Elt F) f) (i 0).val := by
  rw [View.readAt_eq_ld]
  funext z
  refine congrArg (arg12.view.read (Elt F) f) (funext fun a => Fin.ext ?_)
  have e0 : k0_off1 i 0 = (i 0).val % 2 := congrFun (off1_eq i) 0
  have e1 : k0_off1 i 1 = 0 := congrFun (off1_eq i) 1
  have e2 : k0_off1 i 2 = 0 := congrFun (off1_eq i) 2
  match a with
  | ⟨0, _⟩ =>
    have hz : (z 0).val < 1 := (z 0).isLt
    show k0_off1 i 0 + 1 * (z 0).val = (i 0).val % 2; omega
  | ⟨1, _⟩ => show k0_off1 i 1 + 1 * (z 1).val = (z 1).val; omega
  | ⟨2, _⟩ => show k0_off1 i 2 + 1 * (z 2).val = (z 2).val; omega

/-- The result block: columns 256… over columns 0…, each the gated product of the slot with its weight columns. -/
def hOut (u : Vec F S1x1024x2048 .bf16) (x5 x6 : Vec F S1x2048x512 .f32) : Vec F S1024x512 .bf16 := View.canon
  [⟨Rect.unit (s := S1024x512) ![0, 256] S1024x256.size inb_S1024x512_S1024x256_0_256,
      k0_pay7 (k0_pay5 u) (View.ld x5 (Rect.unit (s := S1x2048x512) ![0, 0, 256] S1x2048x256.size inb_S1x2048x512_S1x2048x256_0_0_256))
        (View.ld x6 (Rect.unit (s := S1x2048x512) ![0, 0, 256] S1x2048x256.size inb_S1x2048x512_S1x2048x256_0_0_256))⟩,
   ⟨Rect.unit (s := S1024x512) ![0, 0] S1024x256.size inb_S1024x512_S1024x256_0_0,
      k0_pay6 u (View.ld x5 (Rect.unit (s := S1x2048x512) ![0, 0, 0] S1x2048x256.size inb_S1x2048x512_S1x2048x256_0_0_0))
        (View.ld x6 (Rect.unit (s := S1x2048x512) ![0, 0, 0] S1x2048x256.size inb_S1x2048x512_S1x2048x256_0_0_0))⟩]

/-- The two stores read back are the result block. -/
theorem h_of (arg10 : Memref sig .tc .vmem S1024x512 .bf16) (f : arg10.view.ty.Contents (Elt F))
    (arg7 arg8 : Memref sig .tc .vmem S1x2048x512 .f32) (harg7 : arg7.IsWhole) (harg8 : arg8.IsWhole) (x5 x6 : Vec F S1x2048x512 .f32)
    (v u : Vec F S1x1024x2048 .bf16) (hu : v = u) :
    arg10.view.read (Elt F) (arg10.view.writes (Elt F) f
      [⟨Rect.unit (s := S1024x512) ![0, 256] S1024x256.size inb_S1024x512_S1024x256_0_256,
        k0_pay7 (k0_pay5 v) (View.readAt (Elt F) arg7.view (Rect.unit (s := S1x2048x512) ![0, 0, 256] S1x2048x256.size inb_S1x2048x512_S1x2048x256_0_0_256).toLoadRect (harg7.unread x5))
          (View.readAt (Elt F) arg8.view (Rect.unit (s := S1x2048x512) ![0, 0, 256] S1x2048x256.size inb_S1x2048x512_S1x2048x256_0_0_256).toLoadRect (harg8.unread x6))⟩,
       ⟨Rect.unit (s := S1024x512) ![0, 0] S1024x256.size inb_S1024x512_S1024x256_0_0,
        k0_pay6 v (View.readAt (Elt F) arg7.view (Rect.unit (s := S1x2048x512) ![0, 0, 0] S1x2048x256.size inb_S1x2048x512_S1x2048x256_0_0_0).toLoadRect (harg7.unread x5))
          (View.readAt (Elt F) arg8.view (Rect.unit (s := S1x2048x512) ![0, 0, 0] S1x2048x256.size inb_S1x2048x512_S1x2048x256_0_0_0).toLoadRect (harg8.unread x6))⟩])
      = hOut u x5 x6 := by
  subst hu
  refine (View.read_writes_eq_canon arg10.view f _ (View.cover_of_tiledL _ S1024x256.size (by sl_kernel_rfl))).trans ?_
  simp only [View.readAt_eq_ld, harg7.read_unread, harg8.read_unread]
  rfl

/-- The store of the whole slab read back. -/
theorem slab_of (arg11 : Memref sig .tc .vmem S64x2048 .bf16) (f : arg11.view.ty.Contents (Elt F))
    (arg9 : Memref sig .tc .vmem S1x64x2048 .f32) (harg9 : arg9.IsWhole) (x7 : Vec F S1x64x2048 .f32) :
    arg11.view.read (Elt F) (arg11.view.writes (Elt F) f
      [⟨Rect.unit (s := S64x2048) ![0, 0] S64x2048.size inb_S64x2048_S64x2048_0_0,
        k0_pay3 (View.readAt (Elt F) arg9.view (Rect.unit (s := S1x64x2048) ![0, 0, 0] S1x64x2048.size inb_S1x64x2048_S1x64x2048_0_0_0).toLoadRect (harg9.unread x7))⟩])
      = k0_pay3 x7 := by
  rw [whole3]
  funext y
  refine View.read_writes_cons_unit_of_mem _ _ _ _ _ y y rfl fun a => ?_
  match a with
  | ⟨0, _⟩ => show (y 0).val = 0 + (y 0).val; omega
  | ⟨1, _⟩ => show (y 1).val = 0 + (y 1).val; omega

/-- The first point's copy: slot 0 holds the first operand. -/
def baseA (x0 : Vec F S1024x2048 .bf16) (d : Vec F S2x1024x2048 .bf16) : Vec F S2x1024x2048 .bf16 := fun y =>
  if (y 0).val = 0 then x0 (ix2 (y 1) (y 2)) else d y

theorem pay4_at (x0 : Vec F S1024x2048 .bf16) (a : Fin 1024) (b : Fin 2048) : k0_pay4 x0 (ix3 0 a b) = x0 (ix2 a b) := by
  unfold k0_pay4
  refine shapeCast_apply _ _ _ _ ?_
  rewrite [Shape.rowMajor_val_two, Shape.rowMajor_val_three]
  show a.val * 2048 + b.val = (0 * 1024 + a.val) * 2048 + b.val
  omega

theorem base_of (arg12 : Memref sig .tc .vmem S2x1024x2048 .bf16) (harg12 : arg12.IsWhole)
    (arg2 : Memref sig .tc .vmem S1024x2048 .bf16) (harg2 : arg2.IsWhole) (x0 : Vec F S1024x2048 .bf16) (d : Vec F S2x1024x2048 .bf16) :
    arg12.view.read (Elt F) (arg12.view.writes (Elt F) (harg12.unread d)
      [⟨Rect.unit (s := S2x1024x2048) ![0, 0, 0] S1x1024x2048.size inb_S2x1024x2048_S1x1024x2048_0_0_0,
        k0_pay4 (View.readAt (Elt F) arg2.view (Rect.unit (s := S1024x2048) ![0, 0] S1024x2048.size inb_S1024x2048_S1024x2048_0_0).toLoadRect (harg2.unread x0))⟩])
      = baseA x0 d := by
  rw [whole2']
  funext y
  unfold baseA
  split
  next h =>
    refine (View.read_writes_cons_unit_of_mem _ _ _ _ _ y (ix3 0 (y 1) (y 2)) rfl fun a => ?_).trans ?_
    · match a with
      | ⟨0, _⟩ => show (y 0).val = 0 + 0; omega
      | ⟨1, _⟩ => show (y 1).val = 0 + (y 1).val; omega
      | ⟨2, _⟩ => show (y 2).val = 0 + (y 2).val; omega
    · exact pay4_at x0 (y 1) (y 2)
  next h =>
    refine (View.read_writes_cons_unit_of_not_mem _ _ _ _ _ y rfl 0 (Or.inr ?_)).trans ?_
    · show 0 + 1 ≤ (y 0).val; omega
    · exact congrFun (harg12.read_unread d) y

theorem off1_first (i : grid0.Coords) (h1 : cond1 i = 1#1) : k0_off1 i = ![0, 0, 0] := by
  rw [off1_eq, ((cond1_iff i).mp h1).1]

theorem base0 (arg12 : Memref sig .tc .vmem S2x1024x2048 .bf16) (f : arg12.view.ty.Contents (Elt F)) (x0 : Vec F S1024x2048 .bf16)
    (y : S2x1024x2048.Idx) (hy : (y 0).val = 0) :
    arg12.view.read (Elt F) (arg12.view.writes (Elt F) f
      [⟨Rect.unit (s := S2x1024x2048) ![0, 0, 0] S1x1024x2048.size inb_S2x1024x2048_S1x1024x2048_0_0_0, k0_pay4 x0⟩]) y
      = x0 (ix2 (y 1) (y 2)) := by
  refine (View.read_writes_cons_unit_of_mem _ _ _ _ _ y (ix3 0 (y 1) (y 2)) rfl fun a => ?_).trans ?_
  · match a with
    | ⟨0, _⟩ => show (y 0).val = 0 + 0; omega
    | ⟨1, _⟩ => show (y 1).val = 0 + (y 1).val; omega
    | ⟨2, _⟩ => show (y 2).val = 0 + (y 2).val; omega
  · exact pay4_at x0 (y 1) (y 2)

theorem slot_cov (arg12 : Memref sig .tc .vmem S2x1024x2048 .bf16) (arg2 : Memref sig .tc .vmem S1024x2048 .bf16) (harg2 : arg2.IsWhole)
    (x0 : Vec F S1024x2048 .bf16) (d : Vec F S2x1024x2048 .bf16) (i : grid0.Coords) (h1 : cond1 i = 1#1) :
    arg12.view.readCov [⟨Rect.unit (s := S2x1024x2048) ![0, 0, 0] S1x1024x2048.size inb_S2x1024x2048_S1x1024x2048_0_0_0,
        k0_pay4 (View.readAt (Elt F) arg2.view (Rect.unit (s := S1024x2048) ![0, 0] S1024x2048.size inb_S1024x2048_S1024x2048_0_0).toLoadRect (harg2.unread x0))⟩]
        (Rect.unit (s := S2x1024x2048) (k0_off1 i) S1x1024x2048.size (k0_off1_inb i)).toLoadRect
      = slotOf (baseA x0 d) (i 0).val := by
  have h0 : (i 0).val % 2 = 0 := by rw [((cond1_iff i).mp h1).1]
  refine (slot_load arg12 _ i).trans ?_
  rw [whole2']
  funext z
  refine (base0 arg12 _ x0 (ix3 ⟨(i 0).val % 2, Nat.mod_lt _ (by decide)⟩ (z 1) (z 2)) h0).trans ?_
  unfold slotOf baseA
  exact (if_pos h0).symm

set_option maxHeartbeats 1000000 in
/-- The body at the first point. -/
theorem runA (c : Dev nD) (i : grid0.Coords) (h1 : cond1 i = 1#1) (h2 : k0_cond2 i = 1#1)
    (arg2 : Memref sig .tc .vmem S1024x2048 .bf16) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S1x2048x512 .f32) (harg7 : arg7.IsWhole)
    (arg8 : Memref sig .tc .vmem S1x2048x512 .f32) (harg8 : arg8.IsWhole) (arg9 : Memref sig .tc .vmem S1x64x2048 .f32) (harg9 : arg9.IsWhole)
    (arg10 : Memref sig .tc .vmem S1024x512 .bf16) (harg10 : arg10.IsWhole) (arg11 : Memref sig .tc .vmem S64x2048 .bf16) (harg11 : arg11.IsWhole)
    (arg12 : Memref sig .tc .vmem S2x1024x2048 .bf16) (harg12 : arg12.IsWhole) (arg13 : Memref sig .tc .vmem S128x1 .f32) (harg13 : arg13.IsWhole)
    (x0 : Vec F S1024x2048 .bf16) (x1 : Vec F S128x2048 .f32) (x2 : Vec F S1x2048 .f32) (x3 x4 : Vec F S1x1x1x2048 .f32)
    (x5 x6 : Vec F S1x2048x512 .f32) (x7 : Vec F S1x64x2048 .f32) (d9 : Vec F S64x2048 .bf16) (d : Vec F S2x1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ owns (c : Thread nD τ) arg11 fullShare d9
        ∗ owns (c : Thread nD τ) arg12 fullShare d ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
          ∗ owns (c : Thread nD τ) arg10 fullShare (hOut (slotOf (baseA x0 d) (i 0).val) x5 x6) ∗ owns (c : Thread nD τ) arg11 fullShare (k0_pay3 x7)
          ∗ (∃ d', ⌜Upd i (piece x1 x2 x3 x4) (baseA x0 d) d'⌝ ∗ owns (c : Thread nD τ) arg12 fullShare d')
          ∗ (∃ d, owns (c : Thread nD τ) arg13 fullShare d)) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13) K := by
  simp only [cc0_ffn_a_eq_skeleton]; unfold cc0_ffn_a_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg12.eq_unread hfs0
  letI : ClosedOff (k0_off1 i) := ⟨![0, 0, 0], off1_first i h1⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact h_of arg10 f8 arg7 arg8 harg7 harg8 x5 x6 _ _ (slot_cov arg12 arg2 harg2 x0 d i h1)
  isplitl [H9]
  · iexists _; isplitr
    swap; · iexact H9
    ipureintro
    exact slab_of arg11 f9 arg9 harg9 x7
  isplitl [HS0]
  · iexists _; isplitr
    swap
    · iexists _; isplitr
      swap; · iexact HS0
      ipureintro; rfl
    ipureintro
    have hst : runA.sl.HS1_8 c arg3 harg3 x1 = statStores fun k => k0_pay20 (chunk x1 k) := stat_of arg3 harg3 x1
    rw [← base_of arg12 harg12 arg2 harg2 x0 d]
    refine upd8 arg12.view (harg12.unread d) _ i (piece x1 x2 x3 x4) _ _ _ _ _ _ _ _ ?_ ?_ ?_ ?_ ?_ ?_ ?_ ?_
    · exact pay_of arg3 harg3 arg4 harg4 arg5 harg5 arg6 harg6 x1 x2 x3 x4 0 _ _ (chunk_of arg3 harg3 x1 0 0 rfl _)
        ((congrArg (fun L => arg13.view.readCov L (Rect.unit (s := S128x1) ![0, 0] S16x1.size inb_S128x1_S16x1_0_0).toLoadRect) hst).trans (cov0 arg13.view _))
    · exact pay_of arg3 harg3 arg4 harg4 arg5 harg5 arg6 harg6 x1 x2 x3 x4 1 _ _ (chunk_of arg3 harg3 x1 1 16 rfl _)
        ((congrArg (fun L => arg13.view.readCov L (Rect.unit (s := S128x1) ![16, 0] S16x1.size inb_S128x1_S16x1_16_0).toLoadRect) hst).trans (cov1 arg13.view _))
    · exact pay_of arg3 harg3 arg4 harg4 arg5 harg5 arg6 harg6 x1 x2 x3 x4 2 _ _ (chunk_of arg3 harg3 x1 2 32 rfl _)
        ((congrArg (fun L => arg13.view.readCov L (Rect.unit (s := S128x1) ![32, 0] S16x1.size inb_S128x1_S16x1_32_0).toLoadRect) hst).trans (cov2 arg13.view _))
    · exact pay_of arg3 harg3 arg4 harg4 arg5 harg5 arg6 harg6 x1 x2 x3 x4 3 _ _ (chunk_of arg3 harg3 x1 3 48 rfl _)
        ((congrArg (fun L => arg13.view.readCov L (Rect.unit (s := S128x1) ![48, 0] S16x1.size inb_S128x1_S16x1_48_0).toLoadRect) hst).trans (cov3 arg13.view _))
    · exact pay_of arg3 harg3 arg4 harg4 arg5 harg5 arg6 harg6 x1 x2 x3 x4 4 _ _ (chunk_of arg3 harg3 x1 4 64 rfl _)
        ((congrArg (fun L => arg13.view.readCov L (Rect.unit (s := S128x1) ![64, 0] S16x1.size inb_S128x1_S16x1_64_0).toLoadRect) hst).trans (cov4 arg13.view _))
    · exact pay_of arg3 harg3 arg4 harg4 arg5 harg5 arg6 harg6 x1 x2 x3 x4 5 _ _ (chunk_of arg3 harg3 x1 5 80 rfl _)
        ((congrArg (fun L => arg13.view.readCov L (Rect.unit (s := S128x1) ![80, 0] S16x1.size inb_S128x1_S16x1_80_0).toLoadRect) hst).trans (cov5 arg13.view _))
    · exact pay_of arg3 harg3 arg4 harg4 arg5 harg5 arg6 harg6 x1 x2 x3 x4 6 _ _ (chunk_of arg3 harg3 x1 6 96 rfl _)
        ((congrArg (fun L => arg13.view.readCov L (Rect.unit (s := S128x1) ![96, 0] S16x1.size inb_S128x1_S16x1_96_0).toLoadRect) hst).trans (cov6 arg13.view _))
    · exact pay_of arg3 harg3 arg4 harg4 arg5 harg5 arg6 harg6 x1 x2 x3 x4 7 _ _ (chunk_of arg3 harg3 x1 7 112 rfl _)
        ((congrArg (fun L => arg13.view.readCov L (Rect.unit (s := S128x1) ![112, 0] S16x1.size inb_S128x1_S16x1_112_0).toLoadRect) hst).trans (cov7 arg13.view _))
  iexists _; iexists _; isplitr
  swap; · iexact HS1
  ipureintro; rfl

set_option maxHeartbeats 4000000 in
/-- The body at a point that casts a slab, but the first. -/
theorem runB (c : Dev nD) (i : grid0.Coords) (h1 : ¬ cond1 i = 1#1) (h2 : k0_cond2 i = 1#1)
    (arg2 : Memref sig .tc .vmem S1024x2048 .bf16) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S1x2048x512 .f32) (harg7 : arg7.IsWhole)
    (arg8 : Memref sig .tc .vmem S1x2048x512 .f32) (harg8 : arg8.IsWhole) (arg9 : Memref sig .tc .vmem S1x64x2048 .f32) (harg9 : arg9.IsWhole)
    (arg10 : Memref sig .tc .vmem S1024x512 .bf16) (harg10 : arg10.IsWhole) (arg11 : Memref sig .tc .vmem S64x2048 .bf16) (harg11 : arg11.IsWhole)
    (arg12 : Memref sig .tc .vmem S2x1024x2048 .bf16) (harg12 : arg12.IsWhole) (arg13 : Memref sig .tc .vmem S128x1 .f32) (harg13 : arg13.IsWhole)
    (x0 : Vec F S1024x2048 .bf16) (x1 : Vec F S128x2048 .f32) (x2 : Vec F S1x2048 .f32) (x3 x4 : Vec F S1x1x1x2048 .f32)
    (x5 x6 : Vec F S1x2048x512 .f32) (x7 : Vec F S1x64x2048 .f32) (d9 : Vec F S64x2048 .bf16) (d : Vec F S2x1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ owns (c : Thread nD τ) arg11 fullShare d9
        ∗ owns (c : Thread nD τ) arg12 fullShare d ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
          ∗ owns (c : Thread nD τ) arg10 fullShare (hOut (slotOf (d) (i 0).val) x5 x6) ∗ owns (c : Thread nD τ) arg11 fullShare (k0_pay3 x7)
          ∗ (∃ d', ⌜Upd i (piece x1 x2 x3 x4) (d) d'⌝ ∗ owns (c : Thread nD τ) arg12 fullShare d')
          ∗ (∃ d, owns (c : Thread nD τ) arg13 fullShare d)) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13) K := by
  simp only [cc0_ffn_a_eq_skeleton]; unfold cc0_ffn_a_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg12.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact h_of arg10 f8 arg7 arg8 harg7 harg8 x5 x6 _ _ ((slot_load arg12 _ i).trans (congrArg (slotOf · (i 0).val) (harg12.read_unread d)))
  isplitl [H9]
  · iexists _; isplitr
    swap; · iexact H9
    ipureintro
    exact slab_of arg11 f9 arg9 harg9 x7
  isplitl [HS0]
  · iexists _; isplitr
    swap
    · iexists _; isplitr
      swap; · iexact HS0
      ipureintro; rfl
    ipureintro
    have hst : runB.sl.HS1_8 c arg3 harg3 x1 = statStores fun k => k0_pay20 (chunk x1 k) := stat_of arg3 harg3 x1
    refine Eq.subst (motive := fun b => Upd i (piece x1 x2 x3 x4) b _) (harg12.read_unread d) ?_
    refine upd8 arg12.view (harg12.unread d) [] i (piece x1 x2 x3 x4) _ _ _ _ _ _ _ _ ?_ ?_ ?_ ?_ ?_ ?_ ?_ ?_
    · exact pay_of arg3 harg3 arg4 harg4 arg5 harg5 arg6 harg6 x1 x2 x3 x4 0 _ _ (chunk_of arg3 harg3 x1 0 0 rfl _)
        ((congrArg (fun L => arg13.view.readCov L (Rect.unit (s := S128x1) ![0, 0] S16x1.size inb_S128x1_S16x1_0_0).toLoadRect) hst).trans (cov0 arg13.view _))
    · exact pay_of arg3 harg3 arg4 harg4 arg5 harg5 arg6 harg6 x1 x2 x3 x4 1 _ _ (chunk_of arg3 harg3 x1 1 16 rfl _)
        ((congrArg (fun L => arg13.view.readCov L (Rect.unit (s := S128x1) ![16, 0] S16x1.size inb_S128x1_S16x1_16_0).toLoadRect) hst).trans (cov1 arg13.view _))
    · exact pay_of arg3 harg3 arg4 harg4 arg5 harg5 arg6 harg6 x1 x2 x3 x4 2 _ _ (chunk_of arg3 harg3 x1 2 32 rfl _)
        ((congrArg (fun L => arg13.view.readCov L (Rect.unit (s := S128x1) ![32, 0] S16x1.size inb_S128x1_S16x1_32_0).toLoadRect) hst).trans (cov2 arg13.view _))
    · exact pay_of arg3 harg3 arg4 harg4 arg5 harg5 arg6 harg6 x1 x2 x3 x4 3 _ _ (chunk_of arg3 harg3 x1 3 48 rfl _)
        ((congrArg (fun L => arg13.view.readCov L (Rect.unit (s := S128x1) ![48, 0] S16x1.size inb_S128x1_S16x1_48_0).toLoadRect) hst).trans (cov3 arg13.view _))
    · exact pay_of arg3 harg3 arg4 harg4 arg5 harg5 arg6 harg6 x1 x2 x3 x4 4 _ _ (chunk_of arg3 harg3 x1 4 64 rfl _)
        ((congrArg (fun L => arg13.view.readCov L (Rect.unit (s := S128x1) ![64, 0] S16x1.size inb_S128x1_S16x1_64_0).toLoadRect) hst).trans (cov4 arg13.view _))
    · exact pay_of arg3 harg3 arg4 harg4 arg5 harg5 arg6 harg6 x1 x2 x3 x4 5 _ _ (chunk_of arg3 harg3 x1 5 80 rfl _)
        ((congrArg (fun L => arg13.view.readCov L (Rect.unit (s := S128x1) ![80, 0] S16x1.size inb_S128x1_S16x1_80_0).toLoadRect) hst).trans (cov5 arg13.view _))
    · exact pay_of arg3 harg3 arg4 harg4 arg5 harg5 arg6 harg6 x1 x2 x3 x4 6 _ _ (chunk_of arg3 harg3 x1 6 96 rfl _)
        ((congrArg (fun L => arg13.view.readCov L (Rect.unit (s := S128x1) ![96, 0] S16x1.size inb_S128x1_S16x1_96_0).toLoadRect) hst).trans (cov6 arg13.view _))
    · exact pay_of arg3 harg3 arg4 harg4 arg5 harg5 arg6 harg6 x1 x2 x3 x4 7 _ _ (chunk_of arg3 harg3 x1 7 112 rfl _)
        ((congrArg (fun L => arg13.view.readCov L (Rect.unit (s := S128x1) ![112, 0] S16x1.size inb_S128x1_S16x1_112_0).toLoadRect) hst).trans (cov7 arg13.view _))
  iexists _; iexists _; isplitr
  swap; · iexact HS1
  ipureintro; rfl

set_option maxHeartbeats 4000000 in
/-- The body at a point that casts no slab: the slab buffer is left as found. -/
theorem runC (c : Dev nD) (i : grid0.Coords) (h1 : ¬ cond1 i = 1#1) (h2 : ¬ k0_cond2 i = 1#1)
    (arg2 : Memref sig .tc .vmem S1024x2048 .bf16) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S1x2048x512 .f32) (harg7 : arg7.IsWhole)
    (arg8 : Memref sig .tc .vmem S1x2048x512 .f32) (harg8 : arg8.IsWhole) (arg9 : Memref sig .tc .vmem S1x64x2048 .f32) (harg9 : arg9.IsWhole)
    (arg10 : Memref sig .tc .vmem S1024x512 .bf16) (harg10 : arg10.IsWhole) (arg11 : Memref sig .tc .vmem S64x2048 .bf16) (harg11 : arg11.IsWhole)
    (arg12 : Memref sig .tc .vmem S2x1024x2048 .bf16) (harg12 : arg12.IsWhole) (arg13 : Memref sig .tc .vmem S128x1 .f32) (harg13 : arg13.IsWhole)
    (x0 : Vec F S1024x2048 .bf16) (x1 : Vec F S128x2048 .f32) (x2 : Vec F S1x2048 .f32) (x3 x4 : Vec F S1x1x1x2048 .f32)
    (x5 x6 : Vec F S1x2048x512 .f32) (x7 : Vec F S1x64x2048 .f32) (d9 : Vec F S64x2048 .bf16) (d : Vec F S2x1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ owns (c : Thread nD τ) arg11 fullShare d9
        ∗ owns (c : Thread nD τ) arg12 fullShare d ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
          ∗ owns (c : Thread nD τ) arg10 fullShare (hOut (slotOf (d) (i 0).val) x5 x6) ∗ owns (c : Thread nD τ) arg11 fullShare d9
          ∗ (∃ d', ⌜Upd i (piece x1 x2 x3 x4) (d) d'⌝ ∗ owns (c : Thread nD τ) arg12 fullShare d')
          ∗ (∃ d, owns (c : Thread nD τ) arg13 fullShare d)) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13) K := by
  simp only [cc0_ffn_a_eq_skeleton]; unfold cc0_ffn_a_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg12.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact h_of arg10 f8 arg7 arg8 harg7 harg8 x5 x6 _ _ ((slot_load arg12 _ i).trans (congrArg (slotOf · (i 0).val) (harg12.read_unread d)))
  isplitl [H9]
  · iexists _; isplitr
    swap; · iexact H9
    ipureintro
    exact hf9
  isplitl [HS0]
  · iexists _; isplitr
    swap
    · iexists _; isplitr
      swap; · iexact HS0
      ipureintro; rfl
    ipureintro
    have hst : runC.sl.HS1_8 c arg3 harg3 x1 = statStores fun k => k0_pay20 (chunk x1 k) := stat_of arg3 harg3 x1
    refine Eq.subst (motive := fun b => Upd i (piece x1 x2 x3 x4) b _) (harg12.read_unread d) ?_
    refine upd8 arg12.view (harg12.unread d) [] i (piece x1 x2 x3 x4) _ _ _ _ _ _ _ _ ?_ ?_ ?_ ?_ ?_ ?_ ?_ ?_
    · exact pay_of arg3 harg3 arg4 harg4 arg5 harg5 arg6 harg6 x1 x2 x3 x4 0 _ _ (chunk_of arg3 harg3 x1 0 0 rfl _)
        ((congrArg (fun L => arg13.view.readCov L (Rect.unit (s := S128x1) ![0, 0] S16x1.size inb_S128x1_S16x1_0_0).toLoadRect) hst).trans (cov0 arg13.view _))
    · exact pay_of arg3 harg3 arg4 harg4 arg5 harg5 arg6 harg6 x1 x2 x3 x4 1 _ _ (chunk_of arg3 harg3 x1 1 16 rfl _)
        ((congrArg (fun L => arg13.view.readCov L (Rect.unit (s := S128x1) ![16, 0] S16x1.size inb_S128x1_S16x1_16_0).toLoadRect) hst).trans (cov1 arg13.view _))
    · exact pay_of arg3 harg3 arg4 harg4 arg5 harg5 arg6 harg6 x1 x2 x3 x4 2 _ _ (chunk_of arg3 harg3 x1 2 32 rfl _)
        ((congrArg (fun L => arg13.view.readCov L (Rect.unit (s := S128x1) ![32, 0] S16x1.size inb_S128x1_S16x1_32_0).toLoadRect) hst).trans (cov2 arg13.view _))
    · exact pay_of arg3 harg3 arg4 harg4 arg5 harg5 arg6 harg6 x1 x2 x3 x4 3 _ _ (chunk_of arg3 harg3 x1 3 48 rfl _)
        ((congrArg (fun L => arg13.view.readCov L (Rect.unit (s := S128x1) ![48, 0] S16x1.size inb_S128x1_S16x1_48_0).toLoadRect) hst).trans (cov3 arg13.view _))
    · exact pay_of arg3 harg3 arg4 harg4 arg5 harg5 arg6 harg6 x1 x2 x3 x4 4 _ _ (chunk_of arg3 harg3 x1 4 64 rfl _)
        ((congrArg (fun L => arg13.view.readCov L (Rect.unit (s := S128x1) ![64, 0] S16x1.size inb_S128x1_S16x1_64_0).toLoadRect) hst).trans (cov4 arg13.view _))
    · exact pay_of arg3 harg3 arg4 harg4 arg5 harg5 arg6 harg6 x1 x2 x3 x4 5 _ _ (chunk_of arg3 harg3 x1 5 80 rfl _)
        ((congrArg (fun L => arg13.view.readCov L (Rect.unit (s := S128x1) ![80, 0] S16x1.size inb_S128x1_S16x1_80_0).toLoadRect) hst).trans (cov5 arg13.view _))
    · exact pay_of arg3 harg3 arg4 harg4 arg5 harg5 arg6 harg6 x1 x2 x3 x4 6 _ _ (chunk_of arg3 harg3 x1 6 96 rfl _)
        ((congrArg (fun L => arg13.view.readCov L (Rect.unit (s := S128x1) ![96, 0] S16x1.size inb_S128x1_S16x1_96_0).toLoadRect) hst).trans (cov6 arg13.view _))
    · exact pay_of arg3 harg3 arg4 harg4 arg5 harg5 arg6 harg6 x1 x2 x3 x4 7 _ _ (chunk_of arg3 harg3 x1 7 112 rfl _)
        ((congrArg (fun L => arg13.view.readCov L (Rect.unit (s := S128x1) ![112, 0] S16x1.size inb_S128x1_S16x1_112_0).toLoadRect) hst).trans (cov7 arg13.view _))
  iexists _; iexists _; isplitr
  swap; · iexact HS1
  ipureintro; rfl

end Cert.Kernel7Ideal.Hand

end
-- ==== Proof.FfnA7.lean ====
/-
  Hand-written. The first call of the feed-forward part's first half: what the kernel's two results hold after the run, and that it is what the reference's
  operations compute, element by element: the gated product of the normalized, modulated rows with the two halves of the weights, and
  the copied output weights.
-/
module

public import proofs.«01_k».proof.Proof.Rms
public import proofs.«01_k».proof.Proof.FfnAFrame7Ideal
public import proofs.«01_k».proof.Proof.Gen.Reference7Ideal.Read
public import Idealize.ShloMosaic.Lib.IdealHost

@[expose] public section

set_option maxRecDepth 16384

noncomputable section

namespace Cert.Proof.FfnA7

open Idealize.ShloMosaic Idealize.ShloMosaic.ValueIdx Idealize.ShloMosaic.TcCoe Idealize.SL.Sem
open Idealize.ShloMosaic.Tactic
open Idealize.ShloMosaic.Pipeline (Dat)
open Cert.Proof.Common Cert.Proof.Rms Cert.Kernel7Ideal Cert.Kernel7Ideal.Gen Cert.Kernel7Ideal.Hand
open scoped BigOperators

/-- One, as the constant's bits spell it. -/
abbrev one : EReal := Ideal.ofBits .f32 0x3F800000#32

/-- A value times its logistic. -/
def silu (z : EReal) : EReal := z * Ideal.logistic z

/-- A normalized, modulated element: the residual stream's element times its row's scale times the gain, times one plus the row's
    modulation, plus the row's shift. Row `a`'s modulation is that of its batch element `a / 2048`. -/
def norm (x : S9216x2048.Idx → EReal) (g : S2048.Idx → EReal) (mods : S8x9x1x2048.Idx → EReal) (a b : Nat) : EReal :=
  at2 x a b * rms (at2 x a) * at1 g b * (one + at4 mods (a / 2048) 1 0 b) + at4 mods (a / 2048) 0 0 b

/-- The left operand of the products: its first 1024 rows are given, the others are normalized here. -/
def left (u0 : S1024x2048.Idx → EReal) (x : S9216x2048.Idx → EReal) (g : S2048.Idx → EReal) (mods : S8x9x1x2048.Idx → EReal)
    (a b : Nat) : EReal := if a < 1024 then at2 u0 a b else norm x g mods a b

/-- The gated product at an element. -/
def elt (u0 : S1024x2048.Idx → EReal) (x : S9216x2048.Idx → EReal) (g : S2048.Idx → EReal) (mods : S8x9x1x2048.Idx → EReal)
    (wi : S4x2048x11264.Idx → EReal) (a b : Nat) : EReal :=
  silu (∑ k : Fin 2048, left u0 x g mods a k.val * at3 wi 0 k.val b)
    * ∑ k : Fin 2048, left u0 x g mods a k.val * at3 wi 0 k.val (5632 + b)

/-- The first result array. -/
def G (u0 : S1024x2048.Idx → EReal) (x : S9216x2048.Idx → EReal) (g : S2048.Idx → EReal) (mods : S8x9x1x2048.Idx → EReal)
    (wi : S4x2048x11264.Idx → EReal) : S9216x5632.Idx → EReal := fun i => elt u0 x g mods wi (i 0).val (i 1).val

/-- The second result array: the layer's output weights. -/
def W (wo : S4x5632x2048.Idx → EReal) : S5632x2048.Idx → EReal := fun i => at3 wo 0 (i 0).val (i 1).val

/-! ## The kernel's operations, at an element -/

/-- Sixteen rows' scales, as the body computes them. -/
theorem stats_at (v : Vec Ideal S16x2048 .f32) (x : S16x1.Idx) : (k0_pay20 (F := Ideal) v x : EReal) = rms (at2 v (x 0).val) := by
  unfold k0_pay20
  have hx : x = ix2 (x 0) 0 := (eq_ix2 x).trans (congrArg (ix2 (x 0)) (Subsingleton.elim (α := Fin 1) (x 1) 0))
  refine (shapeCast_apply _ shapeCasts_S16x1_S16x1 x x rfl).trans ?_
  show Ideal.rsqrt (Ideal.div (shapeCast (α := EReal) S16x1 (multiReduction (F := Ideal) (φ := .f32) .add [1] S16 (mulf v v) 0x00000000#32 reduces_S16x2048_S16 (.inl rfl) rfl)
    shapeCasts_S16_S16x1 x) (Ideal.ofBits .f32 0x45000000#32) + Ideal.ofBits .f32 0x358637BD#32) = _
  unfold rms
  refine congrArg (fun z : EReal => Ideal.rsqrt (Ideal.div z (Ideal.ofBits .f32 0x45000000#32) + Ideal.ofBits .f32 0x358637BD#32)) ?_
  refine (congrArg _ hx).trans ((rowsum_at (mulf v v) reduces_S16x2048_S16 shapeCasts_S16_S16x1 (x 0)).trans
    (Finset.sum_congr rfl fun k _ => ?_))
  refine (at2_of (mulf (F := Ideal) (φ := .f32) v v : S16x2048.Idx → EReal) (ix2 (x 0) k) rfl rfl).symm.trans ?_
  exact congrArg₂ (· * ·) (at2_of v _ rfl rfl) (at2_of v _ rfl rfl)

/-- The row of gains times one plus the modulation. -/
theorem gain_row (x2 : Vec Ideal S1x2048 .f32) (x4 : Vec Ideal S1x1x1x2048 .f32) (q : Fin 2048) :
    (k0_pay8 (F := Ideal) x2 x4 (ix2 0 q) : EReal) = at2 x2 0 q.val * (one + at4 x4 0 0 0 q.val) := by
  unfold k0_pay8
  refine congrArg₂ (· * ·) ((shapeCast_apply x2 shapeCasts_S1x2048_S1x2048 (ix2 0 q) (ix2 0 q) rfl).trans (at2_of x2 _ rfl rfl))
    (congrArg (one + ·) ?_)
  refine (shapeCast_apply x4 shapeCasts_S1x1x1x2048_S1x2048 (ix2 0 q) (ix4 0 0 0 q) (by
      rewrite [Shape.rowMajor_val_four, Shape.rowMajor_val_two]
      show ((0 * 1 + 0) * 1 + 0) * 2048 + q.val = 0 * 2048 + q.val; omega)).trans ?_
  exact at4_of x4 _ rfl rfl rfl rfl

/-- The row of shifts. -/
theorem shift_row (x3 : Vec Ideal S1x1x1x2048 .f32) (q : Fin 2048) :
    (k0_pay9 (F := Ideal) x3 (ix2 0 q) : EReal) = at4 x3 0 0 0 q.val := by
  unfold k0_pay9
  refine (shapeCast_apply x3 shapeCasts_S1x1x1x2048_S1x2048 (ix2 0 q) (ix4 0 0 0 q) (by
      rewrite [Shape.rowMajor_val_four, Shape.rowMajor_val_two]
      show ((0 * 1 + 0) * 1 + 0) * 2048 + q.val = 0 * 2048 + q.val; omega)).trans ?_
  exact at4_of x3 _ rfl rfl rfl rfl

/-- Sixteen rows modulated, at an element, from the rows, their scales and the two modulation rows. -/
theorem mod_at (sc sh : FVec Ideal S1x2048 .f32) (v : Vec Ideal S16x2048 .f32) (r : Vec Ideal S16x1 .f32) (s : Fin 16) (q : Fin 2048) :
    (k0_pay2 (F := Ideal) sc sh v r (ix3 0 s q) : EReal)
      = v (ix2 s q) * r (ix2 s 0) * sc (ix2 0 q) + sh (ix2 0 q) := by
  unfold k0_pay2
  refine (shapeCast_apply _ shapeCasts_S16x2048_S1x16x2048 (ix3 0 s q) (ix2 s q) (by
      rewrite [Shape.rowMajor_val_two, Shape.rowMajor_val_three]
      show s.val * 2048 + q.val = (0 * 16 + s.val) * 2048 + q.val; omega)).trans ?_
  refine (shapeCast_apply _ shapeCasts_S16x2048_S16x2048 (ix2 s q) (ix2 s q) rfl).trans ?_
  show (v (ix2 s q) : EReal) * broadcastTo (α := EReal) S16x2048 r broadcasts_S16x1_S16x2048 (ix2 s q)
      * broadcastTo (α := EReal) S16x2048 sc broadcasts_S1x2048_S16x2048 (ix2 s q)
      + broadcastTo (α := EReal) S16x2048 sh broadcasts_S1x2048_S16x2048 (ix2 s q) = _
  rw [broadcastTo_apply r broadcasts_S16x1_S16x2048 (ix2 s q) (ix2 s 0) (fun a => match a with
      | ⟨0, _⟩ => rfl
      | ⟨1, _⟩ => rfl),
    broadcastTo_apply sc broadcasts_S1x2048_S16x2048 (ix2 s q) (ix2 0 q) (fun a => match a with
      | ⟨0, _⟩ => rfl
      | ⟨1, _⟩ => rfl),
    broadcastTo_apply sh broadcasts_S1x2048_S16x2048 (ix2 s q) (ix2 0 q) (fun a => match a with
      | ⟨0, _⟩ => rfl
      | ⟨1, _⟩ => rfl)]

/-- A chunk's element is its block's. -/
theorem chunk_at (x1 : Vec Ideal S128x2048 .f32) (k : Fin 8) (s q : Nat) (hs : s < 16) (hq : q < 2048) :
    at2 (chunk (F := Ideal) x1 k : S16x2048.Idx → EReal) s q = at2 x1 (16 * k.val + s) q :=
  (at2_of (chunk (F := Ideal) x1 k : S16x2048.Idx → EReal) (ix2 ⟨s, hs⟩ ⟨q, hq⟩) rfl rfl).symm.trans (at2_of x1 _ rfl rfl)

/-- Sixteen rows of a block normalized and modulated, at an element. -/
theorem piece_at (x1 : Vec Ideal S128x2048 .f32) (x2 : Vec Ideal S1x2048 .f32) (x3 x4 : Vec Ideal S1x1x1x2048 .f32) (k : Fin 8)
    (s : Fin 16) (q : Fin 2048) : (Cert.Kernel7Ideal.Hand.piece (F := Ideal) x1 x2 x3 x4 k (ix3 0 s q) : EReal)
      = at2 x1 (16 * k.val + s.val) q.val * rms (at2 x1 (16 * k.val + s.val)) * at2 x2 0 q.val * (one + at4 x4 0 0 0 q.val)
        + at4 x3 0 0 0 q.val := by
  unfold Cert.Kernel7Ideal.Hand.piece
  refine (mod_at _ _ _ _ s q).trans ?_
  rw [stats_at, gain_row, shift_row]
  refine congrArg (· + _) ?_
  refine Eq.trans (congrArg₂ (· * ·) (congrArg₂ (· * ·)
    ((at2_of (chunk (F := Ideal) x1 k : S16x2048.Idx → EReal) _ rfl rfl).trans (chunk_at x1 k s.val q.val s.isLt q.isLt))
    (rms_congr _ _ fun j hj => chunk_at x1 k s.val j s.isLt hj)) rfl) ?_
  exact (mul_assoc _ _ _).symm

/-- A store's payload at an element, from the loads that it is made of. -/
theorem gated_at (u : Vec Ideal S1x1024x2048 .bf16) (wa wb : Vec Ideal S1x2048x256 .f32) (x : S1024x256.Idx) :
    (k0_pay6 (F := Ideal) u wa wb x : EReal)
      = silu (∑ k : Fin 2048, u (ix3 0 (x 0) k) * wa (ix3 0 k (x 1))) * ∑ k : Fin 2048, u (ix3 0 (x 0) k) * wb (ix3 0 k (x 1)) := by
  have hm : ∀ w : Vec Ideal S1x2048x256 .f32,
      (matmul (F := Ideal) (φ₁ := .bf16) (φ₂ := .bf16) dot_S1024x2048_S2048x256_S1024x256_1_0_0_1_n_n none (k0_pay5 (F := Ideal) u)
        (truncf .bf16 (shapeCast S2048x256 w shapeCasts_S1x2048x256_S2048x256) bitsLt_bf16_f32)
        (constant S1024x256 .f32 0x00000000#32) x : EReal) = ∑ k : Fin 2048, u (ix3 0 (x 0) k) * w (ix3 0 k (x 1)) := by
    intro w
    refine ((matmul_at dot_S1024x2048_S2048x256_S1024x256_1_0_0_1_n_n rfl none _ _ _ x).trans (zero_acc x _)).trans
      (Finset.sum_congr rfl fun k _ => congrArg₂ (· * ·) ?_ ?_)
    · unfold k0_pay5
      exact shapeCast_apply u shapeCasts_S1x1024x2048_S1024x2048 (ix2 (x 0) k) (ix3 0 (x 0) k) (by
        rewrite [Shape.rowMajor_val_three, Shape.rowMajor_val_two]
        show (0 * 1024 + (x 0).val) * 2048 + k.val = (x 0).val * 2048 + k.val; omega)
    · exact shapeCast_apply w shapeCasts_S1x2048x256_S2048x256 (ix2 k (x 1)) (ix3 0 k (x 1)) (by
        rewrite [Shape.rowMajor_val_three, Shape.rowMajor_val_two]
        show (0 * 2048 + k.val) * 256 + (x 1).val = k.val * 256 + (x 1).val; omega)
  rw [← hm wa, ← hm wb]
  rfl

/-- The other store's payload is the same function of its loads. -/
theorem pay7_eq (u : Vec Ideal S1x1024x2048 .bf16) (wa wb : Vec Ideal S1x2048x256 .f32) :
    k0_pay7 (F := Ideal) (k0_pay5 u) wa wb = k0_pay6 u wa wb := rfl

/-- The block that one grid point leaves, at an element. -/
def blockElt (u : S1x1024x2048.Idx → EReal) (x5 x6 : S1x2048x512.Idx → EReal) (y : S1024x512.Idx) : EReal :=
  silu (∑ k : Fin 2048, at3 u 0 (y 0).val k.val * at3 x5 0 k.val (y 1).val)
    * ∑ k : Fin 2048, at3 u 0 (y 0).val k.val * at3 x6 0 k.val (y 1).val

/-- The body's two stores leave `blockElt`. -/
theorem out_eq (u : Vec Ideal S1x1024x2048 .bf16) (x5 x6 : Vec Ideal S1x2048x512 .f32) :
    (hOut (F := Ideal) u x5 x6 : S1024x512.Idx → EReal) = blockElt u x5 x6 := by
  funext y
  unfold hOut
  rw [pay7_eq]
  refine View.canon_apply_of_pieces (Val := Elt Ideal) (e := .bf16) (blockElt u x5 x6) _ ?_ y
    (View.cover_of_tiledL (s := S1024x512) _ S1024x256.size ?_ y)
  swap
  · sl_kernel_rfl
  intro p hp x
  rcases List.mem_cons.mp hp with rfl | hp
  · refine (gated_at u _ _ x).trans ?_
    refine congrArg₂ (· * ·) (congrArg silu (Finset.sum_congr rfl fun k _ => congrArg₂ (· * ·) (at3_of u _ rfl ?_ rfl)
      (at3_of x5 _ rfl ?_ rfl))) (Finset.sum_congr rfl fun k _ => congrArg₂ (· * ·) (at3_of u _ rfl ?_ rfl) (at3_of x6 _ rfl ?_ rfl))
    · show (x 0).val = 0 + 1 * (x 0).val; omega
    · show 0 + 1 * k.val = k.val; omega
    · show (x 0).val = 0 + 1 * (x 0).val; omega
    · show 0 + 1 * k.val = k.val; omega
  · obtain rfl := List.mem_singleton.mp hp
    refine (gated_at u _ _ x).trans ?_
    refine congrArg₂ (· * ·) (congrArg silu (Finset.sum_congr rfl fun k _ => congrArg₂ (· * ·) (at3_of u _ rfl ?_ rfl)
      (at3_of x5 _ rfl ?_ rfl))) (Finset.sum_congr rfl fun k _ => congrArg₂ (· * ·) (at3_of u _ rfl ?_ rfl) (at3_of x6 _ rfl ?_ rfl))
    · show (x 0).val = 0 + 1 * (x 0).val; omega
    · show 0 + 1 * k.val = k.val; omega
    · show (x 0).val = 0 + 1 * (x 0).val; omega
    · show 0 + 1 * k.val = k.val; omega

/-- The copied slab at an element. -/
theorem copy_at (x7 : Vec Ideal S1x64x2048 .f32) (y : S64x2048.Idx) :
    (k0_pay3 (F := Ideal) x7 y : EReal) = at3 x7 0 (y 0).val (y 1).val := by
  unfold k0_pay3
  refine (shapeCast_apply x7 shapeCasts_S1x64x2048_S64x2048 y (ix3 0 (y 0) (y 1)) (by
      rewrite [Shape.rowMajor_val_three, Shape.rowMajor_val_two]
      show (0 * 64 + (y 0).val) * 2048 + (y 1).val = (y 0).val * 2048 + (y 1).val; omega)).trans ?_
  exact at3_of x7 _ rfl rfl rfl

/-! ## The windows' blocks, by position -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = min (t.val / 11 + 1) 8 * 8 + min (t.val % 11) 7 ∧ win0_1.index t 1 = 0 :=
  (by decide +kernel : ∀ t : Fin grid0.N, win0_1.index t 0 = min (t.val / 11 + 1) 8 * 8 + min (t.val % 11) 7 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = min (t.val / 11 + 1) 8 / 2 ∧ win0_3.index t 1 = 0 ∧ win0_3.index t 2 = 0
    ∧ win0_3.index t 3 = 0 :=
  (by decide +kernel : ∀ t : Fin grid0.N, win0_3.index t 0 = min (t.val / 11 + 1) 8 / 2 ∧ win0_3.index t 1 = 0
    ∧ win0_3.index t 2 = 0 ∧ win0_3.index t 3 = 0)
theorem idx4 : ∀ t : Fin cfg0.N, win0_4.index t 0 = min (t.val / 11 + 1) 8 / 2 ∧ win0_4.index t 1 = 1 ∧ win0_4.index t 2 = 0
    ∧ win0_4.index t 3 = 0 :=
  (by decide +kernel : ∀ t : Fin grid0.N, win0_4.index t 0 = min (t.val / 11 + 1) 8 / 2 ∧ win0_4.index t 1 = 1
    ∧ win0_4.index t 2 = 0 ∧ win0_4.index t 3 = 0)
theorem idx5 : ∀ t : Fin cfg0.N, win0_5.index t 0 = 0 ∧ win0_5.index t 1 = 0 ∧ win0_5.index t 2 = t.val % 11 :=
  (by decide +kernel : ∀ t : Fin grid0.N, win0_5.index t 0 = 0 ∧ win0_5.index t 1 = 0 ∧ win0_5.index t 2 = t.val % 11)
theorem idx6 : ∀ t : Fin cfg0.N, win0_6.index t 0 = 0 ∧ win0_6.index t 1 = 0 ∧ win0_6.index t 2 = t.val % 11 + 11 :=
  (by decide +kernel : ∀ t : Fin grid0.N, win0_6.index t 0 = 0 ∧ win0_6.index t 1 = 0 ∧ win0_6.index t 2 = t.val % 11 + 11)
theorem idx7 : ∀ t : Fin cfg0.N, win0_7.index t 0 = 0 ∧ win0_7.index t 1 = min t.val 87 ∧ win0_7.index t 2 = 0 :=
  (by decide +kernel : ∀ t : Fin grid0.N, win0_7.index t 0 = 0 ∧ win0_7.index t 1 = min t.val 87 ∧ win0_7.index t 2 = 0)
theorem idx8 : ∀ t : Fin cfg0.N, win0_8.index t 0 = t.val / 11 ∧ win0_8.index t 1 = t.val % 11 :=
  (by decide +kernel : ∀ t : Fin grid0.N, win0_8.index t 0 = t.val / 11 ∧ win0_8.index t 1 = t.val % 11)
theorem idx9 : ∀ t : Fin cfg0.N, win0_9.index t 0 = min t.val 87 ∧ win0_9.index t 1 = 0 :=
  (by decide +kernel : ∀ t : Fin grid0.N, win0_9.index t 0 = min t.val 87 ∧ win0_9.index t 1 = 0)
/-- The copied slabs are written back at the first points and at the last one. -/
theorem flushes9 : ∀ t : Fin cfg0.N, t.val < 87 ∨ t.val = 98 → (cfg0.win 9).flush t = true :=
  (by decide +kernel : ∀ t : Fin grid0.N, t.val < 87 ∨ t.val = 98 → win0_9.flush t = true)

variable (m : (ℓ : Loc nD τ sig) → Buf (Elt Ideal) ℓ) (ρ : Dev nD → PrngReg)

/-- The launched arguments, as arrays of extended reals. -/
abbrev A0 (c : Dev nD) : S1024x2048.Idx → EReal := m ((c : Thread nD τ).loc main_arg0)
abbrev A1 (c : Dev nD) : S9216x2048.Idx → EReal := m ((c : Thread nD τ).loc main_arg1)
abbrev A2 (c : Dev nD) : S2048.Idx → EReal := m ((c : Thread nD τ).loc main_arg2)
abbrev A3 (c : Dev nD) : S8x9x1x2048.Idx → EReal := m ((c : Thread nD τ).loc main_arg3)
abbrev A4 (c : Dev nD) : S4x2048x11264.Idx → EReal := m ((c : Thread nD τ).loc main_arg4)
abbrev A5 (c : Dev nD) : S4x5632x2048.Idx → EReal := m ((c : Thread nD τ).loc main_arg5)

/-- The gain as the launch finds it: one row. -/
theorem gain_eq (c : Dev nD) : (V m c main_v0 : S1x2048.Idx → EReal)
    = shapeCast S1x2048 (A2 m c) shapeCasts_S2048_S1x2048 := by
  show StableHlo.after hostOps0 (fun b => m (c, b)) _ = _
  unfold hostOps0
  rfl

/-- That row at an element. -/
theorem gain_at (c : Dev nD) (i : S1x2048.Idx) : (V m c main_v0 : S1x2048.Idx → EReal) i = at1 (A2 m c) (i 1).val := by
  have h0 : (i 0).val < 1 := (i 0).isLt
  rw [gain_eq]
  refine (shapeCast_apply (A2 m c) shapeCasts_S2048_S1x2048 i (ix1 (i 1)) (by
    rewrite [Shape.rowMajor_val_two, Shape.rowMajor_val_one]
    show (i 1).val = (i 0).val * 2048 + (i 1).val; omega)).trans ?_
  exact at1_of (A2 m c) _ rfl

theorem blk0 (c : Dev nD) (t : Fin cfg0.N) (j : S1024x2048.Idx) :
    (iblk m c 0 t : S1024x2048.Idx → EReal) j = at2 (A0 m c) (j 0).val (j 1).val := by
  unfold iblk
  rw [View.read_apply]
  refine (congrFun (V_main_arg0 m c) _).trans (at2_of (A0 m c) _ ?_ ?_)
  · show win0_0.index t 0 * 1024 + 1 * (j 0).val = _; rw [(idx0 t).1]; omega
  · show win0_0.index t 1 * 2048 + 1 * (j 1).val = _; rw [(idx0 t).2]; omega

theorem blk1 (c : Dev nD) (t : Fin cfg0.N) (a b : Nat) (ha : a < 128) (hb : b < 2048) :
    at2 (iblk m c 1 t : S128x2048.Idx → EReal) a b
      = at2 (A1 m c) ((min (t.val / 11 + 1) 8 * 8 + min (t.val % 11) 7) * 128 + a) b := by
  refine (at2_of (iblk m c 1 t : S128x2048.Idx → EReal) (ix2 ⟨a, ha⟩ ⟨b, hb⟩) rfl rfl).symm.trans ?_
  unfold iblk
  rw [View.read_apply]
  refine (congrFun (V_main_arg1 m c) _).trans (at2_of (A1 m c) _ ?_ ?_)
  · show win0_1.index t 0 * 128 + 1 * a = _; rw [(idx1 t).1]; omega
  · show win0_1.index t 1 * 2048 + 1 * b = _; rw [(idx1 t).2]; omega

theorem blk2 (c : Dev nD) (t : Fin cfg0.N) (b : Nat) (hb : b < 2048) :
    at2 (iblk m c 2 t : S1x2048.Idx → EReal) 0 b = at1 (A2 m c) b := by
  refine (at2_of (iblk m c 2 t : S1x2048.Idx → EReal) (ix2 0 ⟨b, hb⟩) rfl rfl).symm.trans ?_
  unfold iblk
  rw [View.read_apply]
  refine (gain_at m c _).trans (congrArg (at1 (A2 m c)) ?_)
  show win0_2.index t 1 * 2048 + 1 * b = _; rw [(idx2 t).2]; omega

theorem blk3 (c : Dev nD) (t : Fin cfg0.N) (b : Nat) (hb : b < 2048) :
    at4 (iblk m c 3 t : S1x1x1x2048.Idx → EReal) 0 0 0 b = at4 (A3 m c) (min (t.val / 11 + 1) 8 / 2) 0 0 b := by
  refine (at4_of (iblk m c 3 t : S1x1x1x2048.Idx → EReal) (ix4 0 0 0 ⟨b, hb⟩) rfl rfl rfl rfl).symm.trans ?_
  unfold iblk
  rw [View.read_apply]
  refine (congrFun (V_main_arg3 m c) _).trans (at4_of (A3 m c) _ ?_ ?_ ?_ ?_)
  · show win0_3.index t 0 * 1 + 1 * 0 = _; rw [(idx3 t).1]; omega
  · show win0_3.index t 1 * 1 + 1 * 0 = _; rw [(idx3 t).2.1]
  · show win0_3.index t 2 * 1 + 1 * 0 = _; rw [(idx3 t).2.2.1]
  · show win0_3.index t 3 * 2048 + 1 * b = _; rw [(idx3 t).2.2.2]; omega

theorem blk4 (c : Dev nD) (t : Fin cfg0.N) (b : Nat) (hb : b < 2048) :
    at4 (iblk m c 4 t : S1x1x1x2048.Idx → EReal) 0 0 0 b = at4 (A3 m c) (min (t.val / 11 + 1) 8 / 2) 1 0 b := by
  refine (at4_of (iblk m c 4 t : S1x1x1x2048.Idx → EReal) (ix4 0 0 0 ⟨b, hb⟩) rfl rfl rfl rfl).symm.trans ?_
  unfold iblk
  rw [View.read_apply]
  refine (congrFun (V_main_arg3 m c) _).trans (at4_of (A3 m c) _ ?_ ?_ ?_ ?_)
  · show win0_4.index t 0 * 1 + 1 * 0 = _; rw [(idx4 t).1]; omega
  · show win0_4.index t 1 * 1 + 1 * 0 = _; rw [(idx4 t).2.1]
  · show win0_4.index t 2 * 1 + 1 * 0 = _; rw [(idx4 t).2.2.1]
  · show win0_4.index t 3 * 2048 + 1 * b = _; rw [(idx4 t).2.2.2]; omega

theorem blk5 (c : Dev nD) (t : Fin cfg0.N) (a b : Nat) (ha : a < 2048) (hb : b < 512) :
    at3 (iblk m c 5 t : S1x2048x512.Idx → EReal) 0 a b = at3 (A4 m c) 0 a (t.val % 11 * 512 + b) := by
  refine (at3_of (iblk m c 5 t : S1x2048x512.Idx → EReal) (ix3 0 ⟨a, ha⟩ ⟨b, hb⟩) rfl rfl rfl).symm.trans ?_
  unfold iblk
  rw [View.read_apply]
  refine (congrFun (V_main_arg4 m c) _).trans (at3_of (A4 m c) _ ?_ ?_ ?_)
  · show win0_5.index t 0 * 1 + 1 * 0 = _; rw [(idx5 t).1]
  · show win0_5.index t 1 * 2048 + 1 * a = _; rw [(idx5 t).2.1]; omega
  · show win0_5.index t 2 * 512 + 1 * b = _; rw [(idx5 t).2.2]; omega

theorem blk6 (c : Dev nD) (t : Fin cfg0.N) (a b : Nat) (ha : a < 2048) (hb : b < 512) :
    at3 (iblk m c 6 t : S1x2048x512.Idx → EReal) 0 a b = at3 (A4 m c) 0 a (5632 + (t.val % 11 * 512 + b)) := by
  refine (at3_of (iblk m c 6 t : S1x2048x512.Idx → EReal) (ix3 0 ⟨a, ha⟩ ⟨b, hb⟩) rfl rfl rfl).symm.trans ?_
  unfold iblk
  rw [View.read_apply]
  refine (congrFun (V_main_arg4 m c) _).trans (at3_of (A4 m c) _ ?_ ?_ ?_)
  · show win0_6.index t 0 * 1 + 1 * 0 = _; rw [(idx6 t).1]
  · show win0_6.index t 1 * 2048 + 1 * a = _; rw [(idx6 t).2.1]; omega
  · show win0_6.index t 2 * 512 + 1 * b = _; rw [(idx6 t).2.2]; omega

theorem blk7 (c : Dev nD) (t : Fin cfg0.N) (a b : Nat) (ha : a < 64) (hb : b < 2048) :
    at3 (iblk m c 7 t : S1x64x2048.Idx → EReal) 0 a b = at3 (A5 m c) 0 (min t.val 87 * 64 + a) b := by
  refine (at3_of (iblk m c 7 t : S1x64x2048.Idx → EReal) (ix3 0 ⟨a, ha⟩ ⟨b, hb⟩) rfl rfl rfl).symm.trans ?_
  unfold iblk
  rw [View.read_apply]
  refine (congrFun (V_main_arg5 m c) _).trans (at3_of (A5 m c) _ ?_ ?_ ?_)
  · show win0_7.index t 0 * 1 + 1 * 0 = _; rw [(idx7 t).1]
  · show win0_7.index t 1 * 64 + 1 * a = _; rw [(idx7 t).2.1]; omega
  · show win0_7.index t 2 * 2048 + 1 * b = _; rw [(idx7 t).2.2]; omega

/-! ## The results -/

/-- The rows that one point normalizes, at an element: `r` is the row's place in its tile of 1024 rows. -/
theorem rows_at (c : Dev nD) (t : Fin cfg0.N) (k : Fin 8) (s : Fin 16) (q : Fin 2048) (a : Nat)
    (ha : a = (min (t.val / 11 + 1) 8 * 8 + min (t.val % 11) 7) * 128 + (16 * k.val + s.val)) :
    (rows m c t k (ix3 0 s q) : EReal) = norm (A1 m c) (A2 m c) (A3 m c) a q.val := by
  have hk : 16 * k.val + s.val < 128 := by have := k.isLt; have := s.isLt; omega
  unfold rows norm
  rw [show a / 2048 = min (t.val / 11 + 1) 8 / 2 by omega]
  subst ha
  refine (piece_at (iblk m c 1 t) (iblk m c 2 t) (iblk m c 3 t) (iblk m c 4 t) k s q).trans ?_
  rw [blk1 m c t _ _ hk q.isLt, blk2 m c t _ q.isLt, blk3 m c t _ q.isLt, blk4 m c t _ q.isLt,
    rms_congr _ _ fun j hj => blk1 m c t _ j hk hj]

/-- The tile's rows, at an element. -/
theorem tile_at (c : Dev nD) (n : Nat) (hn : n < 9) (r : Fin 1024) (q : Fin 2048) :
    (U m c n r q : EReal) = left (A0 m c) (A1 m c) (A2 m c) (A3 m c) (n * 1024 + r.val) q.val := by
  have hr := r.isLt
  unfold U left
  by_cases h : n = 0
  · subst h
    rw [if_pos rfl, if_pos (by omega)]
    refine (blk0 m c _ (ix2 r q)).trans (congrArg (fun z => at2 (A0 m c) z q.val) ?_)
    show r.val = 0 * 1024 + r.val; omega
  · rw [if_neg h, dif_pos (by omega), if_neg (by omega)]
    refine rows_at m c _ _ _ q _ ?_
    show n * 1024 + r.val = (min ((11 * (n - 1) + r.val / 128) / 11 + 1) 8 * 8 + min ((11 * (n - 1) + r.val / 128) % 11) 7) * 128
      + (16 * (r.val % 128 / 16) + r.val % 16)
    omega

/-- What one grid point writes back of the first result is its block of the result array. -/
theorem flushed_eq8 (c : Dev nD) (t : Fin cfg0.N) : (dats m 0 c).flushed 8 t
    = ((cfg0.win 8).blk t).view.read (Elt Ideal) (G (A0 m c) (A1 m c) (A2 m c) (A3 m c) (A4 m c)) := by
  show (cfg0.win 8).cut (grid0.coords t) ((dats m 0 c).after 8 t) = _
  have ht : t.val < 99 := t.isLt.trans_eq N_0
  rw [after0_8, out_eq]
  refine funext fun (y : S1024x512.Idx) => ?_
  have h0 : (y 0).val < 1024 := (y 0).isLt
  have h1 : (y 1).val < 512 := (y 1).isLt
  have hr : (((cfg0.win 8).blk t).view.emb y 0).val = t.val / 11 * 1024 + (y 0).val := by
    show win0_8.index t 0 * 1024 + 1 * (y 0).val = _; rw [(idx8 t).1]; omega
  have hc : (((cfg0.win 8).blk t).view.emb y 1).val = t.val % 11 * 512 + (y 1).val := by
    show win0_8.index t 1 * 512 + 1 * (y 1).val = _; rw [(idx8 t).2]; omega
  refine Eq.trans ?_ (congrArg₂ (elt (A0 m c) (A1 m c) (A2 m c) (A3 m c) (A4 m c)) hr hc).symm
  show blockElt (tile m c (t.val / 11)) (iblk m c 5 t) (iblk m c 6 t) y = _
  unfold blockElt elt
  have hu : ∀ k : Fin 2048, at3 (tile m c (t.val / 11) : S1x1024x2048.Idx → EReal) 0 (y 0).val k.val
      = left (A0 m c) (A1 m c) (A2 m c) (A3 m c) (t.val / 11 * 1024 + (y 0).val) k.val := fun k =>
    (at3_of (tile m c (t.val / 11) : S1x1024x2048.Idx → EReal) (ix3 0 ⟨(y 0).val, h0⟩ k) rfl rfl rfl).symm.trans
      (tile_at m c (t.val / 11) (by omega) ⟨(y 0).val, h0⟩ k)
  refine congrArg₂ (· * ·) (congrArg silu (Finset.sum_congr rfl fun k _ => ?_)) (Finset.sum_congr rfl fun k _ => ?_)
  · rw [hu k, blk5 m c t _ _ k.isLt h1]
  · rw [hu k, blk6 m c t _ _ k.isLt h1]

/-- The first result array after the run. -/
theorem final8 (c : Dev nD) : (dats m 0 c).arrAt 8 cfg0.N = G (A0 m c) (A1 m c) (A2 m c) (A3 m c) (A4 m c) :=
  (dats m 0 c).arrAt_eq_of_cover 8 (G (A0 m c) (A1 m c) (A2 m c) (A3 m c) (A4 m c)) (fun t _ => flushed_eq8 m c t)
    fun (i : S9216x5632.Idx) => by
      have h0 : (i 0).val < 9216 := (i 0).isLt
      have h1 : (i 1).val < 5632 := (i 1).isLt
      have hN : cfg0.N = 99 := N_0
      refine ⟨⟨(i 0).val / 1024 * 11 + (i 1).val / 512, by omega⟩, flush0_8 _, ?_⟩
      generalize hT : (⟨(i 0).val / 1024 * 11 + (i 1).val / 512, by omega⟩ : Fin cfg0.N) = t
      have ht : t.val = (i 0).val / 1024 * 11 + (i 1).val / 512 := by rw [← hT]
      show i ∈ ((View.whole main_v1_0).slice (win0_8.rect t)).set
      rw [View.set_slice_whole, Rect.mem_set_unit]
      intro a
      match a with
      | ⟨0, _⟩ =>
        show win0_8.index t 0 * 1024 ≤ (i 0).val ∧ (i 0).val < win0_8.index t 0 * 1024 + 1024
        rw [(idx8 t).1]; omega
      | ⟨1, _⟩ =>
        show win0_8.index t 1 * 512 ≤ (i 1).val ∧ (i 1).val < win0_8.index t 1 * 512 + 512
        rw [(idx8 t).2]; omega

/-- What one grid point writes back of the second result is its slab of the output weights. -/
theorem flushed_eq9 (c : Dev nD) (t : Fin cfg0.N) : (dats m 0 c).flushed 9 t
    = ((cfg0.win 9).blk t).view.read (Elt Ideal) (W (A5 m c)) := by
  show (cfg0.win 9).cut (grid0.coords t) ((dats m 0 c).after 9 t) = _
  rw [after0_9]
  refine funext fun (y : S64x2048.Idx) => ?_
  have h0 : (y 0).val < 64 := (y 0).isLt
  have h1 : (y 1).val < 2048 := (y 1).isLt
  have hr : (((cfg0.win 9).blk t).view.emb y 0).val = min t.val 87 * 64 + (y 0).val := by
    show win0_9.index t 0 * 64 + 1 * (y 0).val = _; rw [(idx9 t).1]; omega
  have hc : (((cfg0.win 9).blk t).view.emb y 1).val = (y 1).val := by
    show win0_9.index t 1 * 2048 + 1 * (y 1).val = _; rw [(idx9 t).2]; omega
  refine Eq.trans ?_ (congrArg₂ (at3 (A5 m c) 0) hr hc).symm
  exact (copy_at (iblk m c 7 t) y).trans (blk7 m c t _ _ h0 h1)

/-- The second result array after the run. -/
theorem final9 (c : Dev nD) : (dats m 0 c).arrAt 9 cfg0.N = W (A5 m c) :=
  (dats m 0 c).arrAt_eq_of_cover 9 (W (A5 m c)) (fun t _ => flushed_eq9 m c t)
    fun (i : S5632x2048.Idx) => by
      have h0 : (i 0).val < 5632 := (i 0).isLt
      have h1 : (i 1).val < 2048 := (i 1).isLt
      have hN : cfg0.N = 99 := N_0
      have hex : ∃ t : Fin cfg0.N, (t.val < 87 ∨ t.val = 98) ∧ min t.val 87 = (i 0).val / 64 := by
        by_cases h : (i 0).val / 64 < 87
        · exact ⟨⟨(i 0).val / 64, by omega⟩, Or.inl h, by show min ((i 0).val / 64) 87 = _; omega⟩
        · exact ⟨⟨98, by omega⟩, Or.inr rfl, by show min 98 87 = _; omega⟩
      obtain ⟨t, hf, ht⟩ := hex
      refine ⟨t, flushes9 t hf, ?_⟩
      show i ∈ ((View.whole main_v1_1).slice (win0_9.rect t)).set
      rw [View.set_slice_whole, Rect.mem_set_unit]
      intro a
      match a with
      | ⟨0, _⟩ =>
        show win0_9.index t 0 * 64 ≤ (i 0).val ∧ (i 0).val < win0_9.index t 0 * 64 + 64
        rw [(idx9 t).1]; omega
      | ⟨1, _⟩ =>
        show win0_9.index t 1 * 2048 ≤ (i 1).val ∧ (i 1).val < win0_9.index t 1 * 2048 + 2048
        rw [(idx9 t).2]; omega

/-- The kernel's run: the result arrays named, the arguments unchanged. -/
theorem run : θ_run defs (onTc (τ := τ) (main (F := Ideal))) ⟨m, fun _ => 0, ρ⟩ fun r => ∀ c : Dev nD,
      r.2.mem ((c : Thread nD τ).loc main_v1_0) = G (A0 m c) (A1 m c) (A2 m c) (A3 m c) (A4 m c)
      ∧ r.2.mem ((c : Thread nD τ).loc main_v1_1) = W (A5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.2 c).1 8).trans (final8 m c), ((h.2 c).1 9).trans (final9 m c), h.1 c⟩)
    (θ_run_and (unchanged m ρ) (run_main m ρ))

/-! ## The reference -/

open Cert.Reference7Ideal.Read in
/-- The shifts, one row per row of the residual stream. -/
theorem shift_at (x3 : S8x9x1x2048.Idx → EReal) (i : S9216x2048.Idx) :
    (val_main_v7 (F := Ideal) x3 i : EReal) = at4 x3 ((i 0).val / 2048) 0 0 (i 1).val := by
  have h0 : (i 0).val < 9216 := (i 0).isLt
  have h1 : (i 1).val < 2048 := (i 1).isLt
  unfold val_main_v7
  by_cases hi : (i 0).val < 8192
  · refine (join_upper _ _ _ i hi).trans ?_
    rw [val_main_v3_apply, val_main_v2_apply, val_main_v1_apply, val_main_v0_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v6_apply, val_main_v5_apply, val_main_v4_apply]
    refine at4_of x3 _ ?_ rfl rfl ?_
    · show 4 + 0 = _; omega
    · show (0 * 2048 + (i 1).val) % 2048 = _; omega

open Cert.Reference7Ideal.Read in
/-- The modulations, one row per row of the residual stream. -/
theorem scale_at (x3 : S8x9x1x2048.Idx → EReal) (i : S9216x2048.Idx) :
    (val_main_v15 (F := Ideal) x3 i : EReal) = at4 x3 ((i 0).val / 2048) 1 0 (i 1).val := by
  have h0 : (i 0).val < 9216 := (i 0).isLt
  have h1 : (i 1).val < 2048 := (i 1).isLt
  unfold val_main_v15
  by_cases hi : (i 0).val < 8192
  · refine (join_upper _ _ _ i hi).trans ?_
    rw [val_main_v11_apply, val_main_v10_apply, val_main_v9_apply, val_main_v8_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v14_apply, val_main_v13_apply, val_main_v12_apply]
    refine at4_of x3 _ ?_ rfl rfl ?_
    · show 4 + 0 = _; omega
    · show (0 * 2048 + (i 1).val) % 2048 = _; omega

open Cert.Reference7Ideal.Read in
/-- The reference's normalized, modulated rows. -/
theorem norm_at (x1 : S9216x2048.Idx → EReal) (x2 : S2048.Idx → EReal) (x3 : S8x9x1x2048.Idx → EReal) (i : S9216x2048.Idx) :
    (val_main_v33 (F := Ideal) x1 x2 x3 i : EReal) = norm x1 x2 x3 (i 0).val (i 1).val := by
  have hr : (val_main_v24 (F := Ideal) x1 i : EReal) = rms (at2 x1 (i 0).val) := by
    rw [val_main_v24_apply, val_main_v23_apply, val_main_v22_apply, val_main_v20_apply, val_main_v18_apply, val_main_v17_apply,
      val_main_v19_apply, val_main_v21_apply, val_main_cst_apply, val_main_cst_0_apply, val_main_cst_1_apply]
    unfold rms
    show Ideal.rsqrt (Ideal.div (Ideal.ofBits .f32 0x00000000#32 + _) (Ideal.ofBits .f32 0x45000000#32)
      + Ideal.ofBits .f32 0x358637BD#32) = _
    rw [Ideal.ofBits_zero_f32, zero_add]
    refine congrArg (fun z : EReal => Ideal.rsqrt (Ideal.div z (Ideal.ofBits .f32 0x45000000#32) + Ideal.ofBits .f32 0x358637BD#32))
      (Finset.sum_congr rfl fun k _ => ?_)
    rw [val_main_v16_apply]
    exact congrArg₂ (· * ·) (at2_of x1 _ rfl rfl) (at2_of x1 _ rfl rfl)
  rw [val_main_v33_apply, val_main_v32_apply, val_main_v31_apply, val_main_v28_apply, val_main_v25_apply, hr, val_main_v27_apply,
    val_main_v26_apply, val_main_v30_apply, val_main_v29_apply, val_main_cst_2_apply, scale_at, shift_at]
  refine congrArg₂ (· + ·) (congrArg₂ (· * ·) (congrArg₂ (· * ·) (congrArg (fun z : EReal => z * _) (at2_of x1 _ rfl rfl))
    (at1_of x2 _ rfl)) rfl) rfl

open Cert.Reference7Ideal.Read in
/-- The reference's left operand. -/
theorem left_at (x0 : S1024x2048.Idx → EReal) (x1 : S9216x2048.Idx → EReal) (x2 : S2048.Idx → EReal)
    (x3 : S8x9x1x2048.Idx → EReal) (i : S9216x2048.Idx) :
    (val_main_v35 (F := Ideal) x0 x1 x2 x3 i : EReal) = left x0 x1 x2 x3 (i 0).val (i 1).val := by
  have h0 : (i 0).val < 9216 := (i 0).isLt
  unfold val_main_v35 left
  by_cases hi : (i 0).val < 1024
  · rw [if_pos hi]
    exact (join_upper _ _ _ i hi).trans (at2_of x0 _ rfl rfl)
  · rw [if_neg hi]
    refine (join_lower _ _ _ i (by omega) (by omega)).trans ?_
    rw [val_main_v34_apply, norm_at]
    refine congrArg (fun z => norm x1 x2 x3 z (i 1).val) ?_
    show 1024 + ((i 0).val - 1024) = _; omega

open Cert.Reference7Ideal.Read in
/-- The layer's input weights, at an element. -/
theorem weight_at (x4 : S4x2048x11264.Idx → EReal) (j : Cert.Reference7Ideal.S2048x11264.Idx) :
    (val_main_v38 (F := Ideal) x4 j : EReal) = at3 x4 0 (j 0).val (j 1).val := by
  have h0 : (j 0).val < 2048 := (j 0).isLt
  have h1 : (j 1).val < 11264 := (j 1).isLt
  rw [val_main_v38_apply, val_main_v37_apply, val_main_v36_apply]
  refine at3_of x4 _ rfl ?_ ?_
  · show ((j 0).val * 11264 + (j 1).val) / 11264 % 2048 = _; omega
  · show ((j 0).val * 11264 + (j 1).val) % 11264 = _; omega

open Cert.Reference7Ideal.Read in
/-- The reference's first result is the same array. -/
theorem ref_eq (x0 : S1024x2048.Idx → EReal) (x1 : S9216x2048.Idx → EReal) (x2 : S2048.Idx → EReal)
    (x3 : S8x9x1x2048.Idx → EReal) (x4 : S4x2048x11264.Idx → EReal) :
    val_main_v51 (F := Ideal) x0 x1 x2 x3 x4 = G x0 x1 x2 x3 x4 := by
  refine funext fun (i : S9216x5632.Idx) => ?_
  have ha : (val_main_v40 (F := Ideal) x0 x1 x2 x3 x4 i : EReal)
      = ∑ k : Fin 2048, left x0 x1 x2 x3 (i 0).val k.val * at3 x4 0 k.val (i 1).val := by
    rw [val_main_v40_apply]
    refine Finset.sum_congr rfl fun k _ => congrArg₂ (· * ·) (left_at x0 x1 x2 x3 _) ?_
    rw [val_main_v39_apply, weight_at]
  have hb : (val_main_v42 (F := Ideal) x0 x1 x2 x3 x4 i : EReal)
      = ∑ k : Fin 2048, left x0 x1 x2 x3 (i 0).val k.val * at3 x4 0 k.val (5632 + (i 1).val) := by
    rw [val_main_v42_apply]
    refine Finset.sum_congr rfl fun k _ => congrArg₂ (· * ·) (left_at x0 x1 x2 x3 _) ?_
    rw [val_main_v41_apply, weight_at]
  show _ = elt x0 x1 x2 x3 x4 (i 0).val (i 1).val
  unfold elt
  rw [← ha, ← hb, val_main_v51_apply, val_main_v50_apply, val_main_v49_apply, val_main_v48_apply, val_main_v47_apply,
    val_main_v46_apply, val_main_v45_apply, val_main_v44_apply, val_main_v43_apply, val_main_cst_3_apply, val_main_cst_4_apply]
  generalize (val_main_v40 (F := Ideal) x0 x1 x2 x3 x4 i : EReal) = z
  generalize (val_main_v42 (F := Ideal) x0 x1 x2 x3 x4 i : EReal) = y
  show z * Ideal.div (Ideal.ofBits .f32 0x3F800000#32) (Ideal.ofBits .f32 0x3F800000#32 + Ideal.exp (-z)) * y = _
  rw [Idealize.ShloMosaic.Ideal.ofBits_one_f32]
  rfl

open Cert.Reference7Ideal.Read in
/-- The reference's second result is the same array. -/
theorem ref_eq_copy (x5 : S4x5632x2048.Idx → EReal) : val_main_v54 (F := Ideal) x5 = W x5 := by
  refine funext fun (i : S5632x2048.Idx) => ?_
  have h0 : (i 0).val < 5632 := (i 0).isLt
  have h1 : (i 1).val < 2048 := (i 1).isLt
  rw [val_main_v54_apply, val_main_v53_apply, val_main_v52_apply]
  refine at3_of x5 _ rfl ?_ ?_
  · show ((i 0).val * 2048 + (i 1).val) / 2048 % 5632 = _; omega
  · show ((i 0).val * 2048 + (i 1).val) % 2048 = _; omega

end Cert.Proof.FfnA7

end
-- ==== Proof.FfnB8FrameIdeal.lean ====
/-
  Hand-written. The launch of the first half's second feed-forward product, which also copies the next projection's weights slab by slab:
  what the body leaves at a point that copies and at one that does not, the pipeline's proof data, and the frame: the run ends with
  every argument unchanged.
-/
module

public import proofs.«01_k».proof.Proof.Gen.Kernel8Ideal.Frame
public import proofs.«01_k».proof.Proof.Gen.Kernel8Ideal.Skeleton
public import Idealize.ShloMosaic.Lib.WritesUnit
public import Idealize.ShloMosaic.Lib.Claim
public import Idealize.ShloMosaic.Lib.ValueIdx
public import Idealize.ShloMosaic.Lib.Pipeline.Value

@[expose] public section

set_option maxRecDepth 16384

noncomputable section

namespace Cert.Kernel8Ideal.Hand

open Cert.Kernel8Ideal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The points that copy a slab are the first 32. -/
theorem copies_iff : ∀ t : Fin cfg0.N, k0_cond1 (grid0.coords t) = 1#1 ↔ t.val < 32 :=
  (by decide +kernel : ∀ t : Fin grid0.N, k0_cond1 (grid0.coords t) = 1#1 ↔ t.val < 32)

abbrev rH : Rect S1024x5632 := Rect.unit (s := S1024x5632) ![0, 0] S1024x5632.size inb_S1024x5632_S1024x5632_0_0
abbrev rX0 : Rect S1024x512 := Rect.unit (s := S1024x512) ![0, 0] S1024x256.size inb_S1024x512_S1024x256_0_0
abbrev rG0 : Rect S1x1x1x512 := Rect.unit (s := S1x1x1x512) ![0, 0, 0, 0] S1x1x1x256.size inb_S1x1x1x512_S1x1x1x256_0_0_0_0
abbrev rW0 : Rect S5632x512 := Rect.unit (s := S5632x512) ![0, 0] S5632x256.size inb_S5632x512_S5632x256_0_0
abbrev rX1 : Rect S1024x512 := Rect.unit (s := S1024x512) ![0, 256] S1024x256.size inb_S1024x512_S1024x256_0_256
abbrev rG1 : Rect S1x1x1x512 := Rect.unit (s := S1x1x1x512) ![0, 0, 0, 256] S1x1x1x256.size inb_S1x1x1x512_S1x1x1x256_0_0_0_256
abbrev rW1 : Rect S5632x512 := Rect.unit (s := S5632x512) ![0, 256] S5632x256.size inb_S5632x512_S5632x256_0_256
abbrev rS : Rect S1x64x3584 := Rect.unit (s := S1x64x3584) ![0, 0, 0] S1x64x3584.size inb_S1x64x3584_S1x64x3584_0_0_0
abbrev rC : Rect S64x3584 := Rect.unit (s := S64x3584) ![0, 0] S64x3584.size inb_S64x3584_S64x3584_0_0

/-- The block of the first result: columns 256… over columns 0…. -/
def xOut (x0 : Vec F S1024x5632 .bf16) (x1 : Vec F S5632x512 .bf16) (x2 : Vec F S1024x512 .f32) (x3 : Vec F S1x1x1x512 .f32) : Vec F S1024x512 .f32 :=
  View.canon [⟨rX1, k0_pay3 (View.ld x0 rH) (View.ld x2 rX1) (View.ld x3 rG1) (View.ld x1 rW1)⟩,
    ⟨rX0, k0_pay2 (View.ld x0 rH) (View.ld x2 rX0) (View.ld x3 rG0) (View.ld x1 rW0)⟩]

/-- The two stores tile the block. -/
theorem cover (p0 : Vec F S1024x256 .f32) (p1 : Vec F S1024x256 .f32) (y : S1024x512.Idx) :
    ∃ pc ∈ ([⟨rX1, p0⟩, ⟨rX0, p1⟩] : List (View.Piece (Elt F) S1024x512 .f32)), y ∈ pc.1.set :=
  View.cover_of_tiled [⟨rX1, p0⟩, ⟨rX0, p1⟩] S1024x256.size (by rfl) y

/-- The whole slab loaded is the slab. -/
theorem slab_ld (x : Vec F S1x64x3584 .f32) : View.ld x rS = x := by
  funext z
  refine congrArg x (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

/-- The store of the whole slab read back. -/
theorem slab_of (a : Memref sig .tc .vmem S64x3584 .bf16) (f : a.view.ty.Contents (Elt F)) (x : Vec F S1x64x3584 .f32) :
    a.view.read (Elt F) (a.view.writes (Elt F) f [⟨rC, k0_pay1 (View.ld x rS)⟩]) = k0_pay1 x := by
  rw [slab_ld]
  funext y
  refine View.read_writes_cons_unit_of_mem _ _ _ _ _ y y rfl fun a => ?_
  match a with
  | ⟨0, _⟩ => show (y 0).val = 0 + (y 0).val; omega
  | ⟨1, _⟩ => show (y 1).val = 0 + (y 1).val; omega

set_option maxHeartbeats 1000000 in
/-- The body at a point that copies a slab. -/
theorem run_copy (c : Dev nD) (E : Set ℕ) (i : grid0.Coords) (hc : k0_cond1 i = 1#1) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1x1x1x512 .f32) (harg5 : arg5.IsWhole) (arg6 : Memref sig .tc .vmem S1x64x3584 .f32) (harg6 : arg6.IsWhole) (arg7 : Memref sig .tc .vmem S1024x512 .f32) (harg7 : arg7.IsWhole) (arg8 : Memref sig .tc .vmem S64x3584 .bf16) (harg8 : arg8.IsWhole)
    (x0 : Vec F S1024x5632 .bf16) (x1 : Vec F S5632x512 .bf16) (x2 : Vec F S1024x512 .f32) (x3 : Vec F S1x1x1x512 .f32) (x4 : Vec F S1x64x3584 .f32)
    (d6 : Vec F S64x3584 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (xOut x0 x1 x2 x3) ∗ owns (c : Thread nD τ) arg8 fullShare (k0_pay1 x4)) -∗ K ⟨⟩))
      ⊢ wp frame (wpE (defs₀ (F := F)) Variants.none c none) E (cc0_ffn_b i arg2 harg2 arg3 harg3 arg4 harg4 arg5 harg5 arg6 harg6 arg7 harg7 arg8 harg8) K := by
  simp only [cc0_ffn_b_eq_skeleton]; unfold cc0_ffn_b_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _ _)
  iexists _; isplitr
  swap; · iexact H6
  ipureintro
  exact slab_of arg8 f6 _

set_option maxHeartbeats 1000000 in
/-- The body at a point that copies none: the slab buffer is left as found. -/
theorem run_idle (c : Dev nD) (E : Set ℕ) (i : grid0.Coords) (hc : ¬ k0_cond1 i = 1#1) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1x1x1x512 .f32) (harg5 : arg5.IsWhole) (arg6 : Memref sig .tc .vmem S1x64x3584 .f32) (harg6 : arg6.IsWhole) (arg7 : Memref sig .tc .vmem S1024x512 .f32) (harg7 : arg7.IsWhole) (arg8 : Memref sig .tc .vmem S64x3584 .bf16) (harg8 : arg8.IsWhole)
    (x0 : Vec F S1024x5632 .bf16) (x1 : Vec F S5632x512 .bf16) (x2 : Vec F S1024x512 .f32) (x3 : Vec F S1x1x1x512 .f32) (x4 : Vec F S1x64x3584 .f32)
    (d6 : Vec F S64x3584 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (xOut x0 x1 x2 x3) ∗ owns (c : Thread nD τ) arg8 fullShare d6) -∗ K ⟨⟩))
      ⊢ wp frame (wpE (defs₀ (F := F)) Variants.none c none) E (cc0_ffn_b i arg2 harg2 arg3 harg3 arg4 harg4 arg5 harg5 arg6 harg6 arg7 harg7 arg8 harg8) K := by
  simp only [cc0_ffn_b_eq_skeleton]; unfold cc0_ffn_b_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _ _)
  iexists f6; isplitr; · ipureintro; exact hf6
  iexact H6

/-! ## The proof data -/

/-- Every input at its block, the result at the body's block, the copied weights at their slab. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xOut (iblk m c 0 t) (iblk m c 1 t) (iblk m c 2 t) (iblk m c 3 t)
    | ⟨6, _⟩ => k0_pay1 (iblk m c 4 t)
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = xOut (iblk m c 0 t) (iblk m c 1 t) (iblk m c 2 t) (iblk m c 3 t) := by dsimp only [dats]
theorem after0_6 (c : Dev nD) (t : Fin cfg0.N) : (dats m 0 c).after 6 t = k0_pay1 (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The copied slabs: the last points copy nothing and leave the last slab in place -/

theorem fetch6 : ∀ t : Fin cfg0.N, (cfg0.win 6).fetch t = false :=
  (by decide +kernel : ∀ t : Fin grid0.N, win0_6.fetch t = false)
theorem flush6 : ∀ t : Fin cfg0.N, 31 ≤ t.val → t.val < 35 → (cfg0.win 6).flush t = false :=
  (by decide +kernel : ∀ t : Fin grid0.N, 31 ≤ t.val → t.val < 35 → win0_6.flush t = false)
theorem idle6 : ∀ t : Fin cfg0.N, cfg0.idle 6 (cfg0.grid.coords t) = decide (32 ≤ t.val) :=
  (by decide +kernel : ∀ t : Fin grid0.N, idle0 6 (grid0.coords t) = decide (32 ≤ t.val))
theorem ix_last4 : ∀ t : Fin cfg0.N, 32 ≤ t.val → ∀ a, win0_4.index t a = win0_4.index ⟨t.val - 1, Nat.lt_of_le_of_lt (Nat.sub_le _ _) t.isLt⟩ a :=
  (by decide +kernel : ∀ t : Fin grid0.N, 32 ≤ t.val → ∀ a, win0_4.index t a = win0_4.index ⟨t.val - 1, Nat.lt_of_le_of_lt (Nat.sub_le _ _) t.isLt⟩ a)

theorem blk_last4 (c : Dev nD) (t : Fin cfg0.N) (ht : 32 ≤ t.val) :
    (iblk m c 4 t : Vec F S1x64x3584 .f32) = iblk m c 4 ⟨t.val - 1, Nat.lt_of_le_of_lt (Nat.sub_le _ _) t.isLt⟩ := by
  funext z; unfold iblk; rw [View.read_apply, View.read_apply]
  refine congrArg _ (congrArg (V m c (Pipeline.arrRef spec0 4)) (funext fun a => Fin.ext ?_))
  show win0_4.index t a * S1x64x3584.size a + 1 * (z a).val
    = win0_4.index ⟨t.val - 1, Nat.lt_of_le_of_lt (Nat.sub_le _ _) t.isLt⟩ a * S1x64x3584.size a + 1 * (z a).val
  rw [ix_last4 t ht]

theorem before6 (c : Dev nD) (d) : ∀ (n : ℕ) (t : Fin cfg0.N), t.val = 32 + n →
    (dats m 0 c).before 6 t d = k0_pay1 (iblk m c 4 t)
  | 0, t, ht => by
    have h36 : t.val < 36 := t.isLt.trans_eq N_0
    rw [(dats m 0 c).before_of_pos 6 t (by omega) (fetch6 t) d,
      flush6 ⟨t.val - 1, _⟩ (by show 31 ≤ t.val - 1; omega) (by show t.val - 1 < 35; omega), if_neg Bool.false_ne_true]
    unfold Dat.left
    have hi := idle6 ⟨t.val - 1, Nat.lt_of_le_of_lt (Nat.sub_le _ _) t.isLt⟩
    rw [decide_eq_false (show ¬ 32 ≤ t.val - 1 by omega)] at hi
    rw [hi]
    show (dats m 0 c).after 6 ⟨t.val - 1, _⟩ = _
    rw [after0_6, blk_last4 m c t (by omega)]
  | n + 1, t, ht => by
    have h36 : t.val < 36 := t.isLt.trans_eq N_0
    rw [(dats m 0 c).before_of_pos 6 t (by omega) (fetch6 t) d,
      flush6 ⟨t.val - 1, _⟩ (by show 31 ≤ t.val - 1; omega) (by show t.val - 1 < 35; omega), if_neg Bool.false_ne_true]
    unfold Dat.left
    have hi := idle6 ⟨t.val - 1, Nat.lt_of_le_of_lt (Nat.sub_le _ _) t.isLt⟩
    rw [decide_eq_true (show 32 ≤ t.val - 1 by omega)] at hi
    rw [hi]
    show (dats m 0 c).before 6 ⟨t.val - 1, _⟩ d = _
    rw [before6 c d n ⟨t.val - 1, _⟩ (by show t.val - 1 = 32 + n; omega), blk_last4 m c t (by omega)]

theorem kept6 (c : Dev nD) (t : Fin cfg0.N) (ht : 32 ≤ t.val) (d) : (dats m 0 c).before 6 t d = (dats m 0 c).after 6 t := by
  rw [before6 m c d (t.val - 32) t (by omega), after0_6]

/-- A window whose buffer holds at its idle points what the proof data say is left as the obligation asks. -/
theorem leave (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t)
      ⊢ ((dats m 0 c).leavesExact w t : sProp 𝕄) := by
  unfold Dat.leavesExact
  revert h
  cases cfg0.idle w (cfg0.grid.coords t)
  · intro _; exact .rfl
  · intro h
    cases (cfg0.win w).flush t
    · iintro H; iexists (dats m 0 c).after w t; rw [h rfl]; iexact H
    · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩⟩
  by_cases ht : t.val < 32
  · iapply (run_copy c Set.univ (grid0.coords t) ((copies_iff t).mpr ht) _ _ _ _ _ _ _ _ _ _ _ _ _ _ (iblk m c 0 t) (iblk m c 1 t) (iblk m c 2 t) (iblk m c 3 t) (iblk m c 4 t)
      ((dats m 0 c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leave m c 6 t (fun h => absurd ((idle6 t).symm.trans h) (by rw [decide_eq_false (by omega)]; exact Bool.false_ne_true)))
    rw [after0_6]; iexact H6
  · iapply (run_idle c Set.univ (grid0.coords t) (fun h => ht ((copies_iff t).mp h)) _ _ _ _ _ _ _ _ _ _ _ _ _ _ (iblk m c 0 t) (iblk m c 1 t) (iblk m c 2 t) (iblk m c 3 t) (iblk m c 4 t)
      ((dats m 0 c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leave m c 6 t (fun _ d => kept6 m c t (by omega) d))
    rw [← kept6 m c t (by omega) d6]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel8Ideal.Hand

end
-- ==== Proof.FfnB8.lean ====
/-
  Hand-written. The first half's second feed-forward product with its gated residual, and the copy of the next projection's
  weights: what the kernel's two results hold after the run, and that they are what the reference's operations compute, element by
  element: `x + (0.5 · gate) · Σ_k h·wo`, and the first layer's weights.
-/
module

public import proofs.«01_k».proof.Proof.Common
public import proofs.«01_k».proof.Proof.FfnB8FrameIdeal
public import proofs.«01_k».proof.Proof.Gen.Reference8Ideal.Read

@[expose] public section

set_option maxRecDepth 16384

noncomputable section

namespace Cert.Proof.FfnB8

open Idealize.ShloMosaic Idealize.ShloMosaic.ValueIdx Idealize.ShloMosaic.TcCoe Idealize.SL.Sem
open Idealize.ShloMosaic.Pipeline (Dat)
open Cert.Proof.Common Cert.Kernel8Ideal Cert.Kernel8Ideal.Gen Cert.Kernel8Ideal.Hand
open scoped BigOperators

/-- One half, as the constant's bits spell it. -/
abbrev half : EReal := Ideal.ofBits .f32 0x3F000000#32

/-- The result at an element: the residual plus half the row's gate times the product. Row `a`'s gate is that of its batch
    element `a / 2048` (the context rows' is the fifth). -/
def elt (h : S9216x5632.Idx → EReal) (wo : S5632x2048.Idx → EReal) (x : S9216x2048.Idx → EReal)
    (mods : S8x9x1x2048.Idx → EReal) (a b : Nat) : EReal :=
  at2 x a b + (half * at4 mods (a / 2048) 2 0 b) * ∑ k : Fin 5632, at2 h a k.val * at2 wo k.val b

/-- The result array. -/
def G (h : S9216x5632.Idx → EReal) (wo : S5632x2048.Idx → EReal) (x : S9216x2048.Idx → EReal)
    (mods : S8x9x1x2048.Idx → EReal) : S9216x2048.Idx → EReal := fun i => elt h wo x mods (i 0).val (i 1).val

/-- The second result: the first layer's weights. -/
def W (w : S4x2048x3584.Idx → EReal) : S2048x3584.Idx → EReal := fun i => at3 w 0 (i 0).val (i 1).val

/-! ## The kernel -/

/-- The block that one grid point leaves, at an element. -/
def blockElt (x0 : S1024x5632.Idx → EReal) (x1 : S5632x512.Idx → EReal) (x2 : S1024x512.Idx → EReal)
    (x3 : S1x1x1x512.Idx → EReal) (y : S1024x512.Idx) : EReal :=
  at2 x2 (y 0).val (y 1).val
    + (half * at4 x3 0 0 0 (y 1).val) * ∑ k : Fin 5632, at2 x0 (y 0).val k.val * at2 x1 k.val (y 1).val

/-- A store's payload at an element, from the loads that it is made of. -/
theorem pay_at (v0 : Vec Ideal S1024x5632 .bf16) (v1 : Vec Ideal S1024x256 .f32) (v2 : Vec Ideal S1x1x1x256 .f32)
    (v6 : Vec Ideal S5632x256 .bf16) (x : S1024x256.Idx) :
    (k0_pay2 (F := Ideal) v0 v1 v2 v6 x : EReal)
      = v1 x + (half * v2 (ix4 0 0 0 (x 1))) * ∑ k : Fin 5632, v0 (ix2 (x 0) k) * v6 (ix2 k (x 1)) := by
  unfold k0_pay2
  show (v1 x : EReal) + broadcastTo (α := EReal) S1024x256 _ broadcasts_S1x256_S1024x256 x
      * matmul (F := Ideal) dot_S1024x5632_S5632x256_S1024x256_1_0_0_1_n_n none v0 v6 _ x = _
  refine congrArg₂ (· + ·) rfl (congrArg₂ (· * ·) ?_
    ((matmul_at dot_S1024x5632_S5632x256_S1024x256_1_0_0_1_n_n rfl none v0 v6 _ x).trans (zero_acc x _)))
  refine (broadcastTo_apply _ broadcasts_S1x256_S1024x256 x (ix2 0 (x 1)) (fun a => match a with
    | ⟨0, _⟩ => rfl
    | ⟨1, _⟩ => rfl)).trans ?_
  exact congrArg (half * ·) (shapeCast_apply v2 shapeCasts_S1x1x1x256_S1x256 (ix2 0 (x 1)) (ix4 0 0 0 (x 1)) (by
      rewrite [Shape.rowMajor_val_four, Shape.rowMajor_val_two]
      show ((0 * 1 + 0) * 1 + 0) * 256 + (x 1).val = 0 * 256 + (x 1).val; omega))

/-- The other store's payload is the same. -/
theorem pay_at3 (v0 : Vec Ideal S1024x5632 .bf16) (v1 : Vec Ideal S1024x256 .f32) (v2 : Vec Ideal S1x1x1x256 .f32)
    (v6 : Vec Ideal S5632x256 .bf16) (x : S1024x256.Idx) :
    (k0_pay3 (F := Ideal) v0 v1 v2 v6 x : EReal)
      = v1 x + (half * v2 (ix4 0 0 0 (x 1))) * ∑ k : Fin 5632, v0 (ix2 (x 0) k) * v6 (ix2 k (x 1)) :=
  pay_at v0 v1 v2 v6 x

/-- The slab copied, at an element. -/
theorem copy_at (x4 : Vec Ideal S1x64x3584 .f32) (y : S64x3584.Idx) :
    (k0_pay1 (F := Ideal) x4 y : EReal) = at3 x4 0 (y 0).val (y 1).val := by
  unfold k0_pay1
  refine (shapeCast_apply x4 shapeCasts_S1x64x3584_S64x3584 y (ix3 0 (y 0) (y 1)) (by
      rewrite [Shape.rowMajor_val_three, Shape.rowMajor_val_two]
      show (0 * 64 + (y 0).val) * 3584 + (y 1).val = (y 0).val * 3584 + (y 1).val; omega)).trans ?_
  exact at3_of x4 _ rfl rfl rfl

/-- The body's two stores leave `blockElt`. -/
theorem out_eq (x0 : Vec Ideal S1024x5632 .bf16) (x1 : Vec Ideal S5632x512 .bf16) (x2 : Vec Ideal S1024x512 .f32)
    (x3 : Vec Ideal S1x1x1x512 .f32) : xOut x0 x1 x2 x3 = blockElt x0 x1 x2 x3 := by
  funext y
  refine View.canon_apply_of_pieces (Val := Elt Ideal) (e := .f32) (blockElt x0 x1 x2 x3) _ ?_ y (cover _ _ y)
  intro p hp x
  rcases List.mem_cons.mp hp with rfl | hp
  · refine (pay_at3 (View.ld x0 rH) (View.ld x2 rX1) (View.ld x3 rG1) (View.ld x1 rW1) x).trans ?_
    refine congrArg₂ (· + ·) (at2_of x2 _ rfl rfl) (congrArg₂ (· * ·) (congrArg (half * ·) (at4_of x3 _ rfl rfl rfl rfl))
      (Finset.sum_congr rfl fun k _ => congrArg₂ (· * ·) (at2_of x0 _ rfl ?_) (at2_of x1 _ ?_ rfl)))
    · show 0 + 1 * k.val = k.val; omega
    · show 0 + 1 * k.val = k.val; omega
  · obtain rfl := List.mem_singleton.mp hp
    refine (pay_at (View.ld x0 rH) (View.ld x2 rX0) (View.ld x3 rG0) (View.ld x1 rW0) x).trans ?_
    refine congrArg₂ (· + ·) (at2_of x2 _ rfl rfl) (congrArg₂ (· * ·) (congrArg (half * ·) (at4_of x3 _ rfl rfl rfl rfl))
      (Finset.sum_congr rfl fun k _ => congrArg₂ (· * ·) (at2_of x0 _ rfl ?_) (at2_of x1 _ ?_ rfl)))
    · show 0 + 1 * k.val = k.val; omega
    · show 0 + 1 * k.val = k.val; omega

/-! The windows' blocks, by position. -/

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 8 ∧ win0_3.index t 1 = 2 ∧ win0_3.index t 2 = 0
    ∧ win0_3.index t 3 = t.val % 4 :=
  (by decide +kernel : ∀ t : Fin grid0.N, win0_3.index t 0 = t.val / 8 ∧ win0_3.index t 1 = 2 ∧ win0_3.index t 2 = 0
    ∧ win0_3.index t 3 = t.val % 4)
theorem idx5 : ∀ t : Fin cfg0.N, win0_5.index t 0 = t.val / 4 ∧ win0_5.index t 1 = t.val % 4 :=
  (by decide +kernel : ∀ t : Fin grid0.N, win0_5.index t 0 = t.val / 4 ∧ win0_5.index t 1 = t.val % 4)

theorem idx4 : ∀ t : Fin cfg0.N, win0_4.index t 0 = 0 ∧ win0_4.index t 1 = min t.val 31 ∧ win0_4.index t 2 = 0 :=
  (by decide +kernel : ∀ t : Fin grid0.N, win0_4.index t 0 = 0 ∧ win0_4.index t 1 = min t.val 31 ∧ win0_4.index t 2 = 0)
theorem idx6 : ∀ t : Fin cfg0.N, win0_6.index t 0 = min t.val 31 ∧ win0_6.index t 1 = 0 :=
  (by decide +kernel : ∀ t : Fin grid0.N, win0_6.index t 0 = min t.val 31 ∧ win0_6.index t 1 = 0)
/-- The copied slabs are written back at the first points and at the last one. -/
theorem flushes6 : ∀ t : Fin cfg0.N, t.val < 31 ∨ t.val = 35 → (cfg0.win 6).flush t = true :=
  (by decide +kernel : ∀ t : Fin grid0.N, t.val < 31 ∨ t.val = 35 → win0_6.flush t = true)

variable (m : (ℓ : Loc nD τ sig) → Buf (Elt Ideal) ℓ) (ρ : Dev nD → PrngReg)

/-- The launched arguments, as arrays of extended reals. -/
abbrev A0 (c : Dev nD) : S9216x5632.Idx → EReal := m ((c : Thread nD τ).loc main_arg0)
abbrev A1 (c : Dev nD) : S5632x2048.Idx → EReal := m ((c : Thread nD τ).loc main_arg1)
abbrev A2 (c : Dev nD) : S9216x2048.Idx → EReal := m ((c : Thread nD τ).loc main_arg2)
abbrev A3 (c : Dev nD) : S8x9x1x2048.Idx → EReal := m ((c : Thread nD τ).loc main_arg3)
abbrev A4 (c : Dev nD) : S4x2048x3584.Idx → EReal := m ((c : Thread nD τ).loc main_arg4)

theorem blk0 (c : Dev nD) (t : Fin cfg0.N) (a b : Nat) (ha : a < 1024) (hb : b < 5632) :
    at2 (iblk m c 0 t : S1024x5632.Idx → EReal) a b = at2 (A0 m c) (t.val / 4 * 1024 + a) b := by
  refine (at2_of (iblk m c 0 t : S1024x5632.Idx → EReal) (ix2 ⟨a, ha⟩ ⟨b, hb⟩) rfl rfl).symm.trans ?_
  unfold iblk
  rw [View.read_apply]
  refine at2_of (A0 m c) _ ?_ ?_
  · show win0_0.index t 0 * 1024 + 1 * a = _; rw [(idx0 t).1]; omega
  · show win0_0.index t 1 * 5632 + 1 * b = _; rw [(idx0 t).2]; omega

theorem blk1 (c : Dev nD) (t : Fin cfg0.N) (a b : Nat) (ha : a < 5632) (hb : b < 512) :
    at2 (iblk m c 1 t : S5632x512.Idx → EReal) a b = at2 (A1 m c) a (t.val % 4 * 512 + b) := by
  refine (at2_of (iblk m c 1 t : S5632x512.Idx → EReal) (ix2 ⟨a, ha⟩ ⟨b, hb⟩) rfl rfl).symm.trans ?_
  unfold iblk
  rw [View.read_apply]
  refine at2_of (A1 m c) _ ?_ ?_
  · show win0_1.index t 0 * 5632 + 1 * a = _; rw [(idx1 t).1]; omega
  · show win0_1.index t 1 * 512 + 1 * b = _; rw [(idx1 t).2]; omega

theorem blk2 (c : Dev nD) (t : Fin cfg0.N) (a b : Nat) (ha : a < 1024) (hb : b < 512) :
    at2 (iblk m c 2 t : S1024x512.Idx → EReal) a b = at2 (A2 m c) (t.val / 4 * 1024 + a) (t.val % 4 * 512 + b) := by
  refine (at2_of (iblk m c 2 t : S1024x512.Idx → EReal) (ix2 ⟨a, ha⟩ ⟨b, hb⟩) rfl rfl).symm.trans ?_
  unfold iblk
  rw [View.read_apply]
  refine at2_of (A2 m c) _ ?_ ?_
  · show win0_2.index t 0 * 1024 + 1 * a = _; rw [(idx2 t).1]; omega
  · show win0_2.index t 1 * 512 + 1 * b = _; rw [(idx2 t).2]; omega

theorem blk3 (c : Dev nD) (t : Fin cfg0.N) (b : Nat) (hb : b < 512) :
    at4 (iblk m c 3 t : S1x1x1x512.Idx → EReal) 0 0 0 b = at4 (A3 m c) (t.val / 8) 2 0 (t.val % 4 * 512 + b) := by
  refine (at4_of (iblk m c 3 t : S1x1x1x512.Idx → EReal) (ix4 0 0 0 ⟨b, hb⟩) rfl rfl rfl rfl).symm.trans ?_
  unfold iblk
  rw [View.read_apply]
  refine at4_of (A3 m c) _ ?_ ?_ ?_ ?_
  · show win0_3.index t 0 * 1 + 1 * 0 = _; rw [(idx3 t).1]; omega
  · show win0_3.index t 1 * 1 + 1 * 0 = _; rw [(idx3 t).2.1]
  · show win0_3.index t 2 * 1 + 1 * 0 = _; rw [(idx3 t).2.2.1]
  · show win0_3.index t 3 * 512 + 1 * b = _; rw [(idx3 t).2.2.2]; omega

/-- What one grid point writes back is its block of the result array. -/
theorem flushed_eq5 (c : Dev nD) (t : Fin cfg0.N) : (dats m 0 c).flushed 5 t
    = ((cfg0.win 5).blk t).view.read (Elt Ideal) (G (A0 m c) (A1 m c) (A2 m c) (A3 m c)) := by
  show (cfg0.win 5).cut (grid0.coords t) ((dats m 0 c).after 5 t) = _
  rw [after0_5, out_eq]
  refine funext fun (y : S1024x512.Idx) => ?_
  have h0 : (y 0).val < 1024 := (y 0).isLt
  have h1 : (y 1).val < 512 := (y 1).isLt
  have hr : (((cfg0.win 5).blk t).view.emb y 0).val = t.val / 4 * 1024 + (y 0).val := by
    show win0_5.index t 0 * 1024 + 1 * (y 0).val = _; rw [(idx5 t).1]; omega
  have hc : (((cfg0.win 5).blk t).view.emb y 1).val = t.val % 4 * 512 + (y 1).val := by
    show win0_5.index t 1 * 512 + 1 * (y 1).val = _; rw [(idx5 t).2]; omega
  refine Eq.trans ?_ (congrArg₂ (elt (A0 m c) (A1 m c) (A2 m c) (A3 m c)) hr hc).symm
  show blockElt (iblk m c 0 t) (iblk m c 1 t) (iblk m c 2 t) (iblk m c 3 t) y = _
  unfold blockElt elt
  rw [blk2 m c t _ _ h0 h1, blk3 m c t _ h1, show (t.val / 4 * 1024 + (y 0).val) / 2048 = t.val / 8 by omega]
  refine congrArg (fun z : EReal => _ + _ * z) (Finset.sum_congr rfl fun k _ => ?_)
  rw [blk0 m c t _ _ h0 k.isLt, blk1 m c t _ _ k.isLt h1]

/-- The result array after the run. -/
theorem final5 (c : Dev nD) : (dats m 0 c).arrAt 5 cfg0.N = G (A0 m c) (A1 m c) (A2 m c) (A3 m c) :=
  (dats m 0 c).arrAt_eq_of_cover 5 (G (A0 m c) (A1 m c) (A2 m c) (A3 m c)) (fun t _ => flushed_eq5 m c t)
    fun (i : S9216x2048.Idx) => by
      have h0 : (i 0).val < 9216 := (i 0).isLt
      have h1 : (i 1).val < 2048 := (i 1).isLt
      have hN : cfg0.N = 36 := N_0
      refine ⟨⟨(i 0).val / 1024 * 4 + (i 1).val / 512, by omega⟩, flush0_5 _, ?_⟩
      generalize hT : (⟨(i 0).val / 1024 * 4 + (i 1).val / 512, by omega⟩ : Fin cfg0.N) = t
      have ht : t.val = (i 0).val / 1024 * 4 + (i 1).val / 512 := by rw [← hT]
      show i ∈ ((View.whole main_v0_0).slice (win0_5.rect t)).set
      rw [View.set_slice_whole, Rect.mem_set_unit]
      intro a
      match a with
      | ⟨0, _⟩ =>
        show win0_5.index t 0 * 1024 ≤ (i 0).val ∧ (i 0).val < win0_5.index t 0 * 1024 + 1024
        rw [(idx5 t).1]; omega
      | ⟨1, _⟩ =>
        show win0_5.index t 1 * 512 ≤ (i 1).val ∧ (i 1).val < win0_5.index t 1 * 512 + 512
        rw [(idx5 t).2]; omega

theorem blk4 (c : Dev nD) (t : Fin cfg0.N) (a b : Nat) (ha : a < 64) (hb : b < 3584) :
    at3 (iblk m c 4 t : S1x64x3584.Idx → EReal) 0 a b = at3 (A4 m c) 0 (min t.val 31 * 64 + a) b := by
  refine (at3_of (iblk m c 4 t : S1x64x3584.Idx → EReal) (ix3 0 ⟨a, ha⟩ ⟨b, hb⟩) rfl rfl rfl).symm.trans ?_
  unfold iblk
  rw [View.read_apply]
  refine at3_of (A4 m c) _ ?_ ?_ ?_
  · show win0_4.index t 0 * 1 + 1 * 0 = _; rw [(idx4 t).1]
  · show win0_4.index t 1 * 64 + 1 * a = _; rw [(idx4 t).2.1]; omega
  · show win0_4.index t 2 * 3584 + 1 * b = _; rw [(idx4 t).2.2]; omega

/-- What one grid point writes back of the second result is its slab of the weights. -/
theorem flushed_eq6 (c : Dev nD) (t : Fin cfg0.N) : (dats m 0 c).flushed 6 t
    = ((cfg0.win 6).blk t).view.read (Elt Ideal) (W (A4 m c)) := by
  show (cfg0.win 6).cut (grid0.coords t) ((dats m 0 c).after 6 t) = _
  rw [after0_6]
  refine funext fun (y : S64x3584.Idx) => ?_
  have h0 : (y 0).val < 64 := (y 0).isLt
  have h1 : (y 1).val < 3584 := (y 1).isLt
  have hr : (((cfg0.win 6).blk t).view.emb y 0).val = min t.val 31 * 64 + (y 0).val := by
    show win0_6.index t 0 * 64 + 1 * (y 0).val = _; rw [(idx6 t).1]; omega
  have hc : (((cfg0.win 6).blk t).view.emb y 1).val = (y 1).val := by
    show win0_6.index t 1 * 3584 + 1 * (y 1).val = _; rw [(idx6 t).2]; omega
  refine Eq.trans ?_ (congrArg₂ (at3 (A4 m c) 0) hr hc).symm
  exact (copy_at (iblk m c 4 t) y).trans (blk4 m c t _ _ h0 h1)

/-- The second result array after the run. -/
theorem final6 (c : Dev nD) : (dats m 0 c).arrAt 6 cfg0.N = W (A4 m c) :=
  (dats m 0 c).arrAt_eq_of_cover 6 (W (A4 m c)) (fun t _ => flushed_eq6 m c t)
    fun (i : S2048x3584.Idx) => by
      have h0 : (i 0).val < 2048 := (i 0).isLt
      have h1 : (i 1).val < 3584 := (i 1).isLt
      have hN : cfg0.N = 36 := N_0
      have hex : ∃ t : Fin cfg0.N, (t.val < 31 ∨ t.val = 35) ∧ min t.val 31 = (i 0).val / 64 := by
        by_cases h : (i 0).val / 64 < 31
        · exact ⟨⟨(i 0).val / 64, by omega⟩, Or.inl h, by show min ((i 0).val / 64) 31 = _; omega⟩
        · exact ⟨⟨35, by omega⟩, Or.inr rfl, by show min 35 31 = _; omega⟩
      obtain ⟨t, hf, ht⟩ := hex
      refine ⟨t, flushes6 t hf, ?_⟩
      show i ∈ ((View.whole main_v0_1).slice (win0_6.rect t)).set
      rw [View.set_slice_whole, Rect.mem_set_unit]
      intro a
      match a with
      | ⟨0, _⟩ =>
        show win0_6.index t 0 * 64 ≤ (i 0).val ∧ (i 0).val < win0_6.index t 0 * 64 + 64
        rw [(idx6 t).1]; omega
      | ⟨1, _⟩ =>
        show win0_6.index t 1 * 3584 ≤ (i 1).val ∧ (i 1).val < win0_6.index t 1 * 3584 + 3584
        rw [(idx6 t).2]; omega

/-- The kernel's run: the result arrays named, the arguments unchanged. -/
theorem run : θ_run defs (onTc (τ := τ) (main (F := Ideal))) ⟨m, fun _ => 0, ρ⟩ fun r => ∀ c : Dev nD,
      r.2.mem ((c : Thread nD τ).loc main_v0_0) = G (A0 m c) (A1 m c) (A2 m c) (A3 m c)
      ∧ r.2.mem ((c : Thread nD τ).loc main_v0_1) = W (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.2 c).1 5).trans (final5 m c), ((h.2 c).1 6).trans (final6 m c), h.1 c⟩)
    (θ_run_and (unchanged m ρ) (run_main m ρ))

/-! ## The reference -/

open Cert.Reference8Ideal.Read in
/-- The gates, one row per row of the residual stream. -/
theorem gate_at (x3 : S8x9x1x2048.Idx → EReal) (i : S9216x2048.Idx) :
    (val_main_v7 (F := Ideal) x3 i : EReal) = at4 x3 ((i 0).val / 2048) 2 0 (i 1).val := by
  have h0 : (i 0).val < 9216 := (i 0).isLt
  have h1 : (i 1).val < 2048 := (i 1).isLt
  unfold val_main_v7
  by_cases hi : (i 0).val < 8192
  · refine (join_upper _ _ _ i hi).trans ?_
    rw [val_main_v3_apply, val_main_v2_apply, val_main_v1_apply, val_main_v0_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v6_apply, val_main_v5_apply, val_main_v4_apply]
    refine at4_of x3 _ ?_ rfl rfl ?_
    · show 4 + 0 = _; omega
    · show (0 * 2048 + (i 1).val) % 2048 = _; omega

open Cert.Reference8Ideal.Read in
/-- The reference's result is the same array. -/
theorem ref_eq (x0 : S9216x5632.Idx → EReal) (x1 : S5632x2048.Idx → EReal) (x2 : S9216x2048.Idx → EReal)
    (x3 : S8x9x1x2048.Idx → EReal) : val_main_v12 (F := Ideal) x0 x1 x2 x3 = G x0 x1 x2 x3 := by
  refine funext fun (i : S9216x2048.Idx) => ?_
  rw [val_main_v12_apply, val_main_v11_apply, val_main_v9_apply, val_main_v10_apply, gate_at]
  refine congrArg₂ (· + ·) (at2_of x2 i rfl rfl) (congrArg₂ (· * ·) ?_ (Finset.sum_congr rfl fun k _ =>
    congrArg₂ (· * ·) (at2_of x0 _ rfl rfl) (at2_of x1 _ rfl rfl)))
  refine congrArg (fun z : EReal => z * _) ?_
  rw [val_main_v8_apply, val_main_cst_apply]
  rfl

open Cert.Reference8Ideal.Read in
/-- The reference's second result is the same array. -/
theorem ref_eq_copy (x4 : S4x2048x3584.Idx → EReal) : val_main_v15 (F := Ideal) x4 = W x4 := by
  refine funext fun (i : S2048x3584.Idx) => ?_
  have h0 : (i 0).val < 2048 := (i 0).isLt
  have h1 : (i 1).val < 3584 := (i 1).isLt
  rw [val_main_v15_apply, val_main_v14_apply, val_main_v13_apply]
  refine at3_of x4 _ rfl ?_ ?_
  · show ((i 0).val * 3584 + (i 1).val) / 3584 % 2048 = _; omega
  · show ((i 0).val * 3584 + (i 1).val) % 3584 = _; omega

end Cert.Proof.FfnB8

end
-- ==== Proof.ProjBodyIdeal.lean ====
/-
  Hand-written. The input projection's body at a grid point, run on any buffers: the block it leaves of the product, the 256 rows of the
  next tile it normalizes into the carried buffer, and the copy of its tile it leaves for the second result. Three cases: the first point,
  which first copies the first operand into the carried buffer; the other first points of a tile, which copy the tile out; the rest.
-/
module

public import proofs.«01_k».proof.Proof.Gen.Kernel9Ideal.Frame
public import proofs.«01_k».proof.Proof.Gen.Kernel9Ideal.Skeleton
public import Idealize.ShloMosaic.Lib.WritesUnit
public import Idealize.ShloMosaic.Lib.Claim
public import Idealize.ShloMosaic.Lib.ValueIdx
public import Idealize.ShloMosaic.Lib.Pipeline.Value

@[expose] public section

set_option maxRecDepth 16384

noncomputable section

namespace Cert.Kernel9Ideal.Hand

open Cert.Kernel9Ideal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first `scf.if`: the grid's first point. -/
abbrev cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The first condition holds at the grid's first point only. -/
theorem cond1_iff : ∀ i : grid0.Coords, cond1 i = 1#1 ↔ (i 0).val = 0 ∧ (i 1).val = 0 := by decide +kernel
/-- The second holds at a tile's first point. -/
theorem cond2_iff : ∀ i : grid0.Coords, k0_cond2 i = 1#1 ↔ (i 1).val = 0 := by decide +kernel
/-- The slot that the tile is read from. -/
theorem off1_eq : ∀ i : grid0.Coords, k0_off1 i = ![(i 0).val % 2, 0, 0] := by decide +kernel
/-- The slot that the copied tile is read from. -/
theorem off2_eq : ∀ i : grid0.Coords, k0_off2 i = ![(i 0).val % 2, 0, 0] := by decide +kernel
/-- Where chunk 0 is stored. -/
theorem off4_eq : ∀ i : grid0.Coords, k0_off4 i = ![1 - (i 0).val % 2, 256 * min (i 1).val 5, 0] := by decide +kernel
/-- Where chunk 1 is stored. -/
theorem off5_eq : ∀ i : grid0.Coords, k0_off5 i = ![1 - (i 0).val % 2, 256 * min (i 1).val 5 + 16, 0] := by decide +kernel
/-- Where chunk 2 is stored. -/
theorem off6_eq : ∀ i : grid0.Coords, k0_off6 i = ![1 - (i 0).val % 2, 256 * min (i 1).val 5 + 32, 0] := by decide +kernel
/-- Where chunk 3 is stored. -/
theorem off7_eq : ∀ i : grid0.Coords, k0_off7 i = ![1 - (i 0).val % 2, 256 * min (i 1).val 5 + 48, 0] := by decide +kernel
/-- Where chunk 4 is stored. -/
theorem off8_eq : ∀ i : grid0.Coords, k0_off8 i = ![1 - (i 0).val % 2, 256 * min (i 1).val 5 + 64, 0] := by decide +kernel
/-- Where chunk 5 is stored. -/
theorem off9_eq : ∀ i : grid0.Coords, k0_off9 i = ![1 - (i 0).val % 2, 256 * min (i 1).val 5 + 80, 0] := by decide +kernel
/-- Where chunk 6 is stored. -/
theorem off10_eq : ∀ i : grid0.Coords, k0_off10 i = ![1 - (i 0).val % 2, 256 * min (i 1).val 5 + 96, 0] := by decide +kernel
/-- Where chunk 7 is stored. -/
theorem off11_eq : ∀ i : grid0.Coords, k0_off11 i = ![1 - (i 0).val % 2, 256 * min (i 1).val 5 + 112, 0] := by decide +kernel
/-- Where chunk 8 is stored. -/
theorem off12_eq : ∀ i : grid0.Coords, k0_off12 i = ![1 - (i 0).val % 2, 256 * min (i 1).val 5 + 128, 0] := by decide +kernel
/-- Where chunk 9 is stored. -/
theorem off13_eq : ∀ i : grid0.Coords, k0_off13 i = ![1 - (i 0).val % 2, 256 * min (i 1).val 5 + 144, 0] := by decide +kernel
/-- Where chunk 10 is stored. -/
theorem off14_eq : ∀ i : grid0.Coords, k0_off14 i = ![1 - (i 0).val % 2, 256 * min (i 1).val 5 + 160, 0] := by decide +kernel
/-- Where chunk 11 is stored. -/
theorem off15_eq : ∀ i : grid0.Coords, k0_off15 i = ![1 - (i 0).val % 2, 256 * min (i 1).val 5 + 176, 0] := by decide +kernel
/-- Where chunk 12 is stored. -/
theorem off16_eq : ∀ i : grid0.Coords, k0_off16 i = ![1 - (i 0).val % 2, 256 * min (i 1).val 5 + 192, 0] := by decide +kernel
/-- Where chunk 13 is stored. -/
theorem off17_eq : ∀ i : grid0.Coords, k0_off17 i = ![1 - (i 0).val % 2, 256 * min (i 1).val 5 + 208, 0] := by decide +kernel
/-- Where chunk 14 is stored. -/
theorem off18_eq : ∀ i : grid0.Coords, k0_off18 i = ![1 - (i 0).val % 2, 256 * min (i 1).val 5 + 224, 0] := by decide +kernel
/-- Where chunk 15 is stored. -/
theorem off19_eq : ∀ i : grid0.Coords, k0_off19 i = ![1 - (i 0).val % 2, 256 * min (i 1).val 5 + 240, 0] := by decide +kernel

/-! ## What the body leaves in the scratch tile -/

/-- Rows `16 k … 16 k + 15` of a 256-row block. -/
def chunk (x : Vec F S256x2048 .f32) (k : Fin 16) : Vec F S16x2048 .f32 := fun z =>
  x (ix2 ⟨16 * k.val + (z 0).val, by have h : (z 0).val < 16 := (z 0).isLt; omega⟩ (z 1))

/-- Sixteen rows normalized and modulated: the block's scale and shift, and the rows' own statistics. -/
def piece (x1 : Vec F S256x2048 .f32) (x2 : Vec F S1x2048 .f32) (x3 x4 : Vec F S1x1x1x2048 .f32) (k : Fin 16) :
    Vec F S1x16x2048 .bf16 :=
  k0_pay1 (k0_pay7 (k0_pay6 x2) x4) (k0_pay8 x3) (chunk x1 k) (k0_pay9 (chunk x1 k))

/-- The contents `d'` are `b` with the 256 rows of the other slot that the point normalizes replaced. -/
def Upd (i : grid0.Coords) (P : Fin 16 → Vec F S1x16x2048 .bf16) (b d' : Vec F S2x1536x2048 .bf16) : Prop :=
  (∀ (k : Fin 16) (z : S1x16x2048.Idx) (y : S2x1536x2048.Idx), (y 0).val = 1 - (i 0).val % 2 →
      (y 1).val = 256 * min (i 1).val 5 + 16 * k.val + (z 1).val → (y 2).val = (z 2).val → d' y = P k z)
  ∧ ∀ y : S2x1536x2048.Idx, ((y 0).val ≠ 1 - (i 0).val % 2 ∨ (y 1).val < 256 * min (i 1).val 5
      ∨ 256 * min (i 1).val 5 + 256 ≤ (y 1).val) → d' y = b y

/-- A stored chunk reads back as stored. -/
theorem hit (v : View sig .tc .vmem S2x1536x2048 .bf16) (f : v.ty.Contents (Elt F)) (L : List (View.Piece (Elt F) S2x1536x2048 .bf16))
    (off : Fin 3 → ℕ) (inb : ∀ a, off a + S1x16x2048.size a ≤ S2x1536x2048.size a) (p q : ℕ) (w : S1x16x2048.Idx → Elt F .bf16)
    (hoff : off = ![p, q, 0]) (z : S1x16x2048.Idx) (y : S2x1536x2048.Idx) (h0 : (y 0).val = p) (h1 : (y 1).val = q + (z 1).val)
    (h2 : (y 2).val = (z 2).val) :
    v.read (Elt F) (v.writes (Elt F) f (⟨Rect.unit (s := S2x1536x2048) off S1x16x2048.size inb, w⟩ :: L)) y = w z := by
  refine View.read_writes_cons_unit_of_mem v f inb w L y z hoff fun a => ?_
  match a with
  | ⟨0, _⟩ => have hz : (z 0).val < 1 := (z 0).isLt; show (y 0).val = p + (z 0).val; omega
  | ⟨1, _⟩ => exact h1
  | ⟨2, _⟩ => show (y 2).val = 0 + (z 2).val; omega

/-- Outside a stored chunk nothing changes. -/
theorem miss (v : View sig .tc .vmem S2x1536x2048 .bf16) (f : v.ty.Contents (Elt F)) (L : List (View.Piece (Elt F) S2x1536x2048 .bf16))
    (off : Fin 3 → ℕ) (inb : ∀ a, off a + S1x16x2048.size a ≤ S2x1536x2048.size a) (p q : ℕ) (w : S1x16x2048.Idx → Elt F .bf16)
    (hoff : off = ![p, q, 0]) (y : S2x1536x2048.Idx) (h : (y 0).val ≠ p ∨ (y 1).val < q ∨ q + 16 ≤ (y 1).val) :
    v.read (Elt F) (v.writes (Elt F) f (⟨Rect.unit (s := S2x1536x2048) off S1x16x2048.size inb, w⟩ :: L)) y
      = v.read (Elt F) (v.writes (Elt F) f L) y := by
  by_cases h0 : (y 0).val = p
  · refine View.read_writes_cons_unit_of_not_mem v f inb w L y hoff 1 ?_
    show (y 1).val < q ∨ q + 16 ≤ (y 1).val
    rcases h with h | h
    · exact absurd h0 h
    · exact h
  · refine View.read_writes_cons_unit_of_not_mem v f inb w L y hoff 0 ?_
    show (y 0).val < p ∨ p + 1 ≤ (y 0).val
    omega

/-- Sixteen stores of sixteen rows, one after the other, replace the point's 256 rows. -/
theorem upd16 (v : View sig .tc .vmem S2x1536x2048 .bf16) (f : v.ty.Contents (Elt F)) (L : List (View.Piece (Elt F) S2x1536x2048 .bf16))
    (i : grid0.Coords) (P : Fin 16 → Vec F S1x16x2048 .bf16) (w0 w1 w2 w3 w4 w5 w6 w7 w8 w9 w10 w11 w12 w13 w14 w15 : S1x16x2048.Idx → Elt F .bf16)
    (h0 : w0 = P 0) (h1 : w1 = P 1) (h2 : w2 = P 2) (h3 : w3 = P 3) (h4 : w4 = P 4) (h5 : w5 = P 5) (h6 : w6 = P 6) (h7 : w7 = P 7) (h8 : w8 = P 8) (h9 : w9 = P 9) (h10 : w10 = P 10) (h11 : w11 = P 11) (h12 : w12 = P 12) (h13 : w13 = P 13) (h14 : w14 = P 14) (h15 : w15 = P 15) :
    Upd i P (v.read (Elt F) (v.writes (Elt F) f L)) (v.read (Elt F) (v.writes (Elt F) f
      (⟨Rect.unit (s := S2x1536x2048) (k0_off19 i) S1x16x2048.size (k0_off19_inb i), w15⟩
        :: ⟨Rect.unit (s := S2x1536x2048) (k0_off18 i) S1x16x2048.size (k0_off18_inb i), w14⟩
        :: ⟨Rect.unit (s := S2x1536x2048) (k0_off17 i) S1x16x2048.size (k0_off17_inb i), w13⟩
        :: ⟨Rect.unit (s := S2x1536x2048) (k0_off16 i) S1x16x2048.size (k0_off16_inb i), w12⟩
        :: ⟨Rect.unit (s := S2x1536x2048) (k0_off15 i) S1x16x2048.size (k0_off15_inb i), w11⟩
        :: ⟨Rect.unit (s := S2x1536x2048) (k0_off14 i) S1x16x2048.size (k0_off14_inb i), w10⟩
        :: ⟨Rect.unit (s := S2x1536x2048) (k0_off13 i) S1x16x2048.size (k0_off13_inb i), w9⟩
        :: ⟨Rect.unit (s := S2x1536x2048) (k0_off12 i) S1x16x2048.size (k0_off12_inb i), w8⟩
        :: ⟨Rect.unit (s := S2x1536x2048) (k0_off11 i) S1x16x2048.size (k0_off11_inb i), w7⟩
        :: ⟨Rect.unit (s := S2x1536x2048) (k0_off10 i) S1x16x2048.size (k0_off10_inb i), w6⟩
        :: ⟨Rect.unit (s := S2x1536x2048) (k0_off9 i) S1x16x2048.size (k0_off9_inb i), w5⟩
        :: ⟨Rect.unit (s := S2x1536x2048) (k0_off8 i) S1x16x2048.size (k0_off8_inb i), w4⟩
        :: ⟨Rect.unit (s := S2x1536x2048) (k0_off7 i) S1x16x2048.size (k0_off7_inb i), w3⟩
        :: ⟨Rect.unit (s := S2x1536x2048) (k0_off6 i) S1x16x2048.size (k0_off6_inb i), w2⟩
        :: ⟨Rect.unit (s := S2x1536x2048) (k0_off5 i) S1x16x2048.size (k0_off5_inb i), w1⟩
        :: ⟨Rect.unit (s := S2x1536x2048) (k0_off4 i) S1x16x2048.size (k0_off4_inb i), w0⟩ :: L))) := by
  subst h0 h1 h2 h3 h4 h5 h6 h7 h8 h9 h10 h11 h12 h13 h14 h15
  generalize hq : 256 * min (i 1).val 5 = q
  generalize hp : 1 - (i 0).val % 2 = p
  have e0 := off4_eq i
  have e1 := off5_eq i
  have e2 := off6_eq i
  have e3 := off7_eq i
  have e4 := off8_eq i
  have e5 := off9_eq i
  have e6 := off10_eq i
  have e7 := off11_eq i
  have e8 := off12_eq i
  have e9 := off13_eq i
  have e10 := off14_eq i
  have e11 := off15_eq i
  have e12 := off16_eq i
  have e13 := off17_eq i
  have e14 := off18_eq i
  have e15 := off19_eq i
  rw [hq, hp] at e0 e1 e2 e3 e4 e5 e6 e7 e8 e9 e10 e11 e12 e13 e14 e15
  unfold Upd
  rw [hq, hp]
  constructor
  · intro k z y hy0 hy1 hy2
    have hz : (z 1).val < 16 := (z 1).isLt
    match k, hy1 with
    | ⟨15, _⟩, hy1 =>
      simp only [] at hy1
      exact hit v f _ _ _ p (q + 240) _ e15 z y hy0 (by omega) hy2
    | ⟨14, _⟩, hy1 =>
      simp only [] at hy1
      refine Eq.trans (miss v f _ _ _ p (q + 240) _ e15 y (by omega)) ?_
      exact hit v f _ _ _ p (q + 224) _ e14 z y hy0 (by omega) hy2
    | ⟨13, _⟩, hy1 =>
      simp only [] at hy1
      refine Eq.trans (miss v f _ _ _ p (q + 240) _ e15 y (by omega)) ?_
      refine Eq.trans (miss v f _ _ _ p (q + 224) _ e14 y (by omega)) ?_
      exact hit v f _ _ _ p (q + 208) _ e13 z y hy0 (by omega) hy2
    | ⟨12, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      exact hit v f _ _ _ p (q + 192) _ e12 z y hy0 (by omega) hy2
    | ⟨11, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      exact hit v f _ _ _ p (q + 176) _ e11 z y hy0 (by omega) hy2
    | ⟨10, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      exact hit v f _ _ _ p (q + 160) _ e10 z y hy0 (by omega) hy2
    | ⟨9, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      exact hit v f _ _ _ p (q + 144) _ e9 z y hy0 (by omega) hy2
    | ⟨8, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      exact hit v f _ _ _ p (q + 128) _ e8 z y hy0 (by omega) hy2
    | ⟨7, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      exact hit v f _ _ _ p (q + 112) _ e7 z y hy0 (by omega) hy2
    | ⟨6, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      exact hit v f _ _ _ p (q + 96) _ e6 z y hy0 (by omega) hy2
    | ⟨5, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      refine Eq.trans (miss v f _ _ _ p (q + 96) _ e6 y (by omega)) ?_
      exact hit v f _ _ _ p (q + 80) _ e5 z y hy0 (by omega) hy2
    | ⟨4, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      refine Eq.trans (miss v f _ _ _ p (q + 96) _ e6 y (by omega)) ?_
      refine Eq.trans (miss v f _ _ _ p (q + 80) _ e5 y (by omega)) ?_
      exact hit v f _ _ _ p (q + 64) _ e4 z y hy0 (by omega) hy2
    | ⟨3, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      refine Eq.trans (miss v f _ _ _ p (q + 96) _ e6 y (by omega)) ?_
      refine Eq.trans (miss v f _ _ _ p (q + 80) _ e5 y (by omega)) ?_
      refine Eq.trans (miss v f _ _ _ p (q + 64) _ e4 y (by omega)) ?_
      exact hit v f _ _ _ p (q + 48) _ e3 z y hy0 (by omega) hy2
    | ⟨2, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      refine Eq.trans (miss v f _ _ _ p (q + 96) _ e6 y (by omega)) ?_
      refine Eq.trans (miss v f _ _ _ p (q + 80) _ e5 y (by omega)) ?_
      refine Eq.trans (miss v f _ _ _ p (q + 64) _ e4 y (by omega)) ?_
      refine Eq.trans (miss v f _ _ _ p (q + 48) _ e3 y (by omega)) ?_
      exact hit v f _ _ _ p (q + 32) _ e2 z y hy0 (by omega) hy2
    | ⟨1, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      refine Eq.trans (miss v f _ _ _ p (q + 96) _ e6 y (by omega)) ?_
      refine Eq.trans (miss v f _ _ _ p (q + 80) _ e5 y (by omega)) ?_
      refine Eq.trans (miss v f _ _ _ p (q + 64) _ e4 y (by omega)) ?_
      refine Eq.trans (miss v f _ _ _ p (q + 48) _ e3 y (by omega)) ?_
      refine Eq.trans (miss v f _ _ _ p (q + 32) _ e2 y (by omega)) ?_
      exact hit v f _ _ _ p (q + 16) _ e1 z y hy0 (by omega) hy2
    | ⟨0, _⟩, hy1 =>
      simp only [] at hy1
      refine Eq.trans (miss v f _ _ _ p (q + 240) _ e15 y (by omega)) ?_
      refine Eq.trans (miss v f _ _ _ p (q + 224) _ e14 y (by omega)) ?_
      refine Eq.trans (miss v f _ _ _ p (q + 208) _ e13 y (by omega)) ?_
      refine Eq.trans (miss v f _ _ _ p (q + 192) _ e12 y (by omega)) ?_
      refine Eq.trans (miss v f _ _ _ p (q + 176) _ e11 y (by omega)) ?_
      refine Eq.trans (miss v f _ _ _ p (q + 160) _ e10 y (by omega)) ?_
      refine Eq.trans (miss v f _ _ _ p (q + 144) _ e9 y (by omega)) ?_
      refine Eq.trans (miss v f _ _ _ p (q + 128) _ e8 y (by omega)) ?_
      refine Eq.trans (miss v f _ _ _ p (q + 112) _ e7 y (by omega)) ?_
      refine Eq.trans (miss v f _ _ _ p (q + 96) _ e6 y (by omega)) ?_
      refine Eq.trans (miss v f _ _ _ p (q + 80) _ e5 y (by omega)) ?_
      refine Eq.trans (miss v f _ _ _ p (q + 64) _ e4 y (by omega)) ?_
      refine Eq.trans (miss v f _ _ _ p (q + 48) _ e3 y (by omega)) ?_
      refine Eq.trans (miss v f _ _ _ p (q + 32) _ e2 y (by omega)) ?_
      refine Eq.trans (miss v f _ _ _ p (q + 16) _ e1 y (by omega)) ?_
      exact hit v f _ _ _ p q _ e0 z y hy0 (by omega) hy2
    | ⟨n + 16, h⟩, _ => exact absurd h (by omega)
  · intro y hy
    refine Eq.trans (miss v f _ _ _ p (q + 240) _ e15 y (by omega)) ?_
    refine Eq.trans (miss v f _ _ _ p (q + 224) _ e14 y (by omega)) ?_
    refine Eq.trans (miss v f _ _ _ p (q + 208) _ e13 y (by omega)) ?_
    refine Eq.trans (miss v f _ _ _ p (q + 192) _ e12 y (by omega)) ?_
    refine Eq.trans (miss v f _ _ _ p (q + 176) _ e11 y (by omega)) ?_
    refine Eq.trans (miss v f _ _ _ p (q + 160) _ e10 y (by omega)) ?_
    refine Eq.trans (miss v f _ _ _ p (q + 144) _ e9 y (by omega)) ?_
    refine Eq.trans (miss v f _ _ _ p (q + 128) _ e8 y (by omega)) ?_
    refine Eq.trans (miss v f _ _ _ p (q + 112) _ e7 y (by omega)) ?_
    refine Eq.trans (miss v f _ _ _ p (q + 96) _ e6 y (by omega)) ?_
    refine Eq.trans (miss v f _ _ _ p (q + 80) _ e5 y (by omega)) ?_
    refine Eq.trans (miss v f _ _ _ p (q + 64) _ e4 y (by omega)) ?_
    refine Eq.trans (miss v f _ _ _ p (q + 48) _ e3 y (by omega)) ?_
    refine Eq.trans (miss v f _ _ _ p (q + 32) _ e2 y (by omega)) ?_
    refine Eq.trans (miss v f _ _ _ p (q + 16) _ e1 y (by omega)) ?_
    refine Eq.trans (miss v f _ _ _ p q _ e0 y (by omega)) ?_
    rfl

/-- A load of sixteen rows of the block reads that chunk of it. -/
theorem chunk_of (arg3 : Memref sig .tc .vmem S256x2048 .f32) (harg3 : arg3.IsWhole) (x1 : Vec F S256x2048 .f32) (k : Fin 16) (o : ℕ)
    (ho : o = 16 * k.val) (inb : ∀ a, (![o, 0] : Fin 2 → ℕ) a + S16x2048.size a ≤ S256x2048.size a) :
    View.readAt (Elt F) arg3.view (Rect.unit (s := S256x2048) ![o, 0] S16x2048.size inb).toLoadRect (harg3.unread x1) = chunk x1 k := by
  subst ho
  rw [View.readAt_eq_ld, harg3.read_unread]
  funext z
  refine congrArg x1 (funext fun a => Fin.ext ?_)
  match a with
  | ⟨0, _⟩ => show 16 * k.val + 1 * (z 0).val = 16 * k.val + (z 0).val; omega
  | ⟨1, _⟩ => show 0 + 1 * (z 1).val = (z 1).val; omega

/-- The statistics' stores: sixteen rows each, the last first. -/
def statStores (X : Fin 16 → Vec F S16x1 .f32) : List (View.Piece (Elt F) S256x1 .f32) :=
  [⟨Rect.unit (s := S256x1) ![240, 0] S16x1.size inb_S256x1_S16x1_240_0, X 15⟩,
   ⟨Rect.unit (s := S256x1) ![224, 0] S16x1.size inb_S256x1_S16x1_224_0, X 14⟩,
   ⟨Rect.unit (s := S256x1) ![208, 0] S16x1.size inb_S256x1_S16x1_208_0, X 13⟩,
   ⟨Rect.unit (s := S256x1) ![192, 0] S16x1.size inb_S256x1_S16x1_192_0, X 12⟩,
   ⟨Rect.unit (s := S256x1) ![176, 0] S16x1.size inb_S256x1_S16x1_176_0, X 11⟩,
   ⟨Rect.unit (s := S256x1) ![160, 0] S16x1.size inb_S256x1_S16x1_160_0, X 10⟩,
   ⟨Rect.unit (s := S256x1) ![144, 0] S16x1.size inb_S256x1_S16x1_144_0, X 9⟩,
   ⟨Rect.unit (s := S256x1) ![128, 0] S16x1.size inb_S256x1_S16x1_128_0, X 8⟩,
   ⟨Rect.unit (s := S256x1) ![112, 0] S16x1.size inb_S256x1_S16x1_112_0, X 7⟩,
   ⟨Rect.unit (s := S256x1) ![96, 0] S16x1.size inb_S256x1_S16x1_96_0, X 6⟩,
   ⟨Rect.unit (s := S256x1) ![80, 0] S16x1.size inb_S256x1_S16x1_80_0, X 5⟩,
   ⟨Rect.unit (s := S256x1) ![64, 0] S16x1.size inb_S256x1_S16x1_64_0, X 4⟩,
   ⟨Rect.unit (s := S256x1) ![48, 0] S16x1.size inb_S256x1_S16x1_48_0, X 3⟩,
   ⟨Rect.unit (s := S256x1) ![32, 0] S16x1.size inb_S256x1_S16x1_32_0, X 2⟩,
   ⟨Rect.unit (s := S256x1) ![16, 0] S16x1.size inb_S256x1_S16x1_16_0, X 1⟩,
   ⟨Rect.unit (s := S256x1) ![0, 0] S16x1.size inb_S256x1_S16x1_0_0, X 0⟩]

/-- Two blocks of rows one below the other share no element. -/
theorem apart (o o' : ℕ) (inb : ∀ a, (![o, 0] : Fin 2 → ℕ) a + S16x1.size a ≤ S256x1.size a)
    (inb' : ∀ a, (![o', 0] : Fin 2 → ℕ) a + S16x1.size a ≤ S256x1.size a) (h : o' + 16 ≤ o) :
    Disjoint (Rect.unit (s := S256x1) ![o, 0] S16x1.size inb).set (Rect.unit (s := S256x1) ![o', 0] S16x1.size inb').toLoadRect.set := by
  rw [Finset.disjoint_left]
  intro y hy hy'
  have h1 : o ≤ (y 0).val := ((Rect.mem_set_unit).mp hy 0).1
  have h2 : (y 0).val < o' + 16 := ((Rect.mem_set_unit).mp hy' 0).2
  omega

/-- A later chunk's statistics leave an earlier chunk's alone. -/
theorem skip (v : View sig .tc .vmem S256x1 .f32) (o o' : ℕ) (inb : ∀ a, (![o, 0] : Fin 2 → ℕ) a + S16x1.size a ≤ S256x1.size a)
    (inb' : ∀ a, (![o', 0] : Fin 2 → ℕ) a + S16x1.size a ≤ S256x1.size a) (w : Vec F S16x1 .f32) (L : List (View.Piece (Elt F) S256x1 .f32))
    (h : o' + 16 ≤ o) :
    v.readCov (⟨Rect.unit (s := S256x1) ![o, 0] S16x1.size inb, w⟩ :: L) (Rect.unit (s := S256x1) ![o', 0] S16x1.size inb').toLoadRect
      = v.readCov L (Rect.unit (s := S256x1) ![o', 0] S16x1.size inb').toLoadRect :=
  View.readCov_cons_of_disjoint v ⟨Rect.unit (s := S256x1) ![o, 0] S16x1.size inb, w⟩ _ _ (apart o o' inb inb' h)

/-- A load of the statistics of a chunk reads what the chunk's store left: the later stores lie below. -/
theorem cov (v : View sig .tc .vmem S256x1 .f32) (X : Fin 16 → Vec F S16x1 .f32) (k : Fin 16) (o : ℕ) (ho : o = 16 * k.val)
    (inb : ∀ a, (![o, 0] : Fin 2 → ℕ) a + S16x1.size a ≤ S256x1.size a) :
    v.readCov (statStores X) (Rect.unit (s := S256x1) ![o, 0] S16x1.size inb).toLoadRect = X k := by
  unfold statStores
  match k, ho, inb with
  | ⟨0, _⟩, ho, inb =>
    obtain rfl : o = 0 := ho
    iterate 15 refine Eq.trans (skip v _ _ _ _ _ _ (by decide)) ?_
    exact View.readCov_cons_toLoadRect v _ _ _
  | ⟨1, _⟩, ho, inb =>
    obtain rfl : o = 16 := ho
    iterate 14 refine Eq.trans (skip v _ _ _ _ _ _ (by decide)) ?_
    exact View.readCov_cons_toLoadRect v _ _ _
  | ⟨2, _⟩, ho, inb =>
    obtain rfl : o = 32 := ho
    iterate 13 refine Eq.trans (skip v _ _ _ _ _ _ (by decide)) ?_
    exact View.readCov_cons_toLoadRect v _ _ _
  | ⟨3, _⟩, ho, inb =>
    obtain rfl : o = 48 := ho
    iterate 12 refine Eq.trans (skip v _ _ _ _ _ _ (by decide)) ?_
    exact View.readCov_cons_toLoadRect v _ _ _
  | ⟨4, _⟩, ho, inb =>
    obtain rfl : o = 64 := ho
    iterate 11 refine Eq.trans (skip v _ _ _ _ _ _ (by decide)) ?_
    exact View.readCov_cons_toLoadRect v _ _ _
  | ⟨5, _⟩, ho, inb =>
    obtain rfl : o = 80 := ho
    iterate 10 refine Eq.trans (skip v _ _ _ _ _ _ (by decide)) ?_
    exact View.readCov_cons_toLoadRect v _ _ _
  | ⟨6, _⟩, ho, inb =>
    obtain rfl : o = 96 := ho
    iterate 9 refine Eq.trans (skip v _ _ _ _ _ _ (by decide)) ?_
    exact View.readCov_cons_toLoadRect v _ _ _
  | ⟨7, _⟩, ho, inb =>
    obtain rfl : o = 112 := ho
    iterate 8 refine Eq.trans (skip v _ _ _ _ _ _ (by decide)) ?_
    exact View.readCov_cons_toLoadRect v _ _ _
  | ⟨8, _⟩, ho, inb =>
    obtain rfl : o = 128 := ho
    iterate 7 refine Eq.trans (skip v _ _ _ _ _ _ (by decide)) ?_
    exact View.readCov_cons_toLoadRect v _ _ _
  | ⟨9, _⟩, ho, inb =>
    obtain rfl : o = 144 := ho
    iterate 6 refine Eq.trans (skip v _ _ _ _ _ _ (by decide)) ?_
    exact View.readCov_cons_toLoadRect v _ _ _
  | ⟨10, _⟩, ho, inb =>
    obtain rfl : o = 160 := ho
    iterate 5 refine Eq.trans (skip v _ _ _ _ _ _ (by decide)) ?_
    exact View.readCov_cons_toLoadRect v _ _ _
  | ⟨11, _⟩, ho, inb =>
    obtain rfl : o = 176 := ho
    iterate 4 refine Eq.trans (skip v _ _ _ _ _ _ (by decide)) ?_
    exact View.readCov_cons_toLoadRect v _ _ _
  | ⟨12, _⟩, ho, inb =>
    obtain rfl : o = 192 := ho
    iterate 3 refine Eq.trans (skip v _ _ _ _ _ _ (by decide)) ?_
    exact View.readCov_cons_toLoadRect v _ _ _
  | ⟨13, _⟩, ho, inb =>
    obtain rfl : o = 208 := ho
    iterate 2 refine Eq.trans (skip v _ _ _ _ _ _ (by decide)) ?_
    exact View.readCov_cons_toLoadRect v _ _ _
  | ⟨14, _⟩, ho, inb =>
    obtain rfl : o = 224 := ho
    iterate 1 refine Eq.trans (skip v _ _ _ _ _ _ (by decide)) ?_
    exact View.readCov_cons_toLoadRect v _ _ _
  | ⟨15, _⟩, ho, inb =>
    obtain rfl : o = 240 := ho
    exact View.readCov_cons_toLoadRect v _ _ _
  | ⟨n + 16, h⟩, _, _ => exact absurd h (by omega)

/-- A load of the whole of a one-row operand reads it. -/
theorem whole2 (a : Memref sig .tc .vmem S1x2048 .f32) (h : a.IsWhole) (x : Vec F S1x2048 .f32) :
    View.readAt (Elt F) a.view (Rect.unit (s := S1x2048) ![0, 0] S1x2048.size inb_S1x2048_S1x2048_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

/-- A whole modulation row, loaded. -/
theorem whole4 (a : Memref sig .tc .vmem S1x1x1x2048 .f32) (h : a.IsWhole) (x : Vec F S1x1x1x2048 .f32) :
    View.readAt (Elt F) a.view (Rect.unit (s := S1x1x1x2048) ![0, 0, 0, 0] S1x1x1x2048.size inb_S1x1x1x2048_S1x1x1x2048_0_0_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega
  | ⟨3, _⟩ => show 0 + 1 * (z 3).val = (z 3).val; omega

/-- The whole first operand, loaded. -/
theorem whole2' (a : Memref sig .tc .vmem S1536x2048 .bf16) (h : a.IsWhole) (x : Vec F S1536x2048 .bf16) :
    View.readAt (Elt F) a.view (Rect.unit (s := S1536x2048) ![0, 0] S1536x2048.size inb_S1536x2048_S1536x2048_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

/-- The whole block of weights, loaded. -/
theorem wholeW (a : Memref sig .tc .vmem S2048x512 .bf16) (h : a.IsWhole) (x : Vec F S2048x512 .bf16) :
    View.readAt (Elt F) a.view (Rect.unit (s := S2048x512) ![0, 0] S2048x512.size inb_S2048x512_S2048x512_0_0).toLoadRect (h.unread x) = x := by
  rw [View.readAt_eq_ld, h.read_unread]
  funext z
  refine congrArg x (funext fun a => Fin.ext ?_)
  match a with
  | ⟨0, _⟩ => show 0 + 1 * (z 0).val = (z 0).val; omega
  | ⟨1, _⟩ => show 0 + 1 * (z 1).val = (z 1).val; omega

/-- A chunk's payload, as the run spells it, is its piece: the operands are read whole, the statistics a store left are read back. -/
theorem one (arg3 : Memref sig .tc .vmem S256x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (v : View sig .tc .vmem S256x1 .f32)
    (x1 : Vec F S256x2048 .f32) (x2 : Vec F S1x2048 .f32) (x3 x4 : Vec F S1x1x1x2048 .f32) (k : Fin 16) (o : ℕ) (ho : o = 16 * k.val)
    (inb : ∀ a, (![o, 0] : Fin 2 → ℕ) a + S16x2048.size a ≤ S256x2048.size a)
    (inb' : ∀ a, (![o, 0] : Fin 2 → ℕ) a + S16x1.size a ≤ S256x1.size a) (L : List (View.Piece (Elt F) S256x1 .f32))
    (hL : L = statStores fun k => k0_pay9 (chunk x1 k)) :
    k0_pay1 (k0_pay7 (k0_pay6 (View.readAt (Elt F) arg4.view (Rect.unit (s := S1x2048) ![0, 0] S1x2048.size inb_S1x2048_S1x2048_0_0).toLoadRect (harg4.unread x2)))
        (View.readAt (Elt F) arg6.view (Rect.unit (s := S1x1x1x2048) ![0, 0, 0, 0] S1x1x1x2048.size inb_S1x1x1x2048_S1x1x1x2048_0_0_0_0).toLoadRect (harg6.unread x4)))
      (k0_pay8 (View.readAt (Elt F) arg5.view (Rect.unit (s := S1x1x1x2048) ![0, 0, 0, 0] S1x1x1x2048.size inb_S1x1x1x2048_S1x1x1x2048_0_0_0_0).toLoadRect (harg5.unread x3)))
      (View.readAt (Elt F) arg3.view (Rect.unit (s := S256x2048) ![o, 0] S16x2048.size inb).toLoadRect (harg3.unread x1))
      (v.readCov L (Rect.unit (s := S256x1) ![o, 0] S16x1.size inb').toLoadRect) = piece x1 x2 x3 x4 k := by
  rw [whole2, whole4, whole4, chunk_of arg3 harg3 x1 k o ho inb, hL, cov v _ k o ho inb']; rfl

/-- The statistics' stores with each payload read off its rows are the statistics of the chunks. -/
theorem stat_of (arg3 : Memref sig .tc .vmem S256x2048 .f32) (harg3 : arg3.IsWhole) (x1 : Vec F S256x2048 .f32) :
    ([⟨Rect.unit (s := S256x1) ![240, 0] S16x1.size inb_S256x1_S16x1_240_0, k0_pay9 (View.readAt (Elt F) arg3.view (Rect.unit (s := S256x2048) ![240, 0] S16x2048.size inb_S256x2048_S16x2048_240_0).toLoadRect (harg3.unread x1))⟩,
      ⟨Rect.unit (s := S256x1) ![224, 0] S16x1.size inb_S256x1_S16x1_224_0, k0_pay9 (View.readAt (Elt F) arg3.view (Rect.unit (s := S256x2048) ![224, 0] S16x2048.size inb_S256x2048_S16x2048_224_0).toLoadRect (harg3.unread x1))⟩,
      ⟨Rect.unit (s := S256x1) ![208, 0] S16x1.size inb_S256x1_S16x1_208_0, k0_pay9 (View.readAt (Elt F) arg3.view (Rect.unit (s := S256x2048) ![208, 0] S16x2048.size inb_S256x2048_S16x2048_208_0).toLoadRect (harg3.unread x1))⟩,
      ⟨Rect.unit (s := S256x1) ![192, 0] S16x1.size inb_S256x1_S16x1_192_0, k0_pay9 (View.readAt (Elt F) arg3.view (Rect.unit (s := S256x2048) ![192, 0] S16x2048.size inb_S256x2048_S16x2048_192_0).toLoadRect (harg3.unread x1))⟩,
      ⟨Rect.unit (s := S256x1) ![176, 0] S16x1.size inb_S256x1_S16x1_176_0, k0_pay9 (View.readAt (Elt F) arg3.view (Rect.unit (s := S256x2048) ![176, 0] S16x2048.size inb_S256x2048_S16x2048_176_0).toLoadRect (harg3.unread x1))⟩,
      ⟨Rect.unit (s := S256x1) ![160, 0] S16x1.size inb_S256x1_S16x1_160_0, k0_pay9 (View.readAt (Elt F) arg3.view (Rect.unit (s := S256x2048) ![160, 0] S16x2048.size inb_S256x2048_S16x2048_160_0).toLoadRect (harg3.unread x1))⟩,
      ⟨Rect.unit (s := S256x1) ![144, 0] S16x1.size inb_S256x1_S16x1_144_0, k0_pay9 (View.readAt (Elt F) arg3.view (Rect.unit (s := S256x2048) ![144, 0] S16x2048.size inb_S256x2048_S16x2048_144_0).toLoadRect (harg3.unread x1))⟩,
      ⟨Rect.unit (s := S256x1) ![128, 0] S16x1.size inb_S256x1_S16x1_128_0, k0_pay9 (View.readAt (Elt F) arg3.view (Rect.unit (s := S256x2048) ![128, 0] S16x2048.size inb_S256x2048_S16x2048_128_0).toLoadRect (harg3.unread x1))⟩,
      ⟨Rect.unit (s := S256x1) ![112, 0] S16x1.size inb_S256x1_S16x1_112_0, k0_pay9 (View.readAt (Elt F) arg3.view (Rect.unit (s := S256x2048) ![112, 0] S16x2048.size inb_S256x2048_S16x2048_112_0).toLoadRect (harg3.unread x1))⟩,
      ⟨Rect.unit (s := S256x1) ![96, 0] S16x1.size inb_S256x1_S16x1_96_0, k0_pay9 (View.readAt (Elt F) arg3.view (Rect.unit (s := S256x2048) ![96, 0] S16x2048.size inb_S256x2048_S16x2048_96_0).toLoadRect (harg3.unread x1))⟩,
      ⟨Rect.unit (s := S256x1) ![80, 0] S16x1.size inb_S256x1_S16x1_80_0, k0_pay9 (View.readAt (Elt F) arg3.view (Rect.unit (s := S256x2048) ![80, 0] S16x2048.size inb_S256x2048_S16x2048_80_0).toLoadRect (harg3.unread x1))⟩,
      ⟨Rect.unit (s := S256x1) ![64, 0] S16x1.size inb_S256x1_S16x1_64_0, k0_pay9 (View.readAt (Elt F) arg3.view (Rect.unit (s := S256x2048) ![64, 0] S16x2048.size inb_S256x2048_S16x2048_64_0).toLoadRect (harg3.unread x1))⟩,
      ⟨Rect.unit (s := S256x1) ![48, 0] S16x1.size inb_S256x1_S16x1_48_0, k0_pay9 (View.readAt (Elt F) arg3.view (Rect.unit (s := S256x2048) ![48, 0] S16x2048.size inb_S256x2048_S16x2048_48_0).toLoadRect (harg3.unread x1))⟩,
      ⟨Rect.unit (s := S256x1) ![32, 0] S16x1.size inb_S256x1_S16x1_32_0, k0_pay9 (View.readAt (Elt F) arg3.view (Rect.unit (s := S256x2048) ![32, 0] S16x2048.size inb_S256x2048_S16x2048_32_0).toLoadRect (harg3.unread x1))⟩,
      ⟨Rect.unit (s := S256x1) ![16, 0] S16x1.size inb_S256x1_S16x1_16_0, k0_pay9 (View.readAt (Elt F) arg3.view (Rect.unit (s := S256x2048) ![16, 0] S16x2048.size inb_S256x2048_S16x2048_16_0).toLoadRect (harg3.unread x1))⟩,
      ⟨Rect.unit (s := S256x1) ![0, 0] S16x1.size inb_S256x1_S16x1_0_0, k0_pay9 (View.readAt (Elt F) arg3.view (Rect.unit (s := S256x2048) ![0, 0] S16x2048.size inb_S256x2048_S16x2048_0_0).toLoadRect (harg3.unread x1))⟩]
        : List (View.Piece (Elt F) S256x1 .f32))
      = statStores fun k => k0_pay9 (chunk x1 k) := by
  rw [chunk_of arg3 harg3 x1 15 240 rfl, chunk_of arg3 harg3 x1 14 224 rfl, chunk_of arg3 harg3 x1 13 208 rfl, chunk_of arg3 harg3 x1 12 192 rfl, chunk_of arg3 harg3 x1 11 176 rfl, chunk_of arg3 harg3 x1 10 160 rfl, chunk_of arg3 harg3 x1 9 144 rfl, chunk_of arg3 harg3 x1 8 128 rfl, chunk_of arg3 harg3 x1 7 112 rfl, chunk_of arg3 harg3 x1 6 96 rfl, chunk_of arg3 harg3 x1 5 80 rfl, chunk_of arg3 harg3 x1 4 64 rfl, chunk_of arg3 harg3 x1 3 48 rfl, chunk_of arg3 harg3 x1 2 32 rfl, chunk_of arg3 harg3 x1 1 16 rfl, chunk_of arg3 harg3 x1 0 0 rfl]
  rfl

/-- The slot a point multiplies. -/
def slotOf (b : Vec F S2x1536x2048 .bf16) (n : ℕ) : Vec F S1x1536x2048 .bf16 := fun z =>
  b (ix3 ⟨n % 2, Nat.mod_lt _ (by decide)⟩ (z 1) (z 2))

/-- A loaded slot is the carried buffer's slot. -/
theorem slot_load (arg10 : Memref sig .tc .vmem S2x1536x2048 .bf16) (f : arg10.view.ty.Contents (Elt F)) (n : ℕ) (off : Fin 3 → ℕ)
    (inb : ∀ a, off a + S1x1536x2048.size a ≤ S2x1536x2048.size a) (h : off = ![n % 2, 0, 0]) :
    View.readAt (Elt F) arg10.view (Rect.unit (s := S2x1536x2048) off S1x1536x2048.size inb).toLoadRect f
      = slotOf (arg10.view.read (Elt F) f) n := by
  subst h
  rw [View.readAt_eq_ld]
  funext z
  refine congrArg (arg10.view.read (Elt F) f) (funext fun a => Fin.ext ?_)
  match a with
  | ⟨0, _⟩ =>
    have hz : (z 0).val < 1 := (z 0).isLt
    show n % 2 + 1 * (z 0).val = n % 2; omega
  | ⟨1, _⟩ => show 0 + 1 * (z 1).val = (z 1).val; omega
  | ⟨2, _⟩ => show 0 + 1 * (z 2).val = (z 2).val; omega

/-- The store of the whole product block read back. -/
theorem h_of (arg8 : Memref sig .tc .vmem S1536x512 .f32) (f : arg8.view.ty.Contents (Elt F))
    (arg7 : Memref sig .tc .vmem S2048x512 .bf16) (harg7 : arg7.IsWhole) (x5 : Vec F S2048x512 .bf16)
    (v u : Vec F S1x1536x2048 .bf16) (hu : v = u) :
    arg8.view.read (Elt F) (arg8.view.writes (Elt F) f
      [⟨Rect.unit (s := S1536x512) ![0, 0] S1536x512.size inb_S1536x512_S1536x512_0_0,
        k0_pay5 v (View.readAt (Elt F) arg7.view (Rect.unit (s := S2048x512) ![0, 0] S2048x512.size inb_S2048x512_S2048x512_0_0).toLoadRect (harg7.unread x5))⟩])
      = k0_pay5 u x5 := by
  rw [wholeW, hu]
  funext y
  refine View.read_writes_cons_unit_of_mem _ _ _ _ _ y y rfl fun a => ?_
  match a with
  | ⟨0, _⟩ => show (y 0).val = 0 + (y 0).val; omega
  | ⟨1, _⟩ => show (y 1).val = 0 + (y 1).val; omega

/-- The store of the whole tile read back. -/
theorem uo_of (arg9 : Memref sig .tc .vmem S1536x2048 .bf16) (f : arg9.view.ty.Contents (Elt F)) (v u : Vec F S1x1536x2048 .bf16) (hu : v = u) :
    arg9.view.read (Elt F) (arg9.view.writes (Elt F) f
      [⟨Rect.unit (s := S1536x2048) ![0, 0] S1536x2048.size inb_S1536x2048_S1536x2048_0_0, k0_pay4 v⟩])
      = k0_pay4 u := by
  rw [hu]
  funext y
  refine View.read_writes_cons_unit_of_mem _ _ _ _ _ y y rfl fun a => ?_
  match a with
  | ⟨0, _⟩ => show (y 0).val = 0 + (y 0).val; omega
  | ⟨1, _⟩ => show (y 1).val = 0 + (y 1).val; omega

/-- The first point's copy: slot 0 holds the first operand. -/
def baseA (x0 : Vec F S1536x2048 .bf16) (d : Vec F S2x1536x2048 .bf16) : Vec F S2x1536x2048 .bf16 := fun y =>
  if (y 0).val = 0 then x0 (ix2 (y 1) (y 2)) else d y

/-- The stored first operand at an element. -/
theorem pay3_at (x0 : Vec F S1536x2048 .bf16) (a : Fin 1536) (b : Fin 2048) : k0_pay3 x0 (ix3 0 a b) = x0 (ix2 a b) := by
  unfold k0_pay3
  refine shapeCast_apply _ _ _ _ ?_
  rewrite [Shape.rowMajor_val_two, Shape.rowMajor_val_three]
  show a.val * 2048 + b.val = (0 * 1536 + a.val) * 2048 + b.val
  omega

/-- The carried buffer after the first operand is stored into it. -/
theorem base_of (arg10 : Memref sig .tc .vmem S2x1536x2048 .bf16) (harg10 : arg10.IsWhole)
    (arg2 : Memref sig .tc .vmem S1536x2048 .bf16) (harg2 : arg2.IsWhole) (x0 : Vec F S1536x2048 .bf16) (d : Vec F S2x1536x2048 .bf16) :
    arg10.view.read (Elt F) (arg10.view.writes (Elt F) (harg10.unread d)
      [⟨Rect.unit (s := S2x1536x2048) ![0, 0, 0] S1x1536x2048.size inb_S2x1536x2048_S1x1536x2048_0_0_0,
        k0_pay3 (View.readAt (Elt F) arg2.view (Rect.unit (s := S1536x2048) ![0, 0] S1536x2048.size inb_S1536x2048_S1536x2048_0_0).toLoadRect (harg2.unread x0))⟩])
      = baseA x0 d := by
  rw [whole2']
  funext y
  unfold baseA
  split
  next h =>
    refine (View.read_writes_cons_unit_of_mem _ _ _ _ _ y (ix3 0 (y 1) (y 2)) rfl fun a => ?_).trans ?_
    · match a with
      | ⟨0, _⟩ => show (y 0).val = 0 + 0; omega
      | ⟨1, _⟩ => show (y 1).val = 0 + (y 1).val; omega
      | ⟨2, _⟩ => show (y 2).val = 0 + (y 2).val; omega
    · exact pay3_at x0 (y 1) (y 2)
  next h =>
    refine (View.read_writes_cons_unit_of_not_mem _ _ _ _ _ y rfl 0 (Or.inr ?_)).trans ?_
    · show 0 + 1 ≤ (y 0).val; omega
    · exact congrFun (harg10.read_unread d) y

/-- Its first slot then holds the first operand. -/
theorem base0 (arg10 : Memref sig .tc .vmem S2x1536x2048 .bf16) (f : arg10.view.ty.Contents (Elt F)) (x0 : Vec F S1536x2048 .bf16)
    (y : S2x1536x2048.Idx) (hy : (y 0).val = 0) :
    arg10.view.read (Elt F) (arg10.view.writes (Elt F) f
      [⟨Rect.unit (s := S2x1536x2048) ![0, 0, 0] S1x1536x2048.size inb_S2x1536x2048_S1x1536x2048_0_0_0, k0_pay3 x0⟩]) y
      = x0 (ix2 (y 1) (y 2)) := by
  refine (View.read_writes_cons_unit_of_mem _ _ _ _ _ y (ix3 0 (y 1) (y 2)) rfl fun a => ?_).trans ?_
  · match a with
    | ⟨0, _⟩ => show (y 0).val = 0 + 0; omega
    | ⟨1, _⟩ => show (y 1).val = 0 + (y 1).val; omega
    | ⟨2, _⟩ => show (y 2).val = 0 + (y 2).val; omega
  · exact pay3_at x0 (y 1) (y 2)

/-- The tile loaded after that store is the first slot. -/
theorem slot_cov (arg10 : Memref sig .tc .vmem S2x1536x2048 .bf16) (arg2 : Memref sig .tc .vmem S1536x2048 .bf16) (harg2 : arg2.IsWhole)
    (x0 : Vec F S1536x2048 .bf16) (d : Vec F S2x1536x2048 .bf16) (i : grid0.Coords) (h1 : cond1 i = 1#1) (off : Fin 3 → ℕ)
    (inb : ∀ a, off a + S1x1536x2048.size a ≤ S2x1536x2048.size a) (h : off = ![(i 0).val % 2, 0, 0]) :
    arg10.view.readCov [⟨Rect.unit (s := S2x1536x2048) ![0, 0, 0] S1x1536x2048.size inb_S2x1536x2048_S1x1536x2048_0_0_0,
        k0_pay3 (View.readAt (Elt F) arg2.view (Rect.unit (s := S1536x2048) ![0, 0] S1536x2048.size inb_S1536x2048_S1536x2048_0_0).toLoadRect (harg2.unread x0))⟩]
        (Rect.unit (s := S2x1536x2048) off S1x1536x2048.size inb).toLoadRect
      = slotOf (baseA x0 d) (i 0).val := by
  have h0 : (i 0).val % 2 = 0 := by rw [((cond1_iff i).mp h1).1]
  refine (slot_load arg10 _ (i 0).val off inb h).trans ?_
  rw [whole2']
  funext z
  refine (base0 arg10 _ x0 (ix3 ⟨(i 0).val % 2, Nat.mod_lt _ (by decide)⟩ (z 1) (z 2)) h0).trans ?_
  unfold slotOf baseA
  exact (if_pos h0).symm

/-- At the first point the tile is the first slot. -/
theorem off1_first (i : grid0.Coords) (h1 : cond1 i = 1#1) : k0_off1 i = ![0, 0, 0] := by
  rw [off1_eq, ((cond1_iff i).mp h1).1]

/-- So is the copied tile. -/
theorem off2_first (i : grid0.Coords) (h1 : cond1 i = 1#1) : k0_off2 i = ![0, 0, 0] := by
  rw [off2_eq, ((cond1_iff i).mp h1).1]

set_option maxHeartbeats 16000000 in
/-- The body at the first point. -/
theorem runA (c : Dev nD) (i : grid0.Coords) (h1 : cond1 i = 1#1) (h2 : k0_cond2 i = 1#1)
    (arg2 : Memref sig .tc .vmem S1536x2048 .bf16) (harg2 : arg2.IsWhole) (arg3 : Memref sig .tc .vmem S256x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S2048x512 .bf16) (harg7 : arg7.IsWhole)
    (arg8 : Memref sig .tc .vmem S1536x512 .f32) (harg8 : arg8.IsWhole) (arg9 : Memref sig .tc .vmem S1536x2048 .bf16) (harg9 : arg9.IsWhole)
    (arg10 : Memref sig .tc .vmem S2x1536x2048 .bf16) (harg10 : arg10.IsWhole) (arg11 : Memref sig .tc .vmem S256x1 .f32) (harg11 : arg11.IsWhole)
    (x0 : Vec F S1536x2048 .bf16) (x1 : Vec F S256x2048 .f32) (x2 : Vec F S1x2048 .f32) (x3 x4 : Vec F S1x1x1x2048 .f32)
    (x5 : Vec F S2048x512 .bf16) (d9 : Vec F S1536x2048 .bf16) (d : Vec F S2x1536x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare d9
        ∗ owns (c : Thread nD τ) arg10 fullShare d ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
          ∗ owns (c : Thread nD τ) arg8 fullShare (k0_pay5 (slotOf (baseA x0 d) (i 0).val) x5) ∗ owns (c : Thread nD τ) arg9 fullShare (k0_pay4 (slotOf (baseA x0 d) (i 0).val))
          ∗ (∃ d', ⌜Upd i (piece x1 x2 x3 x4) (baseA x0 d) d'⌝ ∗ owns (c : Thread nD τ) arg10 fullShare d')
          ∗ (∃ d, owns (c : Thread nD τ) arg11 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0
  letI : ClosedOff (k0_off1 i) := ⟨![0, 0, 0], off1_first i h1⟩
  letI : ClosedOff (k0_off2 i) := ⟨![0, 0, 0], off2_first i h1⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    exact h_of arg8 f8 arg7 harg7 x5 _ _ (slot_cov arg10 arg2 harg2 x0 d i h1 _ _ (off2_eq i))
  isplitl [H9]
  · iexists _; isplitr
    swap; · iexact H9
    ipureintro
    exact uo_of arg9 f9 _ _ (slot_cov arg10 arg2 harg2 x0 d i h1 _ _ (off1_eq i))
  isplitl [HS0]
  · iexists _; isplitr
    swap
    · iexists _; isplitr
      swap; · iexact HS0
      ipureintro; rfl
    ipureintro
    have hst : runA.sl.HS1_16 c arg3 harg3 x1 = statStores fun k => k0_pay9 (chunk x1 k) := stat_of arg3 harg3 x1
    rw [← base_of arg10 harg10 arg2 harg2 x0 d]
    refine upd16 arg10.view (harg10.unread d) _ i (piece x1 x2 x3 x4) _ _ _ _ _ _ _ _ _ _ _ _ _ _ _ _ ?_ ?_ ?_ ?_ ?_ ?_ ?_ ?_ ?_ ?_ ?_ ?_ ?_ ?_ ?_ ?_
    · exact one arg3 harg3 arg4 harg4 arg5 harg5 arg6 harg6 arg11.view x1 x2 x3 x4 0 0 rfl _ _ _ hst
    · exact one arg3 harg3 arg4 harg4 arg5 harg5 arg6 harg6 arg11.view x1 x2 x3 x4 1 16 rfl _ _ _ hst
    · exact one arg3 harg3 arg4 harg4 arg5 harg5 arg6 harg6 arg11.view x1 x2 x3 x4 2 32 rfl _ _ _ hst
    · exact one arg3 harg3 arg4 harg4 arg5 harg5 arg6 harg6 arg11.view x1 x2 x3 x4 3 48 rfl _ _ _ hst
    · exact one arg3 harg3 arg4 harg4 arg5 harg5 arg6 harg6 arg11.view x1 x2 x3 x4 4 64 rfl _ _ _ hst
    · exact one arg3 harg3 arg4 harg4 arg5 harg5 arg6 harg6 arg11.view x1 x2 x3 x4 5 80 rfl _ _ _ hst
    · exact one arg3 harg3 arg4 harg4 arg5 harg5 arg6 harg6 arg11.view x1 x2 x3 x4 6 96 rfl _ _ _ hst
    · exact one arg3 harg3 arg4 harg4 arg5 harg5 arg6 harg6 arg11.view x1 x2 x3 x4 7 112 rfl _ _ _ hst
    · exact one arg3 harg3 arg4 harg4 arg5 harg5 arg6 harg6 arg11.view x1 x2 x3 x4 8 128 rfl _ _ _ hst
    · exact one arg3 harg3 arg4 harg4 arg5 harg5 arg6 harg6 arg11.view x1 x2 x3 x4 9 144 rfl _ _ _ hst
    · exact one arg3 harg3 arg4 harg4 arg5 harg5 arg6 harg6 arg11.view x1 x2 x3 x4 10 160 rfl _ _ _ hst
    · exact one arg3 harg3 arg4 harg4 arg5 harg5 arg6 harg6 arg11.view x1 x2 x3 x4 11 176 rfl _ _ _ hst
    · exact one arg3 harg3 arg4 harg4 arg5 harg5 arg6 harg6 arg11.view x1 x2 x3 x4 12 192 rfl _ _ _ hst
    · exact one arg3 harg3 arg4 harg4 arg5 harg5 arg6 harg6 arg11.view x1 x2 x3 x4 13 208 rfl _ _ _ hst
    · exact one arg3 harg3 arg4 harg4 arg5 harg5 arg6 harg6 arg11.view x1 x2 x3 x4 14 224 rfl _ _ _ hst
    · exact one arg3 harg3 arg4 harg4 arg5 harg5 arg6 harg6 arg11.view x1 x2 x3 x4 15 240 rfl _ _ _ hst
  iexists _; iexists _; isplitr
  swap; · iexact HS1
  ipureintro; rfl

set_option maxHeartbeats 16000000 in
/-- The body at the first point of a later tile. -/
theorem runB (c : Dev nD) (i : grid0.Coords) (h1 : ¬ cond1 i = 1#1) (h2 : k0_cond2 i = 1#1)
    (arg2 : Memref sig .tc .vmem S1536x2048 .bf16) (harg2 : arg2.IsWhole) (arg3 : Memref sig .tc .vmem S256x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S2048x512 .bf16) (harg7 : arg7.IsWhole)
    (arg8 : Memref sig .tc .vmem S1536x512 .f32) (harg8 : arg8.IsWhole) (arg9 : Memref sig .tc .vmem S1536x2048 .bf16) (harg9 : arg9.IsWhole)
    (arg10 : Memref sig .tc .vmem S2x1536x2048 .bf16) (harg10 : arg10.IsWhole) (arg11 : Memref sig .tc .vmem S256x1 .f32) (harg11 : arg11.IsWhole)
    (x0 : Vec F S1536x2048 .bf16) (x1 : Vec F S256x2048 .f32) (x2 : Vec F S1x2048 .f32) (x3 x4 : Vec F S1x1x1x2048 .f32)
    (x5 : Vec F S2048x512 .bf16) (d9 : Vec F S1536x2048 .bf16) (d : Vec F S2x1536x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare d9
        ∗ owns (c : Thread nD τ) arg10 fullShare d ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
          ∗ owns (c : Thread nD τ) arg8 fullShare (k0_pay5 (slotOf (d) (i 0).val) x5) ∗ owns (c : Thread nD τ) arg9 fullShare (k0_pay4 (slotOf d (i 0).val))
          ∗ (∃ d', ⌜Upd i (piece x1 x2 x3 x4) (d) d'⌝ ∗ owns (c : Thread nD τ) arg10 fullShare d')
          ∗ (∃ d, owns (c : Thread nD τ) arg11 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    exact h_of arg8 f8 arg7 harg7 x5 _ _ ((slot_load arg10 _ (i 0).val _ _ (off2_eq i)).trans (congrArg (slotOf · (i 0).val) (harg10.read_unread d)))
  isplitl [H9]
  · iexists _; isplitr
    swap; · iexact H9
    ipureintro
    exact uo_of arg9 f9 _ _ ((slot_load arg10 _ (i 0).val _ _ (off1_eq i)).trans (congrArg (slotOf · (i 0).val) (harg10.read_unread d)))
  isplitl [HS0]
  · iexists _; isplitr
    swap
    · iexists _; isplitr
      swap; · iexact HS0
      ipureintro; rfl
    ipureintro
    have hst : runB.sl.HS1_16 c arg3 harg3 x1 = statStores fun k => k0_pay9 (chunk x1 k) := stat_of arg3 harg3 x1
    refine Eq.subst (motive := fun b => Upd i (piece x1 x2 x3 x4) b _) (harg10.read_unread d) ?_
    refine upd16 arg10.view (harg10.unread d) [] i (piece x1 x2 x3 x4) _ _ _ _ _ _ _ _ _ _ _ _ _ _ _ _ ?_ ?_ ?_ ?_ ?_ ?_ ?_ ?_ ?_ ?_ ?_ ?_ ?_ ?_ ?_ ?_
    · exact one arg3 harg3 arg4 harg4 arg5 harg5 arg6 harg6 arg11.view x1 x2 x3 x4 0 0 rfl _ _ _ hst
    · exact one arg3 harg3 arg4 harg4 arg5 harg5 arg6 harg6 arg11.view x1 x2 x3 x4 1 16 rfl _ _ _ hst
    · exact one arg3 harg3 arg4 harg4 arg5 harg5 arg6 harg6 arg11.view x1 x2 x3 x4 2 32 rfl _ _ _ hst
    · exact one arg3 harg3 arg4 harg4 arg5 harg5 arg6 harg6 arg11.view x1 x2 x3 x4 3 48 rfl _ _ _ hst
    · exact one arg3 harg3 arg4 harg4 arg5 harg5 arg6 harg6 arg11.view x1 x2 x3 x4 4 64 rfl _ _ _ hst
    · exact one arg3 harg3 arg4 harg4 arg5 harg5 arg6 harg6 arg11.view x1 x2 x3 x4 5 80 rfl _ _ _ hst
    · exact one arg3 harg3 arg4 harg4 arg5 harg5 arg6 harg6 arg11.view x1 x2 x3 x4 6 96 rfl _ _ _ hst
    · exact one arg3 harg3 arg4 harg4 arg5 harg5 arg6 harg6 arg11.view x1 x2 x3 x4 7 112 rfl _ _ _ hst
    · exact one arg3 harg3 arg4 harg4 arg5 harg5 arg6 harg6 arg11.view x1 x2 x3 x4 8 128 rfl _ _ _ hst
    · exact one arg3 harg3 arg4 harg4 arg5 harg5 arg6 harg6 arg11.view x1 x2 x3 x4 9 144 rfl _ _ _ hst
    · exact one arg3 harg3 arg4 harg4 arg5 harg5 arg6 harg6 arg11.view x1 x2 x3 x4 10 160 rfl _ _ _ hst
    · exact one arg3 harg3 arg4 harg4 arg5 harg5 arg6 harg6 arg11.view x1 x2 x3 x4 11 176 rfl _ _ _ hst
    · exact one arg3 harg3 arg4 harg4 arg5 harg5 arg6 harg6 arg11.view x1 x2 x3 x4 12 192 rfl _ _ _ hst
    · exact one arg3 harg3 arg4 harg4 arg5 harg5 arg6 harg6 arg11.view x1 x2 x3 x4 13 208 rfl _ _ _ hst
    · exact one arg3 harg3 arg4 harg4 arg5 harg5 arg6 harg6 arg11.view x1 x2 x3 x4 14 224 rfl _ _ _ hst
    · exact one arg3 harg3 arg4 harg4 arg5 harg5 arg6 harg6 arg11.view x1 x2 x3 x4 15 240 rfl _ _ _ hst
  iexists _; iexists _; isplitr
  swap; · iexact HS1
  ipureintro; rfl

set_option maxHeartbeats 16000000 in
/-- The body at the other points: the second result's buffer is left as found. -/
theorem runC (c : Dev nD) (i : grid0.Coords) (h1 : ¬ cond1 i = 1#1) (h2 : ¬ k0_cond2 i = 1#1)
    (arg2 : Memref sig .tc .vmem S1536x2048 .bf16) (harg2 : arg2.IsWhole) (arg3 : Memref sig .tc .vmem S256x2048 .f32) (harg3 : arg3.IsWhole)
    (arg4 : Memref sig .tc .vmem S1x2048 .f32) (harg4 : arg4.IsWhole) (arg5 : Memref sig .tc .vmem S1x1x1x2048 .f32) (harg5 : arg5.IsWhole)
    (arg6 : Memref sig .tc .vmem S1x1x1x2048 .f32) (harg6 : arg6.IsWhole) (arg7 : Memref sig .tc .vmem S2048x512 .bf16) (harg7 : arg7.IsWhole)
    (arg8 : Memref sig .tc .vmem S1536x512 .f32) (harg8 : arg8.IsWhole) (arg9 : Memref sig .tc .vmem S1536x2048 .bf16) (harg9 : arg9.IsWhole)
    (arg10 : Memref sig .tc .vmem S2x1536x2048 .bf16) (harg10 : arg10.IsWhole) (arg11 : Memref sig .tc .vmem S256x1 .f32) (harg11 : arg11.IsWhole)
    (x0 : Vec F S1536x2048 .bf16) (x1 : Vec F S256x2048 .f32) (x2 : Vec F S1x2048 .f32) (x3 x4 : Vec F S1x1x1x2048 .f32)
    (x5 : Vec F S2048x512 .bf16) (d9 : Vec F S1536x2048 .bf16) (d : Vec F S2x1536x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare d9
        ∗ owns (c : Thread nD τ) arg10 fullShare d ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
          ∗ owns (c : Thread nD τ) arg8 fullShare (k0_pay5 (slotOf (d) (i 0).val) x5) ∗ owns (c : Thread nD τ) arg9 fullShare d9
          ∗ (∃ d', ⌜Upd i (piece x1 x2 x3 x4) (d) d'⌝ ∗ owns (c : Thread nD τ) arg10 fullShare d')
          ∗ (∃ d, owns (c : Thread nD τ) arg11 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg10.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    exact h_of arg8 f8 arg7 harg7 x5 _ _ ((slot_load arg10 _ (i 0).val _ _ (off2_eq i)).trans (congrArg (slotOf · (i 0).val) (harg10.read_unread d)))
  isplitl [H9]
  · iexists _; isplitr
    swap; · iexact H9
    ipureintro
    exact hf9
  isplitl [HS0]
  · iexists _; isplitr
    swap
    · iexists _; isplitr
      swap; · iexact HS0
      ipureintro; rfl
    ipureintro
    have hst : runC.sl.HS1_16 c arg3 harg3 x1 = statStores fun k => k0_pay9 (chunk x1 k) := stat_of arg3 harg3 x1
    refine Eq.subst (motive := fun b => Upd i (piece x1 x2 x3 x4) b _) (harg10.read_unread d) ?_
    refine upd16 arg10.view (harg10.unread d) [] i (piece x1 x2 x3 x4) _ _ _ _ _ _ _ _ _ _ _ _ _ _ _ _ ?_ ?_ ?_ ?_ ?_ ?_ ?_ ?_ ?_ ?_ ?_ ?_ ?_ ?_ ?_ ?_
    · exact one arg3 harg3 arg4 harg4 arg5 harg5 arg6 harg6 arg11.view x1 x2 x3 x4 0 0 rfl _ _ _ hst
    · exact one arg3 harg3 arg4 harg4 arg5 harg5 arg6 harg6 arg11.view x1 x2 x3 x4 1 16 rfl _ _ _ hst
    · exact one arg3 harg3 arg4 harg4 arg5 harg5 arg6 harg6 arg11.view x1 x2 x3 x4 2 32 rfl _ _ _ hst
    · exact one arg3 harg3 arg4 harg4 arg5 harg5 arg6 harg6 arg11.view x1 x2 x3 x4 3 48 rfl _ _ _ hst
    · exact one arg3 harg3 arg4 harg4 arg5 harg5 arg6 harg6 arg11.view x1 x2 x3 x4 4 64 rfl _ _ _ hst
    · exact one arg3 harg3 arg4 harg4 arg5 harg5 arg6 harg6 arg11.view x1 x2 x3 x4 5 80 rfl _ _ _ hst
    · exact one arg3 harg3 arg4 harg4 arg5 harg5 arg6 harg6 arg11.view x1 x2 x3 x4 6 96 rfl _ _ _ hst
    · exact one arg3 harg3 arg4 harg4 arg5 harg5 arg6 harg6 arg11.view x1 x2 x3 x4 7 112 rfl _ _ _ hst
    · exact one arg3 harg3 arg4 harg4 arg5 harg5 arg6 harg6 arg11.view x1 x2 x3 x4 8 128 rfl _ _ _ hst
    · exact one arg3 harg3 arg4 harg4 arg5 harg5 arg6 harg6 arg11.view x1 x2 x3 x4 9 144 rfl _ _ _ hst
    · exact one arg3 harg3 arg4 harg4 arg5 harg5 arg6 harg6 arg11.view x1 x2 x3 x4 10 160 rfl _ _ _ hst
    · exact one arg3 harg3 arg4 harg4 arg5 harg5 arg6 harg6 arg11.view x1 x2 x3 x4 11 176 rfl _ _ _ hst
    · exact one arg3 harg3 arg4 harg4 arg5 harg5 arg6 harg6 arg11.view x1 x2 x3 x4 12 192 rfl _ _ _ hst
    · exact one arg3 harg3 arg4 harg4 arg5 harg5 arg6 harg6 arg11.view x1 x2 x3 x4 13 208 rfl _ _ _ hst
    · exact one arg3 harg3 arg4 harg4 arg5 harg5 arg6 harg6 arg11.view x1 x2 x3 x4 14 224 rfl _ _ _ hst
    · exact one arg3 harg3 arg4 harg4 arg5 harg5 arg6 harg6 arg11.view x1 x2 x3 x4 15 240 rfl _ _ _ hst
  iexists _; iexists _; isplitr
  swap; · iexact HS1
  ipureintro; rfl

end Cert.Kernel9Ideal.Hand

end
-- ==== Proof.ProjFrameIdeal.lean ====
/-
  Hand-written. The launch of the input projection with its normalized rows carried between the grid's points: what the two
  slots of the carried buffer hold at each point, the pipeline's proof data, and the frame: the run ends with every argument unchanged.
-/
module

public import proofs.«01_k».proof.Proof.ProjBodyIdeal

@[expose] public section

set_option maxRecDepth 16384

noncomputable section

namespace Cert.Kernel9Ideal.Hand

open Cert.Kernel9Ideal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- A point's coordinates: the row tile and the column tile. -/
theorem coords0 : ∀ t : Fin cfg0.N, (grid0.coords t 0).val = t.val / 7 :=
  (by decide +kernel : ∀ t : Fin grid0.N, (grid0.coords t 0).val = t.val / 7)
/-- The column tile. -/
theorem coords1 : ∀ t : Fin cfg0.N, (grid0.coords t 1).val = t.val % 7 :=
  (by decide +kernel : ∀ t : Fin grid0.N, (grid0.coords t 1).val = t.val % 7)

/-- The grid has 42 points. -/
theorem pt_lt (n : ℕ) (h : n < 42) : n < cfg0.N := h.trans_eq N_0.symm

/-- The point of the same row tile at which the 256 rows a point normalizes are first normalized. -/
def first (t : Fin cfg0.N) : Fin cfg0.N :=
  ⟨7 * (t.val / 7) + min (t.val % 7) 5, pt_lt _ (by have h : t.val < 42 := t.isLt.trans_eq N_0; omega)⟩

/-- Window 1's index is that of the first such point. -/
theorem ix_first1 : ∀ t : Fin cfg0.N, ∀ a, win0_1.index (first t) a = win0_1.index t a :=
  (by decide +kernel : ∀ t : Fin grid0.N, ∀ a, win0_1.index (first t) a = win0_1.index t a)
/-- Window 2's index is that of the first such point. -/
theorem ix_first2 : ∀ t : Fin cfg0.N, ∀ a, win0_2.index (first t) a = win0_2.index t a :=
  (by decide +kernel : ∀ t : Fin grid0.N, ∀ a, win0_2.index (first t) a = win0_2.index t a)
/-- Window 3's index is that of the first such point. -/
theorem ix_first3 : ∀ t : Fin cfg0.N, ∀ a, win0_3.index (first t) a = win0_3.index t a :=
  (by decide +kernel : ∀ t : Fin grid0.N, ∀ a, win0_3.index (first t) a = win0_3.index t a)
/-- Window 4's index is that of the first such point. -/
theorem ix_first4 : ∀ t : Fin cfg0.N, ∀ a, win0_4.index (first t) a = win0_4.index t a :=
  (by decide +kernel : ∀ t : Fin grid0.N, ∀ a, win0_4.index (first t) a = win0_4.index t a)

/-- So is window 1's block. -/
theorem blk_first1 (c : Dev nD) (t : Fin cfg0.N) : (iblk m c 1 (first t) : Vec F S256x2048 .f32) = iblk m c 1 t := by
  funext z; unfold iblk; rw [View.read_apply, View.read_apply]
  refine congrArg _ (congrArg (V m c (Pipeline.arrRef spec0 1)) (funext fun a => Fin.ext ?_))
  show win0_1.index (first t) a * S256x2048.size a + 1 * (z a).val = win0_1.index t a * S256x2048.size a + 1 * (z a).val
  rw [ix_first1]
/-- So is window 2's block. -/
theorem blk_first2 (c : Dev nD) (t : Fin cfg0.N) : (iblk m c 2 (first t) : Vec F S1x2048 .f32) = iblk m c 2 t := by
  funext z; unfold iblk; rw [View.read_apply, View.read_apply]
  refine congrArg _ (congrArg (V m c (Pipeline.arrRef spec0 2)) (funext fun a => Fin.ext ?_))
  show win0_2.index (first t) a * S1x2048.size a + 1 * (z a).val = win0_2.index t a * S1x2048.size a + 1 * (z a).val
  rw [ix_first2]
/-- So is window 3's block. -/
theorem blk_first3 (c : Dev nD) (t : Fin cfg0.N) : (iblk m c 3 (first t) : Vec F S1x1x1x2048 .f32) = iblk m c 3 t := by
  funext z; unfold iblk; rw [View.read_apply, View.read_apply]
  refine congrArg _ (congrArg (V m c (Pipeline.arrRef spec0 3)) (funext fun a => Fin.ext ?_))
  show win0_3.index (first t) a * S1x1x1x2048.size a + 1 * (z a).val = win0_3.index t a * S1x1x1x2048.size a + 1 * (z a).val
  rw [ix_first3]
/-- So is window 4's block. -/
theorem blk_first4 (c : Dev nD) (t : Fin cfg0.N) : (iblk m c 4 (first t) : Vec F S1x1x1x2048 .f32) = iblk m c 4 t := by
  funext z; unfold iblk; rw [View.read_apply, View.read_apply]
  refine congrArg _ (congrArg (V m c (Pipeline.arrRef spec0 4)) (funext fun a => Fin.ext ?_))
  show win0_4.index (first t) a * S1x1x1x2048.size a + 1 * (z a).val = win0_4.index t a * S1x1x1x2048.size a + 1 * (z a).val
  rw [ix_first4]

/-! ## What the carried buffer holds -/

/-- The sixteen normalized rows of chunk `k` that point `t` writes. -/
def rows (c : Dev nD) (t : Fin cfg0.N) (k : Fin 16) : Vec F S1x16x2048 .bf16 :=
  piece (iblk m c 1 t) (iblk m c 2 t) (iblk m c 3 t) (iblk m c 4 t) k

/-- Both points normalize the same rows. -/
theorem rows_first (c : Dev nD) (t : Fin cfg0.N) (k : Fin 16) : rows m c (first t) k = rows m c t k := by
  unfold rows
  rw [blk_first1 m c t, blk_first2 m c t, blk_first3 m c t, blk_first4 m c t]

/-- The normalized rows of row tile `n` at a row and a column: the first tile's come from the first operand, a later tile's are
    written while the tile before it is multiplied. -/
def U (c : Dev nD) (n : ℕ) (r : Fin 1536) (q : Fin 2048) : Elt F .bf16 :=
  if n = 0 then (iblk m c 0 ⟨0, pt_lt 0 (by decide)⟩ : Vec F S1536x2048 .bf16) (ix2 r q)
  else if h : 7 * (n - 1) + r.val / 256 < 42 then
    rows m c ⟨7 * (n - 1) + r.val / 256, pt_lt _ h⟩ ⟨r.val % 256 / 16, by omega⟩ (ix3 0 ⟨r.val % 16, by omega⟩ q)
  else (iblk m c 0 ⟨0, pt_lt 0 (by decide)⟩ : Vec F S1536x2048 .bf16) (ix2 r q)

/-- The rows of the next tile that a point normalizes are the next tile's. -/
theorem U_next (c : Dev nD) (t : Fin cfg0.N) (r : Fin 1536) (q : Fin 2048) (hr : r.val / 256 = min (t.val % 7) 5) :
    U m c (t.val / 7 + 1) r q = rows m c t ⟨r.val % 256 / 16, by omega⟩ (ix3 0 ⟨r.val % 16, by omega⟩ q) := by
  have h : t.val < 42 := t.isLt.trans_eq N_0
  unfold U
  rw [if_neg (Nat.succ_ne_zero _), dif_pos (show 7 * (t.val / 7 + 1 - 1) + r.val / 256 < 42 by omega)]
  have e : (⟨7 * (t.val / 7 + 1 - 1) + r.val / 256, pt_lt _ (by omega)⟩ : Fin cfg0.N) = first t := by
    refine Fin.ext ?_
    show 7 * (t.val / 7 + 1 - 1) + r.val / 256 = 7 * (t.val / 7) + min (t.val % 7) 5
    omega
  rw [e, rows_first]

/-- What the carried buffer holds of the tile being multiplied at point `n`. -/
def Cur (c : Dev nD) (n : ℕ) (d : Vec F S2x1536x2048 .bf16) : Prop :=
  ∀ y : S2x1536x2048.Idx, (y 0).val = n / 7 % 2 → d y = U m c (n / 7) (y 1) (y 2)

/-- What it holds of the next tile: the rows normalized so far. -/
def Nxt (c : Dev nD) (n : ℕ) (d : Vec F S2x1536x2048 .bf16) : Prop :=
  ∀ y : S2x1536x2048.Idx, (y 0).val = 1 - n / 7 % 2 → (y 1).val < 256 * min (n % 7) 6 → d y = U m c (n / 7 + 1) (y 1) (y 2)

/-- After a point the next tile holds 256 rows more. -/
theorem step_next (c : Dev nD) (t : Fin cfg0.N) (b d' : Vec F S2x1536x2048 .bf16) (hb : Nxt m c t.val b)
    (hu : Upd (grid0.coords t) (rows m c t) b d') (y : S2x1536x2048.Idx) (h0 : (y 0).val = 1 - t.val / 7 % 2)
    (h1 : (y 1).val < 256 * min (t.val % 7 + 1) 6) : d' y = U m c (t.val / 7 + 1) (y 1) (y 2) := by
  have c0 := coords0 t
  have c1 := coords1 t
  by_cases h : (y 1).val < 256 * min (t.val % 7) 5
  · exact (hu.2 y (Or.inr (Or.inl (by rw [c1]; exact h)))).trans (hb y h0 (by omega))
  · rw [U_next m c t (y 1) (y 2) (by omega)]
    exact hu.1 _ _ y (by rw [c0]; exact h0) (by
      rw [c1]
      show (y 1).val = 256 * min (t.val % 7) 5 + 16 * ((y 1).val % 256 / 16) + (y 1).val % 16
      omega) rfl

/-- One point's step: the next tile gains 256 rows, and a tile whose rows are all there becomes the one being multiplied. -/
theorem step (c : Dev nD) (t : Fin cfg0.N) (b d' : Vec F S2x1536x2048 .bf16) (hc : Cur m c t.val b) (hb : Nxt m c t.val b)
    (hu : Upd (grid0.coords t) (rows m c t) b d') : Cur m c (t.val + 1) d' ∧ Nxt m c (t.val + 1) d' := by
  have c0 := coords0 t
  by_cases h : t.val % 7 = 6
  · have e : (t.val + 1) / 7 = t.val / 7 + 1 := by omega
    refine ⟨fun y h0 => ?_, fun y _ h1 => absurd h1 (by omega)⟩
    rw [e] at h0 ⊢
    have hy : (y 1).val < 1536 := (y 1).isLt
    exact step_next m c t b d' hb hu y (by omega) (by omega)
  · have e : (t.val + 1) / 7 = t.val / 7 := by omega
    have e1 : (t.val + 1) % 7 = t.val % 7 + 1 := by omega
    refine ⟨fun y h0 => ?_, fun y h0 h1 => ?_⟩
    · rw [e] at h0 ⊢
      exact (hu.2 y (Or.inl (by rw [c0]; omega))).trans (hc y h0)
    · rw [e] at h0 ⊢
      rw [e1] at h1
      exact step_next m c t b d' hb hu y h0 h1

/-- The tile multiplied at a point. -/
def tile (c : Dev nD) (n : ℕ) : Vec F S1x1536x2048 .bf16 := fun z => U m c n (z 1) (z 2)

/-- The slot read at a point is its tile. -/
theorem slot_tile (c : Dev nD) (t : Fin cfg0.N) (b : Vec F S2x1536x2048 .bf16) (hc : Cur m c t.val b) :
    slotOf b (grid0.coords t 0).val = tile m c (t.val / 7) := by
  funext z
  unfold slotOf tile
  exact hc _ (by show (grid0.coords t 0).val % 2 = _; rw [coords0])

/-- At the first point the stored operand is the first tile. -/
theorem cur_first (c : Dev nD) (t : Fin cfg0.N) (ht : t.val = 0) (d : Vec F S2x1536x2048 .bf16) :
    Cur m c t.val (baseA (iblk m c 0 t) d) ∧ Nxt m c t.val (baseA (iblk m c 0 t) d) := by
  obtain rfl : t = ⟨0, pt_lt 0 (by decide)⟩ := Fin.ext ht
  refine ⟨fun y h0 => ?_, fun y _ h1 => absurd h1 (Nat.not_lt_zero _)⟩
  unfold baseA U
  rw [if_pos (show (y 0).val = 0 from h0), if_pos (show 0 / 7 = 0 from rfl)]

/-! ## The proof data -/

/-- The carried buffers. -/
abbrev scM0_0 : Memref sig .tc .vmem S2x1536x2048 .bf16 := Memref.whole cc0_scratch0
abbrev scM0_1 : Memref sig .tc .vmem S256x1 .f32 := Memref.whole cc0_scratch1

/-- What the carried buffer holds on entry to a point. -/
def Inv (c : Dev nD) (n : ℕ) (d : Vec F S2x1536x2048 .bf16) : Prop := (n ≠ 0 → Cur m c n d) ∧ Nxt m c n d

/-- The invariant on entry to a point: the carried buffer, the statistics' buffer and the generator's register. -/
def inv (c : Dev nD) (n : ℕ) : sProp 𝕄 :=
  iprop((∃ d, ⌜Inv m c n d⌝ ∗ owns (c : Thread nD τ) scM0_0 fullShare d) ∗ (∃ d, owns (c : Thread nD τ) scM0_1 fullShare d)
    ∗ (∃ r, prngReg c r))

/-- The proof data: every input at its block, the product at that of the point's tile, the second result at the tile itself. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (tile m c (t.val / 7)) (iblk m c 5 t)
    | ⟨7, _⟩ => k0_pay4 (tile m c (t.val / 7))
    | ⟨_ + 8, h⟩ => absurd h (Nat.not_lt.2 (Nat.le_add_left _ _))
  Φ t := inv m c t.val
  q w := Pipeline.shareOf spec0 w
  owed _ := 0

/-- The arrays that the launch finds. -/
theorem A_eq (c : Dev nD) (w : Fin cfg0.W) : (dats m 0 c).A w = V m c (Pipeline.arrRef spec0 w) := by
  dsimp only [dats]

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = iblk m c 5 t := by dsimp only [dats]
/-- What window 6's buffer holds after a point. -/
theorem after0_6 (c : Dev nD) (t : Fin cfg0.N) :
    (dats m 0 c).after 6 t = k0_pay5 (tile m c (t.val / 7)) (iblk m c 5 t) := by dsimp only [dats]
/-- What window 7's buffer holds after a point. -/
theorem after0_7 (c : Dev nD) (t : Fin cfg0.N) : (dats m 0 c).after 7 t = k0_pay4 (tile m c (t.val / 7)) := by dsimp only [dats]

/-- Window 0's buffer holds its block before a point. -/
theorem before0_0 (c : Dev nD) (t : Fin cfg0.N) (d) : (dats m 0 c).before 0 t d = iblk m c 0 t :=
  before0_0_of m (dats m 0 c) (A_eq m c 0) (after0_0 m c) t d
/-- Window 1's buffer holds its block before a point. -/
theorem before0_1 (c : Dev nD) (t : Fin cfg0.N) (d) : (dats m 0 c).before 1 t d = iblk m c 1 t :=
  before0_1_of m (dats m 0 c) (A_eq m c 1) (after0_1 m c) t d
/-- Window 2's buffer holds its block before a point. -/
theorem before0_2 (c : Dev nD) (t : Fin cfg0.N) (d) : (dats m 0 c).before 2 t d = iblk m c 2 t :=
  before0_2_of m (dats m 0 c) (A_eq m c 2) (after0_2 m c) t d
/-- Window 3's buffer holds its block before a point. -/
theorem before0_3 (c : Dev nD) (t : Fin cfg0.N) (d) : (dats m 0 c).before 3 t d = iblk m c 3 t :=
  before0_3_of m (dats m 0 c) (A_eq m c 3) (after0_3 m c) t d
/-- Window 4's buffer holds its block before a point. -/
theorem before0_4 (c : Dev nD) (t : Fin cfg0.N) (d) : (dats m 0 c).before 4 t d = iblk m c 4 t :=
  before0_4_of m (dats m 0 c) (A_eq m c 4) (after0_4 m c) t d
/-- Window 5's buffer holds its block before a point. -/
theorem before0_5 (c : Dev nD) (t : Fin cfg0.N) (d) : (dats m 0 c).before 5 t d = iblk m c 5 t :=
  before0_5_of m (dats m 0 c) (A_eq m c 5) (after0_5 m c) t d
/-! ## The copied tiles: a tile's later points copy nothing and leave its copy in place -/

/-- The copied tiles are never fetched. -/
theorem fetch7 : ∀ t : Fin cfg0.N, (cfg0.win 7).fetch t = false :=
  (by decide +kernel : ∀ t : Fin grid0.N, win0_7.fetch t = false)
/-- They aren't written back before a tile's last point. -/
theorem flush7 : ∀ t : Fin cfg0.N, t.val % 7 ≠ 6 → (cfg0.win 7).flush t = false :=
  (by decide +kernel : ∀ t : Fin grid0.N, t.val % 7 ≠ 6 → win0_7.flush t = false)
/-- They are idle but at a tile's first point. -/
theorem idle7 : ∀ t : Fin cfg0.N, cfg0.idle 7 (cfg0.grid.coords t) = decide (t.val % 7 ≠ 0) :=
  (by decide +kernel : ∀ t : Fin grid0.N, idle0 7 (grid0.coords t) = decide (t.val % 7 ≠ 0))

/-- At a tile's later points the buffer holds the tile's copy. -/
theorem before7 (c : Dev nD) (d) : ∀ (n : ℕ) (t : Fin cfg0.N), t.val % 7 = n + 1 →
    (dats m 0 c).before 7 t d = k0_pay4 (tile m c (t.val / 7))
  | 0, t, ht => by
    rw [(dats m 0 c).before_of_pos 7 t (by omega) (fetch7 t) d,
      flush7 ⟨t.val - 1, _⟩ (by show (t.val - 1) % 7 ≠ 6; omega), if_neg Bool.false_ne_true]
    unfold Dat.left
    have hi := idle7 ⟨t.val - 1, Nat.lt_of_le_of_lt (Nat.sub_le _ _) t.isLt⟩
    rw [decide_eq_false (show ¬ (t.val - 1) % 7 ≠ 0 by omega)] at hi
    rw [hi]
    show (dats m 0 c).after 7 ⟨t.val - 1, _⟩ = _
    rw [after0_7, show (t.val - 1) / 7 = t.val / 7 by omega]
  | n + 1, t, ht => by
    rw [(dats m 0 c).before_of_pos 7 t (by omega) (fetch7 t) d,
      flush7 ⟨t.val - 1, _⟩ (by show (t.val - 1) % 7 ≠ 6; omega), if_neg Bool.false_ne_true]
    unfold Dat.left
    have hi := idle7 ⟨t.val - 1, Nat.lt_of_le_of_lt (Nat.sub_le _ _) t.isLt⟩
    rw [decide_eq_true (show (t.val - 1) % 7 ≠ 0 by omega)] at hi
    rw [hi]
    show (dats m 0 c).before 7 ⟨t.val - 1, _⟩ d = _
    rw [before7 c d n ⟨t.val - 1, _⟩ (by show (t.val - 1) % 7 = n + 1; omega), show (t.val - 1) / 7 = t.val / 7 by omega]

/-- So an idle point leaves what it found. -/
theorem kept7 (c : Dev nD) (t : Fin cfg0.N) (ht : t.val % 7 ≠ 0) (d) : (dats m 0 c).before 7 t d = (dats m 0 c).after 7 t := by
  rw [before7 m c d (t.val % 7 - 1) t (by omega), after0_7]

/-- A window whose buffer holds at its idle points what the proof data say is left as the obligation asks. -/
theorem leave (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t)
      ⊢ ((dats m 0 c).leavesExact w t : sProp 𝕄) := by
  unfold Dat.leavesExact
  revert h
  cases cfg0.idle w (cfg0.grid.coords t)
  · intro _; exact .rfl
  · intro h
    cases (cfg0.win w).flush t
    · iintro H; iexists (dats m 0 c).after w t; rw [h rfl]; iexact H
    · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

/-- The body's obligation at the first point. -/
theorem sound_runA (c : Dev nD) (t : Fin cfg0.N) (ht : t.val = 0) :
    bodyPre m c t ⊢ wp frame (wpE (defs₀ (F := F)) Variants.none c none) Set.univ (bodyAt0 t) (fun _ => bodyPost m c t) := by
  have c0 := coords0 t
  have c1 := coords1 t
  have h42 : t.val < 42 := t.isLt.trans_eq N_0
  have h1 : cond1 (grid0.coords t) = 1#1 := (cond1_iff _).mpr (by rw [c0, c1]; omega)
  have h2 : k0_cond2 (grid0.coords t) = 1#1 := (cond2_iff _).mpr (by rw [c1]; omega)
  unfold bodyPre bodyPost bodyAt0
  simp only [before0_0, before0_1, before0_2, before0_3, before0_4, before0_5]
  rw [show (dats m 0 c).Φ t.castSucc = inv m c t.val from by dsimp only [dats]; rfl,
    show (dats m 0 c).Φ t.succ = inv m c (t.val + 1) from by dsimp only [dats]; rfl,
    show (dats m 0 c).owesAt () t.succ = (dats m 0 c).owesAt () t.castSucc from rfl,
    after0_0, after0_1, after0_2, after0_3, after0_4, after0_5, after0_6]
  unfold inv
  iintro ⟨⟨⟨%d, %hI, HS0⟩, HS1, Hg⟩, Ho, ⟨%d0, H0⟩, ⟨%d1, H1⟩, ⟨%d2, H2⟩, ⟨%d3, H3⟩, ⟨%d4, H4⟩, ⟨%d5, H5⟩, ⟨%d8, H8⟩, ⟨%d9, H9⟩⟩
  have hcur := cur_first m c t ht d
  iapply (runA c (grid0.coords t) h1 h2 _ _ _ _ _ _ _ _ _ _ _ _ _ _ _ _ _ _ _ _
    (iblk m c 0 t) (iblk m c 1 t) (iblk m c 2 t) (iblk m c 3 t) (iblk m c 4 t) (iblk m c 5 t)
    ((dats m 0 c).before 7 t d9) d Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexact H9
  isplitl [HS0]; · iexact HS0
  isplitl [HS1]; · iexact HS1
  iintro ⟨H0, H1, H2, H3, H4, H5, H8, H9, ⟨%d', %hu, HS0⟩, HS1⟩
  isplitl [HS0 HS1 Hg]
  · isplitl [HS0]
    · iexists d'; isplitr
      · ipureintro
        have hs := step m c t _ d' hcur.1 hcur.2 hu
        exact ⟨fun _ => hs.1, hs.2⟩
      iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H8]
  · rw [← slot_tile m c t _ hcur.1]; iexact H8
  iapply (leave m c 7 t (fun h => absurd ((idle7 t).symm.trans h) (by rw [decide_eq_false (by omega)]; exact Bool.false_ne_true)))
  rw [after0_7, ← slot_tile m c t _ hcur.1]; iexact H9

/-- The obligation at the other tiles' first points. -/
theorem sound_runB (c : Dev nD) (t : Fin cfg0.N) (ht0 : t.val ≠ 0) (ht1 : t.val % 7 = 0) :
    bodyPre m c t ⊢ wp frame (wpE (defs₀ (F := F)) Variants.none c none) Set.univ (bodyAt0 t) (fun _ => bodyPost m c t) := by
  have c0 := coords0 t
  have c1 := coords1 t
  have h42 : t.val < 42 := t.isLt.trans_eq N_0
  have h1 : ¬ cond1 (grid0.coords t) = 1#1 := fun h => absurd ((cond1_iff _).mp h) (by rw [c0, c1]; omega)
  have h2 : k0_cond2 (grid0.coords t) = 1#1 := (cond2_iff _).mpr (by rw [c1]; omega)
  unfold bodyPre bodyPost bodyAt0
  simp only [before0_0, before0_1, before0_2, before0_3, before0_4, before0_5]
  rw [show (dats m 0 c).Φ t.castSucc = inv m c t.val from by dsimp only [dats]; rfl,
    show (dats m 0 c).Φ t.succ = inv m c (t.val + 1) from by dsimp only [dats]; rfl,
    show (dats m 0 c).owesAt () t.succ = (dats m 0 c).owesAt () t.castSucc from rfl,
    after0_0, after0_1, after0_2, after0_3, after0_4, after0_5, after0_6]
  unfold inv
  iintro ⟨⟨⟨%d, %hI, HS0⟩, HS1, Hg⟩, Ho, ⟨%d0, H0⟩, ⟨%d1, H1⟩, ⟨%d2, H2⟩, ⟨%d3, H3⟩, ⟨%d4, H4⟩, ⟨%d5, H5⟩, ⟨%d8, H8⟩, ⟨%d9, H9⟩⟩
  have hcur := And.intro (hI.1 ht0) hI.2
  iapply (runB c (grid0.coords t) h1 h2 _ _ _ _ _ _ _ _ _ _ _ _ _ _ _ _ _ _ _ _
    (iblk m c 0 t) (iblk m c 1 t) (iblk m c 2 t) (iblk m c 3 t) (iblk m c 4 t) (iblk m c 5 t)
    ((dats m 0 c).before 7 t d9) d Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexact H9
  isplitl [HS0]; · iexact HS0
  isplitl [HS1]; · iexact HS1
  iintro ⟨H0, H1, H2, H3, H4, H5, H8, H9, ⟨%d', %hu, HS0⟩, HS1⟩
  isplitl [HS0 HS1 Hg]
  · isplitl [HS0]
    · iexists d'; isplitr
      · ipureintro
        have hs := step m c t _ d' hcur.1 hcur.2 hu
        exact ⟨fun _ => hs.1, hs.2⟩
      iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H8]
  · rw [← slot_tile m c t _ hcur.1]; iexact H8
  iapply (leave m c 7 t (fun h => absurd ((idle7 t).symm.trans h) (by rw [decide_eq_false (by omega)]; exact Bool.false_ne_true)))
  rw [after0_7, ← slot_tile m c t _ hcur.1]; iexact H9

/-- The obligation at the remaining points. -/
theorem sound_runC (c : Dev nD) (t : Fin cfg0.N) (ht : t.val % 7 ≠ 0) :
    bodyPre m c t ⊢ wp frame (wpE (defs₀ (F := F)) Variants.none c none) Set.univ (bodyAt0 t) (fun _ => bodyPost m c t) := by
  have c0 := coords0 t
  have c1 := coords1 t
  have h42 : t.val < 42 := t.isLt.trans_eq N_0
  have h1 : ¬ cond1 (grid0.coords t) = 1#1 := fun h => absurd ((cond1_iff _).mp h) (by rw [c0, c1]; omega)
  have h2 : ¬ k0_cond2 (grid0.coords t) = 1#1 := fun h => absurd ((cond2_iff _).mp h) (by rw [c1]; omega)
  unfold bodyPre bodyPost bodyAt0
  simp only [before0_0, before0_1, before0_2, before0_3, before0_4, before0_5]
  rw [show (dats m 0 c).Φ t.castSucc = inv m c t.val from by dsimp only [dats]; rfl,
    show (dats m 0 c).Φ t.succ = inv m c (t.val + 1) from by dsimp only [dats]; rfl,
    show (dats m 0 c).owesAt () t.succ = (dats m 0 c).owesAt () t.castSucc from rfl,
    after0_0, after0_1, after0_2, after0_3, after0_4, after0_5, after0_6]
  unfold inv
  iintro ⟨⟨⟨%d, %hI, HS0⟩, HS1, Hg⟩, Ho, ⟨%d0, H0⟩, ⟨%d1, H1⟩, ⟨%d2, H2⟩, ⟨%d3, H3⟩, ⟨%d4, H4⟩, ⟨%d5, H5⟩, ⟨%d8, H8⟩, ⟨%d9, H9⟩⟩
  have hcur := And.intro (hI.1 (by omega)) hI.2
  iapply (runC c (grid0.coords t) h1 h2 _ _ _ _ _ _ _ _ _ _ _ _ _ _ _ _ _ _ _ _
    (iblk m c 0 t) (iblk m c 1 t) (iblk m c 2 t) (iblk m c 3 t) (iblk m c 4 t) (iblk m c 5 t)
    ((dats m 0 c).before 7 t d9) d Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexact H9
  isplitl [HS0]; · iexact HS0
  isplitl [HS1]; · iexact HS1
  iintro ⟨H0, H1, H2, H3, H4, H5, H8, H9, ⟨%d', %hu, HS0⟩, HS1⟩
  isplitl [HS0 HS1 Hg]
  · isplitl [HS0]
    · iexists d'; isplitr
      · ipureintro
        have hs := step m c t _ d' hcur.1 hcur.2 hu
        exact ⟨fun _ => hs.1, hs.2⟩
      iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H8]
  · rw [← slot_tile m c t _ hcur.1]; iexact H8
  iapply (leave m c 7 t (fun _ d => kept7 m c t ht d))
  rw [← kept7 m c t ht d9]; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht0 : t.val = 0
  · exact sound_runA m c t ht0
  · by_cases ht : t.val % 7 = 0
    · exact sound_runB m c t ht0 ht
    · exact sound_runC m c t ht

/-- The launched body's definition. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The launch's scratch, named. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; rfl

/-- The launch's scratch gives the first invariant. -/
theorem inv_in (c : Dev nD) : (Pipeline.ΦA spec0 c : sProp 𝕄) ⊢ (dats m 0 c).Φ 0 := by
  rw [show (dats m 0 c).Φ 0 = inv m c 0 from by dsimp only [dats]; rfl, PhiA0_eq]
  unfold inv
  iintro ⟨⟨⟨%d, HS0⟩, HS1⟩, Hg⟩
  isplitl [HS0]
  · iexists d; isplitr
    · ipureintro; exact ⟨fun h => absurd rfl h, fun y _ h1 => absurd h1 (Nat.not_lt_zero _)⟩
    iexact HS0
  isplitl [HS1]; · iexact HS1
  iexact Hg

/-- The last invariant gives the scratch back. -/
theorem inv_out (c : Dev nD) (n : ℕ) : inv m c n ⊢ (Pipeline.ΦA spec0 c : sProp 𝕄) := by
  rw [PhiA0_eq]
  unfold inv
  iintro ⟨⟨%d, -, HS0⟩, HS1, Hg⟩
  isplitl [HS0 HS1]
  · isplitl [HS0]; · iexists d; iexact HS0
    iexact HS1
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := inv_in m) (hout := fun c => inv_out m c _)

/-- The run: every window's array is as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel9Ideal.Hand

end
-- ==== Proof.Proj.lean ====
/-
  Hand-written. The input projection: what the kernel's two results hold after the run, and that it is what the reference's
  operations compute, element by element: the normalized, modulated rows, and their product with the weights.
-/
module

public import proofs.«01_k».proof.Proof.Rms
public import proofs.«01_k».proof.Proof.ProjFrameIdeal
public import proofs.«01_k».proof.Proof.Gen.Reference9Ideal.Read
public import Idealize.ShloMosaic.Lib.IdealHost

@[expose] public section

set_option maxRecDepth 16384

noncomputable section

namespace Cert.Proof.Proj

open Idealize.ShloMosaic Idealize.ShloMosaic.ValueIdx Idealize.ShloMosaic.TcCoe Idealize.SL.Sem
open Idealize.ShloMosaic.Tactic
open Idealize.ShloMosaic.Pipeline (Dat)
open Cert.Proof.Common Cert.Proof.Rms Cert.Kernel9Ideal Cert.Kernel9Ideal.Gen Cert.Kernel9Ideal.Hand
open scoped BigOperators

/-- One, as the constant's bits spell it. -/
abbrev one : EReal := Ideal.ofBits .f32 0x3F800000#32

/-- A normalized, modulated element: the residual stream's element times its row's scale times the gain, times one plus the row's
    modulation, plus the row's shift. Row `a`'s modulation is that of its batch element `a / 2048`. -/
def norm (x : S9216x2048.Idx → EReal) (g : S2048.Idx → EReal) (mods : S8x9x1x2048.Idx → EReal) (a b : Nat) : EReal :=
  at2 x a b * rms (at2 x a) * at1 g b * (one + at4 mods (a / 2048) 4 0 b) + at4 mods (a / 2048) 3 0 b

/-- The left operand of the product: its first 1536 rows are given, the others are normalized here. -/
def left (u0 : S1536x2048.Idx → EReal) (x : S9216x2048.Idx → EReal) (g : S2048.Idx → EReal) (mods : S8x9x1x2048.Idx → EReal)
    (a b : Nat) : EReal := if a < 1536 then at2 u0 a b else norm x g mods a b

/-- The product at an element. -/
def elt (u0 : S1536x2048.Idx → EReal) (x : S9216x2048.Idx → EReal) (g : S2048.Idx → EReal) (mods : S8x9x1x2048.Idx → EReal)
    (w : S2048x3584.Idx → EReal) (a b : Nat) : EReal := ∑ k : Fin 2048, left u0 x g mods a k.val * at2 w k.val b

/-- The first result array. -/
def G (u0 : S1536x2048.Idx → EReal) (x : S9216x2048.Idx → EReal) (g : S2048.Idx → EReal) (mods : S8x9x1x2048.Idx → EReal)
    (w : S2048x3584.Idx → EReal) : S9216x3584.Idx → EReal := fun i => elt u0 x g mods w (i 0).val (i 1).val

/-- The second result array: the left operand itself. -/
def W (u0 : S1536x2048.Idx → EReal) (x : S9216x2048.Idx → EReal) (g : S2048.Idx → EReal) (mods : S8x9x1x2048.Idx → EReal) :
    S9216x2048.Idx → EReal := fun i => left u0 x g mods (i 0).val (i 1).val

/-! ## The kernel's operations, at an element -/

/-- Sixteen rows' scales, as the body computes them. -/
theorem stats_at (v : Vec Ideal S16x2048 .f32) (x : S16x1.Idx) : (k0_pay9 (F := Ideal) v x : EReal) = rms (at2 v (x 0).val) := by
  unfold k0_pay9
  have hx : x = ix2 (x 0) 0 := (eq_ix2 x).trans (congrArg (ix2 (x 0)) (Subsingleton.elim (α := Fin 1) (x 1) 0))
  refine (shapeCast_apply _ shapeCasts_S16x1_S16x1 x x rfl).trans ?_
  show Ideal.rsqrt (Ideal.div (shapeCast (α := EReal) S16x1 (multiReduction (F := Ideal) (φ := .f32) .add [1] S16 (mulf v v) 0x00000000#32 reduces_S16x2048_S16 (.inl rfl) rfl)
    shapeCasts_S16_S16x1 x) (Ideal.ofBits .f32 0x45000000#32) + Ideal.ofBits .f32 0x358637BD#32) = _
  unfold rms
  refine congrArg (fun z : EReal => Ideal.rsqrt (Ideal.div z (Ideal.ofBits .f32 0x45000000#32) + Ideal.ofBits .f32 0x358637BD#32)) ?_
  refine (congrArg _ hx).trans ((rowsum_at (mulf v v) reduces_S16x2048_S16 shapeCasts_S16_S16x1 (x 0)).trans
    (Finset.sum_congr rfl fun k _ => ?_))
  refine (at2_of (mulf (F := Ideal) (φ := .f32) v v : S16x2048.Idx → EReal) (ix2 (x 0) k) rfl rfl).symm.trans ?_
  exact congrArg₂ (· * ·) (at2_of v _ rfl rfl) (at2_of v _ rfl rfl)

/-- The row of gains times one plus the modulation. -/
theorem gain_row (x2 : Vec Ideal S1x2048 .f32) (x4 : Vec Ideal S1x1x1x2048 .f32) (q : Fin 2048) :
    (k0_pay7 (F := Ideal) (k0_pay6 x2) x4 (ix2 0 q) : EReal) = at2 x2 0 q.val * (one + at4 x4 0 0 0 q.val) := by
  unfold k0_pay7 k0_pay6
  refine congrArg₂ (· * ·) ((shapeCast_apply x2 shapeCasts_S1x2048_S1x2048 (ix2 0 q) (ix2 0 q) rfl).trans (at2_of x2 _ rfl rfl))
    (congrArg (one + ·) ?_)
  refine (shapeCast_apply x4 shapeCasts_S1x1x1x2048_S1x2048 (ix2 0 q) (ix4 0 0 0 q) (by
      rewrite [Shape.rowMajor_val_four, Shape.rowMajor_val_two]
      show ((0 * 1 + 0) * 1 + 0) * 2048 + q.val = 0 * 2048 + q.val; omega)).trans ?_
  exact at4_of x4 _ rfl rfl rfl rfl

/-- The row of shifts. -/
theorem shift_row (x3 : Vec Ideal S1x1x1x2048 .f32) (q : Fin 2048) :
    (k0_pay8 (F := Ideal) x3 (ix2 0 q) : EReal) = at4 x3 0 0 0 q.val := by
  unfold k0_pay8
  refine (shapeCast_apply x3 shapeCasts_S1x1x1x2048_S1x2048 (ix2 0 q) (ix4 0 0 0 q) (by
      rewrite [Shape.rowMajor_val_four, Shape.rowMajor_val_two]
      show ((0 * 1 + 0) * 1 + 0) * 2048 + q.val = 0 * 2048 + q.val; omega)).trans ?_
  exact at4_of x3 _ rfl rfl rfl rfl

/-- Sixteen rows modulated, at an element, from the rows, their scales and the two modulation rows. -/
theorem mod_at (sc sh : FVec Ideal S1x2048 .f32) (v : Vec Ideal S16x2048 .f32) (r : Vec Ideal S16x1 .f32) (s : Fin 16) (q : Fin 2048) :
    (k0_pay1 (F := Ideal) sc sh v r (ix3 0 s q) : EReal)
      = v (ix2 s q) * r (ix2 s 0) * sc (ix2 0 q) + sh (ix2 0 q) := by
  unfold k0_pay1
  refine (shapeCast_apply _ shapeCasts_S16x2048_S1x16x2048 (ix3 0 s q) (ix2 s q) (by
      rewrite [Shape.rowMajor_val_two, Shape.rowMajor_val_three]
      show s.val * 2048 + q.val = (0 * 16 + s.val) * 2048 + q.val; omega)).trans ?_
  refine (shapeCast_apply _ shapeCasts_S16x2048_S16x2048 (ix2 s q) (ix2 s q) rfl).trans ?_
  show (v (ix2 s q) : EReal) * broadcastTo (α := EReal) S16x2048 r broadcasts_S16x1_S16x2048 (ix2 s q)
      * broadcastTo (α := EReal) S16x2048 sc broadcasts_S1x2048_S16x2048 (ix2 s q)
      + broadcastTo (α := EReal) S16x2048 sh broadcasts_S1x2048_S16x2048 (ix2 s q) = _
  rw [broadcastTo_apply r broadcasts_S16x1_S16x2048 (ix2 s q) (ix2 s 0) (fun a => match a with
      | ⟨0, _⟩ => rfl
      | ⟨1, _⟩ => rfl),
    broadcastTo_apply sc broadcasts_S1x2048_S16x2048 (ix2 s q) (ix2 0 q) (fun a => match a with
      | ⟨0, _⟩ => rfl
      | ⟨1, _⟩ => rfl),
    broadcastTo_apply sh broadcasts_S1x2048_S16x2048 (ix2 s q) (ix2 0 q) (fun a => match a with
      | ⟨0, _⟩ => rfl
      | ⟨1, _⟩ => rfl)]

/-- A chunk's element is its block's. -/
theorem chunk_at (x1 : Vec Ideal S256x2048 .f32) (k : Fin 16) (s q : Nat) (hs : s < 16) (hq : q < 2048) :
    at2 (chunk (F := Ideal) x1 k : S16x2048.Idx → EReal) s q = at2 x1 (16 * k.val + s) q :=
  (at2_of (chunk (F := Ideal) x1 k : S16x2048.Idx → EReal) (ix2 ⟨s, hs⟩ ⟨q, hq⟩) rfl rfl).symm.trans (at2_of x1 _ rfl rfl)

/-- Sixteen rows of a block normalized and modulated, at an element. -/
theorem piece_at (x1 : Vec Ideal S256x2048 .f32) (x2 : Vec Ideal S1x2048 .f32) (x3 x4 : Vec Ideal S1x1x1x2048 .f32) (k : Fin 16)
    (s : Fin 16) (q : Fin 2048) : (Cert.Kernel9Ideal.Hand.piece (F := Ideal) x1 x2 x3 x4 k (ix3 0 s q) : EReal)
      = at2 x1 (16 * k.val + s.val) q.val * rms (at2 x1 (16 * k.val + s.val)) * at2 x2 0 q.val * (one + at4 x4 0 0 0 q.val)
        + at4 x3 0 0 0 q.val := by
  unfold Cert.Kernel9Ideal.Hand.piece
  refine (mod_at _ _ _ _ s q).trans ?_
  rw [stats_at, gain_row, shift_row]
  refine congrArg (· + _) ?_
  refine Eq.trans (congrArg₂ (· * ·) (congrArg₂ (· * ·)
    ((at2_of (chunk (F := Ideal) x1 k : S16x2048.Idx → EReal) _ rfl rfl).trans (chunk_at x1 k s.val q.val s.isLt q.isLt))
    (rms_congr _ _ fun j hj => chunk_at x1 k s.val j s.isLt hj)) rfl) ?_
  exact (mul_assoc _ _ _).symm

/-- The block that one grid point leaves of the product, at an element. -/
def blockElt (u : S1x1536x2048.Idx → EReal) (x5 : S2048x512.Idx → EReal) (y : S1536x512.Idx) : EReal :=
  ∑ k : Fin 2048, at3 u 0 (y 0).val k.val * at2 x5 k.val (y 1).val

/-- The body's product leaves `blockElt`. -/
theorem out_eq (u : Vec Ideal S1x1536x2048 .bf16) (x5 : Vec Ideal S2048x512 .bf16) :
    (k0_pay5 (F := Ideal) u x5 : S1536x512.Idx → EReal) = blockElt u x5 := by
  refine funext fun (x : S1536x512.Idx) => ?_
  unfold k0_pay5 blockElt
  refine ((matmul_at dot_S1536x2048_S2048x512_S1536x512_1_0_0_1_n_n rfl none _ _ _ x).trans (zero_acc x _)).trans
    (Finset.sum_congr rfl fun k _ => congrArg₂ (· * ·) ?_ (at2_of x5 _ rfl rfl))
  refine (shapeCast_apply u shapeCasts_S1x1536x2048_S1536x2048 (ix2 (x 0) k) (ix3 0 (x 0) k) (by
    rewrite [Shape.rowMajor_val_three, Shape.rowMajor_val_two]
    show (0 * 1536 + (x 0).val) * 2048 + k.val = (x 0).val * 2048 + k.val; omega)).trans ?_
  exact at3_of u _ rfl rfl rfl

/-- The copied tile at an element. -/
theorem copy_at (u : Vec Ideal S1x1536x2048 .bf16) (y : S1536x2048.Idx) :
    (k0_pay4 (F := Ideal) u y : EReal) = at3 u 0 (y 0).val (y 1).val := by
  unfold k0_pay4
  refine (shapeCast_apply u shapeCasts_S1x1536x2048_S1536x2048 y (ix3 0 (y 0) (y 1)) (by
      rewrite [Shape.rowMajor_val_three, Shape.rowMajor_val_two]
      show (0 * 1536 + (y 0).val) * 2048 + (y 1).val = (y 0).val * 2048 + (y 1).val; omega)).trans ?_
  exact at3_of u _ rfl rfl rfl

/-! ## The windows' blocks, by position -/

/-- Window 0's block index at a point. -/
theorem idx0 : ∀ t : Fin cfg0.N, win0_0.index t 0 = 0 ∧ win0_0.index t 1 = 0 :=
  (by decide +kernel : ∀ t : Fin grid0.N, win0_0.index t 0 = 0 ∧ win0_0.index t 1 = 0)
/-- Window 1's block index at a point. -/
theorem idx1 : ∀ t : Fin cfg0.N, win0_1.index t 0 = min (t.val / 7 + 1) 5 * 6 + min (t.val % 7) 5 ∧ win0_1.index t 1 = 0 :=
  (by decide +kernel : ∀ t : Fin grid0.N, win0_1.index t 0 = min (t.val / 7 + 1) 5 * 6 + min (t.val % 7) 5 ∧ win0_1.index t 1 = 0)
/-- Window 2's block index at a point. -/
theorem idx2 : ∀ t : Fin cfg0.N, win0_2.index t 0 = 0 ∧ win0_2.index t 1 = 0 :=
  (by decide +kernel : ∀ t : Fin grid0.N, win0_2.index t 0 = 0 ∧ win0_2.index t 1 = 0)
/-- Window 3's block index at a point. -/
theorem idx3 : ∀ t : Fin cfg0.N, win0_3.index t 0 = (min (t.val / 7 + 1) 5 * 6 + min (t.val % 7) 5) / 8 ∧ win0_3.index t 1 = 3 ∧ win0_3.index t 2 = 0
    ∧ win0_3.index t 3 = 0 :=
  (by decide +kernel : ∀ t : Fin grid0.N, win0_3.index t 0 = (min (t.val / 7 + 1) 5 * 6 + min (t.val % 7) 5) / 8 ∧ win0_3.index t 1 = 3
    ∧ win0_3.index t 2 = 0 ∧ win0_3.index t 3 = 0)
/-- Window 4's block index at a point. -/
theorem idx4 : ∀ t : Fin cfg0.N, win0_4.index t 0 = (min (t.val / 7 + 1) 5 * 6 + min (t.val % 7) 5) / 8 ∧ win0_4.index t 1 = 4 ∧ win0_4.index t 2 = 0
    ∧ win0_4.index t 3 = 0 :=
  (by decide +kernel : ∀ t : Fin grid0.N, win0_4.index t 0 = (min (t.val / 7 + 1) 5 * 6 + min (t.val % 7) 5) / 8 ∧ win0_4.index t 1 = 4
    ∧ win0_4.index t 2 = 0 ∧ win0_4.index t 3 = 0)
/-- Window 5's block index at a point. -/
theorem idx5 : ∀ t : Fin cfg0.N, win0_5.index t 0 = 0 ∧ win0_5.index t 1 = t.val % 7 :=
  (by decide +kernel : ∀ t : Fin grid0.N, win0_5.index t 0 = 0 ∧ win0_5.index t 1 = t.val % 7)
/-- Window 6's block index at a point. -/
theorem idx6 : ∀ t : Fin cfg0.N, win0_6.index t 0 = t.val / 7 ∧ win0_6.index t 1 = t.val % 7 :=
  (by decide +kernel : ∀ t : Fin grid0.N, win0_6.index t 0 = t.val / 7 ∧ win0_6.index t 1 = t.val % 7)
/-- Window 7's block index at a point. -/
theorem idx7 : ∀ t : Fin cfg0.N, win0_7.index t 0 = t.val / 7 ∧ win0_7.index t 1 = 0 :=
  (by decide +kernel : ∀ t : Fin grid0.N, win0_7.index t 0 = t.val / 7 ∧ win0_7.index t 1 = 0)
/-- A tile's copy is written back at the tile's last point. -/
theorem flushes7 : ∀ t : Fin cfg0.N, t.val % 7 = 6 → (cfg0.win 7).flush t = true :=
  (by decide +kernel : ∀ t : Fin grid0.N, t.val % 7 = 6 → win0_7.flush t = true)

variable (m : (ℓ : Loc nD τ sig) → Buf (Elt Ideal) ℓ) (ρ : Dev nD → PrngReg)

/-- The launched arguments, as arrays of extended reals. -/
abbrev A0 (c : Dev nD) : S1536x2048.Idx → EReal := m ((c : Thread nD τ).loc main_arg0)
abbrev A1 (c : Dev nD) : S9216x2048.Idx → EReal := m ((c : Thread nD τ).loc main_arg1)
abbrev A2 (c : Dev nD) : S2048.Idx → EReal := m ((c : Thread nD τ).loc main_arg2)
abbrev A3 (c : Dev nD) : S8x9x1x2048.Idx → EReal := m ((c : Thread nD τ).loc main_arg3)
abbrev A4 (c : Dev nD) : S2048x3584.Idx → EReal := m ((c : Thread nD τ).loc main_arg4)

/-- The gain as the launch finds it: one row. -/
theorem gain_eq (c : Dev nD) : (V m c main_v0 : S1x2048.Idx → EReal)
    = shapeCast S1x2048 (A2 m c) shapeCasts_S2048_S1x2048 := by
  show StableHlo.after hostOps0 (fun b => m (c, b)) _ = _
  unfold hostOps0
  rfl

/-- That row at an element. -/
theorem gain_at (c : Dev nD) (i : S1x2048.Idx) : (V m c main_v0 : S1x2048.Idx → EReal) i = at1 (A2 m c) (i 1).val := by
  have h0 : (i 0).val < 1 := (i 0).isLt
  rw [gain_eq]
  refine (shapeCast_apply (A2 m c) shapeCasts_S2048_S1x2048 i (ix1 (i 1)) (by
    rewrite [Shape.rowMajor_val_two, Shape.rowMajor_val_one]
    show (i 1).val = (i 0).val * 2048 + (i 1).val; omega)).trans ?_
  exact at1_of (A2 m c) _ rfl

/-- Window 0's block holds these elements of its array. -/
theorem blk0 (c : Dev nD) (t : Fin cfg0.N) (j : S1536x2048.Idx) :
    (iblk m c 0 t : S1536x2048.Idx → EReal) j = at2 (A0 m c) (j 0).val (j 1).val := by
  unfold iblk
  rw [View.read_apply]
  refine (congrFun (V_main_arg0 m c) _).trans (at2_of (A0 m c) _ ?_ ?_)
  · show win0_0.index t 0 * 1536 + 1 * (j 0).val = _; rw [(idx0 t).1]; omega
  · show win0_0.index t 1 * 2048 + 1 * (j 1).val = _; rw [(idx0 t).2]; omega

/-- Window 1's block holds these elements of its array. -/
theorem blk1 (c : Dev nD) (t : Fin cfg0.N) (a b : Nat) (ha : a < 256) (hb : b < 2048) :
    at2 (iblk m c 1 t : S256x2048.Idx → EReal) a b
      = at2 (A1 m c) ((min (t.val / 7 + 1) 5 * 6 + min (t.val % 7) 5) * 256 + a) b := by
  refine (at2_of (iblk m c 1 t : S256x2048.Idx → EReal) (ix2 ⟨a, ha⟩ ⟨b, hb⟩) rfl rfl).symm.trans ?_
  unfold iblk
  rw [View.read_apply]
  refine (congrFun (V_main_arg1 m c) _).trans (at2_of (A1 m c) _ ?_ ?_)
  · show win0_1.index t 0 * 256 + 1 * a = _; rw [(idx1 t).1]; omega
  · show win0_1.index t 1 * 2048 + 1 * b = _; rw [(idx1 t).2]; omega

/-- Window 2's block holds these elements of its array. -/
theorem blk2 (c : Dev nD) (t : Fin cfg0.N) (b : Nat) (hb : b < 2048) :
    at2 (iblk m c 2 t : S1x2048.Idx → EReal) 0 b = at1 (A2 m c) b := by
  refine (at2_of (iblk m c 2 t : S1x2048.Idx → EReal) (ix2 0 ⟨b, hb⟩) rfl rfl).symm.trans ?_
  unfold iblk
  rw [View.read_apply]
  refine (gain_at m c _).trans (congrArg (at1 (A2 m c)) ?_)
  show win0_2.index t 1 * 2048 + 1 * b = _; rw [(idx2 t).2]; omega

/-- Window 3's block holds these elements of its array. -/
theorem blk3 (c : Dev nD) (t : Fin cfg0.N) (b : Nat) (hb : b < 2048) :
    at4 (iblk m c 3 t : S1x1x1x2048.Idx → EReal) 0 0 0 b = at4 (A3 m c) ((min (t.val / 7 + 1) 5 * 6 + min (t.val % 7) 5) / 8) 3 0 b := by
  refine (at4_of (iblk m c 3 t : S1x1x1x2048.Idx → EReal) (ix4 0 0 0 ⟨b, hb⟩) rfl rfl rfl rfl).symm.trans ?_
  unfold iblk
  rw [View.read_apply]
  refine (congrFun (V_main_arg3 m c) _).trans (at4_of (A3 m c) _ ?_ ?_ ?_ ?_)
  · show win0_3.index t 0 * 1 + 1 * 0 = _; rw [(idx3 t).1]; omega
  · show win0_3.index t 1 * 1 + 1 * 0 = _; rw [(idx3 t).2.1]
  · show win0_3.index t 2 * 1 + 1 * 0 = _; rw [(idx3 t).2.2.1]
  · show win0_3.index t 3 * 2048 + 1 * b = _; rw [(idx3 t).2.2.2]; omega

/-- Window 4's block holds these elements of its array. -/
theorem blk4 (c : Dev nD) (t : Fin cfg0.N) (b : Nat) (hb : b < 2048) :
    at4 (iblk m c 4 t : S1x1x1x2048.Idx → EReal) 0 0 0 b = at4 (A3 m c) ((min (t.val / 7 + 1) 5 * 6 + min (t.val % 7) 5) / 8) 4 0 b := by
  refine (at4_of (iblk m c 4 t : S1x1x1x2048.Idx → EReal) (ix4 0 0 0 ⟨b, hb⟩) rfl rfl rfl rfl).symm.trans ?_
  unfold iblk
  rw [View.read_apply]
  refine (congrFun (V_main_arg3 m c) _).trans (at4_of (A3 m c) _ ?_ ?_ ?_ ?_)
  · show win0_4.index t 0 * 1 + 1 * 0 = _; rw [(idx4 t).1]; omega
  · show win0_4.index t 1 * 1 + 1 * 0 = _; rw [(idx4 t).2.1]
  · show win0_4.index t 2 * 1 + 1 * 0 = _; rw [(idx4 t).2.2.1]
  · show win0_4.index t 3 * 2048 + 1 * b = _; rw [(idx4 t).2.2.2]; omega

/-- Window 5's block holds these elements of its array. -/
theorem blk5 (c : Dev nD) (t : Fin cfg0.N) (a b : Nat) (ha : a < 2048) (hb : b < 512) :
    at2 (iblk m c 5 t : S2048x512.Idx → EReal) a b = at2 (A4 m c) a (t.val % 7 * 512 + b) := by
  refine (at2_of (iblk m c 5 t : S2048x512.Idx → EReal) (ix2 ⟨a, ha⟩ ⟨b, hb⟩) rfl rfl).symm.trans ?_
  unfold iblk
  rw [View.read_apply]
  refine (congrFun (V_main_arg4 m c) _).trans (at2_of (A4 m c) _ ?_ ?_)
  · show win0_5.index t 0 * 2048 + 1 * a = _; rw [(idx5 t).1]; omega
  · show win0_5.index t 1 * 512 + 1 * b = _; rw [(idx5 t).2]; omega

/-! ## The results -/

/-- The rows that one point normalizes, at an element: `r` is the row's place in its tile of 1536 rows. -/
theorem rows_at (c : Dev nD) (t : Fin cfg0.N) (k : Fin 16) (s : Fin 16) (q : Fin 2048) (a : Nat)
    (ha : a = (min (t.val / 7 + 1) 5 * 6 + min (t.val % 7) 5) * 256 + (16 * k.val + s.val)) :
    (rows m c t k (ix3 0 s q) : EReal) = norm (A1 m c) (A2 m c) (A3 m c) a q.val := by
  have hk : 16 * k.val + s.val < 256 := by have := k.isLt; have := s.isLt; omega
  unfold rows norm
  rw [show a / 2048 = (min (t.val / 7 + 1) 5 * 6 + min (t.val % 7) 5) / 8 by omega]
  subst ha
  refine (piece_at (iblk m c 1 t) (iblk m c 2 t) (iblk m c 3 t) (iblk m c 4 t) k s q).trans ?_
  rw [blk1 m c t _ _ hk q.isLt, blk2 m c t _ q.isLt, blk3 m c t _ q.isLt, blk4 m c t _ q.isLt,
    rms_congr _ _ fun j hj => blk1 m c t _ j hk hj]

/-- The tile's rows, at an element. -/
theorem tile_at (c : Dev nD) (n : Nat) (hn : n < 6) (r : Fin 1536) (q : Fin 2048) :
    (U m c n r q : EReal) = left (A0 m c) (A1 m c) (A2 m c) (A3 m c) (n * 1536 + r.val) q.val := by
  have hr := r.isLt
  unfold U left
  by_cases h : n = 0
  · subst h
    rw [if_pos rfl, if_pos (by omega)]
    refine (blk0 m c _ (ix2 r q)).trans (congrArg (fun z => at2 (A0 m c) z q.val) ?_)
    show r.val = 0 * 1536 + r.val; omega
  · rw [if_neg h, dif_pos (by omega), if_neg (by omega)]
    refine rows_at m c _ _ _ q _ ?_
    show n * 1536 + r.val = (min ((7 * (n - 1) + r.val / 256) / 7 + 1) 5 * 6 + min ((7 * (n - 1) + r.val / 256) % 7) 5) * 256
      + (16 * (r.val % 256 / 16) + r.val % 16)
    omega

/-- The multiplied tile at an element is the left operand's. -/
theorem tile_left (c : Dev nD) (t : Fin cfg0.N) (a b : Nat) (ha : a < 1536) (hb : b < 2048) :
    at3 (tile m c (t.val / 7) : S1x1536x2048.Idx → EReal) 0 a b
      = left (A0 m c) (A1 m c) (A2 m c) (A3 m c) (t.val / 7 * 1536 + a) b := by
  have ht : t.val < 42 := t.isLt.trans_eq N_0
  exact (at3_of (tile m c (t.val / 7) : S1x1536x2048.Idx → EReal) (ix3 0 ⟨a, ha⟩ ⟨b, hb⟩) rfl rfl rfl).symm.trans
    (tile_at m c (t.val / 7) (by omega) ⟨a, ha⟩ ⟨b, hb⟩)

/-- What one grid point writes back of the product is its block of the result array. -/
theorem flushed_eq6 (c : Dev nD) (t : Fin cfg0.N) : (dats m 0 c).flushed 6 t
    = ((cfg0.win 6).blk t).view.read (Elt Ideal) (G (A0 m c) (A1 m c) (A2 m c) (A3 m c) (A4 m c)) := by
  show (cfg0.win 6).cut (grid0.coords t) ((dats m 0 c).after 6 t) = _
  rw [after0_6, out_eq]
  refine funext fun (y : S1536x512.Idx) => ?_
  have h0 : (y 0).val < 1536 := (y 0).isLt
  have h1 : (y 1).val < 512 := (y 1).isLt
  have hr : (((cfg0.win 6).blk t).view.emb y 0).val = t.val / 7 * 1536 + (y 0).val := by
    show win0_6.index t 0 * 1536 + 1 * (y 0).val = _; rw [(idx6 t).1]; omega
  have hc : (((cfg0.win 6).blk t).view.emb y 1).val = t.val % 7 * 512 + (y 1).val := by
    show win0_6.index t 1 * 512 + 1 * (y 1).val = _; rw [(idx6 t).2]; omega
  refine Eq.trans ?_ (congrArg₂ (elt (A0 m c) (A1 m c) (A2 m c) (A3 m c) (A4 m c)) hr hc).symm
  show blockElt (tile m c (t.val / 7)) (iblk m c 5 t) y = _
  unfold blockElt elt
  refine Finset.sum_congr rfl fun k _ => ?_
  rw [tile_left m c t _ _ h0 k.isLt, blk5 m c t _ _ k.isLt h1]

/-- The first result array after the run. -/
theorem final6 (c : Dev nD) : (dats m 0 c).arrAt 6 cfg0.N = G (A0 m c) (A1 m c) (A2 m c) (A3 m c) (A4 m c) :=
  (dats m 0 c).arrAt_eq_of_cover 6 (G (A0 m c) (A1 m c) (A2 m c) (A3 m c) (A4 m c)) (fun t _ => flushed_eq6 m c t)
    fun (i : S9216x3584.Idx) => by
      have h0 : (i 0).val < 9216 := (i 0).isLt
      have h1 : (i 1).val < 3584 := (i 1).isLt
      have hN : cfg0.N = 42 := N_0
      refine ⟨⟨(i 0).val / 1536 * 7 + (i 1).val / 512, by omega⟩, flush0_6 _, ?_⟩
      generalize hT : (⟨(i 0).val / 1536 * 7 + (i 1).val / 512, by omega⟩ : Fin cfg0.N) = t
      have ht : t.val = (i 0).val / 1536 * 7 + (i 1).val / 512 := by rw [← hT]
      show i ∈ ((View.whole main_v1_0).slice (win0_6.rect t)).set
      rw [View.set_slice_whole, Rect.mem_set_unit]
      intro a
      match a with
      | ⟨0, _⟩ =>
        show win0_6.index t 0 * 1536 ≤ (i 0).val ∧ (i 0).val < win0_6.index t 0 * 1536 + 1536
        rw [(idx6 t).1]; omega
      | ⟨1, _⟩ =>
        show win0_6.index t 1 * 512 ≤ (i 1).val ∧ (i 1).val < win0_6.index t 1 * 512 + 512
        rw [(idx6 t).2]; omega

/-- What one grid point writes back of the second result is its tile of the left operand. -/
theorem flushed_eq7 (c : Dev nD) (t : Fin cfg0.N) : (dats m 0 c).flushed 7 t
    = ((cfg0.win 7).blk t).view.read (Elt Ideal) (W (A0 m c) (A1 m c) (A2 m c) (A3 m c)) := by
  show (cfg0.win 7).cut (grid0.coords t) ((dats m 0 c).after 7 t) = _
  rw [after0_7]
  refine funext fun (y : S1536x2048.Idx) => ?_
  have h0 : (y 0).val < 1536 := (y 0).isLt
  have h1 : (y 1).val < 2048 := (y 1).isLt
  have hr : (((cfg0.win 7).blk t).view.emb y 0).val = t.val / 7 * 1536 + (y 0).val := by
    show win0_7.index t 0 * 1536 + 1 * (y 0).val = _; rw [(idx7 t).1]; omega
  have hc : (((cfg0.win 7).blk t).view.emb y 1).val = (y 1).val := by
    show win0_7.index t 1 * 2048 + 1 * (y 1).val = _; rw [(idx7 t).2]; omega
  refine Eq.trans ?_ (congrArg₂ (left (A0 m c) (A1 m c) (A2 m c) (A3 m c)) hr hc).symm
  exact (copy_at (tile m c (t.val / 7)) y).trans (tile_left m c t _ _ h0 h1)

/-- The second result array after the run. -/
theorem final7 (c : Dev nD) : (dats m 0 c).arrAt 7 cfg0.N = W (A0 m c) (A1 m c) (A2 m c) (A3 m c) :=
  (dats m 0 c).arrAt_eq_of_cover 7 (W (A0 m c) (A1 m c) (A2 m c) (A3 m c)) (fun t _ => flushed_eq7 m c t)
    fun (i : S9216x2048.Idx) => by
      have h0 : (i 0).val < 9216 := (i 0).isLt
      have h1 : (i 1).val < 2048 := (i 1).isLt
      have hN : cfg0.N = 42 := N_0
      obtain ⟨t, ht⟩ : ∃ t : Fin cfg0.N, t.val = (i 0).val / 1536 * 7 + 6 := ⟨⟨(i 0).val / 1536 * 7 + 6, by omega⟩, rfl⟩
      refine ⟨t, flushes7 t (by omega), ?_⟩
      show i ∈ ((View.whole main_v1_1).slice (win0_7.rect t)).set
      rw [View.set_slice_whole, Rect.mem_set_unit]
      intro a
      match a with
      | ⟨0, _⟩ =>
        show win0_7.index t 0 * 1536 ≤ (i 0).val ∧ (i 0).val < win0_7.index t 0 * 1536 + 1536
        rw [(idx7 t).1]; omega
      | ⟨1, _⟩ =>
        show win0_7.index t 1 * 2048 ≤ (i 1).val ∧ (i 1).val < win0_7.index t 1 * 2048 + 2048
        rw [(idx7 t).2]; omega

/-- The kernel's run: the result arrays named, the arguments unchanged. -/
theorem run : θ_run defs (onTc (τ := τ) (main (F := Ideal))) ⟨m, fun _ => 0, ρ⟩ fun r => ∀ c : Dev nD,
      r.2.mem ((c : Thread nD τ).loc main_v1_0) = G (A0 m c) (A1 m c) (A2 m c) (A3 m c) (A4 m c)
      ∧ r.2.mem ((c : Thread nD τ).loc main_v1_1) = W (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.2 c).1 6).trans (final6 m c), ((h.2 c).1 7).trans (final7 m c), h.1 c⟩)
    (θ_run_and (unchanged m ρ) (run_main m ρ))

/-! ## The reference -/

open Cert.Reference9Ideal.Read in
/-- The shifts, one row per row of the residual stream. -/
theorem shift_at (x3 : S8x9x1x2048.Idx → EReal) (i : S9216x2048.Idx) :
    (val_main_v7 (F := Ideal) x3 i : EReal) = at4 x3 ((i 0).val / 2048) 3 0 (i 1).val := by
  have h0 : (i 0).val < 9216 := (i 0).isLt
  have h1 : (i 1).val < 2048 := (i 1).isLt
  unfold val_main_v7
  by_cases hi : (i 0).val < 8192
  · refine (join_upper _ _ _ i hi).trans ?_
    rw [val_main_v3_apply, val_main_v2_apply, val_main_v1_apply, val_main_v0_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v6_apply, val_main_v5_apply, val_main_v4_apply]
    refine at4_of x3 _ ?_ rfl rfl ?_
    · show 4 + 0 = _; omega
    · show (0 * 2048 + (i 1).val) % 2048 = _; omega

open Cert.Reference9Ideal.Read in
/-- The modulations, one row per row of the residual stream. -/
theorem scale_at (x3 : S8x9x1x2048.Idx → EReal) (i : S9216x2048.Idx) :
    (val_main_v15 (F := Ideal) x3 i : EReal) = at4 x3 ((i 0).val / 2048) 4 0 (i 1).val := by
  have h0 : (i 0).val < 9216 := (i 0).isLt
  have h1 : (i 1).val < 2048 := (i 1).isLt
  unfold val_main_v15
  by_cases hi : (i 0).val < 8192
  · refine (join_upper _ _ _ i hi).trans ?_
    rw [val_main_v11_apply, val_main_v10_apply, val_main_v9_apply, val_main_v8_apply]
    refine at4_of x3 _ ?_ rfl rfl ?_
    · show (((((i 0).val * 2048 + (i 1).val) / 4194304) * 1 + 0) * 2048 + ((i 0).val * 2048 + (i 1).val) % 2048) / 2048 = _
      omega
    · show (((((i 0).val * 2048 + (i 1).val) / 4194304) * 1 + 0) * 2048 + ((i 0).val * 2048 + (i 1).val) % 2048) % 2048 = _
      omega
  · refine (join_lower _ _ _ i (by omega) (by omega)).trans ?_
    rw [val_main_v14_apply, val_main_v13_apply, val_main_v12_apply]
    refine at4_of x3 _ ?_ rfl rfl ?_
    · show 4 + 0 = _; omega
    · show (0 * 2048 + (i 1).val) % 2048 = _; omega

open Cert.Reference9Ideal.Read in
/-- The reference's normalized, modulated rows. -/
theorem norm_at (x1 : S9216x2048.Idx → EReal) (x2 : S2048.Idx → EReal) (x3 : S8x9x1x2048.Idx → EReal) (i : S9216x2048.Idx) :
    (val_main_v33 (F := Ideal) x1 x2 x3 i : EReal) = norm x1 x2 x3 (i 0).val (i 1).val := by
  have hr : (val_main_v24 (F := Ideal) x1 i : EReal) = rms (at2 x1 (i 0).val) := by
    rw [val_main_v24_apply, val_main_v23_apply, val_main_v22_apply, val_main_v20_apply, val_main_v18_apply, val_main_v17_apply,
      val_main_v19_apply, val_main_v21_apply, val_main_cst_apply, val_main_cst_0_apply, val_main_cst_1_apply]
    unfold rms
    show Ideal.rsqrt (Ideal.div (Ideal.ofBits .f32 0x00000000#32 + _) (Ideal.ofBits .f32 0x45000000#32)
      + Ideal.ofBits .f32 0x358637BD#32) = _
    rw [Ideal.ofBits_zero_f32, zero_add]
    refine congrArg (fun z : EReal => Ideal.rsqrt (Ideal.div z (Ideal.ofBits .f32 0x45000000#32) + Ideal.ofBits .f32 0x358637BD#32))
      (Finset.sum_congr rfl fun k _ => ?_)
    rw [val_main_v16_apply]
    exact congrArg₂ (· * ·) (at2_of x1 _ rfl rfl) (at2_of x1 _ rfl rfl)
  rw [val_main_v33_apply, val_main_v32_apply, val_main_v31_apply, val_main_v28_apply, val_main_v25_apply, hr, val_main_v27_apply,
    val_main_v26_apply, val_main_v30_apply, val_main_v29_apply, val_main_cst_2_apply, scale_at, shift_at]
  refine congrArg₂ (· + ·) (congrArg₂ (· * ·) (congrArg₂ (· * ·) (congrArg (fun z : EReal => z * _) (at2_of x1 _ rfl rfl))
    (at1_of x2 _ rfl)) rfl) rfl

open Cert.Reference9Ideal.Read in
/-- The reference's left operand. -/
theorem left_at (x0 : S1536x2048.Idx → EReal) (x1 : S9216x2048.Idx → EReal) (x2 : S2048.Idx → EReal)
    (x3 : S8x9x1x2048.Idx → EReal) (i : S9216x2048.Idx) :
    (val_main_v35 (F := Ideal) x0 x1 x2 x3 i : EReal) = left x0 x1 x2 x3 (i 0).val (i 1).val := by
  have h0 : (i 0).val < 9216 := (i 0).isLt
  unfold val_main_v35 left
  by_cases hi : (i 0).val < 1536
  · rw [if_pos hi]
    exact (join_upper _ _ _ i hi).trans (at2_of x0 _ rfl rfl)
  · rw [if_neg hi]
    refine (join_lower _ _ _ i (by omega) (by omega)).trans ?_
    rw [val_main_v34_apply, norm_at]
    refine congrArg (fun z => norm x1 x2 x3 z (i 1).val) ?_
    show 1536 + ((i 0).val - 1536) = _; omega

open Cert.Reference9Ideal.Read in
/-- The reference's first result is the same array. -/
theorem ref_eq (x0 : S1536x2048.Idx → EReal) (x1 : S9216x2048.Idx → EReal) (x2 : S2048.Idx → EReal)
    (x3 : S8x9x1x2048.Idx → EReal) (x4 : S2048x3584.Idx → EReal) :
    val_main_v36 (F := Ideal) x0 x1 x2 x3 x4 = G x0 x1 x2 x3 x4 := by
  refine funext fun (i : S9216x3584.Idx) => ?_
  refine (val_main_v36_apply x0 x1 x2 x3 x4 i).trans ?_
  show _ = elt x0 x1 x2 x3 x4 (i 0).val (i 1).val
  unfold elt
  exact Finset.sum_congr rfl fun k _ => congrArg₂ (· * ·) (left_at x0 x1 x2 x3 _) (at2_of x4 _ rfl rfl)

open Cert.Reference9Ideal.Read in
/-- The reference's second result is the same array. -/
theorem ref_eq_copy (x0 : S1536x2048.Idx → EReal) (x1 : S9216x2048.Idx → EReal) (x2 : S2048.Idx → EReal)
    (x3 : S8x9x1x2048.Idx → EReal) : val_main_v35 (F := Ideal) x0 x1 x2 x3 = W x0 x1 x2 x3 :=
  funext fun (i : S9216x2048.Idx) => left_at x0 x1 x2 x3 i

end Cert.Proof.Proj

end
-- ==== Proof.FfnAFrame.lean ====
/-
  Hand-written. The printed program of the first feed-forward product and its reading over the ideal numbers are one program under two names:
  no operation was rewritten. So the frame proved for the second one is the frame of the first.
-/
module

public import proofs.«01_k».proof.Proof.Gen.Kernel5.Frame
public import proofs.«01_k».proof.Proof.FfnAFrameIdeal

@[expose] public section
set_option maxRecDepth 16384
noncomputable section

namespace Cert.Kernel5.Hand
open Idealize.ShloMosaic Idealize.ShloMosaic.TcCoe Idealize.SL.Sem
variable {F : FTy → Type} [FloatOps F]

/-- The two kernel functions are one. -/
theorem body_same : @cc0_ffn_a F _ _ = @Cert.Kernel5Ideal.cc0_ffn_a F _ _ := rfl

/-- So are the labels' bodies. -/
theorem defs0_same : (defs₀ (F := F)) = Cert.Kernel5Ideal.defs₀ := by
  refine congrArg Defs.onTc (funext fun l => funext fun a => ?_)
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _
  | ⟨_ + 1, h⟩, _ => exact absurd h (Nat.not_lt.2 (Nat.le_add_left _ _))

/-- So are the programs' definitions. -/
theorem defs_same : (defs (F := F)) = Cert.Kernel5Ideal.defs := congrArg (Pipeline.defs pcfgs) defs0_same

variable (m : (ℓ : Loc nD τ sig) → Buf (Elt F) ℓ) (ρ : Dev nD → PrngReg)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_same]
  exact Cert.Kernel5Ideal.Hand.frame (F := F) m ρ

end Cert.Kernel5.Hand
end
-- ==== Proof.FfnAFrame7.lean ====
/-
  Hand-written. The printed program of the first product of the first half and its reading over the ideal numbers are one program under two names:
  no operation was rewritten. So the frame proved for the second one is the frame of the first.
-/
module

public import proofs.«01_k».proof.Proof.Gen.Kernel7.Frame
public import proofs.«01_k».proof.Proof.FfnAFrame7Ideal

@[expose] public section
set_option maxRecDepth 16384
noncomputable section

namespace Cert.Kernel7.Hand
open Idealize.ShloMosaic Idealize.ShloMosaic.TcCoe Idealize.SL.Sem
variable {F : FTy → Type} [FloatOps F]

/-- The two kernel functions are one. -/
theorem body_same : @cc0_ffn_a F _ _ = @Cert.Kernel7Ideal.cc0_ffn_a F _ _ := rfl

/-- So are the labels' bodies. -/
theorem defs0_same : (defs₀ (F := F)) = Cert.Kernel7Ideal.defs₀ := by
  refine congrArg Defs.onTc (funext fun l => funext fun a => ?_)
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _
  | ⟨_ + 1, h⟩, _ => exact absurd h (Nat.not_lt.2 (Nat.le_add_left _ _))

/-- So are the programs' definitions. -/
theorem defs_same : (defs (F := F)) = Cert.Kernel7Ideal.defs := congrArg (Pipeline.defs pcfgs) defs0_same

variable (m : (ℓ : Loc nD τ sig) → Buf (Elt F) ℓ) (ρ : Dev nD → PrngReg)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_same]
  exact Cert.Kernel7Ideal.Hand.frame (F := F) m ρ

end Cert.Kernel7.Hand
end
-- ==== Proof.FfnB8Frame.lean ====
/-
  Hand-written. The printed program of the second product of the first half and its reading over the ideal numbers are one program under two names:
  no operation was rewritten. So the frame proved for the second one is the frame of the first.
-/
module

public import proofs.«01_k».proof.Proof.Gen.Kernel8.Frame
public import proofs.«01_k».proof.Proof.FfnB8FrameIdeal

@[expose] public section
set_option maxRecDepth 16384
noncomputable section

namespace Cert.Kernel8.Hand
open Idealize.ShloMosaic Idealize.ShloMosaic.TcCoe Idealize.SL.Sem
variable {F : FTy → Type} [FloatOps F]

/-- The two kernel functions are one. -/
theorem body_same : @cc0_ffn_b F _ _ = @Cert.Kernel8Ideal.cc0_ffn_b F _ _ := rfl

/-- So are the labels' bodies. -/
theorem defs0_same : (defs₀ (F := F)) = Cert.Kernel8Ideal.defs₀ := by
  refine congrArg Defs.onTc (funext fun l => funext fun a => ?_)
  match l, a with
  | 0, (t, s) =>
    exact congrFun (congrFun (congrFun (congrFun (congrFun (congrFun (congrFun (congrFun (congrFun (congrFun (congrFun (congrFun (congrFun (congrFun (congrFun body_same _) _) _) _) _) _) _) _) _) _) _) _) _) _) _
  | ⟨_ + 1, h⟩, _ => exact absurd h (Nat.not_lt.2 (Nat.le_add_left _ _))

/-- So are the programs' definitions. -/
theorem defs_same : (defs (F := F)) = Cert.Kernel8Ideal.defs := congrArg (Pipeline.defs pcfgs) defs0_same

variable (m : (ℓ : Loc nD τ sig) → Buf (Elt F) ℓ) (ρ : Dev nD → PrngReg)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.Kernel8Ideal.Hand.frame (F := F) m ρ

end Cert.Kernel8.Hand
end
-- ==== Proof.ProjFrame.lean ====
/-
  Hand-written. The printed program of the input projection and its reading over the ideal numbers are one program under two names:
  no operation was rewritten. So the frame proved for the second one is the frame of the first.
-/
module

public import proofs.«01_k».proof.Proof.Gen.Kernel9.Frame
public import proofs.«01_k».proof.Proof.ProjFrameIdeal

@[expose] public section
set_option maxRecDepth 16384
noncomputable section

namespace Cert.Kernel9.Hand
open Idealize.ShloMosaic Idealize.ShloMosaic.TcCoe Idealize.SL.Sem
variable {F : FTy → Type} [FloatOps F]

/-- The two kernel functions are one. -/
theorem body_same : @cc0_proj F _ _ = @Cert.Kernel9Ideal.cc0_proj F _ _ := rfl

/-- So are the labels' bodies. -/
theorem defs0_same : (defs₀ (F := F)) = Cert.Kernel9Ideal.defs₀ := by
  refine congrArg Defs.onTc (funext fun l => funext fun a => ?_)
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _
  | ⟨_ + 1, h⟩, _ => exact absurd h (Nat.not_lt.2 (Nat.le_add_left _ _))

/-- So are the programs' definitions. -/
theorem defs_same : (defs (F := F)) = Cert.Kernel9Ideal.defs := congrArg (Pipeline.defs pcfgs) defs0_same

variable (m : (ℓ : Loc nD τ sig) → Buf (Elt F) ℓ) (ρ : Dev nD → PrngReg)

/-- The frame: every run ends, with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.Kernel9Ideal.Hand.frame (F := F) m ρ

end Cert.Kernel9.Hand
end
-- ==== Proof.lean ====
/-
  Hand-written. The claims about the programs of this directory, put together from the runs (proof/Proof/Gen) and the value
  proofs (proof/Proof).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Attn
public import proofs.«01_k».proof.Proof.AttnRun
public import proofs.«01_k».proof.Proof.AttnRef
public import proofs.«01_k».proof.Proof.AttnPre
public import proofs.«01_k».proof.Proof.Gen.Kernel2.Frame
public import proofs.«01_k».proof.Proof.Gen.Kernel2Ideal.Frame
public import proofs.«01_k».proof.Proof.Gen.Reference2Ideal.Run
public import proofs.«01_k».proof.Proof.FfnB
public import proofs.«01_k».proof.Proof.Gen.Kernel3.Frame
public import proofs.«01_k».proof.Proof.Gen.Kernel3Ideal.Frame
public import proofs.«01_k».proof.Proof.Gen.Reference3Ideal.Run
public import proofs.«01_k».proof.Proof.Merge
public import proofs.«01_k».proof.Proof.Gen.Kernel4.Frame
public import proofs.«01_k».proof.Proof.Gen.Kernel4Ideal.Frame
public import proofs.«01_k».proof.Proof.Gen.Reference4Ideal.Run
public import proofs.«01_k».proof.Proof.OutProj
public import proofs.«01_k».proof.Proof.Gen.Reference5Ideal.Run
public import proofs.«01_k».proof.Proof.FfnA
public import proofs.«01_k».proof.Proof.Gen.Kernel6.Frame
public import proofs.«01_k».proof.Proof.Gen.Kernel6Ideal.Frame
public import proofs.«01_k».proof.Proof.Gen.Reference6Ideal.Run
public import proofs.«01_k».proof.Proof.FinalNorm
public import proofs.«01_k».proof.Proof.Gen.Reference7Ideal.Run
public import proofs.«01_k».proof.Proof.FfnA7
public import proofs.«01_k».proof.Proof.Gen.Reference8Ideal.Run
public import proofs.«01_k».proof.Proof.FfnB8
public import proofs.«01_k».proof.Proof.Gen.Reference9Ideal.Run
public import proofs.«01_k».proof.Proof.Proj
public import Idealize.ShloMosaic.Adequacy
public import Idealize.ShloMosaic.Init
public import Idealize.ShloMosaic.Lib.Quiescent
public import proofs.«01_k».proof.Proof.FfnAFrame
public import proofs.«01_k».proof.Proof.FfnAFrameIdeal
public import proofs.«01_k».proof.Proof.FfnAFrame7
public import proofs.«01_k».proof.Proof.FfnAFrame7Ideal
public import proofs.«01_k».proof.Proof.FfnB8Frame
public import proofs.«01_k».proof.Proof.FfnB8FrameIdeal
public import proofs.«01_k».proof.Proof.ProjFrame
public import proofs.«01_k».proof.Proof.ProjFrameIdeal

@[expose] public section

noncomputable section

-- Each frame claim also says that every semaphore counter ends at zero; the generated runs show that too.

namespace Cert.Proof

open Idealize.ShloMosaic Idealize.SL.Sem

/-- The reference of the attention runs, leaves its arguments as they were and every counter at zero. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention: from equal arguments that satisfy the precondition the kernel and its reference end with equal results, over the
    extended reals. -/
theorem algebraic : Cert.algebraic_KernelIdeal_ReferenceIdeal_pre_finite_and_ones (hKernelIdeal := Cert.KernelIdeal.Gen.facts)
    (hReferenceIdeal := Cert.ReferenceIdeal.Gen.facts) (hPre_finite_and_ones := Cert.Pre_finite_and_ones.Gen.facts) := by
  intro m ρ m' ρ' hpre hag
  refine ⟨fun c => AttnMath.G (Attn.A0 m c) (Attn.A1 m c) (Attn.A2 m c) (Attn.A3 m c), Attn.run m ρ, ?_⟩
  refine (θ_run Cert.ReferenceIdeal.defs _ _).mono (fun r h c => ⟨(h c).1.trans ?_, (h c).2⟩)
    (Cert.ReferenceIdeal.Value.run (F := Ideal) m' ρ')
  obtain ⟨hq, hk, hv⟩ := AttnPre.pre_facts (Attn.A0 m c) (Attn.A1 m c) (Attn.A2 m c) (Attn.A3 m c) (hpre c)
  refine (Cert.ReferenceIdeal.Read.val_main_v44_eq m' c).trans ?_
  rw [(hag c).1, (hag c).2.1, (hag c).2.2.1, (hag c).2.2.2]
  exact AttnRef.ref_eq _ _ _ _ hq hk hv

/-- The reference of the second feed-forward product runs, leaves its arguments as they were and every counter at zero. -/
theorem frame_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second feed-forward product: from equal arguments the kernel and its reference end with equal results, over the extended reals. -/
theorem algebraic2 : Cert.algebraic_Kernel2Ideal_Reference2Ideal (hKernel2Ideal := Cert.Kernel2Ideal.Gen.facts) (hReference2Ideal := Cert.Reference2Ideal.Gen.facts) := by
  intro m ρ m' ρ' _ hag
  refine ⟨fun c => FfnB.G (FfnB.A0 m c) (FfnB.A1 m c) (FfnB.A2 m c) (FfnB.A3 m c), FfnB.run m ρ, ?_⟩
  refine (θ_run Cert.Reference2Ideal.defs _ _).mono (fun r h c => ⟨(h c).1.trans ?_, (h c).2⟩) (Cert.Reference2Ideal.Value.run (F := Ideal) m' ρ')
  rw [(hag c).1, (hag c).2.1, (hag c).2.2.1, (hag c).2.2.2]
  exact (Cert.Reference2Ideal.Read.val_main_v12_eq ..).trans (FfnB.ref_eq ..)

/-- The reference of the gated merge of the branches runs, leaves its arguments as they were and every counter at zero. -/
theorem frame_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gated merge of the branches: from equal arguments the kernel and its reference end with equal results, over the extended reals. -/
theorem algebraic3 : Cert.algebraic_Kernel3Ideal_Reference3Ideal (hKernel3Ideal := Cert.Kernel3Ideal.Gen.facts) (hReference3Ideal := Cert.Reference3Ideal.Gen.facts) := by
  intro m ρ m' ρ' _ hag
  refine ⟨fun c => Merge.G (Merge.A0 m c) (Merge.A1 m c) (Merge.A2 m c) (Merge.A3 m c) (Merge.A4 m c), Merge.run m ρ, ?_⟩
  refine (θ_run Cert.Reference3Ideal.defs _ _).mono (fun r h c => ⟨(h c).1.trans ?_, (h c).2⟩) (Cert.Reference3Ideal.Value.run (F := Ideal) m' ρ')
  rw [(hag c).1, (hag c).2.1, (hag c).2.2.1, (hag c).2.2.2.1, (hag c).2.2.2.2]
  exact (Cert.Reference3Ideal.Read.val_main_v21_eq ..).trans (Merge.ref_eq ..)

/-- The reference of the output projection runs, leaves its arguments as they were and every counter at zero. -/
theorem frame_Reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The output projection: from equal arguments the kernel and its reference end with equal results, over the extended reals. -/
theorem algebraic4 : Cert.algebraic_Kernel4Ideal_Reference4Ideal (hKernel4Ideal := Cert.Kernel4Ideal.Gen.facts) (hReference4Ideal := Cert.Reference4Ideal.Gen.facts) := by
  intro m ρ m' ρ' _ hag
  refine ⟨fun c => OutProj.G (OutProj.A0 m c) (OutProj.A1 m c) (OutProj.A2 m c) (OutProj.A3 m c), OutProj.run m ρ, ?_⟩
  refine (θ_run Cert.Reference4Ideal.defs _ _).mono (fun r h c => ⟨(h c).1.trans ?_, (h c).2⟩) (Cert.Reference4Ideal.Value.run (F := Ideal) m' ρ')
  rw [(hag c).1, (hag c).2.1, (hag c).2.2.1, (hag c).2.2.2]
  exact (Cert.Reference4Ideal.Read.val_main_v13_eq ..).trans (OutProj.ref_eq ..)

/-- The reference of the first feed-forward product runs, leaves its arguments as they were and every counter at zero. -/
theorem frame_Reference5Ideal : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The first feed-forward product: from equal arguments the kernel and its reference end with equal results, over the extended reals. -/
theorem algebraic5 : Cert.algebraic_Kernel5Ideal_Reference5Ideal (hKernel5Ideal := Cert.Kernel5Ideal.Gen.facts) (hReference5Ideal := Cert.Reference5Ideal.Gen.facts) := by
  intro m ρ m' ρ' _ hag
  refine ⟨fun c => FfnA.G (FfnA.A0 m c) (FfnA.A1 m c) (FfnA.A2 m c) (FfnA.A3 m c) (FfnA.A4 m c), fun c => FfnA.W (FfnA.A5 m c),
    FfnA.run m ρ, ?_⟩
  refine (θ_run Cert.Reference5Ideal.defs _ _).mono (fun r h c => ⟨(h c).1.trans ?_, (h c).2.1.trans ?_, (h c).2.2⟩)
    (Cert.Reference5Ideal.Value.run (F := Ideal) m' ρ')
  · rw [Cert.Reference5Ideal.Read.val_main_v51_eq, (hag c).1, (hag c).2.1, (hag c).2.2.1, (hag c).2.2.2.1, (hag c).2.2.2.2.1]
    exact FfnA.ref_eq ..
  · rw [(hag c).2.2.2.2.2]
    exact (Cert.Reference5Ideal.Read.val_main_v54_eq ..).trans (FfnA.ref_eq_copy ..)

/-- The reference of the final normalisation runs, leaves its arguments as they were and every counter at zero. -/
theorem frame_Reference6Ideal : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The final normalisation: from equal arguments the kernel and its reference end with equal results, over the extended reals. -/
theorem algebraic6 : Cert.algebraic_Kernel6Ideal_Reference6Ideal (hKernel6Ideal := Cert.Kernel6Ideal.Gen.facts) (hReference6Ideal := Cert.Reference6Ideal.Gen.facts) := by
  intro m ρ m' ρ' _ hag
  refine ⟨fun c => FinalNorm.G (FinalNorm.A0 m c) (FinalNorm.A1 m c), FinalNorm.run m ρ, ?_⟩
  refine (θ_run Cert.Reference6Ideal.defs _ _).mono (fun r h c => ⟨(h c).1.trans ?_, (h c).2⟩) (Cert.Reference6Ideal.Value.run (F := Ideal) m' ρ')
  rw [(hag c).1, (hag c).2]
  exact (Cert.Reference6Ideal.Read.val_main_v13_eq ..).trans (FinalNorm.ref_eq ..)

/-- The reference of the first feed-forward product of the first half runs, leaves its arguments as they were and every counter at zero. -/
theorem frame_Reference7Ideal : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The first feed-forward product of the first half: from equal arguments the kernel and its reference end with equal results, over the extended reals. -/
theorem algebraic7 : Cert.algebraic_Kernel7Ideal_Reference7Ideal (hKernel7Ideal := Cert.Kernel7Ideal.Gen.facts) (hReference7Ideal := Cert.Reference7Ideal.Gen.facts) := by
  intro m ρ m' ρ' _ hag
  refine ⟨fun c => FfnA7.G (FfnA7.A0 m c) (FfnA7.A1 m c) (FfnA7.A2 m c) (FfnA7.A3 m c) (FfnA7.A4 m c), fun c => FfnA7.W (FfnA7.A5 m c),
    FfnA7.run m ρ, ?_⟩
  refine (θ_run Cert.Reference7Ideal.defs _ _).mono (fun r h c => ⟨(h c).1.trans ?_, (h c).2.1.trans ?_, (h c).2.2⟩)
    (Cert.Reference7Ideal.Value.run (F := Ideal) m' ρ')
  · rw [Cert.Reference7Ideal.Read.val_main_v51_eq, (hag c).1, (hag c).2.1, (hag c).2.2.1, (hag c).2.2.2.1, (hag c).2.2.2.2.1]
    exact FfnA7.ref_eq ..
  · rw [(hag c).2.2.2.2.2]
    exact (Cert.Reference7Ideal.Read.val_main_v54_eq ..).trans (FfnA7.ref_eq_copy ..)

/-- The reference of the second feed-forward product of the first half runs, leaves its arguments as they were and every counter at zero. -/
theorem frame_Reference8Ideal : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The second feed-forward product of the first half: from equal arguments the kernel and its reference end with equal results, over the extended reals. -/
theorem algebraic8 : Cert.algebraic_Kernel8Ideal_Reference8Ideal (hKernel8Ideal := Cert.Kernel8Ideal.Gen.facts) (hReference8Ideal := Cert.Reference8Ideal.Gen.facts) := by
  intro m ρ m' ρ' _ hag
  refine ⟨fun c => FfnB8.G (FfnB8.A0 m c) (FfnB8.A1 m c) (FfnB8.A2 m c) (FfnB8.A3 m c), fun c => FfnB8.W (FfnB8.A4 m c),
    FfnB8.run m ρ, ?_⟩
  refine (θ_run Cert.Reference8Ideal.defs _ _).mono (fun r h c => ⟨(h c).1.trans ?_, (h c).2.1.trans ?_, (h c).2.2⟩)
    (Cert.Reference8Ideal.Value.run (F := Ideal) m' ρ')
  · rw [Cert.Reference8Ideal.Read.val_main_v12_eq, (hag c).1, (hag c).2.1, (hag c).2.2.1, (hag c).2.2.2.1]
    exact FfnB8.ref_eq ..
  · rw [(hag c).2.2.2.2]
    exact (Cert.Reference8Ideal.Read.val_main_v15_eq ..).trans (FfnB8.ref_eq_copy ..)

/-- The reference of the input projection of the mixer runs, leaves its arguments as they were and every counter at zero. -/
theorem frame_Reference9Ideal : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The input projection: from equal arguments the kernel and its reference end with equal results, over the extended reals. -/
theorem algebraic9 : Cert.algebraic_Kernel9Ideal_Reference9Ideal (hKernel9Ideal := Cert.Kernel9Ideal.Gen.facts) (hReference9Ideal := Cert.Reference9Ideal.Gen.facts) := by
  intro m ρ m' ρ' _ hag
  refine ⟨fun c => Proj.G (Proj.A0 m c) (Proj.A1 m c) (Proj.A2 m c) (Proj.A3 m c) (Proj.A4 m c),
    fun c => Proj.W (Proj.A0 m c) (Proj.A1 m c) (Proj.A2 m c) (Proj.A3 m c), Proj.run m ρ, ?_⟩
  refine (θ_run Cert.Reference9Ideal.defs _ _).mono (fun r h c => ⟨(h c).1.trans ?_, (h c).2.1.trans ?_, (h c).2.2⟩)
    (Cert.Reference9Ideal.Value.run (F := Ideal) m' ρ')
  · rw [Cert.Reference9Ideal.Read.val_main_v36_eq, (hag c).1, (hag c).2.1, (hag c).2.2.1, (hag c).2.2.2.1, (hag c).2.2.2.2]
    exact Proj.ref_eq ..
  · rw [Cert.Reference9Ideal.Read.val_main_v35_eq, (hag c).1, (hag c).2.1, (hag c).2.2.1, (hag c).2.2.2.1]
    exact Proj.ref_eq_copy ..

/-- All claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite_and_ones.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Hand.frame m ρ,
  fun m ρ _ => Cert.Kernel5Ideal.Hand.frame m ρ,
  frame_Reference5Ideal,
  fun m ρ _ => Cert.Kernel6.Gen.frame m ρ,
  fun m ρ _ => Cert.Kernel6Ideal.Gen.frame m ρ,
  frame_Reference6Ideal,
  fun m ρ _ => Cert.Kernel7.Hand.frame m ρ,
  fun m ρ _ => Cert.Kernel7Ideal.Hand.frame m ρ,
  frame_Reference7Ideal,
  fun m ρ _ => Cert.Kernel8.Hand.frame m ρ,
  fun m ρ _ => Cert.Kernel8Ideal.Hand.frame m ρ,
  frame_Reference8Ideal,
  fun m ρ _ => Cert.Kernel9.Hand.frame m ρ,
  fun m ρ _ => Cert.Kernel9Ideal.Hand.frame m ρ,
  frame_Reference9Ideal,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9⟩

end Cert.Proof

end
